-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2 : Shape := ⟨2, ![16384, 2]⟩
abbrev S100000x32 : Shape := ⟨2, ![100000, 32]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S100000x32 .f32) (main_arg2 : FVec F S100000x32 .f32) (main_arg3 : FVec F S100000x128 .f32) (main_arg4 : FVec F S100000x128 .f32) (main_arg5 : FVec F S128x256 .f32) (main_arg6 : FVec F S128 .f32) (main_arg7 : FVec F S64x128 .f32) (main_arg8 : FVec F S64 .f32) (main_arg9 : FVec F S32x64 .f32) (main_arg10 : FVec F S32 .f32) (main_arg11 : FVec F S1x64 .f32) (main_arg12 : FVec F S1 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 100000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S100000x32 : Shape := ⟨2, ![100000, 32]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S16384x1 : Shape := ⟨2, ![16384, 1]⟩
abbrev S16384 : Shape := ⟨1, ![16384]⟩
abbrev S1x16384 : Shape := ⟨2, ![1, 16384]⟩
abbrev S16384x128 : Shape := ⟨2, ![16384, 128]⟩
abbrev S_ : Shape := ⟨0, ![]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S32x100000 : Shape := ⟨2, ![32, 100000]⟩
abbrev S64x1 : Shape := ⟨2, ![64, 1]⟩
abbrev S32x128 : Shape := ⟨2, ![32, 128]⟩
abbrev S16384x32 : Shape := ⟨2, ![16384, 32]⟩
abbrev S2x128x32 : Shape := ⟨3, ![2, 128, 32]⟩
abbrev S1x16 : Shape := ⟨2, ![1, 16]⟩
abbrev S16 : Shape := ⟨1, ![16]⟩
abbrev S1x128x32 : Shape := ⟨3, ![1, 128, 32]⟩
abbrev S128x32 : Shape := ⟨2, ![128, 32]⟩
abbrev S128x64 : Shape := ⟨2, ![128, 64]⟩
abbrev S64x32 : Shape := ⟨2, ![64, 32]⟩
abbrev S1x32 : Shape := ⟨2, ![1, 32]⟩
abbrev S32x1 : Shape := ⟨2, ![32, 1]⟩
abbrev S4096x128 : Shape := ⟨2, ![4096, 128]⟩
abbrev S4096 : Shape := ⟨1, ![4096]⟩
abbrev S4096x64 : Shape := ⟨2, ![4096, 64]⟩
abbrev S4096x32 : Shape := ⟨2, ![4096, 32]⟩
abbrev S4096x1 : Shape := ⟨2, ![4096, 1]⟩
abbrev S1x1 : Shape := ⟨2, ![1, 1]⟩

abbrev nBuf : Table → Nat
  | .hbm => 58
  | .local .tc .vmem => 22
  | .local .scVector .vmem => 9
  | _ => 0

abbrev bufTy : (tb : Table) → Fin (nBuf tb) → BufTy
  | .hbm, ⟨0, _⟩ => ⟨S16384x2, .i32⟩
  | .hbm, ⟨1, _⟩ => ⟨S100000x32, .f32⟩
  | .hbm, ⟨2, _⟩ => ⟨S100000x32, .f32⟩
  | .hbm, ⟨3, _⟩ => ⟨S100000x128, .f32⟩
  | .hbm, ⟨4, _⟩ => ⟨S100000x128, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S1x64, .f32⟩
  | .hbm, ⟨12, _⟩ => ⟨S1, .f32⟩
  | .hbm, ⟨13, _⟩ => ⟨S16384x1, .i32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384, .i32⟩
  | .hbm, ⟨18, _⟩ => ⟨S1x16384, .i32⟩
  | .hbm, ⟨19, _⟩ => ⟨S16384x128, .f32⟩
  | .hbm, ⟨20, _⟩ => ⟨S16384x128, .f32⟩
  | .hbm, ⟨21, _⟩ => ⟨S32x100000, .f32⟩
  | .hbm, ⟨22, _⟩ => ⟨S32x100000, .f32⟩
  | .hbm, ⟨23, _⟩ => ⟨S64, .i32⟩
  | .hbm, ⟨24, _⟩ => ⟨S64x1, .i32⟩
  | .hbm, ⟨25, _⟩ => ⟨S128, .i32⟩
  | .hbm, ⟨26, _⟩ => ⟨S1x128, .i32⟩
  | .hbm, ⟨27, _⟩ => ⟨S64x128, .i32⟩
  | .hbm, ⟨28, _⟩ => ⟨S64x128, .i32⟩
  | .hbm, ⟨29, _⟩ => ⟨S64x128, .i1⟩
  | .hbm, ⟨30, _⟩ => ⟨S64x128, .bf16⟩
  | .hbm, ⟨31, _⟩ => ⟨S32x100000, .bf16⟩
  | .hbm, ⟨32, _⟩ => ⟨S32x128, .bf16⟩
  | .hbm, ⟨33, _⟩ => ⟨S100000x128, .f32⟩
  | .hbm, ⟨34, _⟩ => ⟨S32x100000, .bf16⟩
  | .hbm, ⟨35, _⟩ => ⟨S32x128, .bf16⟩
  | .hbm, ⟨36, _⟩ => ⟨S100000x128, .f32⟩
  | .hbm, ⟨37, _⟩ => ⟨S100000x128, .f32⟩
  | .hbm, ⟨38, _⟩ => ⟨S1x16384, .i32⟩
  | .hbm, ⟨39, _⟩ => ⟨S1x16384, .i32⟩
  | .hbm, ⟨40, _⟩ => ⟨S16384x128, .f32⟩
  | .hbm, ⟨41, _⟩ => ⟨S16384x32, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S128x64, .f32⟩
  | .hbm, ⟨48, _⟩ => ⟨S1x64, .f32⟩
  | .hbm, ⟨49, _⟩ => ⟨S64x32, .f32⟩
  | .hbm, ⟨50, _⟩ => ⟨S1x32, .f32⟩
  | .hbm, ⟨51, _⟩ => ⟨S1x32, .f32⟩
  | .hbm, ⟨52, _⟩ => ⟨S32x1, .f32⟩
  | .hbm, ⟨53, _⟩ => ⟨S16384, .f32⟩
  | .hbm, ⟨54, _⟩ => ⟨S1x32, .f32⟩
  | .hbm, ⟨55, _⟩ => ⟨S32x1, .f32⟩
  | .hbm, ⟨56, _⟩ => ⟨S1x1, .f32⟩
  | .hbm, ⟨57, _⟩ => ⟨S16384, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S128x64, .f32⟩
  | .local .tc .vmem, ⟨8, _⟩ => ⟨S1x64, .f32⟩
  | .local .tc .vmem, ⟨9, _⟩ => ⟨S64x32, .f32⟩
  | .local .tc .vmem, ⟨10, _⟩ => ⟨S1x32, .f32⟩
  | .local .tc .vmem, ⟨11, _⟩ => ⟨S32x1, .f32⟩
  | .local .tc .vmem, ⟨12, _⟩ => ⟨S4096, .f32⟩
  | .local .tc .vmem, ⟨13, _⟩ => ⟨S4096, .f32⟩
  | .local .tc .vmem, ⟨14, _⟩ => ⟨S4096x32, .f32⟩
  | .local .tc .vmem, ⟨15, _⟩ => ⟨S4096x32, .f32⟩
  | .local .tc .vmem, ⟨16, _⟩ => ⟨S4096, .f32⟩
  | .local .tc .vmem, ⟨17, _⟩ => ⟨S4096, .f32⟩
  | .local .tc .vmem, ⟨18, _⟩ => ⟨S32x1, .f32⟩
  | .local .tc .vmem, ⟨19, _⟩ => ⟨S1x1, .f32⟩
  | .local .tc .vmem, ⟨20, _⟩ => ⟨S4096, .f32⟩
  | .local .tc .vmem, ⟨21, _⟩ => ⟨S4096, .f32⟩
  | .local .scVector .vmem, ⟨0, _⟩ => ⟨S2x1x128, .i32⟩
  | .local .scVector .vmem, ⟨1, _⟩ => ⟨S2x1x128, .i32⟩
  | .local .scVector .vmem, ⟨2, _⟩ => ⟨S2x128x128, .f32⟩
  | .local .scVector .vmem, ⟨3, _⟩ => ⟨S2x128x128, .f32⟩
  | .local .scVector .vmem, ⟨4, _⟩ => ⟨S128x128, .f32⟩
  | .local .scVector .vmem, ⟨5, _⟩ => ⟨S128x128, .f32⟩
  | .local .scVector .vmem, ⟨6, _⟩ => ⟨S2x1x128, .i32⟩
  | .local .scVector .vmem, ⟨7, _⟩ => ⟨S2x1x128, .i32⟩
  | .local .scVector .vmem, ⟨8, _⟩ => ⟨S2x128x32, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v2_scv : Ref sig .scVector := ⟨.hbm, 15, rfl⟩
abbrev main_v5_scv : Ref sig .scVector := ⟨.hbm, 18, rfl⟩
abbrev main_arg3_scv : Ref sig .scVector := ⟨.hbm, 3, rfl⟩
abbrev main_arg4_scv : Ref sig .scVector := ⟨.hbm, 4, rfl⟩
abbrev main_v6_0_scv : Ref sig .scVector := ⟨.hbm, 19, rfl⟩
abbrev main_v6_1_scv : Ref sig .scVector := ⟨.hbm, 20, rfl⟩
abbrev main_v24_0_scv : Ref sig .scVector := ⟨.hbm, 38, rfl⟩
abbrev main_v24_1_scv : Ref sig .scVector := ⟨.hbm, 39, rfl⟩
abbrev main_v23_scv : Ref sig .scVector := ⟨.hbm, 37, rfl⟩
abbrev main_v25_scv : Ref sig .scVector := ⟨.hbm, 41, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg10_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_scoped0 : Ref sig .scVector := ⟨.vmem, 0, rfl⟩
abbrev cc0_scoped2 : Ref sig .scVector := ⟨.vmem, 1, rfl⟩
abbrev cc0_scoped4 : Ref sig .scVector := ⟨.vmem, 2, rfl⟩
abbrev cc0_scoped6 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scoped0 : Ref sig .scVector := ⟨.vmem, 6, rfl⟩
abbrev cc1_scoped2 : Ref sig .scVector := ⟨.vmem, 7, rfl⟩
abbrev cc1_scoped4 : Ref sig .scVector := ⟨.vmem, 8, rfl⟩
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_15_r0 : BitVec 32 := 0#32
  let c2_i32_r0 : BitVec 32 := 2#32
  let v23_r0 : BitVec 32 := Scalar.remui c0_i32_15_r0 c2_i32_r0
  let c0_i32_16_r0 : BitVec 32 := 0#32
  let c0_i32_17_r0 : BitVec 32 := 0#32
  ![v23_r0.toNat, 0, 0]
def k0_off2 (i : grid0.Coords) : Fin 2 → Nat :=
  let c0_i32_18_r0 : BitVec 32 := 0#32
  let c128_i32_r0 : BitVec 32 := 128#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v9_r0 : BitVec 32 := Scalar.addi c0_i32_3_r0 v4
  let v24_r0 : BitVec 32 := Scalar.muli c128_i32_r0 v9_r0
  ![0, v24_r0.toNat]
def k0_off3 : Fin 1 → Nat :=
  let c0_i32_15_r0 : BitVec 32 := 0#32
  let c2_i32_r0 : BitVec 32 := 2#32
  let v23_r0 : BitVec 32 := Scalar.remui c0_i32_15_r0 c2_i32_r0
  ![v23_r0.toNat]
@[reducible] def k0_t1_loop : Scf.Loop 32 :=
  let c0_i32_42_r0 : BitVec 32 := 0#32
  let c4_i32_43_r0 : BitVec 32 := 4#32
  let v45_r0 : BitVec 32 := Scalar.addi c0_i32_42_r0 c4_i32_43_r0
  let c1_i32_44_r0 : BitVec 32 := 1#32
  ⟨c0_i32_42_r0, v45_r0, c1_i32_44_r0⟩
def k0_off4 (arg11_r0 : BitVec 32) : Fin 3 → Nat :=
  let c2_i32_181_r0 : BitVec 32 := 2#32
  let v253_r0 : BitVec 32 := Scalar.remui arg11_r0 c2_i32_181_r0
  let c0_i32_183_r0 : BitVec 32 := 0#32
  let c0_i32_184_r0 : BitVec 32 := 0#32
  ![v253_r0.toNat, 0, 0]
def k0_cond1 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v105_r0 : BitVec 1 := Scalar.cmpi .ne v89_r0 v99_r0
  let c0_i32_42_r0 : BitVec 32 := 0#32
  let c1_i32_44_r0 : BitVec 32 := 1#32
  let arg10_r0 : BitVec 32 := Scf.iv c0_i32_42_r0 c1_i32_44_r0 k0_t1
  let c3_i32_92_r0 : BitVec 32 := 3#32
  let v106_r0 : BitVec 1 := Scalar.cmpi .sge arg10_r0 c3_i32_92_r0
  let true_93_r0 : BitVec 1 := 1#1
  let v107_r0 : BitVec 1 := Scalar.xori v106_r0 true_93_r0
  let v108_r0 : BitVec 1 := Scalar.andi v105_r0 v107_r0
  let true_94_r0 : BitVec 1 := 1#1
  let v109_r0 : BitVec 1 := Scalar.andi v108_r0 true_94_r0
  let v110_r0 : BitVec 32 := Scalar.extui v109_r0
  let c0_i32_95_r0 : BitVec 32 := 0#32
  let v111_r0 : BitVec 1 := Scalar.cmpi .ne v110_r0 c0_i32_95_r0
  v111_r0

def k0_off5 (i : grid0.Coords) (arg19_r0 : BitVec 32) : Fin 2 → Nat :=
  let c0_i32_185_r0 : BitVec 32 := 0#32
  let c128_i32_182_r0 : BitVec 32 := 128#32
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v99_r0 : BitVec 32 := Scalar.addi v98_r0 v4
  let v254_r0 : BitVec 32 := Scalar.muli c128_i32_182_r0 v99_r0
  ![0, v254_r0.toNat]
def k0_off6 (arg11_r0 : BitVec 32) : Fin 1 → Nat :=
  let c2_i32_181_r0 : BitVec 32 := 2#32
  let v253_r0 : BitVec 32 := Scalar.remui arg11_r0 c2_i32_181_r0
  ![v253_r0.toNat]
def k0_off7 (arg13_r0 : BitVec 32) : Fin 3 → Nat :=
  let c2_i32_181_r0 : BitVec 32 := 2#32
  let v253_r0 : BitVec 32 := Scalar.remui arg13_r0 c2_i32_181_r0
  let c0_i32_183_r0 : BitVec 32 := 0#32
  let c0_i32_184_r0 : BitVec 32 := 0#32
  ![v253_r0.toNat, 0, 0]
def k0_cond2 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v115_r0 : BitVec 1 := Scalar.cmpi .ne v89_r0 v99_r0
  let c0_i32_42_r0 : BitVec 32 := 0#32
  let c1_i32_44_r0 : BitVec 32 := 1#32
  let arg10_r0 : BitVec 32 := Scf.iv c0_i32_42_r0 c1_i32_44_r0 k0_t1
  let c3_i32_98_r0 : BitVec 32 := 3#32
  let v116_r0 : BitVec 1 := Scalar.cmpi .sge arg10_r0 c3_i32_98_r0
  let true_99_r0 : BitVec 1 := 1#1
  let v117_r0 : BitVec 1 := Scalar.xori v116_r0 true_99_r0
  let v118_r0 : BitVec 1 := Scalar.andi v115_r0 v117_r0
  let true_100_r0 : BitVec 1 := 1#1
  let v119_r0 : BitVec 1 := Scalar.andi v118_r0 true_100_r0
  let v120_r0 : BitVec 32 := Scalar.extui v119_r0
  let c0_i32_101_r0 : BitVec 32 := 0#32
  let v121_r0 : BitVec 1 := Scalar.cmpi .ne v120_r0 c0_i32_101_r0
  v121_r0

def k0_off8 (i : grid0.Coords) (arg19_r0 : BitVec 32) : Fin 2 → Nat :=
  let c0_i32_185_r0 : BitVec 32 := 0#32
  let c128_i32_182_r0 : BitVec 32 := 128#32
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v99_r0 : BitVec 32 := Scalar.addi v98_r0 v4
  let v254_r0 : BitVec 32 := Scalar.muli c128_i32_182_r0 v99_r0
  ![0, v254_r0.toNat]
def k0_off9 (arg13_r0 : BitVec 32) : Fin 1 → Nat :=
  let c2_i32_181_r0 : BitVec 32 := 2#32
  let v253_r0 : BitVec 32 := Scalar.remui arg13_r0 c2_i32_181_r0
  ![v253_r0.toNat]
def k0_off10 (arg12_r0 : BitVec 32) : Fin 3 → Nat :=
  let c2_i32_182_r0 : BitVec 32 := 2#32
  let v254_r0 : BitVec 32 := Scalar.remui arg12_r0 c2_i32_182_r0
  let c0_i32_183_r0 : BitVec 32 := 0#32
  let c0_i32_184_r0 : BitVec 32 := 0#32
  ![v254_r0.toNat, 0, 0]
def k0_cond3 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v133_r0 : BitVec 1 := Scalar.cmpi .ne v89_r0 v94_r0
  let c0_i32_42_r0 : BitVec 32 := 0#32
  let c1_i32_44_r0 : BitVec 32 := 1#32
  let arg10_r0 : BitVec 32 := Scf.iv c0_i32_42_r0 c1_i32_44_r0 k0_t1
  let c0_i32_78_r0 : BitVec 32 := 0#32
  let v87_r0 : BitVec 1 := Scalar.cmpi .eq arg10_r0 c0_i32_78_r0
  let v134_r0 : BitVec 1 := Scalar.ori v133_r0 v87_r0
  let c0_i32_108_r0 : BitVec 32 := 0#32
  let v135_r0 : BitVec 1 := Scalar.cmpi .sge arg10_r0 c0_i32_108_r0
  let v136_r0 : BitVec 1 := Scalar.andi v134_r0 v135_r0
  let v137_r0 : BitVec 32 := Scalar.extui v136_r0
  let c0_i32_109_r0 : BitVec 32 := 0#32
  let v138_r0 : BitVec 1 := Scalar.cmpi .ne v137_r0 c0_i32_109_r0
  v138_r0

def k0_off11 (i : grid0.Coords) (arg19_r0 : BitVec 32) : Fin 2 → Nat :=
  let c0_i32_185_r0 : BitVec 32 := 0#32
  let c128_i32_181_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let v253_r0 : BitVec 32 := Scalar.muli c128_i32_181_r0 v89_r0
  ![0, v253_r0.toNat]
def k0_off12 (arg12_r0 : BitVec 32) : Fin 1 → Nat :=
  let c2_i32_182_r0 : BitVec 32 := 2#32
  let v254_r0 : BitVec 32 := Scalar.remui arg12_r0 c2_i32_182_r0
  ![v254_r0.toNat]
def k0_off13 (arg14_r0 : BitVec 32) : Fin 3 → Nat :=
  let c2_i32_182_r0 : BitVec 32 := 2#32
  let v254_r0 : BitVec 32 := Scalar.remui arg14_r0 c2_i32_182_r0
  let c0_i32_183_r0 : BitVec 32 := 0#32
  let c0_i32_184_r0 : BitVec 32 := 0#32
  ![v254_r0.toNat, 0, 0]
def k0_cond4 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v139_r0 : BitVec 1 := Scalar.cmpi .ne v89_r0 v94_r0
  let c0_i32_42_r0 : BitVec 32 := 0#32
  let c1_i32_44_r0 : BitVec 32 := 1#32
  let arg10_r0 : BitVec 32 := Scf.iv c0_i32_42_r0 c1_i32_44_r0 k0_t1
  let c0_i32_78_r0 : BitVec 32 := 0#32
  let v87_r0 : BitVec 1 := Scalar.cmpi .eq arg10_r0 c0_i32_78_r0
  let v140_r0 : BitVec 1 := Scalar.ori v139_r0 v87_r0
  let c0_i32_110_r0 : BitVec 32 := 0#32
  let v141_r0 : BitVec 1 := Scalar.cmpi .sge arg10_r0 c0_i32_110_r0
  let v142_r0 : BitVec 1 := Scalar.andi v140_r0 v141_r0
  let v143_r0 : BitVec 32 := Scalar.extui v142_r0
  let c0_i32_111_r0 : BitVec 32 := 0#32
  let v144_r0 : BitVec 1 := Scalar.cmpi .ne v143_r0 c0_i32_111_r0
  v144_r0

def k0_off14 (i : grid0.Coords) (arg19_r0 : BitVec 32) : Fin 2 → Nat :=
  let c0_i32_185_r0 : BitVec 32 := 0#32
  let c128_i32_181_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let v253_r0 : BitVec 32 := Scalar.muli c128_i32_181_r0 v89_r0
  ![0, v253_r0.toNat]
def k0_off15 (arg14_r0 : BitVec 32) : Fin 1 → Nat :=
  let c2_i32_182_r0 : BitVec 32 := 2#32
  let v254_r0 : BitVec 32 := Scalar.remui arg14_r0 c2_i32_182_r0
  ![v254_r0.toNat]
def k0_off16 (arg15_r0 : BitVec 32) : Fin 3 → Nat :=
  let c2_i32_118_r0 : BitVec 32 := 2#32
  let v159_r0 : BitVec 32 := Scalar.remui arg15_r0 c2_i32_118_r0
  let c0_i32_121_r0 : BitVec 32 := 0#32
  let c0_i32_122_r0 : BitVec 32 := 0#32
  ![v159_r0.toNat, 0, 0]

def k0_off17 (arg12_r0 : BitVec 32) : Fin 3 → Nat :=
  let c2_i32_116_r0 : BitVec 32 := 2#32
  let v157_r0 : BitVec 32 := Scalar.remui arg12_r0 c2_i32_116_r0
  let c0_i32_123_r0 : BitVec 32 := 0#32
  let c0_i32_124_r0 : BitVec 32 := 0#32
  ![v157_r0.toNat, 0, 0]

def k0_off18 (arg17_r0 : BitVec 32) : Fin 3 → Nat :=
  let c2_i32_119_r0 : BitVec 32 := 2#32
  let v160_r0 : BitVec 32 := Scalar.remui arg17_r0 c2_i32_119_r0
  let c0_i32_129_r0 : BitVec 32 := 0#32
  let c0_i32_130_r0 : BitVec 32 := 0#32
  ![v160_r0.toNat, 0, 0]

def k0_chk4 (arg17_r0 : BitVec 32) : Prop :=
  (∀ a, (k0_off18 arg17_r0) a + S1x128x128.size a ≤ S2x128x128.size a)
theorem k0_off18_inb : ∀ (arg17_r0 : BitVec 32) (k0_hw4 : k0_chk4 arg17_r0), ∀ a, (k0_off18 arg17_r0) a + S1x128x128.size a ≤ S2x128x128.size a := fun arg17_r0 k0_hw4 => k0_hw4

def k0_off19 (arg14_r0 : BitVec 32) : Fin 3 → Nat :=
  let c2_i32_117_r0 : BitVec 32 := 2#32
  let v158_r0 : BitVec 32 := Scalar.remui arg14_r0 c2_i32_117_r0
  let c0_i32_131_r0 : BitVec 32 := 0#32
  let c0_i32_132_r0 : BitVec 32 := 0#32
  ![v158_r0.toNat, 0, 0]

def k0_chk5 (arg14_r0 : BitVec 32) : Prop :=
  (∀ a, (k0_off19 arg14_r0) a + S1x1x128.size a ≤ S2x1x128.size a)
theorem k0_off19_inb : ∀ (arg14_r0 : BitVec 32) (k0_hw5 : k0_chk5 arg14_r0), ∀ a, (k0_off19 arg14_r0) a + S1x1x128.size a ≤ S2x1x128.size a := fun arg14_r0 k0_hw5 => k0_hw5

def k0_off20 (arg15_r0 : BitVec 32) : Fin 3 → Nat :=
  let c2_i32_118_r0 : BitVec 32 := 2#32
  let v159_r0 : BitVec 32 := Scalar.remui arg15_r0 c2_i32_118_r0
  let c0_i32_137_r0 : BitVec 32 := 0#32
  let c0_i32_138_r0 : BitVec 32 := 0#32
  ![v159_r0.toNat, 0, 0]

def k0_chk2 (arg15_r0 : BitVec 32) : Prop :=
  (∀ a, (k0_off16 arg15_r0) a + S1x128x128.size a ≤ S2x128x128.size a) ∧
  (∀ a, (k0_off20 arg15_r0) a + S1x128x128.size a ≤ S2x128x128.size a)
theorem k0_off16_inb : ∀ (arg15_r0 : BitVec 32) (k0_hw2 : k0_chk2 arg15_r0), ∀ a, (k0_off16 arg15_r0) a + S1x128x128.size a ≤ S2x128x128.size a := fun arg15_r0 k0_hw2 => k0_hw2.1
theorem k0_off20_inb : ∀ (arg15_r0 : BitVec 32) (k0_hw2 : k0_chk2 arg15_r0), ∀ a, (k0_off20 arg15_r0) a + S1x128x128.size a ≤ S2x128x128.size a := fun arg15_r0 k0_hw2 => k0_hw2.2

def k0_off21 (arg12_r0 : BitVec 32) : Fin 3 → Nat :=
  let c2_i32_116_r0 : BitVec 32 := 2#32
  let v157_r0 : BitVec 32 := Scalar.remui arg12_r0 c2_i32_116_r0
  let c0_i32_139_r0 : BitVec 32 := 0#32
  let c0_i32_140_r0 : BitVec 32 := 0#32
  ![v157_r0.toNat, 0, 0]

def k0_chk3 (arg12_r0 : BitVec 32) : Prop :=
  (∀ a, (k0_off17 arg12_r0) a + S1x1x128.size a ≤ S2x1x128.size a) ∧
  (∀ a, (k0_off21 arg12_r0) a + S1x1x128.size a ≤ S2x1x128.size a)
theorem k0_off17_inb : ∀ (arg12_r0 : BitVec 32) (k0_hw3 : k0_chk3 arg12_r0), ∀ a, (k0_off17 arg12_r0) a + S1x1x128.size a ≤ S2x1x128.size a := fun arg12_r0 k0_hw3 => k0_hw3.1
theorem k0_off21_inb : ∀ (arg12_r0 : BitVec 32) (k0_hw3 : k0_chk3 arg12_r0), ∀ a, (k0_off21 arg12_r0) a + S1x1x128.size a ≤ S2x1x128.size a := fun arg12_r0 k0_hw3 => k0_hw3.2

def k0_off22 (arg15_r0 : BitVec 32) : Fin 3 → Nat :=
  let c2_i32_181_r0 : BitVec 32 := 2#32
  let v253_r0 : BitVec 32 := Scalar.remui arg15_r0 c2_i32_181_r0
  let c0_i32_183_r0 : BitVec 32 := 0#32
  let c0_i32_184_r0 : BitVec 32 := 0#32
  ![v253_r0.toNat, 0, 0]
def k0_cond9 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v199_r0 : BitVec 1 := Scalar.cmpi .ne v89_r0 v99_r0
  let c0_i32_42_r0 : BitVec 32 := 0#32
  let c1_i32_44_r0 : BitVec 32 := 1#32
  let arg10_r0 : BitVec 32 := Scf.iv c0_i32_42_r0 c1_i32_44_r0 k0_t1
  let c3_i32_79_r0 : BitVec 32 := 3#32
  let v88_r0 : BitVec 1 := Scalar.cmpi .eq arg10_r0 c3_i32_79_r0
  let v200_r0 : BitVec 1 := Scalar.ori v199_r0 v88_r0
  let v201_r0 : BitVec 32 := Scalar.extui v200_r0
  let c0_i32_155_r0 : BitVec 32 := 0#32
  let v202_r0 : BitVec 1 := Scalar.cmpi .ne v201_r0 c0_i32_155_r0
  v202_r0

def k0_off23 (i : grid0.Coords) (arg19_r0 : BitVec 32) : Fin 2 → Nat :=
  let c128_i32_182_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let v254_r0 : BitVec 32 := Scalar.muli c128_i32_182_r0 v89_r0
  let c0_i32_185_r0 : BitVec 32 := 0#32
  ![v254_r0.toNat, 0]
def k0_off24 (arg15_r0 : BitVec 32) : Fin 1 → Nat :=
  let c2_i32_181_r0 : BitVec 32 := 2#32
  let v253_r0 : BitVec 32 := Scalar.remui arg15_r0 c2_i32_181_r0
  ![v253_r0.toNat]
def k0_off25 (arg17_r0 : BitVec 32) : Fin 3 → Nat :=
  let c2_i32_181_r0 : BitVec 32 := 2#32
  let v253_r0 : BitVec 32 := Scalar.remui arg17_r0 c2_i32_181_r0
  let c0_i32_183_r0 : BitVec 32 := 0#32
  let c0_i32_184_r0 : BitVec 32 := 0#32
  ![v253_r0.toNat, 0, 0]
def k0_cond10 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_85_r0 : BitVec 1 := 1#1
  let c1_i32_84_r0 : BitVec 32 := 1#32
  let v95_r0 : BitVec 32 := Scalar.addi arg19_r0 c1_i32_84_r0
  let v96_r0 : BitVec 32 := Scalar.select true_85_r0 v95_r0 arg19_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v206_r0 : BitVec 1 := Scalar.cmpi .ne v89_r0 v99_r0
  let c0_i32_42_r0 : BitVec 32 := 0#32
  let c1_i32_44_r0 : BitVec 32 := 1#32
  let arg10_r0 : BitVec 32 := Scf.iv c0_i32_42_r0 c1_i32_44_r0 k0_t1
  let c3_i32_79_r0 : BitVec 32 := 3#32
  let v88_r0 : BitVec 1 := Scalar.cmpi .eq arg10_r0 c3_i32_79_r0
  let v207_r0 : BitVec 1 := Scalar.ori v206_r0 v88_r0
  let v208_r0 : BitVec 32 := Scalar.extui v207_r0
  let c0_i32_158_r0 : BitVec 32 := 0#32
  let v209_r0 : BitVec 1 := Scalar.cmpi .ne v208_r0 c0_i32_158_r0
  v209_r0

def k0_off26 (i : grid0.Coords) (arg19_r0 : BitVec 32) : Fin 2 → Nat :=
  let c128_i32_182_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let v254_r0 : BitVec 32 := Scalar.muli c128_i32_182_r0 v89_r0
  let c0_i32_185_r0 : BitVec 32 := 0#32
  ![v254_r0.toNat, 0]
def k0_off27 (arg17_r0 : BitVec 32) : Fin 1 → Nat :=
  let c2_i32_181_r0 : BitVec 32 := 2#32
  let v253_r0 : BitVec 32 := Scalar.remui arg17_r0 c2_i32_181_r0
  ![v253_r0.toNat]
def k0_off28 (arg16_r0 : BitVec 32) : Fin 3 → Nat :=
  let c2_i32_181_r0 : BitVec 32 := 2#32
  let v253_r0 : BitVec 32 := Scalar.remui arg16_r0 c2_i32_181_r0
  let c0_i32_183_r0 : BitVec 32 := 0#32
  let c0_i32_184_r0 : BitVec 32 := 0#32
  ![v253_r0.toNat, 0, 0]
def k0_cond13 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v225_r0 : BitVec 1 := Scalar.cmpi .ne v89_r0 v94_r0
  let c0_i32_42_r0 : BitVec 32 := 0#32
  let c1_i32_44_r0 : BitVec 32 := 1#32
  let arg10_r0 : BitVec 32 := Scf.iv c0_i32_42_r0 c1_i32_44_r0 k0_t1
  let c0_i32_78_r0 : BitVec 32 := 0#32
  let v87_r0 : BitVec 1 := Scalar.cmpi .eq arg10_r0 c0_i32_78_r0
  let true_167_r0 : BitVec 1 := 1#1
  let v226_r0 : BitVec 1 := Scalar.xori v87_r0 true_167_r0
  let v227_r0 : BitVec 1 := Scalar.andi v225_r0 v226_r0
  let v228_r0 : BitVec 32 := Scalar.extui v227_r0
  let c0_i32_168_r0 : BitVec 32 := 0#32
  let v229_r0 : BitVec 1 := Scalar.cmpi .ne v228_r0 c0_i32_168_r0
  v229_r0

def k0_off29 (i : grid0.Coords) (arg19_r0 : BitVec 32) : Fin 2 → Nat :=
  let c128_i32_182_r0 : BitVec 32 := 128#32
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v94_r0 : BitVec 32 := Scalar.addi v93_r0 v4
  let v254_r0 : BitVec 32 := Scalar.muli c128_i32_182_r0 v94_r0
  let c0_i32_185_r0 : BitVec 32 := 0#32
  ![v254_r0.toNat, 0]
def k0_off30 (arg16_r0 : BitVec 32) : Fin 1 → Nat :=
  let c2_i32_181_r0 : BitVec 32 := 2#32
  let v253_r0 : BitVec 32 := Scalar.remui arg16_r0 c2_i32_181_r0
  ![v253_r0.toNat]
def k0_off31 (arg18_r0 : BitVec 32) : Fin 3 → Nat :=
  let c2_i32_181_r0 : BitVec 32 := 2#32
  let v253_r0 : BitVec 32 := Scalar.remui arg18_r0 c2_i32_181_r0
  let c0_i32_183_r0 : BitVec 32 := 0#32
  let c0_i32_184_r0 : BitVec 32 := 0#32
  ![v253_r0.toNat, 0, 0]
def k0_cond14 (i : grid0.Coords) (k0_t1 : Fin k0_t1_loop.trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg19_r0 v4
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v233_r0 : BitVec 1 := Scalar.cmpi .ne v89_r0 v94_r0
  let c0_i32_42_r0 : BitVec 32 := 0#32
  let c1_i32_44_r0 : BitVec 32 := 1#32
  let arg10_r0 : BitVec 32 := Scf.iv c0_i32_42_r0 c1_i32_44_r0 k0_t1
  let c0_i32_78_r0 : BitVec 32 := 0#32
  let v87_r0 : BitVec 1 := Scalar.cmpi .eq arg10_r0 c0_i32_78_r0
  let true_171_r0 : BitVec 1 := 1#1
  let v234_r0 : BitVec 1 := Scalar.xori v87_r0 true_171_r0
  let v235_r0 : BitVec 1 := Scalar.andi v233_r0 v234_r0
  let v236_r0 : BitVec 32 := Scalar.extui v235_r0
  let c0_i32_172_r0 : BitVec 32 := 0#32
  let v237_r0 : BitVec 1 := Scalar.cmpi .ne v236_r0 c0_i32_172_r0
  v237_r0

def k0_off32 (i : grid0.Coords) (arg19_r0 : BitVec 32) : Fin 2 → Nat :=
  let c128_i32_182_r0 : BitVec 32 := 128#32
  let true_81_r0 : BitVec 1 := 1#1
  let c1_i32_80_r0 : BitVec 32 := 1#32
  let v90_r0 : BitVec 32 := Scalar.subi arg19_r0 c1_i32_80_r0
  let v91_r0 : BitVec 32 := Scalar.select true_81_r0 v90_r0 arg19_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v94_r0 : BitVec 32 := Scalar.addi v93_r0 v4
  let v254_r0 : BitVec 32 := Scalar.muli c128_i32_182_r0 v94_r0
  let c0_i32_185_r0 : BitVec 32 := 0#32
  ![v254_r0.toNat, 0]
def k0_off33 (arg18_r0 : BitVec 32) : Fin 1 → Nat :=
  let c2_i32_181_r0 : BitVec 32 := 2#32
  let v253_r0 : BitVec 32 := Scalar.remui arg18_r0 c2_i32_181_r0
  ![v253_r0.toNat]

def k0_chk1 (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k0_h1 : k0_cond1 i k0_t1 arg19_r0 = 1#1), ∀ a, (k0_off4 arg11_r0) a + S1x1x128.size a ≤ S2x1x128.size a) ∧
  (∀ (k0_h1 : k0_cond1 i k0_t1 arg19_r0 = 1#1), ∀ a, (k0_off5 i arg19_r0) a + S1x128.size a ≤ S1x16384.size a) ∧
  (∀ (k0_h1 : k0_cond1 i k0_t1 arg19_r0 = 1#1), ∀ a, (k0_off6 arg11_r0) a + S1.size a ≤ S2.size a) ∧
  (∀ (k0_h2 : k0_cond2 i k0_t1 arg19_r0 = 1#1), ∀ a, (k0_off7 arg13_r0) a + S1x1x128.size a ≤ S2x1x128.size a) ∧
  (∀ (k0_h2 : k0_cond2 i k0_t1 arg19_r0 = 1#1), ∀ a, (k0_off8 i arg19_r0) a + S1x128.size a ≤ S1x16384.size a) ∧
  (∀ (k0_h2 : k0_cond2 i k0_t1 arg19_r0 = 1#1), ∀ a, (k0_off9 arg13_r0) a + S1.size a ≤ S2.size a) ∧
  (∀ (k0_h3 : k0_cond3 i k0_t1 arg19_r0 = 1#1), ∀ a, (k0_off10 arg12_r0) a + S1x1x128.size a ≤ S2x1x128.size a) ∧
  (∀ (k0_h3 : k0_cond3 i k0_t1 arg19_r0 = 1#1), ∀ a, (k0_off11 i arg19_r0) a + S1x128.size a ≤ S1x16384.size a) ∧
  (∀ (k0_h3 : k0_cond3 i k0_t1 arg19_r0 = 1#1), ∀ a, (k0_off12 arg12_r0) a + S1.size a ≤ S2.size a) ∧
  (∀ (k0_h4 : k0_cond4 i k0_t1 arg19_r0 = 1#1), ∀ a, (k0_off13 arg14_r0) a + S1x1x128.size a ≤ S2x1x128.size a) ∧
  (∀ (k0_h4 : k0_cond4 i k0_t1 arg19_r0 = 1#1), ∀ a, (k0_off14 i arg19_r0) a + S1x128.size a ≤ S1x16384.size a) ∧
  (∀ (k0_h4 : k0_cond4 i k0_t1 arg19_r0 = 1#1), ∀ a, (k0_off15 arg14_r0) a + S1.size a ≤ S2.size a) ∧
  (∀ (k0_h9 : k0_cond9 i k0_t1 arg19_r0 = 1#1), ∀ a, (k0_off22 arg15_r0) a + S1x128x128.size a ≤ S2x128x128.size a) ∧
  (∀ (k0_h9 : k0_cond9 i k0_t1 arg19_r0 = 1#1), ∀ a, (k0_off23 i arg19_r0) a + S128x128.size a ≤ S16384x128.size a) ∧
  (∀ (k0_h9 : k0_cond9 i k0_t1 arg19_r0 = 1#1), ∀ a, (k0_off24 arg15_r0) a + S1.size a ≤ S2.size a) ∧
  (∀ (k0_h10 : k0_cond10 i k0_t1 arg19_r0 = 1#1), ∀ a, (k0_off25 arg17_r0) a + S1x128x128.size a ≤ S2x128x128.size a) ∧
  (∀ (k0_h10 : k0_cond10 i k0_t1 arg19_r0 = 1#1), ∀ a, (k0_off26 i arg19_r0) a + S128x128.size a ≤ S16384x128.size a) ∧
  (∀ (k0_h10 : k0_cond10 i k0_t1 arg19_r0 = 1#1), ∀ a, (k0_off27 arg17_r0) a + S1.size a ≤ S2.size a) ∧
  (∀ (k0_h13 : k0_cond13 i k0_t1 arg19_r0 = 1#1), ∀ a, (k0_off28 arg16_r0) a + S1x128x128.size a ≤ S2x128x128.size a) ∧
  (∀ (k0_h13 : k0_cond13 i k0_t1 arg19_r0 = 1#1), ∀ a, (k0_off29 i arg19_r0) a + S128x128.size a ≤ S16384x128.size a) ∧
  (∀ (k0_h13 : k0_cond13 i k0_t1 arg19_r0 = 1#1), ∀ a, (k0_off30 arg16_r0) a + S1.size a ≤ S2.size a) ∧
  (∀ (k0_h14 : k0_cond14 i k0_t1 arg19_r0 = 1#1), ∀ a, (k0_off31 arg18_r0) a + S1x128x128.size a ≤ S2x128x128.size a) ∧
  (∀ (k0_h14 : k0_cond14 i k0_t1 arg19_r0 = 1#1), ∀ a, (k0_off32 i arg19_r0) a + S128x128.size a ≤ S16384x128.size a) ∧
  (∀ (k0_h14 : k0_cond14 i k0_t1 arg19_r0 = 1#1), ∀ a, (k0_off33 arg18_r0) a + S1.size a ≤ S2.size a)
theorem k0_off4_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h1 : k0_cond1 i k0_t1 arg19_r0 = 1#1), ∀ a, (k0_off4 arg11_r0) a + S1x1x128.size a ≤ S2x1x128.size a := fun i k0_t1 arg11_r0 arg12_r0 arg13_r0 arg14_r0 arg15_r0 arg16_r0 arg17_r0 arg18_r0 arg19_r0 k0_hw1 k0_h1 => k0_hw1.1 k0_h1
theorem k0_off5_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h1 : k0_cond1 i k0_t1 arg19_r0 = 1#1), ∀ a, (k0_off5 i arg19_r0) a + S1x128.size a ≤ S1x16384.size a := fun i k0_t1 arg11_r0 arg12_r0 arg13_r0 arg14_r0 arg15_r0 arg16_r0 arg17_r0 arg18_r0 arg19_r0 k0_hw1 k0_h1 => k0_hw1.2.1 k0_h1
theorem k0_off6_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h1 : k0_cond1 i k0_t1 arg19_r0 = 1#1), ∀ a, (k0_off6 arg11_r0) a + S1.size a ≤ S2.size a := fun i k0_t1 arg11_r0 arg12_r0 arg13_r0 arg14_r0 arg15_r0 arg16_r0 arg17_r0 arg18_r0 arg19_r0 k0_hw1 k0_h1 => k0_hw1.2.2.1 k0_h1
theorem k0_off7_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h2 : k0_cond2 i k0_t1 arg19_r0 = 1#1), ∀ a, (k0_off7 arg13_r0) a + S1x1x128.size a ≤ S2x1x128.size a := fun i k0_t1 arg11_r0 arg12_r0 arg13_r0 arg14_r0 arg15_r0 arg16_r0 arg17_r0 arg18_r0 arg19_r0 k0_hw1 k0_h2 => k0_hw1.2.2.2.1 k0_h2
theorem k0_off8_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h2 : k0_cond2 i k0_t1 arg19_r0 = 1#1), ∀ a, (k0_off8 i arg19_r0) a + S1x128.size a ≤ S1x16384.size a := fun i k0_t1 arg11_r0 arg12_r0 arg13_r0 arg14_r0 arg15_r0 arg16_r0 arg17_r0 arg18_r0 arg19_r0 k0_hw1 k0_h2 => k0_hw1.2.2.2.2.1 k0_h2
theorem k0_off9_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h2 : k0_cond2 i k0_t1 arg19_r0 = 1#1), ∀ a, (k0_off9 arg13_r0) a + S1.size a ≤ S2.size a := fun i k0_t1 arg11_r0 arg12_r0 arg13_r0 arg14_r0 arg15_r0 arg16_r0 arg17_r0 arg18_r0 arg19_r0 k0_hw1 k0_h2 => k0_hw1.2.2.2.2.2.1 k0_h2
theorem k0_off10_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h3 : k0_cond3 i k0_t1 arg19_r0 = 1#1), ∀ a, (k0_off10 arg12_r0) a + S1x1x128.size a ≤ S2x1x128.size a := fun i k0_t1 arg11_r0 arg12_r0 arg13_r0 arg14_r0 arg15_r0 arg16_r0 arg17_r0 arg18_r0 arg19_r0 k0_hw1 k0_h3 => k0_hw1.2.2.2.2.2.2.1 k0_h3
theorem k0_off11_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h3 : k0_cond3 i k0_t1 arg19_r0 = 1#1), ∀ a, (k0_off11 i arg19_r0) a + S1x128.size a ≤ S1x16384.size a := fun i k0_t1 arg11_r0 arg12_r0 arg13_r0 arg14_r0 arg15_r0 arg16_r0 arg17_r0 arg18_r0 arg19_r0 k0_hw1 k0_h3 => k0_hw1.2.2.2.2.2.2.2.1 k0_h3
theorem k0_off12_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h3 : k0_cond3 i k0_t1 arg19_r0 = 1#1), ∀ a, (k0_off12 arg12_r0) a + S1.size a ≤ S2.size a := fun i k0_t1 arg11_r0 arg12_r0 arg13_r0 arg14_r0 arg15_r0 arg16_r0 arg17_r0 arg18_r0 arg19_r0 k0_hw1 k0_h3 => k0_hw1.2.2.2.2.2.2.2.2.1 k0_h3
theorem k0_off13_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h4 : k0_cond4 i k0_t1 arg19_r0 = 1#1), ∀ a, (k0_off13 arg14_r0) a + S1x1x128.size a ≤ S2x1x128.size a := fun i k0_t1 arg11_r0 arg12_r0 arg13_r0 arg14_r0 arg15_r0 arg16_r0 arg17_r0 arg18_r0 arg19_r0 k0_hw1 k0_h4 => k0_hw1.2.2.2.2.2.2.2.2.2.1 k0_h4
theorem k0_off14_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h4 : k0_cond4 i k0_t1 arg19_r0 = 1#1), ∀ a, (k0_off14 i arg19_r0) a + S1x128.size a ≤ S1x16384.size a := fun i k0_t1 arg11_r0 arg12_r0 arg13_r0 arg14_r0 arg15_r0 arg16_r0 arg17_r0 arg18_r0 arg19_r0 k0_hw1 k0_h4 => k0_hw1.2.2.2.2.2.2.2.2.2.2.1 k0_h4
theorem k0_off15_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h4 : k0_cond4 i k0_t1 arg19_r0 = 1#1), ∀ a, (k0_off15 arg14_r0) a + S1.size a ≤ S2.size a := fun i k0_t1 arg11_r0 arg12_r0 arg13_r0 arg14_r0 arg15_r0 arg16_r0 arg17_r0 arg18_r0 arg19_r0 k0_hw1 k0_h4 => k0_hw1.2.2.2.2.2.2.2.2.2.2.2.1 k0_h4
theorem k0_off22_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h9 : k0_cond9 i k0_t1 arg19_r0 = 1#1), ∀ a, (k0_off22 arg15_r0) a + S1x128x128.size a ≤ S2x128x128.size a := fun i k0_t1 arg11_r0 arg12_r0 arg13_r0 arg14_r0 arg15_r0 arg16_r0 arg17_r0 arg18_r0 arg19_r0 k0_hw1 k0_h9 => k0_hw1.2.2.2.2.2.2.2.2.2.2.2.2.1 k0_h9
theorem k0_off23_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h9 : k0_cond9 i k0_t1 arg19_r0 = 1#1), ∀ a, (k0_off23 i arg19_r0) a + S128x128.size a ≤ S16384x128.size a := fun i k0_t1 arg11_r0 arg12_r0 arg13_r0 arg14_r0 arg15_r0 arg16_r0 arg17_r0 arg18_r0 arg19_r0 k0_hw1 k0_h9 => k0_hw1.2.2.2.2.2.2.2.2.2.2.2.2.2.1 k0_h9
theorem k0_off24_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h9 : k0_cond9 i k0_t1 arg19_r0 = 1#1), ∀ a, (k0_off24 arg15_r0) a + S1.size a ≤ S2.size a := fun i k0_t1 arg11_r0 arg12_r0 arg13_r0 arg14_r0 arg15_r0 arg16_r0 arg17_r0 arg18_r0 arg19_r0 k0_hw1 k0_h9 => k0_hw1.2.2.2.2.2.2.2.2.2.2.2.2.2.2.1 k0_h9
theorem k0_off25_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h10 : k0_cond10 i k0_t1 arg19_r0 = 1#1), ∀ a, (k0_off25 arg17_r0) a + S1x128x128.size a ≤ S2x128x128.size a := fun i k0_t1 arg11_r0 arg12_r0 arg13_r0 arg14_r0 arg15_r0 arg16_r0 arg17_r0 arg18_r0 arg19_r0 k0_hw1 k0_h10 => k0_hw1.2.2.2.2.2.2.2.2.2.2.2.2.2.2.2.1 k0_h10
theorem k0_off26_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h10 : k0_cond10 i k0_t1 arg19_r0 = 1#1), ∀ a, (k0_off26 i arg19_r0) a + S128x128.size a ≤ S16384x128.size a := fun i k0_t1 arg11_r0 arg12_r0 arg13_r0 arg14_r0 arg15_r0 arg16_r0 arg17_r0 arg18_r0 arg19_r0 k0_hw1 k0_h10 => k0_hw1.2.2.2.2.2.2.2.2.2.2.2.2.2.2.2.2.1 k0_h10
theorem k0_off27_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h10 : k0_cond10 i k0_t1 arg19_r0 = 1#1), ∀ a, (k0_off27 arg17_r0) a + S1.size a ≤ S2.size a := fun i k0_t1 arg11_r0 arg12_r0 arg13_r0 arg14_r0 arg15_r0 arg16_r0 arg17_r0 arg18_r0 arg19_r0 k0_hw1 k0_h10 => k0_hw1.2.2.2.2.2.2.2.2.2.2.2.2.2.2.2.2.2.1 k0_h10
theorem k0_off28_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h13 : k0_cond13 i k0_t1 arg19_r0 = 1#1), ∀ a, (k0_off28 arg16_r0) a + S1x128x128.size a ≤ S2x128x128.size a := fun i k0_t1 arg11_r0 arg12_r0 arg13_r0 arg14_r0 arg15_r0 arg16_r0 arg17_r0 arg18_r0 arg19_r0 k0_hw1 k0_h13 => k0_hw1.2.2.2.2.2.2.2.2.2.2.2.2.2.2.2.2.2.2.1 k0_h13
theorem k0_off29_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h13 : k0_cond13 i k0_t1 arg19_r0 = 1#1), ∀ a, (k0_off29 i arg19_r0) a + S128x128.size a ≤ S16384x128.size a := fun i k0_t1 arg11_r0 arg12_r0 arg13_r0 arg14_r0 arg15_r0 arg16_r0 arg17_r0 arg18_r0 arg19_r0 k0_hw1 k0_h13 => k0_hw1.2.2.2.2.2.2.2.2.2.2.2.2.2.2.2.2.2.2.2.1 k0_h13
theorem k0_off30_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h13 : k0_cond13 i k0_t1 arg19_r0 = 1#1), ∀ a, (k0_off30 arg16_r0) a + S1.size a ≤ S2.size a := fun i k0_t1 arg11_r0 arg12_r0 arg13_r0 arg14_r0 arg15_r0 arg16_r0 arg17_r0 arg18_r0 arg19_r0 k0_hw1 k0_h13 => k0_hw1.2.2.2.2.2.2.2.2.2.2.2.2.2.2.2.2.2.2.2.2.1 k0_h13
theorem k0_off31_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h14 : k0_cond14 i k0_t1 arg19_r0 = 1#1), ∀ a, (k0_off31 arg18_r0) a + S1x128x128.size a ≤ S2x128x128.size a := fun i k0_t1 arg11_r0 arg12_r0 arg13_r0 arg14_r0 arg15_r0 arg16_r0 arg17_r0 arg18_r0 arg19_r0 k0_hw1 k0_h14 => k0_hw1.2.2.2.2.2.2.2.2.2.2.2.2.2.2.2.2.2.2.2.2.2.1 k0_h14
theorem k0_off32_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h14 : k0_cond14 i k0_t1 arg19_r0 = 1#1), ∀ a, (k0_off32 i arg19_r0) a + S128x128.size a ≤ S16384x128.size a := fun i k0_t1 arg11_r0 arg12_r0 arg13_r0 arg14_r0 arg15_r0 arg16_r0 arg17_r0 arg18_r0 arg19_r0 k0_hw1 k0_h14 => k0_hw1.2.2.2.2.2.2.2.2.2.2.2.2.2.2.2.2.2.2.2.2.2.2.1 k0_h14
theorem k0_off33_inb : ∀ (i : grid0.Coords) (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw1 : k0_chk1 i k0_t1 arg11_r0 arg12_r0 arg13_r0 arg14_r0 arg15_r0 arg16_r0 arg17_r0 arg18_r0 arg19_r0), ∀ (k0_h14 : k0_cond14 i k0_t1 arg19_r0 = 1#1), ∀ a, (k0_off33 arg18_r0) a + S1.size a ≤ S2.size a := fun i k0_t1 arg11_r0 arg12_r0 arg13_r0 arg14_r0 arg15_r0 arg16_r0 arg17_r0 arg18_r0 arg19_r0 k0_hw1 k0_h14 => k0_hw1.2.2.2.2.2.2.2.2.2.2.2.2.2.2.2.2.2.2.2.2.2.2.2 k0_h14

def k0_off34 (v46_5_r0 : BitVec 32) : Fin 3 → Nat :=
  let c2_i32_62_r0 : BitVec 32 := 2#32
  let v67_r0 : BitVec 32 := Scalar.remui v46_5_r0 c2_i32_62_r0
  let c0_i32_64_r0 : BitVec 32 := 0#32
  let c0_i32_65_r0 : BitVec 32 := 0#32
  ![v67_r0.toNat, 0, 0]

def k0_off35 (i : grid0.Coords) (v46_8_r0 : BitVec 32) : Fin 2 → Nat :=
  let c128_i32_63_r0 : BitVec 32 := 128#32
  let true_47_r0 : BitVec 1 := 1#1
  let c1_i32_46_r0 : BitVec 32 := 1#32
  let v47_r0 : BitVec 32 := Scalar.subi v46_8_r0 c1_i32_46_r0
  let v48_r0 : BitVec 32 := Scalar.select true_47_r0 v47_r0 v46_8_r0
  let c_m1_i32_48_r0 : BitVec 32 := 4294967295#32
  let v49_r0 : BitVec 1 := Scalar.cmpi .eq v48_r0 c_m1_i32_48_r0
  let c3_i32_49_r0 : BitVec 32 := 3#32
  let v50_r0 : BitVec 32 := Scalar.select v49_r0 c3_i32_49_r0 v48_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v51_r0 : BitVec 32 := Scalar.addi v50_r0 v4
  let v68_r0 : BitVec 32 := Scalar.muli c128_i32_63_r0 v51_r0
  let c0_i32_66_r0 : BitVec 32 := 0#32
  ![v68_r0.toNat, 0]

def k0_off36 (v46_5_r0 : BitVec 32) : Fin 1 → Nat :=
  let c2_i32_62_r0 : BitVec 32 := 2#32
  let v67_r0 : BitVec 32 := Scalar.remui v46_5_r0 c2_i32_62_r0
  ![v67_r0.toNat]
def k0_off37 (v46_5_r0 : BitVec 32) : Fin 3 → Nat :=
  let c2_i32_62_r0 : BitVec 32 := 2#32
  let v67_r0 : BitVec 32 := Scalar.remui v46_5_r0 c2_i32_62_r0
  let c0_i32_68_r0 : BitVec 32 := 0#32
  let c0_i32_69_r0 : BitVec 32 := 0#32
  ![v67_r0.toNat, 0, 0]

def k0_chk6 (v46_5_r0 : BitVec 32) : Prop :=
  (∀ a, (k0_off34 v46_5_r0) a + S1x128x128.size a ≤ S2x128x128.size a) ∧
  (∀ a, (k0_off36 v46_5_r0) a + S1.size a ≤ S2.size a) ∧
  (∀ a, (k0_off37 v46_5_r0) a + S1x128x128.size a ≤ S2x128x128.size a)
theorem k0_off34_inb : ∀ (v46_5_r0 : BitVec 32) (k0_hw6 : k0_chk6 v46_5_r0), ∀ a, (k0_off34 v46_5_r0) a + S1x128x128.size a ≤ S2x128x128.size a := fun v46_5_r0 k0_hw6 => k0_hw6.1
theorem k0_off36_inb : ∀ (v46_5_r0 : BitVec 32) (k0_hw6 : k0_chk6 v46_5_r0), ∀ a, (k0_off36 v46_5_r0) a + S1.size a ≤ S2.size a := fun v46_5_r0 k0_hw6 => k0_hw6.2.1
theorem k0_off37_inb : ∀ (v46_5_r0 : BitVec 32) (k0_hw6 : k0_chk6 v46_5_r0), ∀ a, (k0_off37 v46_5_r0) a + S1x128x128.size a ≤ S2x128x128.size a := fun v46_5_r0 k0_hw6 => k0_hw6.2.2

def k0_off38 (v46_7_r0 : BitVec 32) : Fin 3 → Nat :=
  let c2_i32_70_r0 : BitVec 32 := 2#32
  let v77_r0 : BitVec 32 := Scalar.remui v46_7_r0 c2_i32_70_r0
  let c0_i32_72_r0 : BitVec 32 := 0#32
  let c0_i32_73_r0 : BitVec 32 := 0#32
  ![v77_r0.toNat, 0, 0]

def k0_off39 (i : grid0.Coords) (v46_8_r0 : BitVec 32) : Fin 2 → Nat :=
  let c128_i32_71_r0 : BitVec 32 := 128#32
  let true_47_r0 : BitVec 1 := 1#1
  let c1_i32_46_r0 : BitVec 32 := 1#32
  let v47_r0 : BitVec 32 := Scalar.subi v46_8_r0 c1_i32_46_r0
  let v48_r0 : BitVec 32 := Scalar.select true_47_r0 v47_r0 v46_8_r0
  let c_m1_i32_48_r0 : BitVec 32 := 4294967295#32
  let v49_r0 : BitVec 1 := Scalar.cmpi .eq v48_r0 c_m1_i32_48_r0
  let c3_i32_49_r0 : BitVec 32 := 3#32
  let v50_r0 : BitVec 32 := Scalar.select v49_r0 c3_i32_49_r0 v48_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v51_r0 : BitVec 32 := Scalar.addi v50_r0 v4
  let v78_r0 : BitVec 32 := Scalar.muli c128_i32_71_r0 v51_r0
  let c0_i32_74_r0 : BitVec 32 := 0#32
  ![v78_r0.toNat, 0]

def k0_chk7 (i : grid0.Coords) (v46_8_r0 : BitVec 32) : Prop :=
  (∀ a, (k0_off35 i v46_8_r0) a + S128x128.size a ≤ S16384x128.size a) ∧
  (∀ a, (k0_off39 i v46_8_r0) a + S128x128.size a ≤ S16384x128.size a)
theorem k0_off35_inb : ∀ (i : grid0.Coords) (v46_8_r0 : BitVec 32) (k0_hw7 : k0_chk7 i v46_8_r0), ∀ a, (k0_off35 i v46_8_r0) a + S128x128.size a ≤ S16384x128.size a := fun i v46_8_r0 k0_hw7 => k0_hw7.1
theorem k0_off39_inb : ∀ (i : grid0.Coords) (v46_8_r0 : BitVec 32) (k0_hw7 : k0_chk7 i v46_8_r0), ∀ a, (k0_off39 i v46_8_r0) a + S128x128.size a ≤ S16384x128.size a := fun i v46_8_r0 k0_hw7 => k0_hw7.2

def k0_off40 (v46_7_r0 : BitVec 32) : Fin 1 → Nat :=
  let c2_i32_70_r0 : BitVec 32 := 2#32
  let v77_r0 : BitVec 32 := Scalar.remui v46_7_r0 c2_i32_70_r0
  ![v77_r0.toNat]

def k0_chk8 (v46_7_r0 : BitVec 32) : Prop :=
  (∀ a, (k0_off38 v46_7_r0) a + S1x128x128.size a ≤ S2x128x128.size a) ∧
  (∀ a, (k0_off40 v46_7_r0) a + S1.size a ≤ S2.size a)
theorem k0_off38_inb : ∀ (v46_7_r0 : BitVec 32) (k0_hw8 : k0_chk8 v46_7_r0), ∀ a, (k0_off38 v46_7_r0) a + S1x128x128.size a ≤ S2x128x128.size a := fun v46_7_r0 k0_hw8 => k0_hw8.1
theorem k0_off40_inb : ∀ (v46_7_r0 : BitVec 32) (k0_hw8 : k0_chk8 v46_7_r0), ∀ a, (k0_off40 v46_7_r0) a + S1.size a ≤ S2.size a := fun v46_7_r0 k0_hw8 => k0_hw8.2

abbrev grid1 : Pipeline.Grid := ⟨2, ![2, 16], ![false, false]⟩

def k1_off1 : Fin 3 → Nat :=
  let c0_i32_14_r0 : BitVec 32 := 0#32
  let c2_i32_r0 : BitVec 32 := 2#32
  let v22_r0 : BitVec 32 := Scalar.remui c0_i32_14_r0 c2_i32_r0
  let c0_i32_15_r0 : BitVec 32 := 0#32
  let c0_i32_16_r0 : BitVec 32 := 0#32
  ![v22_r0.toNat, 0, 0]
def k1_off2 (i : grid1.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v8_r0 : BitVec 32 := Scalar.addi c0_i32_2_r0 v4
  let v23_r0 : BitVec 32 := Scalar.muli c128_i32_r0 v8_r0
  ![0, v23_r0.toNat]
def k1_off3 : Fin 1 → Nat :=
  let c0_i32_14_r0 : BitVec 32 := 0#32
  let c2_i32_r0 : BitVec 32 := 2#32
  let v22_r0 : BitVec 32 := Scalar.remui c0_i32_14_r0 c2_i32_r0
  ![v22_r0.toNat]
@[reducible] def k1_t1_loop : Scf.Loop 32 :=
  let c0_i32_39_r0 : BitVec 32 := 0#32
  let c4_i32_40_r0 : BitVec 32 := 4#32
  let v44_r0 : BitVec 32 := Scalar.addi c0_i32_39_r0 c4_i32_40_r0
  let c1_i32_41_r0 : BitVec 32 := 1#32
  ⟨c0_i32_39_r0, v44_r0, c1_i32_41_r0⟩
def k1_off4 (arg11_r0 : BitVec 32) : Fin 3 → Nat :=
  let c2_i32_154_r0 : BitVec 32 := 2#32
  let v209_r0 : BitVec 32 := Scalar.remui arg11_r0 c2_i32_154_r0
  let c0_i32_156_r0 : BitVec 32 := 0#32
  let c0_i32_157_r0 : BitVec 32 := 0#32
  ![v209_r0.toNat, 0, 0]
def k1_cond1 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_74_r0 : BitVec 1 := 1#1
  let c1_i32_73_r0 : BitVec 32 := 1#32
  let v84_r0 : BitVec 32 := Scalar.addi arg17_r0 c1_i32_73_r0
  let v85_r0 : BitVec 32 := Scalar.select true_74_r0 v84_r0 arg17_r0
  let c4_i32_75_r0 : BitVec 32 := 4#32
  let v86_r0 : BitVec 1 := Scalar.cmpi .eq v85_r0 c4_i32_75_r0
  let c0_i32_76_r0 : BitVec 32 := 0#32
  let v87_r0 : BitVec 32 := Scalar.select v86_r0 c0_i32_76_r0 v85_r0
  let v88_r0 : BitVec 32 := Scalar.addi v87_r0 v4
  let v94_r0 : BitVec 1 := Scalar.cmpi .ne v78_r0 v88_r0
  let c0_i32_39_r0 : BitVec 32 := 0#32
  let c1_i32_41_r0 : BitVec 32 := 1#32
  let arg10_r0 : BitVec 32 := Scf.iv c0_i32_39_r0 c1_i32_41_r0 k1_t1
  let c3_i32_81_r0 : BitVec 32 := 3#32
  let v95_r0 : BitVec 1 := Scalar.cmpi .sge arg10_r0 c3_i32_81_r0
  let true_82_r0 : BitVec 1 := 1#1
  let v96_r0 : BitVec 1 := Scalar.xori v95_r0 true_82_r0
  let v97_r0 : BitVec 1 := Scalar.andi v94_r0 v96_r0
  let true_83_r0 : BitVec 1 := 1#1
  let v98_r0 : BitVec 1 := Scalar.andi v97_r0 true_83_r0
  let v99_r0 : BitVec 32 := Scalar.extui v98_r0
  let c0_i32_84_r0 : BitVec 32 := 0#32
  let v100_r0 : BitVec 1 := Scalar.cmpi .ne v99_r0 c0_i32_84_r0
  v100_r0

def k1_off5 (i : grid1.Coords) (arg17_r0 : BitVec 32) : Fin 2 → Nat :=
  let c0_i32_158_r0 : BitVec 32 := 0#32
  let c128_i32_155_r0 : BitVec 32 := 128#32
  let true_74_r0 : BitVec 1 := 1#1
  let c1_i32_73_r0 : BitVec 32 := 1#32
  let v84_r0 : BitVec 32 := Scalar.addi arg17_r0 c1_i32_73_r0
  let v85_r0 : BitVec 32 := Scalar.select true_74_r0 v84_r0 arg17_r0
  let c4_i32_75_r0 : BitVec 32 := 4#32
  let v86_r0 : BitVec 1 := Scalar.cmpi .eq v85_r0 c4_i32_75_r0
  let c0_i32_76_r0 : BitVec 32 := 0#32
  let v87_r0 : BitVec 32 := Scalar.select v86_r0 c0_i32_76_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v88_r0 : BitVec 32 := Scalar.addi v87_r0 v4
  let v210_r0 : BitVec 32 := Scalar.muli c128_i32_155_r0 v88_r0
  ![0, v210_r0.toNat]
def k1_off6 (arg11_r0 : BitVec 32) : Fin 1 → Nat :=
  let c2_i32_154_r0 : BitVec 32 := 2#32
  let v209_r0 : BitVec 32 := Scalar.remui arg11_r0 c2_i32_154_r0
  ![v209_r0.toNat]
def k1_off7 (arg13_r0 : BitVec 32) : Fin 3 → Nat :=
  let c2_i32_154_r0 : BitVec 32 := 2#32
  let v209_r0 : BitVec 32 := Scalar.remui arg13_r0 c2_i32_154_r0
  let c0_i32_156_r0 : BitVec 32 := 0#32
  let c0_i32_157_r0 : BitVec 32 := 0#32
  ![v209_r0.toNat, 0, 0]
def k1_cond2 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_74_r0 : BitVec 1 := 1#1
  let c1_i32_73_r0 : BitVec 32 := 1#32
  let v84_r0 : BitVec 32 := Scalar.addi arg17_r0 c1_i32_73_r0
  let v85_r0 : BitVec 32 := Scalar.select true_74_r0 v84_r0 arg17_r0
  let c4_i32_75_r0 : BitVec 32 := 4#32
  let v86_r0 : BitVec 1 := Scalar.cmpi .eq v85_r0 c4_i32_75_r0
  let c0_i32_76_r0 : BitVec 32 := 0#32
  let v87_r0 : BitVec 32 := Scalar.select v86_r0 c0_i32_76_r0 v85_r0
  let v88_r0 : BitVec 32 := Scalar.addi v87_r0 v4
  let v104_r0 : BitVec 1 := Scalar.cmpi .ne v78_r0 v88_r0
  let c0_i32_39_r0 : BitVec 32 := 0#32
  let c1_i32_41_r0 : BitVec 32 := 1#32
  let arg10_r0 : BitVec 32 := Scf.iv c0_i32_39_r0 c1_i32_41_r0 k1_t1
  let c3_i32_87_r0 : BitVec 32 := 3#32
  let v105_r0 : BitVec 1 := Scalar.cmpi .sge arg10_r0 c3_i32_87_r0
  let true_88_r0 : BitVec 1 := 1#1
  let v106_r0 : BitVec 1 := Scalar.xori v105_r0 true_88_r0
  let v107_r0 : BitVec 1 := Scalar.andi v104_r0 v106_r0
  let true_89_r0 : BitVec 1 := 1#1
  let v108_r0 : BitVec 1 := Scalar.andi v107_r0 true_89_r0
  let v109_r0 : BitVec 32 := Scalar.extui v108_r0
  let c0_i32_90_r0 : BitVec 32 := 0#32
  let v110_r0 : BitVec 1 := Scalar.cmpi .ne v109_r0 c0_i32_90_r0
  v110_r0

def k1_off8 (i : grid1.Coords) (arg17_r0 : BitVec 32) : Fin 2 → Nat :=
  let c0_i32_158_r0 : BitVec 32 := 0#32
  let c128_i32_155_r0 : BitVec 32 := 128#32
  let true_74_r0 : BitVec 1 := 1#1
  let c1_i32_73_r0 : BitVec 32 := 1#32
  let v84_r0 : BitVec 32 := Scalar.addi arg17_r0 c1_i32_73_r0
  let v85_r0 : BitVec 32 := Scalar.select true_74_r0 v84_r0 arg17_r0
  let c4_i32_75_r0 : BitVec 32 := 4#32
  let v86_r0 : BitVec 1 := Scalar.cmpi .eq v85_r0 c4_i32_75_r0
  let c0_i32_76_r0 : BitVec 32 := 0#32
  let v87_r0 : BitVec 32 := Scalar.select v86_r0 c0_i32_76_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v88_r0 : BitVec 32 := Scalar.addi v87_r0 v4
  let v210_r0 : BitVec 32 := Scalar.muli c128_i32_155_r0 v88_r0
  ![0, v210_r0.toNat]
def k1_off9 (arg13_r0 : BitVec 32) : Fin 1 → Nat :=
  let c2_i32_154_r0 : BitVec 32 := 2#32
  let v209_r0 : BitVec 32 := Scalar.remui arg13_r0 c2_i32_154_r0
  ![v209_r0.toNat]
def k1_off10 (arg12_r0 : BitVec 32) : Fin 3 → Nat :=
  let c2_i32_155_r0 : BitVec 32 := 2#32
  let v210_r0 : BitVec 32 := Scalar.remui arg12_r0 c2_i32_155_r0
  let c0_i32_156_r0 : BitVec 32 := 0#32
  let c0_i32_157_r0 : BitVec 32 := 0#32
  ![v210_r0.toNat, 0, 0]
def k1_cond3 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_70_r0 : BitVec 1 := 1#1
  let c1_i32_69_r0 : BitVec 32 := 1#32
  let v79_r0 : BitVec 32 := Scalar.subi arg17_r0 c1_i32_69_r0
  let v80_r0 : BitVec 32 := Scalar.select true_70_r0 v79_r0 arg17_r0
  let c_m1_i32_71_r0 : BitVec 32 := 4294967295#32
  let v81_r0 : BitVec 1 := Scalar.cmpi .eq v80_r0 c_m1_i32_71_r0
  let c3_i32_72_r0 : BitVec 32 := 3#32
  let v82_r0 : BitVec 32 := Scalar.select v81_r0 c3_i32_72_r0 v80_r0
  let v83_r0 : BitVec 32 := Scalar.addi v82_r0 v4
  let v118_r0 : BitVec 1 := Scalar.cmpi .ne v78_r0 v83_r0
  let c0_i32_39_r0 : BitVec 32 := 0#32
  let c1_i32_41_r0 : BitVec 32 := 1#32
  let arg10_r0 : BitVec 32 := Scf.iv c0_i32_39_r0 c1_i32_41_r0 k1_t1
  let c0_i32_67_r0 : BitVec 32 := 0#32
  let v76_r0 : BitVec 1 := Scalar.cmpi .eq arg10_r0 c0_i32_67_r0
  let v119_r0 : BitVec 1 := Scalar.ori v118_r0 v76_r0
  let c0_i32_95_r0 : BitVec 32 := 0#32
  let v120_r0 : BitVec 1 := Scalar.cmpi .sge arg10_r0 c0_i32_95_r0
  let v121_r0 : BitVec 1 := Scalar.andi v119_r0 v120_r0
  let v122_r0 : BitVec 32 := Scalar.extui v121_r0
  let c0_i32_96_r0 : BitVec 32 := 0#32
  let v123_r0 : BitVec 1 := Scalar.cmpi .ne v122_r0 c0_i32_96_r0
  v123_r0

def k1_off11 (i : grid1.Coords) (arg17_r0 : BitVec 32) : Fin 2 → Nat :=
  let c0_i32_158_r0 : BitVec 32 := 0#32
  let c128_i32_154_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let v209_r0 : BitVec 32 := Scalar.muli c128_i32_154_r0 v78_r0
  ![0, v209_r0.toNat]
def k1_off12 (arg12_r0 : BitVec 32) : Fin 1 → Nat :=
  let c2_i32_155_r0 : BitVec 32 := 2#32
  let v210_r0 : BitVec 32 := Scalar.remui arg12_r0 c2_i32_155_r0
  ![v210_r0.toNat]
def k1_off13 (arg14_r0 : BitVec 32) : Fin 3 → Nat :=
  let c2_i32_155_r0 : BitVec 32 := 2#32
  let v210_r0 : BitVec 32 := Scalar.remui arg14_r0 c2_i32_155_r0
  let c0_i32_156_r0 : BitVec 32 := 0#32
  let c0_i32_157_r0 : BitVec 32 := 0#32
  ![v210_r0.toNat, 0, 0]
def k1_cond4 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_70_r0 : BitVec 1 := 1#1
  let c1_i32_69_r0 : BitVec 32 := 1#32
  let v79_r0 : BitVec 32 := Scalar.subi arg17_r0 c1_i32_69_r0
  let v80_r0 : BitVec 32 := Scalar.select true_70_r0 v79_r0 arg17_r0
  let c_m1_i32_71_r0 : BitVec 32 := 4294967295#32
  let v81_r0 : BitVec 1 := Scalar.cmpi .eq v80_r0 c_m1_i32_71_r0
  let c3_i32_72_r0 : BitVec 32 := 3#32
  let v82_r0 : BitVec 32 := Scalar.select v81_r0 c3_i32_72_r0 v80_r0
  let v83_r0 : BitVec 32 := Scalar.addi v82_r0 v4
  let v124_r0 : BitVec 1 := Scalar.cmpi .ne v78_r0 v83_r0
  let c0_i32_39_r0 : BitVec 32 := 0#32
  let c1_i32_41_r0 : BitVec 32 := 1#32
  let arg10_r0 : BitVec 32 := Scf.iv c0_i32_39_r0 c1_i32_41_r0 k1_t1
  let c0_i32_67_r0 : BitVec 32 := 0#32
  let v76_r0 : BitVec 1 := Scalar.cmpi .eq arg10_r0 c0_i32_67_r0
  let v125_r0 : BitVec 1 := Scalar.ori v124_r0 v76_r0
  let c0_i32_97_r0 : BitVec 32 := 0#32
  let v126_r0 : BitVec 1 := Scalar.cmpi .sge arg10_r0 c0_i32_97_r0
  let v127_r0 : BitVec 1 := Scalar.andi v125_r0 v126_r0
  let v128_r0 : BitVec 32 := Scalar.extui v127_r0
  let c0_i32_98_r0 : BitVec 32 := 0#32
  let v129_r0 : BitVec 1 := Scalar.cmpi .ne v128_r0 c0_i32_98_r0
  v129_r0

def k1_off14 (i : grid1.Coords) (arg17_r0 : BitVec 32) : Fin 2 → Nat :=
  let c0_i32_158_r0 : BitVec 32 := 0#32
  let c128_i32_154_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let v209_r0 : BitVec 32 := Scalar.muli c128_i32_154_r0 v78_r0
  ![0, v209_r0.toNat]
def k1_off15 (arg14_r0 : BitVec 32) : Fin 1 → Nat :=
  let c2_i32_155_r0 : BitVec 32 := 2#32
  let v210_r0 : BitVec 32 := Scalar.remui arg14_r0 c2_i32_155_r0
  ![v210_r0.toNat]
def k1_off16 (arg12_r0 : BitVec 32) : Fin 3 → Nat :=
  let c2_i32_101_r0 : BitVec 32 := 2#32
  let v136_r0 : BitVec 32 := Scalar.remui arg12_r0 c2_i32_101_r0
  let c0_i32_105_r0 : BitVec 32 := 0#32
  let c0_i32_106_r0 : BitVec 32 := 0#32
  ![v136_r0.toNat, 0, 0]

def k1_chk2 (arg12_r0 : BitVec 32) : Prop :=
  (∀ a, (k1_off16 arg12_r0) a + S1x1x128.size a ≤ S2x1x128.size a)
theorem k1_off16_inb : ∀ (arg12_r0 : BitVec 32) (k1_hw2 : k1_chk2 arg12_r0), ∀ a, (k1_off16 arg12_r0) a + S1x1x128.size a ≤ S2x1x128.size a := fun arg12_r0 k1_hw2 => k1_hw2

def k1_off17 (arg14_r0 : BitVec 32) : Fin 3 → Nat :=
  let c2_i32_102_r0 : BitVec 32 := 2#32
  let v137_r0 : BitVec 32 := Scalar.remui arg14_r0 c2_i32_102_r0
  let c0_i32_111_r0 : BitVec 32 := 0#32
  let c0_i32_112_r0 : BitVec 32 := 0#32
  ![v137_r0.toNat, 0, 0]

def k1_chk3 (arg14_r0 : BitVec 32) : Prop :=
  (∀ a, (k1_off17 arg14_r0) a + S1x1x128.size a ≤ S2x1x128.size a)
theorem k1_off17_inb : ∀ (arg14_r0 : BitVec 32) (k1_hw3 : k1_chk3 arg14_r0), ∀ a, (k1_off17 arg14_r0) a + S1x1x128.size a ≤ S2x1x128.size a := fun arg14_r0 k1_hw3 => k1_hw3

@[reducible] def k1_t2_loop : Scf.Loop 32 :=
  let c0_i32_128_r0 : BitVec 32 := 0#32
  let c128_i32_129_r0 : BitVec 32 := 128#32
  let v159_r0 : BitVec 32 := Scalar.addi c0_i32_128_r0 c128_i32_129_r0
  let c1_i32_130_r0 : BitVec 32 := 1#32
  ⟨c0_i32_128_r0, v159_r0, c1_i32_130_r0⟩
def k1_off18 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v211_r0 : Index := Scalar.indexCast v210_r0
  let c0_r0 : Index := 0#32
  ![v211_r0.toNat, 0]
def k1_off19 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v214_r0 : Index := Scalar.indexCast v210_r0
  let c32_r0 : Index := 32#32
  ![v214_r0.toNat, 32]
def k1_off20 (arg15_r0 : BitVec 32) : Fin 3 → Nat :=
  let c2_i32_103_r0 : BitVec 32 := 2#32
  let v138_r0 : BitVec 32 := Scalar.remui arg15_r0 c2_i32_103_r0
  let c0_i32_156_r0 : BitVec 32 := 0#32
  let c0_i32_157_r0 : BitVec 32 := 0#32
  ![v138_r0.toNat, 0, 0]

def k1_chk4 (arg15_r0 : BitVec 32) : Prop :=
  (∀ a, (k1_off20 arg15_r0) a + S1x128x32.size a ≤ S2x128x32.size a)
theorem k1_off20_inb : ∀ (arg15_r0 : BitVec 32) (k1_hw4 : k1_chk4 arg15_r0), ∀ a, (k1_off20 arg15_r0) a + S1x128x32.size a ≤ S2x128x32.size a := fun arg15_r0 k1_hw4 => k1_hw4

def k1_off21 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v220_r0 : Index := Scalar.indexCast v210_r0
  let c0_158_r0 : Index := 0#32
  ![v220_r0.toNat, 0]
def k1_off22 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v224_r0 : Index := Scalar.indexCast v210_r0
  let c16_r0 : Index := 16#32
  ![v224_r0.toNat, 16]
def k1_off23 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v227_r0 : Index := Scalar.indexCast v210_r0
  let c48_r0 : Index := 48#32
  ![v227_r0.toNat, 48]
def k1_off24 (k1_t2 : Fin k1_t2_loop.trips) : Fin 2 → Nat :=
  let c0_i32_155_r0 : BitVec 32 := 0#32
  let c0_i32_128_r0 : BitVec 32 := 0#32
  let c1_i32_130_r0 : BitVec 32 := 1#32
  let arg18_r0 : BitVec 32 := Scf.iv c0_i32_128_r0 c1_i32_130_r0 k1_t2
  let c1_i32_154_r0 : BitVec 32 := 1#32
  let v209_r0 : BitVec 32 := Scalar.muli arg18_r0 c1_i32_154_r0
  let v210_r0 : BitVec 32 := Scalar.addi c0_i32_155_r0 v209_r0
  let v233_r0 : Index := Scalar.indexCast v210_r0
  let c16_161_r0 : Index := 16#32
  ![v233_r0.toNat, 16]
def k1_off25 (arg15_r0 : BitVec 32) : Fin 3 → Nat :=
  let c2_i32_154_r0 : BitVec 32 := 2#32
  let v209_r0 : BitVec 32 := Scalar.remui arg15_r0 c2_i32_154_r0
  let c0_i32_156_r0 : BitVec 32 := 0#32
  let c0_i32_157_r0 : BitVec 32 := 0#32
  ![v209_r0.toNat, 0, 0]
def k1_cond8 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_74_r0 : BitVec 1 := 1#1
  let c1_i32_73_r0 : BitVec 32 := 1#32
  let v84_r0 : BitVec 32 := Scalar.addi arg17_r0 c1_i32_73_r0
  let v85_r0 : BitVec 32 := Scalar.select true_74_r0 v84_r0 arg17_r0
  let c4_i32_75_r0 : BitVec 32 := 4#32
  let v86_r0 : BitVec 1 := Scalar.cmpi .eq v85_r0 c4_i32_75_r0
  let c0_i32_76_r0 : BitVec 32 := 0#32
  let v87_r0 : BitVec 32 := Scalar.select v86_r0 c0_i32_76_r0 v85_r0
  let v88_r0 : BitVec 32 := Scalar.addi v87_r0 v4
  let v170_r0 : BitVec 1 := Scalar.cmpi .ne v78_r0 v88_r0
  let c0_i32_39_r0 : BitVec 32 := 0#32
  let c1_i32_41_r0 : BitVec 32 := 1#32
  let arg10_r0 : BitVec 32 := Scf.iv c0_i32_39_r0 c1_i32_41_r0 k1_t1
  let c3_i32_68_r0 : BitVec 32 := 3#32
  let v77_r0 : BitVec 1 := Scalar.cmpi .eq arg10_r0 c3_i32_68_r0
  let v171_r0 : BitVec 1 := Scalar.ori v170_r0 v77_r0
  let v172_r0 : BitVec 32 := Scalar.extui v171_r0
  let c0_i32_135_r0 : BitVec 32 := 0#32
  let v173_r0 : BitVec 1 := Scalar.cmpi .ne v172_r0 c0_i32_135_r0
  v173_r0

def k1_off26 (i : grid1.Coords) (arg17_r0 : BitVec 32) : Fin 2 → Nat :=
  let c128_i32_155_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let v210_r0 : BitVec 32 := Scalar.muli c128_i32_155_r0 v78_r0
  let c0_i32_158_r0 : BitVec 32 := 0#32
  ![v210_r0.toNat, 0]
def k1_off27 (arg15_r0 : BitVec 32) : Fin 1 → Nat :=
  let c2_i32_154_r0 : BitVec 32 := 2#32
  let v209_r0 : BitVec 32 := Scalar.remui arg15_r0 c2_i32_154_r0
  ![v209_r0.toNat]
def k1_off28 (arg16_r0 : BitVec 32) : Fin 3 → Nat :=
  let c2_i32_154_r0 : BitVec 32 := 2#32
  let v209_r0 : BitVec 32 := Scalar.remui arg16_r0 c2_i32_154_r0
  let c0_i32_156_r0 : BitVec 32 := 0#32
  let c0_i32_157_r0 : BitVec 32 := 0#32
  ![v209_r0.toNat, 0, 0]
def k1_cond11 (i : grid1.Coords) (k1_t1 : Fin k1_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v78_r0 : BitVec 32 := Scalar.addi arg17_r0 v4
  let true_70_r0 : BitVec 1 := 1#1
  let c1_i32_69_r0 : BitVec 32 := 1#32
  let v79_r0 : BitVec 32 := Scalar.subi arg17_r0 c1_i32_69_r0
  let v80_r0 : BitVec 32 := Scalar.select true_70_r0 v79_r0 arg17_r0
  let c_m1_i32_71_r0 : BitVec 32 := 4294967295#32
  let v81_r0 : BitVec 1 := Scalar.cmpi .eq v80_r0 c_m1_i32_71_r0
  let c3_i32_72_r0 : BitVec 32 := 3#32
  let v82_r0 : BitVec 32 := Scalar.select v81_r0 c3_i32_72_r0 v80_r0
  let v83_r0 : BitVec 32 := Scalar.addi v82_r0 v4
  let v189_r0 : BitVec 1 := Scalar.cmpi .ne v78_r0 v83_r0
  let c0_i32_39_r0 : BitVec 32 := 0#32
  let c1_i32_41_r0 : BitVec 32 := 1#32
  let arg10_r0 : BitVec 32 := Scf.iv c0_i32_39_r0 c1_i32_41_r0 k1_t1
  let c0_i32_67_r0 : BitVec 32 := 0#32
  let v76_r0 : BitVec 1 := Scalar.cmpi .eq arg10_r0 c0_i32_67_r0
  let true_144_r0 : BitVec 1 := 1#1
  let v190_r0 : BitVec 1 := Scalar.xori v76_r0 true_144_r0
  let v191_r0 : BitVec 1 := Scalar.andi v189_r0 v190_r0
  let v192_r0 : BitVec 32 := Scalar.extui v191_r0
  let c0_i32_145_r0 : BitVec 32 := 0#32
  let v193_r0 : BitVec 1 := Scalar.cmpi .ne v192_r0 c0_i32_145_r0
  v193_r0

def k1_off29 (i : grid1.Coords) (arg17_r0 : BitVec 32) : Fin 2 → Nat :=
  let c128_i32_155_r0 : BitVec 32 := 128#32
  let true_70_r0 : BitVec 1 := 1#1
  let c1_i32_69_r0 : BitVec 32 := 1#32
  let v79_r0 : BitVec 32 := Scalar.subi arg17_r0 c1_i32_69_r0
  let v80_r0 : BitVec 32 := Scalar.select true_70_r0 v79_r0 arg17_r0
  let c_m1_i32_71_r0 : BitVec 32 := 4294967295#32
  let v81_r0 : BitVec 1 := Scalar.cmpi .eq v80_r0 c_m1_i32_71_r0
  let c3_i32_72_r0 : BitVec 32 := 3#32
  let v82_r0 : BitVec 32 := Scalar.select v81_r0 c3_i32_72_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v83_r0 : BitVec 32 := Scalar.addi v82_r0 v4
  let v210_r0 : BitVec 32 := Scalar.muli c128_i32_155_r0 v83_r0
  let c0_i32_158_r0 : BitVec 32 := 0#32
  ![v210_r0.toNat, 0]
def k1_off30 (arg16_r0 : BitVec 32) : Fin 1 → Nat :=
  let c2_i32_154_r0 : BitVec 32 := 2#32
  let v209_r0 : BitVec 32 := Scalar.remui arg16_r0 c2_i32_154_r0
  ![v209_r0.toNat]

def k1_chk1 (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) : Prop :=
  (∀ (k1_h1 : k1_cond1 i k1_t1 arg17_r0 = 1#1), ∀ a, (k1_off4 arg11_r0) a + S1x1x128.size a ≤ S2x1x128.size a) ∧
  (∀ (k1_h1 : k1_cond1 i k1_t1 arg17_r0 = 1#1), ∀ a, (k1_off5 i arg17_r0) a + S1x128.size a ≤ S1x16384.size a) ∧
  (∀ (k1_h1 : k1_cond1 i k1_t1 arg17_r0 = 1#1), ∀ a, (k1_off6 arg11_r0) a + S1.size a ≤ S2.size a) ∧
  (∀ (k1_h2 : k1_cond2 i k1_t1 arg17_r0 = 1#1), ∀ a, (k1_off7 arg13_r0) a + S1x1x128.size a ≤ S2x1x128.size a) ∧
  (∀ (k1_h2 : k1_cond2 i k1_t1 arg17_r0 = 1#1), ∀ a, (k1_off8 i arg17_r0) a + S1x128.size a ≤ S1x16384.size a) ∧
  (∀ (k1_h2 : k1_cond2 i k1_t1 arg17_r0 = 1#1), ∀ a, (k1_off9 arg13_r0) a + S1.size a ≤ S2.size a) ∧
  (∀ (k1_h3 : k1_cond3 i k1_t1 arg17_r0 = 1#1), ∀ a, (k1_off10 arg12_r0) a + S1x1x128.size a ≤ S2x1x128.size a) ∧
  (∀ (k1_h3 : k1_cond3 i k1_t1 arg17_r0 = 1#1), ∀ a, (k1_off11 i arg17_r0) a + S1x128.size a ≤ S1x16384.size a) ∧
  (∀ (k1_h3 : k1_cond3 i k1_t1 arg17_r0 = 1#1), ∀ a, (k1_off12 arg12_r0) a + S1.size a ≤ S2.size a) ∧
  (∀ (k1_h4 : k1_cond4 i k1_t1 arg17_r0 = 1#1), ∀ a, (k1_off13 arg14_r0) a + S1x1x128.size a ≤ S2x1x128.size a) ∧
  (∀ (k1_h4 : k1_cond4 i k1_t1 arg17_r0 = 1#1), ∀ a, (k1_off14 i arg17_r0) a + S1x128.size a ≤ S1x16384.size a) ∧
  (∀ (k1_h4 : k1_cond4 i k1_t1 arg17_r0 = 1#1), ∀ a, (k1_off15 arg14_r0) a + S1.size a ≤ S2.size a) ∧
  (∀ (k1_h8 : k1_cond8 i k1_t1 arg17_r0 = 1#1), ∀ a, (k1_off25 arg15_r0) a + S1x128x32.size a ≤ S2x128x32.size a) ∧
  (∀ (k1_h8 : k1_cond8 i k1_t1 arg17_r0 = 1#1), ∀ a, (k1_off26 i arg17_r0) a + S128x32.size a ≤ S16384x32.size a) ∧
  (∀ (k1_h8 : k1_cond8 i k1_t1 arg17_r0 = 1#1), ∀ a, (k1_off27 arg15_r0) a + S1.size a ≤ S2.size a) ∧
  (∀ (k1_h11 : k1_cond11 i k1_t1 arg17_r0 = 1#1), ∀ a, (k1_off28 arg16_r0) a + S1x128x32.size a ≤ S2x128x32.size a) ∧
  (∀ (k1_h11 : k1_cond11 i k1_t1 arg17_r0 = 1#1), ∀ a, (k1_off29 i arg17_r0) a + S128x32.size a ≤ S16384x32.size a) ∧
  (∀ (k1_h11 : k1_cond11 i k1_t1 arg17_r0 = 1#1), ∀ a, (k1_off30 arg16_r0) a + S1.size a ≤ S2.size a)
theorem k1_off4_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h1 : k1_cond1 i k1_t1 arg17_r0 = 1#1), ∀ a, (k1_off4 arg11_r0) a + S1x1x128.size a ≤ S2x1x128.size a := fun i k1_t1 arg11_r0 arg12_r0 arg13_r0 arg14_r0 arg15_r0 arg16_r0 arg17_r0 k1_hw1 k1_h1 => k1_hw1.1 k1_h1
theorem k1_off5_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h1 : k1_cond1 i k1_t1 arg17_r0 = 1#1), ∀ a, (k1_off5 i arg17_r0) a + S1x128.size a ≤ S1x16384.size a := fun i k1_t1 arg11_r0 arg12_r0 arg13_r0 arg14_r0 arg15_r0 arg16_r0 arg17_r0 k1_hw1 k1_h1 => k1_hw1.2.1 k1_h1
theorem k1_off6_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h1 : k1_cond1 i k1_t1 arg17_r0 = 1#1), ∀ a, (k1_off6 arg11_r0) a + S1.size a ≤ S2.size a := fun i k1_t1 arg11_r0 arg12_r0 arg13_r0 arg14_r0 arg15_r0 arg16_r0 arg17_r0 k1_hw1 k1_h1 => k1_hw1.2.2.1 k1_h1
theorem k1_off7_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h2 : k1_cond2 i k1_t1 arg17_r0 = 1#1), ∀ a, (k1_off7 arg13_r0) a + S1x1x128.size a ≤ S2x1x128.size a := fun i k1_t1 arg11_r0 arg12_r0 arg13_r0 arg14_r0 arg15_r0 arg16_r0 arg17_r0 k1_hw1 k1_h2 => k1_hw1.2.2.2.1 k1_h2
theorem k1_off8_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h2 : k1_cond2 i k1_t1 arg17_r0 = 1#1), ∀ a, (k1_off8 i arg17_r0) a + S1x128.size a ≤ S1x16384.size a := fun i k1_t1 arg11_r0 arg12_r0 arg13_r0 arg14_r0 arg15_r0 arg16_r0 arg17_r0 k1_hw1 k1_h2 => k1_hw1.2.2.2.2.1 k1_h2
theorem k1_off9_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h2 : k1_cond2 i k1_t1 arg17_r0 = 1#1), ∀ a, (k1_off9 arg13_r0) a + S1.size a ≤ S2.size a := fun i k1_t1 arg11_r0 arg12_r0 arg13_r0 arg14_r0 arg15_r0 arg16_r0 arg17_r0 k1_hw1 k1_h2 => k1_hw1.2.2.2.2.2.1 k1_h2
theorem k1_off10_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h3 : k1_cond3 i k1_t1 arg17_r0 = 1#1), ∀ a, (k1_off10 arg12_r0) a + S1x1x128.size a ≤ S2x1x128.size a := fun i k1_t1 arg11_r0 arg12_r0 arg13_r0 arg14_r0 arg15_r0 arg16_r0 arg17_r0 k1_hw1 k1_h3 => k1_hw1.2.2.2.2.2.2.1 k1_h3
theorem k1_off11_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h3 : k1_cond3 i k1_t1 arg17_r0 = 1#1), ∀ a, (k1_off11 i arg17_r0) a + S1x128.size a ≤ S1x16384.size a := fun i k1_t1 arg11_r0 arg12_r0 arg13_r0 arg14_r0 arg15_r0 arg16_r0 arg17_r0 k1_hw1 k1_h3 => k1_hw1.2.2.2.2.2.2.2.1 k1_h3
theorem k1_off12_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h3 : k1_cond3 i k1_t1 arg17_r0 = 1#1), ∀ a, (k1_off12 arg12_r0) a + S1.size a ≤ S2.size a := fun i k1_t1 arg11_r0 arg12_r0 arg13_r0 arg14_r0 arg15_r0 arg16_r0 arg17_r0 k1_hw1 k1_h3 => k1_hw1.2.2.2.2.2.2.2.2.1 k1_h3
theorem k1_off13_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h4 : k1_cond4 i k1_t1 arg17_r0 = 1#1), ∀ a, (k1_off13 arg14_r0) a + S1x1x128.size a ≤ S2x1x128.size a := fun i k1_t1 arg11_r0 arg12_r0 arg13_r0 arg14_r0 arg15_r0 arg16_r0 arg17_r0 k1_hw1 k1_h4 => k1_hw1.2.2.2.2.2.2.2.2.2.1 k1_h4
theorem k1_off14_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h4 : k1_cond4 i k1_t1 arg17_r0 = 1#1), ∀ a, (k1_off14 i arg17_r0) a + S1x128.size a ≤ S1x16384.size a := fun i k1_t1 arg11_r0 arg12_r0 arg13_r0 arg14_r0 arg15_r0 arg16_r0 arg17_r0 k1_hw1 k1_h4 => k1_hw1.2.2.2.2.2.2.2.2.2.2.1 k1_h4
theorem k1_off15_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h4 : k1_cond4 i k1_t1 arg17_r0 = 1#1), ∀ a, (k1_off15 arg14_r0) a + S1.size a ≤ S2.size a := fun i k1_t1 arg11_r0 arg12_r0 arg13_r0 arg14_r0 arg15_r0 arg16_r0 arg17_r0 k1_hw1 k1_h4 => k1_hw1.2.2.2.2.2.2.2.2.2.2.2.1 k1_h4
theorem k1_off25_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h8 : k1_cond8 i k1_t1 arg17_r0 = 1#1), ∀ a, (k1_off25 arg15_r0) a + S1x128x32.size a ≤ S2x128x32.size a := fun i k1_t1 arg11_r0 arg12_r0 arg13_r0 arg14_r0 arg15_r0 arg16_r0 arg17_r0 k1_hw1 k1_h8 => k1_hw1.2.2.2.2.2.2.2.2.2.2.2.2.1 k1_h8
theorem k1_off26_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h8 : k1_cond8 i k1_t1 arg17_r0 = 1#1), ∀ a, (k1_off26 i arg17_r0) a + S128x32.size a ≤ S16384x32.size a := fun i k1_t1 arg11_r0 arg12_r0 arg13_r0 arg14_r0 arg15_r0 arg16_r0 arg17_r0 k1_hw1 k1_h8 => k1_hw1.2.2.2.2.2.2.2.2.2.2.2.2.2.1 k1_h8
theorem k1_off27_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h8 : k1_cond8 i k1_t1 arg17_r0 = 1#1), ∀ a, (k1_off27 arg15_r0) a + S1.size a ≤ S2.size a := fun i k1_t1 arg11_r0 arg12_r0 arg13_r0 arg14_r0 arg15_r0 arg16_r0 arg17_r0 k1_hw1 k1_h8 => k1_hw1.2.2.2.2.2.2.2.2.2.2.2.2.2.2.1 k1_h8
theorem k1_off28_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h11 : k1_cond11 i k1_t1 arg17_r0 = 1#1), ∀ a, (k1_off28 arg16_r0) a + S1x128x32.size a ≤ S2x128x32.size a := fun i k1_t1 arg11_r0 arg12_r0 arg13_r0 arg14_r0 arg15_r0 arg16_r0 arg17_r0 k1_hw1 k1_h11 => k1_hw1.2.2.2.2.2.2.2.2.2.2.2.2.2.2.2.1 k1_h11
theorem k1_off29_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h11 : k1_cond11 i k1_t1 arg17_r0 = 1#1), ∀ a, (k1_off29 i arg17_r0) a + S128x32.size a ≤ S16384x32.size a := fun i k1_t1 arg11_r0 arg12_r0 arg13_r0 arg14_r0 arg15_r0 arg16_r0 arg17_r0 k1_hw1 k1_h11 => k1_hw1.2.2.2.2.2.2.2.2.2.2.2.2.2.2.2.2.1 k1_h11
theorem k1_off30_inb : ∀ (i : grid1.Coords) (k1_t1 : Fin k1_t1_loop.trips) (arg11_r0 : BitVec 32) (arg12_r0 : BitVec 32) (arg13_r0 : BitVec 32) (arg14_r0 : BitVec 32) (arg15_r0 : BitVec 32) (arg16_r0 : BitVec 32) (arg17_r0 : BitVec 32) (k1_hw1 : k1_chk1 i k1_t1 arg11_r0 arg12_r0 arg13_r0 arg14_r0 arg15_r0 arg16_r0 arg17_r0), ∀ (k1_h11 : k1_cond11 i k1_t1 arg17_r0 = 1#1), ∀ a, (k1_off30 arg16_r0) a + S1.size a ≤ S2.size a := fun i k1_t1 arg11_r0 arg12_r0 arg13_r0 arg14_r0 arg15_r0 arg16_r0 arg17_r0 k1_hw1 k1_h11 => k1_hw1.2.2.2.2.2.2.2.2.2.2.2.2.2.2.2.2.2 k1_h11

def k1_off31 (v45_5_r0 : BitVec 32) : Fin 3 → Nat :=
  let c2_i32_59_r0 : BitVec 32 := 2#32
  let v66_r0 : BitVec 32 := Scalar.remui v45_5_r0 c2_i32_59_r0
  let c0_i32_61_r0 : BitVec 32 := 0#32
  let c0_i32_62_r0 : BitVec 32 := 0#32
  ![v66_r0.toNat, 0, 0]

def k1_off32 (i : grid1.Coords) (v45_6_r0 : BitVec 32) : Fin 2 → Nat :=
  let c128_i32_60_r0 : BitVec 32 := 128#32
  let true_44_r0 : BitVec 1 := 1#1
  let c1_i32_43_r0 : BitVec 32 := 1#32
  let v46_r0 : BitVec 32 := Scalar.subi v45_6_r0 c1_i32_43_r0
  let v47_r0 : BitVec 32 := Scalar.select true_44_r0 v46_r0 v45_6_r0
  let c_m1_i32_45_r0 : BitVec 32 := 4294967295#32
  let v48_r0 : BitVec 1 := Scalar.cmpi .eq v47_r0 c_m1_i32_45_r0
  let c3_i32_46_r0 : BitVec 32 := 3#32
  let v49_r0 : BitVec 32 := Scalar.select v48_r0 c3_i32_46_r0 v47_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v50_r0 : BitVec 32 := Scalar.addi v49_r0 v4
  let v67_r0 : BitVec 32 := Scalar.muli c128_i32_60_r0 v50_r0
  let c0_i32_63_r0 : BitVec 32 := 0#32
  ![v67_r0.toNat, 0]

def k1_chk6 (i : grid1.Coords) (v45_6_r0 : BitVec 32) : Prop :=
  (∀ a, (k1_off32 i v45_6_r0) a + S128x32.size a ≤ S16384x32.size a)
theorem k1_off32_inb : ∀ (i : grid1.Coords) (v45_6_r0 : BitVec 32) (k1_hw6 : k1_chk6 i v45_6_r0), ∀ a, (k1_off32 i v45_6_r0) a + S128x32.size a ≤ S16384x32.size a := fun i v45_6_r0 k1_hw6 => k1_hw6

def k1_off33 (v45_5_r0 : BitVec 32) : Fin 1 → Nat :=
  let c2_i32_59_r0 : BitVec 32 := 2#32
  let v66_r0 : BitVec 32 := Scalar.remui v45_5_r0 c2_i32_59_r0
  ![v66_r0.toNat]
def k1_off34 (v45_5_r0 : BitVec 32) : Fin 3 → Nat :=
  let c2_i32_59_r0 : BitVec 32 := 2#32
  let v66_r0 : BitVec 32 := Scalar.remui v45_5_r0 c2_i32_59_r0
  let c0_i32_65_r0 : BitVec 32 := 0#32
  let c0_i32_66_r0 : BitVec 32 := 0#32
  ![v66_r0.toNat, 0, 0]

def k1_chk5 (v45_5_r0 : BitVec 32) : Prop :=
  (∀ a, (k1_off31 v45_5_r0) a + S1x128x32.size a ≤ S2x128x32.size a) ∧
  (∀ a, (k1_off33 v45_5_r0) a + S1.size a ≤ S2.size a) ∧
  (∀ a, (k1_off34 v45_5_r0) a + S1x128x32.size a ≤ S2x128x32.size a)
theorem k1_off31_inb : ∀ (v45_5_r0 : BitVec 32) (k1_hw5 : k1_chk5 v45_5_r0), ∀ a, (k1_off31 v45_5_r0) a + S1x128x32.size a ≤ S2x128x32.size a := fun v45_5_r0 k1_hw5 => k1_hw5.1
theorem k1_off33_inb : ∀ (v45_5_r0 : BitVec 32) (k1_hw5 : k1_chk5 v45_5_r0), ∀ a, (k1_off33 v45_5_r0) a + S1.size a ≤ S2.size a := fun v45_5_r0 k1_hw5 => k1_hw5.2.1
theorem k1_off34_inb : ∀ (v45_5_r0 : BitVec 32) (k1_hw5 : k1_chk5 v45_5_r0), ∀ a, (k1_off34 v45_5_r0) a + S1x128x32.size a ≤ S2x128x32.size a := fun v45_5_r0 k1_hw5 => k1_hw5.2.2

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4096 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S4096x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x2 : Shape := ⟨2, ![16384, 2]⟩
abbrev S100000x32 : Shape := ⟨2, ![100000, 32]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x32 : Shape := ⟨2, ![16384, 32]⟩
abbrev S16384x128 : Shape := ⟨2, ![16384, 128]⟩
abbrev S16384x256 : Shape := ⟨2, ![16384, 256]⟩
abbrev S256x128 : Shape := ⟨2, ![256, 128]⟩
abbrev S1x128 : Shape := ⟨2, ![1, 128]⟩
abbrev S128x64 : Shape := ⟨2, ![128, 64]⟩
abbrev S16384x64 : Shape := ⟨2, ![16384, 64]⟩
abbrev S64x32 : Shape := ⟨2, ![64, 32]⟩
abbrev S1x32 : Shape := ⟨2, ![1, 32]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S16384x2, .i32⟩
  | 1 => ⟨S100000x32, .f32⟩
  | 2 => ⟨S100000x32, .f32⟩
  | 3 => ⟨S100000x128, .f32⟩
  | 4 => ⟨S100000x128, .f32⟩
  | 5 => ⟨S128x256, .f32⟩
  | 6 => ⟨S128, .f32⟩
  | 7 => ⟨S64x128, .f32⟩
  | 8 => ⟨S64, .f32⟩
  | 9 => ⟨S32x64, .f32⟩
  | 10 => ⟨S32, .f32⟩
  | 11 => ⟨S1x64, .f32⟩
  | 12 => ⟨S1, .f32⟩
  | 13 => ⟨S16384x1, .i32⟩
  | 14 => ⟨S16384, .i32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x32, .f32⟩
  | 36 => ⟨S16384x32, .i1⟩
  | 37 => ⟨S_, .f32⟩
  | 38 => ⟨S16384x32, .f32⟩
  | 39 => ⟨S16384x32, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x32, .f32⟩
  | 59 => ⟨S16384x32, .i1⟩
  | 60 => ⟨S_, .f32⟩
  | 61 => ⟨S16384x32, .f32⟩
  | 62 => ⟨S16384x32, .f32⟩
  | 63 => ⟨S16384x32, .f32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S1, .i32⟩
  | 73 => ⟨S_, .i32⟩
  | 74 => ⟨S16384x1, .i32⟩
  | 75 => ⟨S16384x1, .i1⟩
  | 76 => ⟨S1x1, .i32⟩
  | 77 => ⟨S16384x1, .i32⟩
  | 78 => ⟨S16384x1, .i1⟩
  | 79 => ⟨S16384x1, .i1⟩
  | 80 => ⟨S_, .i1⟩
  | 81 => ⟨S16384, .i1⟩
  | 82 => ⟨S16384x128, .f32⟩
  | 83 => ⟨S16384x128, .i1⟩
  | 84 => ⟨S_, .f32⟩
  | 85 => ⟨S16384x128, .f32⟩
  | 86 => ⟨S16384x128, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x128, .f32⟩
  | 106 => ⟨S16384x128, .i1⟩
  | 107 => ⟨S_, .f32⟩
  | 108 => ⟨S16384x128, .f32⟩
  | 109 => ⟨S16384x128, .f32⟩
  | 110 => ⟨S16384x256, .f32⟩
  | 111 => ⟨S256x128, .f32⟩
  | 112 => ⟨S16384x128, .f32⟩
  | 113 => ⟨S1x128, .f32⟩
  | 114 => ⟨S16384x128, .f32⟩
  | 115 => ⟨S16384x128, .f32⟩
  | 116 => ⟨S_, .f32⟩
  | 117 => ⟨S16384x128, .f32⟩
  | 118 => ⟨S16384x128, .f32⟩
  | 119 => ⟨S128x64, .f32⟩
  | 120 => ⟨S16384x64, .f32⟩
  | 121 => ⟨S1x64, .f32⟩
  | 122 => ⟨S16384x64, .f32⟩
  | 123 => ⟨S16384x64, .f32⟩
  | 124 => ⟨S_, .f32⟩
  | 125 => ⟨S16384x64, .f32⟩
  | 126 => ⟨S16384x64, .f32⟩
  | 127 => ⟨S64x32, .f32⟩
  | _ => ⟨S16384x2, .i32⟩

abbrev hbmTy0_1 (i : Nat) : BufTy := match i % 128 with
  | 0 => ⟨S16384x32, .f32⟩
  | 1 => ⟨S1x32, .f32⟩
  | 2 => ⟨S16384x32, .f32⟩
  | 3 => ⟨S16384x32, .f32⟩
  | 4 => ⟨S_, .f32⟩
  | 5 => ⟨S16384x32, .f32⟩
  | 6 => ⟨S16384x32, .f32⟩
  | 7 => ⟨S16384x64, .f32⟩
  | 8 => ⟨S64x1, .f32⟩
  | 9 => ⟨S16384x1, .f32⟩
  | 10 => ⟨S1x1, .f32⟩
  | 11 => ⟨S16384x1, .f32⟩
  | 12 => ⟨S16384x1, .f32⟩
  | 13 => ⟨S16384, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v7 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v8 : Ref sig .tc := ⟨.hbm, 109, rfl⟩
abbrev main_v9 : Ref sig .tc := ⟨.hbm, 110, rfl⟩
abbrev main_v10 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_v14 : Ref sig .tc := ⟨.hbm, 115, rfl⟩
abbrev main_cst : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_cst_0 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_cst_1 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩

abbrev nD : Nat := 1
abbrev τ : Topo := Topo.v7x

variable {F : FTy → Type} [FloatOps F]
-- ==== Proof.Setup.lean ====
/-
  The program as the launch theorem sees it, the resource algebra of the proof, and the rules the two SparseCore
  bodies are run by: a copy, an indexed copy and a wait, each over memrefs named up to an equation.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Neumf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelines' and the bodies' functions. -/
abbrev ΛP : Labels := Pipeline.Sig Λ₀ (Fin 2) fun p => (pcfgs (F := F) p).Adm

/-- The program's two SparseCore calls. -/
abbrev K : SparseCore.Cfg τ sig (ΛP (F := F)) 2 := sc (F := F)

/-- The functions that the program calls. -/
abbrev D [FloatOps F] : Defs nD τ sig (Elt F) (ΛP (F := F)) := Pipeline.defs pcfgs defs₀

/-- No function needs a measure: none calls itself. -/
abbrev 𝒱₀ : Variants := Variants.none

/-- The same for the pipelines' functions. -/
abbrev 𝒱 : Variants := 𝒱₀.lift

/-- The one measure there is. -/
abbrev v₀ : 𝒱.V := Sum.inl none

/-- The launch's semaphores are distinct and outlive the calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

/-- The ghost state of the launch's handshakes. -/
abbrev UH : Type := URounds (GSem nD τ sig) ℕ

/-- The ghost state of the TensorCore pipelines. -/
abbrev UP : Type := URounds (GSem nD τ sig) Unit

/-- All the ghost state of the run. -/
abbrev UU : Type := UH × (UP × Counters)

local notation "𝕄" => MT nD τ sig (HIx 2) (Elt F) ℕ UU ℕ

/-- Where the handshakes' rounds live. -/
def EH : Emb UH (MT nD τ sig (HIx 2) (Elt F) ℕ UU ℕ) :=
  (Emb.inl : Emb UH UU).trans (uEmb (nD := nD) (sig := sig) (Ix := HIx 2) (Val := Elt F) (Name := ℕ) (U := UU) (Lvl := ℕ)).toEmb

/-- The handshakes' ghost state lies within the part that threads can hand on. -/
instance EH_landsIn : (EH : Emb UH 𝕄).LandsIn (upEmb : UEmb _ 𝕄) := by unfold EH; infer_instance

/-- Where the two TensorCore pipelines' rounds live. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

/-- The pipelines' ghost state lies within the part that threads can hand on. -/
instance EP_landsIn : (EP : Emb UP 𝕄).LandsIn (upEmb : UEmb _ 𝕄) := by unfold EP; infer_instance

/-! ## Ownership of a memref -/

section Rules

variable [FloatOps F] (c : Thread nD τ)

/-- A memref owned at what it reads of an array is that array's elements under it. -/
theorem owns_read {sp : Space} {sh : Shape} {e : EltTy} (m : Memref sig c.2.kind sp sh e) (q : PosShare TreeShare)
    (g : m.view.ty.Contents (Elt F)) :
    (owns c m q (m.view.read (Elt F) g) : sProp 𝕄) = m.view.loc c ↦[m.view.set]{q} g := by
  have h₁ : iprop(∃ f, ⌜m.view.read (Elt F) f = m.view.read (Elt F) g⌝ ∗ (m.view.loc c ↦[m.view.set]{q} f))
      ⊢ (m.view.loc c ↦[m.view.set]{q} g : sProp 𝕄) := by
    iintro ⟨%f, %hf, H⟩
    have e : (m.view.loc c ↦[m.view.set]{q} f : sProp 𝕄) = m.view.loc c ↦[m.view.set]{q} g :=
      pointsTo_congr fun i hi => by
        rw [View.set, Finset.mem_map] at hi
        obtain ⟨x, -, rfl⟩ := hi
        have := congrFun hf x
        simp only [View.read] at this
        exact (cast_inj _).mp this
    rw [← e]; iexact H
  exact BI.equiv_iff.mp ⟨h₁, owns_intro c m q g⟩

/-- What a core owes, its waits so far all at the plain index or among `W`. -/
def Owing (O : CellTallies nD τ sig (HIx 2)) (W : Waits sig (HIx 2)) : sProp 𝕄 :=
  iprop(∃ W', ⌜∀ p ∈ W', p ∈ W ∨ p.2 = none⌝ ∗ owes c O W')

variable {α : Type}

/-- A transfer in flight on a cell of `c`, at the plain index. -/
abbrev Fly (sm : SemLoc sig) (N : ℕ) (R : sProp 𝕄) : sProp 𝕄 :=
  Transfers.Flight (countersEmb : UEmb Counters 𝕄) c sm (default : HIx 2) N R

/-- A copy: the source's share, the destination and the cell at zero go in; the transfer in flight delivers the
    destination at the source's contents and the share back. -/
theorem wp_copy {sp sp' : Space} {s : Shape} {e : EltTy} {src S : Memref sig c.2.kind sp s e} {dst D : Memref sig c.2.kind sp' s e}
    {sem M : DmaSem sig} {hsrc : src.view.WordExact} {hdst : dst.view.WordExact}
    {hsem : DmaTarget.Typed (nD := nD) sp (.dma sem) (.here dst)}
    {k : PUnit → Prog (TpuEff nD τ sig (Elt F) Λ₀ c.2) α} {Q : α → sProp 𝕄} (hS : src = S) (hD : dst = D) (hM : sem = M)
    {q : PosShare TreeShare} {X Y : s.Idx → Elt F e} {N : ℕ} (hN : D.view.dmaCredit = N) (hN0 : 0 < N) :
    iprop(owns c S q X ∗ owns c D fullShare Y ∗ semVal (c, .dma M) 0)
      ⊢ iprop((Fly c (.dma M) N iprop(owns c D fullShare X ∗ owns c S q X)
              -∗ wp frame (wpE (defs₀ (F := F)) 𝒱₀ c none) Set.univ (k ⟨⟩) Q)
          -∗ wp frame (wpE (defs₀ (F := F)) 𝒱₀ c none) Set.univ (.op (.enqueueDma src (.here dst) (.dma sem) hsrc hdst hsem) k) Q) := by
  subst hS hD hM
  iintro ⟨HS, HD, Hv⟩ Hk
  ihave HS := (show (owns c src q X : sProp 𝕄) ⊢ iprop(∃ f, ⌜src.view.read (Elt F) f = X⌝ ∗ (src.view.loc c ↦[src.view.set]{q} f)) from .rfl) $$ HS
  ihave HD := (show (owns c dst fullShare Y : sProp 𝕄) ⊢ iprop(∃ f, ⌜dst.view.read (Elt F) f = Y⌝ ∗ (dst.view.loc c ↦[dst.view.set]{fullShare} f)) from .rfl) $$ HD
  icases HS with ⟨%fs, %hfs, HS⟩
  icases HD with ⟨%fd, -, HD⟩
  have hm : iprop((dst.view.loc c ↦[dst.view.set]{fullShare} (dst.view.write (Elt F) fd ((ReadAs.same).apply (src.view.read (Elt F) fs)) Finset.univ))
        ∗ (src.view.loc c ↦[src.view.set]{q} fs))
      ⊢ (iprop(owns c dst fullShare X ∗ owns c src q X) : sProp 𝕄) := by
    unfold owns
    iintro ⟨HD, HS⟩
    isplitl [HD]
    · iexists _; isplitr; swap; · iexact HD
      ipureintro
      rw [View.read_write_univ, hfs]
    · iexists _; isplitr; swap; · iexact HS
      ipureintro; exact hfs
  iapply (Transfers.wp_dmaLocal countersEmb 𝒱₀ c none (via := .same) (default : HIx 2) N
    (show dst.view.amount (.dma sem) = N from hN) hN0 (le_refl _)) $$ [HS HD Hv]
  · isplitl [HS]; · iexact HS
    isplitl [HD]; · iexact HD
    iexact Hv
  iintro Hf
  iapply Hk
  iapply (Transfers.Flight_mono countersEmb c hm) $$ Hf

/-- The wait that collects a transfer in flight. -/
theorem wp_collect {sp sp' : Space} {s s' : Shape} {e e' : EltTy} {κ' : Kind} {sem M : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {Q : α → sProp 𝕄} (hM : sem = M) {N : ℕ} (hN : dstw.view.dmaCredit = N) {R : sProp 𝕄}
    {O : CellTallies nD τ sig (HIx 2)} {W : Waits sig (HIx 2)} (hO : ∀ g, O g none = 0) :
    iprop(levAts (K (F := F)).L (K (F := F)).lev ∗ Fly c (.dma M) N R ∗ Owing c O W)
      ⊢ iprop((iprop(R ∗ semVal (c, .dma M) 0 ∗ Owing c O W) -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  subst hM
  have hmw : (levAts (K (F := F)).L (K (F := F)).lev : sProp 𝕄) ⊢ Transfers.MayWaits c (default : HIx 2) O :=
    (K (F := F)).mayWaits_none (thr := c) hO
  unfold Owing
  iintro ⟨#Hlv, Hf, %W', %hW', HO⟩ Hk
  ihave Hmw := hmw $$ Hlv
  iapply (Transfers.wp_waitLocalO countersEmb 𝒱₀ c none (default : HIx 2) hN) $$ [Hf HO]
  · isplitl [Hf]; · iexact Hf
    isplitl [HO]; · iexact HO
    iapply (Transfers.MayWaits.elim (SemLoc.dma sem)) $$ Hmw
  iintro ⟨HR, Hv, HO⟩
  iapply Hk
  isplitl [HR]; · iexact HR
  isplitl [Hv]; · iexact Hv
  iexists _; isplitr; swap; · iexact HO
  ipureintro; intro p hp
  rcases Finset.mem_insert.mp hp with hp | hp
  · exact .inr (hp ▸ rfl)
  · exact hW' p hp

/-- An indexed copy: the table's share, the destination, the list and the cell at zero go in; the stream in flight
    delivers the destination at the table's rows the list names, and table and list back. -/
theorem wp_gather {sp : Space} {s₀ s si : Shape} {e : EltTy} {a : Nat}
    {src S : Memref sig c.2.kind sp s₀ e} {dst D : Memref sig c.2.kind .vmem s e} {hg : s₀.Gathers a s}
    {offs L : Memref sig c.2.kind .vmem si .i32} {hn : si.numel = s.size hg.axis'} {sem M : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ₀ c.2) α} {Q : α → sProp 𝕄} (hS : src = S) (hD : dst = D) (hL : offs = L) (hM : sem = M)
    {q qo : PosShare TreeShare} {X : s₀.Idx → Elt F e} {Y Z : s.Idx → Elt F e} {I : si.Idx → Elt F .i32} {N : ℕ}
    (hN : ∑ j, (D.slice (s.rowRect hg.axis' j) (s.stride_rowRect hg.axis' j)).view.dmaCredit = N)
    (hs : 0 < s.numel) (hin : ∀ x, (I x).toNat < s₀.size hg.axis)
    (hZ : SparseCore.gatherPayload hg X (SparseCore.rows I hn hin) = Z) :
    iprop(owns c S q X ∗ owns c D fullShare Y ∗ owns c L qo I ∗ semVal (c, .dma M) 0)
      ⊢ iprop((Fly c (.dma M) N iprop(owns c D fullShare Z ∗ owns c S q X ∗ owns c L qo I)
              -∗ wp frame (wpE (defs₀ (F := F)) 𝒱₀ c none) Set.univ (k ⟨⟩) Q)
          -∗ wp frame (wpE (defs₀ (F := F)) 𝒱₀ c none) Set.univ
              (SparseCore.enqueueIndirectGather hp src dst hg offs hn sem hsrc he hsp hr >>= k) Q) := by
  subst hS hD hL hM hZ
  iintro ⟨HS, HD, HL, Hv⟩ Hk
  ihave HS := (show (owns c src q X : sProp 𝕄) ⊢ iprop(∃ f, ⌜src.view.read (Elt F) f = X⌝ ∗ (src.view.loc c ↦[src.view.set]{q} f)) from .rfl) $$ HS
  ihave HD := (show (owns c dst fullShare Y : sProp 𝕄) ⊢ iprop(∃ f, ⌜dst.view.read (Elt F) f = Y⌝ ∗ (dst.view.loc c ↦[dst.view.set]{fullShare} f)) from .rfl) $$ HD
  ihave HL := (show (owns c offs qo I : sProp 𝕄) ⊢ iprop(∃ f, ⌜offs.view.read (Elt F) f = I⌝ ∗ (offs.view.loc c ↦[offs.view.set]{qo} f)) from .rfl) $$ HL
  icases HS with ⟨%fs, %hfs, HS⟩
  icases HD with ⟨%fd, -, HD⟩
  icases HL with ⟨%fo, %hfo, HL⟩
  subst hfs hfo
  have hm : iprop((dst.view.loc c ↦[dst.view.set]{fullShare} (dst.view.write (Elt F) fd
          (SparseCore.gatherPayload hg (src.view.read (Elt F) fs) (SparseCore.rows (offs.view.read (Elt F) fo) hn hin)) Finset.univ))
        ∗ (src.view.loc c ↦[src.view.set]{q} fs) ∗ (offs.view.loc c ↦[offs.view.set]{qo} fo))
      ⊢ (iprop(owns c dst fullShare (SparseCore.gatherPayload hg (src.view.read (Elt F) fs) (SparseCore.rows (offs.view.read (Elt F) fo) hn hin))
          ∗ owns c src q (src.view.read (Elt F) fs) ∗ owns c offs qo (offs.view.read (Elt F) fo)) : sProp 𝕄) := by
    unfold owns
    iintro ⟨HD, HS, HL⟩
    isplitl [HD]
    · iexists _; isplitr; swap; · iexact HD
      ipureintro; exact View.read_write_univ ..
    isplitl [HS]
    · iexists fs; isplitr; swap; · iexact HS
      ipureintro; rfl
    · iexists fo; isplitr; swap; · iexact HL
      ipureintro; rfl
  iapply (SparseCore.wp_indirectGatherLocal countersEmb 𝒱₀ c none (default : HIx 2) N hN hs hin) $$ [HS HD HL Hv]
  · isplitl [HS]; · iexact HS
    isplitl [HD]; · iexact HD
    isplitl [HL]; · iexact HL
    iexact Hv
  iintro Hf
  iapply Hk
  iapply (Transfers.Flight_mono countersEmb c hm) $$ Hf

end Rules

end Cert.Proof.Neumf
-- ==== Proof.Stage.lean ====
/-
  One stage of the SparseCore pipelines at a time: a slot of an index buffer filled with one step's indices, and the
  table's rows these name gathered into a slot of rows. Each lemma is about one slot of a double buffer and one step.
-/
module

public import proofs.«01_k».proof.Proof.Setup
public import Idealize.ShloMosaic.Lib.ValueIdxCoords

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The memrefs of a slot and of a step -/

/-- An index slot lies inside the index buffer. -/
theorem inb_slot (p : Fin 2) : ∀ a, (![p.val, 0, 0] : Fin 3 → ℕ) a + S1x1x128.size a ≤ S2x1x128.size a := by
  revert p; decide

/-- A slot's semaphore lies inside the pair. -/
theorem inb_sem (p : Fin 2) : ∀ a, (![p.val] : Fin 1 → ℕ) a + S1.size a ≤ S2.size a := by
  revert p; decide

/-- An index window lies inside the index row. -/
theorem inb_blk (b : Fin 128) : ∀ a, (![0, 128 * b.val] : Fin 2 → ℕ) a + S1x128.size a ≤ S1x16384.size a := by
  intro a; have := b.isLt
  match a with
  | 0 => exact le_refl _
  | 1 => show 128 * b.val + 128 ≤ 16384; omega

/-- Slot `p` of a double buffer of indices. -/
def inSlot (al : Memref sig .scVector .vmem S2x1x128 .i32) (p : Fin 2) : Memref sig .scVector .vmem S1x128 .i32 :=
  (al.slice (Rect.unit (s := S2x1x128) ![p.val, 0, 0] S1x1x128.size (inb_slot p)) (fun _ => rfl)).squeeze S1x128 squeezes_S1x1x128_S1x128

/-- The program's spelling of an index slot names that slot. -/
theorem inSlot_eq {al : Memref sig .scVector .vmem S2x1x128 .i32} {p : Fin 2} {o : Fin 3 → ℕ} (ho : o = ![p.val, 0, 0])
    {h : ∀ a, o a + S1x1x128.size a ≤ S2x1x128.size a} :
    (al.slice (Rect.unit (s := S2x1x128) o S1x1x128.size h) (fun _ => rfl)).squeeze S1x128 squeezes_S1x1x128_S1x128 = inSlot al p := by
  subst ho; rfl

/-- The semaphore of slot `p`. -/
def semAt (s : DmaSems sig S2) (p : Fin 2) : DmaSem sig :=
  ((s.slice (Rect.unit (s := S2) ![p.val] S1.size (inb_sem p))).squeeze S_ squeezes_S1_S_).sem

/-- The program's spelling of a slot's semaphore names that semaphore. -/
theorem semAt_eq {s : DmaSems sig S2} {p : Fin 2} {o : Fin 1 → ℕ} (ho : o = ![p.val]) {h : ∀ a, o a + S1.size a ≤ S2.size a} :
    ((s.slice (Rect.unit (s := S2) o S1.size h)).squeeze S_ squeezes_S1_S_).sem = semAt s p := by
  subst ho; rfl

/-- The columns of step `b`. -/
abbrev blkRect (b : Fin 128) : Rect S1x16384 := Rect.unit (s := S1x16384) ![0, 128 * b.val] S1x128.size (inb_blk b)

/-- The indices of step `b`: 128 columns of the index array. -/
def inBlk (a : Memref sig .scVector .hbm S1x16384 .i32) (b : Fin 128) : Memref sig .scVector .hbm S1x128 .i32 :=
  a.slice (blkRect b) (fun _ => rfl)

/-- The program's spelling of an index window names that window. -/
theorem inBlk_eq {m : Memref sig .scVector .hbm S1x16384 .i32} {b : Fin 128} {o : Fin 2 → ℕ} (ho : o = ![0, 128 * b.val])
    {h : ∀ a, o a + S1x128.size a ≤ S1x16384.size a} :
    (m.slice (Rect.unit (s := S1x16384) o S1x128.size h) (fun _ => rfl) : Memref sig .scVector .hbm S1x128 .i32) = inBlk m b := by
  subst ho; rfl

/-- A slot of indices read as a list. -/
def inList (al : Memref sig .scVector .vmem S2x1x128 .i32) (p : Fin 2) : Memref sig .scVector .vmem S128 .i32 :=
  ((inSlot al p).slice (Rect.unit (s := S1x128) ![0, 0] S1x128.size inb_S1x128_S1x128_0_0) (fun _ => rfl)).squeeze S128 squeezes_S1x128_S128

/-- The program's spelling of a slot's list of indices names that list. -/
theorem inList_eq {al : Memref sig .scVector .vmem S2x1x128 .i32} {p : Fin 2} {o : Fin 3 → ℕ} (ho : o = ![p.val, 0, 0])
    {h : ∀ a, o a + S1x1x128.size a ≤ S2x1x128.size a} :
    ((((al.slice (Rect.unit (s := S2x1x128) o S1x1x128.size h) (fun _ => rfl)).squeeze S1x128 squeezes_S1x1x128_S1x128).slice
      (Rect.unit (s := S1x128) ![0, 0] S1x128.size inb_S1x128_S1x128_0_0) (fun _ => rfl)).squeeze S128 squeezes_S1x128_S128 : Memref sig .scVector .vmem S128 .i32)
      = inList al p := by
  subst ho; rfl

/-- All of a table, as the gather addresses it. -/
def tblAll (t : Memref sig .scVector .hbm S100000x128 .f32) : Memref sig .scVector .hbm S100000x128 .f32 :=
  t.slice (Rect.unit (s := S100000x128) ![0, 0] S100000x128.size inb_S100000x128_S100000x128_0_0) (fun _ => rfl)

/-! ## What a step's indices are, and the rows they name -/

/-- The word of row `r` of step `b`. -/
def wordAt (I : S1x16384.Idx → BitVec 32) (b : Fin 128) (r : Fin 128) : BitVec 32 :=
  I (ix2 (0 : Fin 1) (⟨128 * b.val + r.val, by have := b.isLt; have := r.isLt; omega⟩ : Fin 16384))

/-- The row of a table that a word names. -/
def rowNo (w : BitVec 32) : Fin 100000 := ⟨w.toNat % 100000, Nat.mod_lt _ (by decide)⟩

/-- The rows of a table that the indices name, one under the other. -/
def gathered {α : Type} (X : S100000x128.Idx → α) (I : S1x16384.Idx → BitVec 32) : S16384x128.Idx → α :=
  fun j => X (ix2 (rowNo (I (ix2 (0 : Fin 1) (j 0 : Fin 16384)))) (j 1 : Fin 128))

/-- Those of step `b`. -/
def rowsVal {α : Type} (X : S100000x128.Idx → α) (I : S1x16384.Idx → BitVec 32) (b : Fin 128) : S128x128.Idx → α :=
  fun y => X (ix2 (rowNo (wordAt I b (y 0 : Fin 128))) (y 1 : Fin 128))

section Tile

variable (d : Dev nD) (cc : Fin τ.nSC) (jj : Fin τ.nSub)

section In

variable (arg : Memref sig .scVector .hbm S1x16384 .i32) (al : Memref sig .scVector .vmem S2x1x128 .i32) (s : DmaSems sig S2)
variable (f : arg.view.ty.Contents (Elt F)) (q : PosShare TreeShare)

/-- A share of the whole index array. -/
def Src : sProp 𝕄 := arg.view.loc (V d cc jj) ↦[arg.view.set]{q} f

/-- Step `b`'s indices, as a slot holds them. -/
def blkVal (b : Fin 128) : S1x128.Idx → Elt F .i32 := fun j => arg.view.read (Elt F) f ((blkRect b).emb j)

/-- The indices but step `b`'s. -/
def Rest (b : Fin 128) : sProp 𝕄 := arg.view.loc (V d cc jj) ↦[arg.view.set \ (arg.view.slice (blkRect b)).set]{q} f

/-- A share of the indices is step `b`'s and the others'. -/
theorem src_split (b : Fin 128) :
    (Src d cc jj arg f q : sProp 𝕄) = iprop(owns (V d cc jj) (inBlk arg b) q (blkVal arg f b) ∗ Rest d cc jj arg f q b) := by
  have h : (owns (V d cc jj) (inBlk arg b) q (blkVal arg f b) : sProp 𝕄)
      = arg.view.loc (V d cc jj) ↦[(arg.view.slice (blkRect b)).set]{q} f :=
    owns_slice_read (V d cc jj) arg q (blkRect b) (fun _ => rfl) f
  rw [h]
  unfold Src Rest
  have hs := pointsTo_split_subset (Ix := HIx 2) (Name := ℕ) (U := UU) (Lvl := ℕ) (ℓ := arg.view.loc (V d cc jj)) (q := q) (f := f)
    (S := arg.view.set) (I := (arg.view.slice (blkRect b)).set) (View.set_slice_subset arg.view (blkRect b))
  exact BI.equiv_iff.mp ⟨hs.1, hs.2⟩

/-- Slot `p` at rest: its contents of no account, its semaphore at zero, its share of the indices at hand. -/
def InFree (p : Fin 2) : sProp 𝕄 :=
  iprop((∃ X, owns (V d cc jj) (inSlot al p) fullShare X) ∗ semVal (V d cc jj, .dma (semAt s p)) 0 ∗ Src d cc jj arg f q)

/-- Slot `p` filled with step `b`'s indices. -/
def InReady (p : Fin 2) (b : Fin 128) : sProp 𝕄 :=
  iprop(owns (V d cc jj) (inSlot al p) fullShare (blkVal arg f b) ∗ semVal (V d cc jj, .dma (semAt s p)) 0 ∗ Src d cc jj arg f q)

/-- Step `b`'s indices on their way into slot `p`. -/
def InBusy (p : Fin 2) (b : Fin 128) : sProp 𝕄 :=
  iprop(Fly (V d cc jj) (.dma (semAt s p)) (inSlot al p).view.dmaCredit
      iprop(owns (V d cc jj) (inSlot al p) fullShare (blkVal arg f b) ∗ owns (V d cc jj) (inBlk arg b) q (blkVal arg f b))
    ∗ Rest d cc jj arg f q b)

/-- A slot that holds its window is also a slot with anything in it. -/
theorem inReady_free (p : Fin 2) (b : Fin 128) : InReady d cc jj arg al s f q p b ⊢ InFree (F := F) d cc jj arg al s f q p := by
  unfold InReady InFree
  iintro ⟨H, Hs, Hr⟩
  isplitl [H]; · iexists _; iexact H
  isplitl [Hs] <;> iassumption

variable {α : Type}

/-- The copy of step `b`'s indices into slot `p` starts. -/
theorem wp_issueIn {p : Fin 2} {b : Fin 128} {src : Memref sig .scVector .hbm S1x128 .i32} {dst : Memref sig .scVector .vmem S1x128 .i32}
    {sem : DmaSem sig} {hsrc : src.view.WordExact} {hdst : dst.view.WordExact}
    {hsem : DmaTarget.Typed (nD := nD) .hbm (.dma sem) (.here (p := (V d cc jj).2) dst)}
    {k : PUnit → Prog (TpuEff nD τ sig (Elt F) Λ₀ (V d cc jj).2) α} {Q : α → sProp 𝕄}
    (hS : src = inBlk arg b) (hD : dst = inSlot al p) (hM : sem = semAt s p) :
    InFree d cc jj arg al s f q p
      ⊢ iprop((InBusy d cc jj arg al s f q p b -∗ wp frame (wpE (defs₀ (F := F)) 𝒱₀ (V d cc jj) none) Set.univ (k ⟨⟩) Q)
          -∗ wp frame (wpE (defs₀ (F := F)) 𝒱₀ (V d cc jj) none) Set.univ (.op (.enqueueDma src (.here dst) (.dma sem) hsrc hdst hsem) k) Q) := by
  have hsp := Entails.of_eq (src_split d cc jj arg f q b)
  unfold InFree
  iintro ⟨⟨%X, H⟩, Hs, Hr⟩ Hk
  ihave Hr := hsp $$ Hr
  icases Hr with ⟨Hb, Hr⟩
  iapply (wp_copy (V d cc jj) hS hD hM (q := q) (X := blkVal arg f b) (Y := X) rfl (View.dmaCredit_pos _ (by decide))) $$ [Hb H Hs]
  · isplitl [Hb]; · iexact Hb
    isplitl [H]; · iexact H
    iexact Hs
  iintro Hf
  iapply Hk
  unfold InBusy
  isplitl [Hf] <;> iassumption

/-- The wait for it: the slot is filled. -/
theorem wp_waitIn {p : Fin 2} {b : Fin 128} {sp : Space} {s' : Shape} {e' : EltTy} {srcw : Memref sig .scVector sp s' e'} {dstw : Memref sig .scVector .vmem S1x128 .i32}
    {sem : DmaSem sig} {hsrc : srcw.view.WordExact} {hdst : dstw.view.WordExact}
    {k : PUnit → Prog (TpuEff nD τ sig (Elt F) Λ₀ (V d cc jj).2) α} {Q : α → sProp 𝕄}
    (hD : dstw = inSlot al p) (hM : sem = semAt s p) {O : CellTallies nD τ sig (HIx 2)} {W : Waits sig (HIx 2)} (hO : ∀ g, O g none = 0) :
    iprop(levAts (K (F := F)).L (K (F := F)).lev ∗ InBusy d cc jj arg al s f q p b ∗ Owing (V d cc jj) O W)
      ⊢ iprop((iprop(InReady d cc jj arg al s f q p b ∗ Owing (V d cc jj) O W) -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hD
  have hsp := Entails.of_eq (src_split d cc jj arg f q b).symm
  unfold InBusy
  iintro ⟨#Hlv, ⟨Hf, Hr⟩, HO⟩ Hk
  iapply (wp_collect (V d cc jj) hM rfl hO) $$ [Hf HO]
  · isplitr; · iexact Hlv
    isplitl [Hf]; · iexact Hf
    iexact HO
  iintro ⟨⟨H, Hb⟩, Hs, HO⟩
  iapply Hk
  isplitr [HO]
  · unfold InReady
    isplitl [H]; · iexact H
    isplitl [Hs]; · iexact Hs
    iapply hsp
    isplitl [Hb] <;> iassumption
  · iexact HO

/-! ## The list -/

omit [FloatOps F] in
/-- A slot's list of indices covers the same elements as the slot. -/
theorem list_set (p : Fin 2) : (inList al p).view.set = (inSlot al p).view.set := by
  show ((((inSlot al p).view.slice (Rect.unit (s := S1x128) ![0, 0] S1x128.size inb_S1x128_S1x128_0_0)).reshape S128 squeezes_S1x128_S128.numel_eq)).set = _
  rw [View.set_reshape, View.set_slice]
  have : (Rect.unit (s := S1x128) ![0, 0] S1x128.size inb_S1x128_S1x128_0_0).set = Finset.univ := by decide +kernel
  rw [this]; rfl

/-- Step `b`'s indices as a list. -/
def listVal (b : Fin 128) : S128.Idx → Elt F .i32 := fun x => wordAt (arg.view.read (Elt F) f) b (x 0 : Fin 128)

/-- Holding a slot with a window in it is holding its list of indices. -/
theorem owns_list (p : Fin 2) (b : Fin 128) :
    (owns (V d cc jj) (inSlot al p) fullShare (blkVal arg f b) : sProp 𝕄) = owns (V d cc jj) (inList al p) fullShare (listVal arg f b) := by
  let r : Rect S1x128 := Rect.unit (s := S1x128) ![0, 0] S1x128.size inb_S1x128_S1x128_0_0
  let e : S128.Idx → S1x128.Idx := fun x => r.emb (Shape.reshapeEquiv squeezes_S1x128_S128.numel_eq x)
  have he : ∀ x, e x = ix2 (0 : Fin 1) (x 0 : Fin 128) := by
    intro x
    have h1 : Shape.reshapeEquiv squeezes_S1x128_S128.numel_eq x = (ix2 (0 : Fin 1) (x 0 : Fin 128) : S1x128.Idx) := by
      apply Shape.reshapeEquiv_eq_of_rowMajor
      rw [Shape.rowMajor_val_one (d := ![128]) x, Shape.rowMajor_val_two (d := ![1, 128])]
      show 0 * 128 + (x 0).val = (x 0).val
      omega
    show r.emb (Shape.reshapeEquiv squeezes_S1x128_S128.numel_eq x) = _
    rw [h1]
    funext a
    apply Fin.ext
    match a with
    | 0 => rfl
    | 1 => show 0 + 1 * (x 0).val = (x 0).val; omega
  have hv : ∀ x : Fin 128, blkVal arg f b (ix2 (0 : Fin 1) x) = wordAt (arg.view.read (Elt F) f) b x := by
    intro x
    unfold blkVal wordAt
    congr 1
    funext a
    apply Fin.ext
    match a with
    | 0 => rfl
    | 1 => show 128 * b.val + 1 * x.val = 128 * b.val + x.val; omega
  have hr : ∀ g, (inList al p).view.read (Elt F) g = fun x => (inSlot al p).view.read (Elt F) g (e x) := fun g => rfl
  unfold owns
  rw [list_set]
  have h1 : iprop(∃ g, ⌜(inSlot al p).view.read (Elt F) g = blkVal arg f b⌝ ∗ ((inSlot al p).view.loc (V d cc jj) ↦[(inSlot al p).view.set]{fullShare} g))
      ⊢ (iprop(∃ g, ⌜(inList al p).view.read (Elt F) g = listVal arg f b⌝ ∗ ((inList al p).view.loc (V d cc jj) ↦[(inSlot al p).view.set]{fullShare} g)) : sProp 𝕄) := by
    iintro ⟨%g, %hg, H⟩
    iexists g; isplitr; swap; · iexact H
    ipureintro
    refine (hr g).trans ?_
    funext x
    exact (congrFun hg (e x)).trans ((congrArg (blkVal arg f b) (he x)).trans (hv _))
  have h2 : iprop(∃ g, ⌜(inList al p).view.read (Elt F) g = listVal arg f b⌝ ∗ ((inList al p).view.loc (V d cc jj) ↦[(inSlot al p).view.set]{fullShare} g))
      ⊢ (iprop(∃ g, ⌜(inSlot al p).view.read (Elt F) g = blkVal arg f b⌝ ∗ ((inSlot al p).view.loc (V d cc jj) ↦[(inSlot al p).view.set]{fullShare} g)) : sProp 𝕄) := by
    iintro ⟨%g, %hg, H⟩
    iexists g; isplitr; swap; · iexact H
    ipureintro
    funext j
    have hj : j = e (ix1 (j 1 : Fin 128)) := by
      rw [he]; funext a
      match a with
      | 0 => exact Subsingleton.elim (α := Fin 1) _ _
      | 1 => rfl
    have h3 : (inSlot al p).view.read (Elt F) g (e (ix1 (j 1 : Fin 128))) = listVal arg f b (ix1 (j 1 : Fin 128)) :=
      (congrFun (hr g) _).symm.trans (congrFun hg (ix1 (j 1 : Fin 128)))
    have hj' : blkVal arg f b (e (ix1 (j 1 : Fin 128))) = listVal arg f b (ix1 (j 1 : Fin 128)) :=
      (congrArg (blkVal arg f b) (he _)).trans (hv _)
    exact (congrArg ((inSlot al p).view.read (Elt F) g) hj).trans (h3.trans (hj'.symm.trans (congrArg (blkVal arg f b) hj.symm)))
  exact BI.equiv_iff.mp ⟨h1, h2⟩

/-! ## The gather -/

variable (tbl : Memref sig .scVector .hbm S100000x128 .f32) (X : S100000x128.Idx → Elt F .f32) (qt : PosShare TreeShare)

/-- A gather's payload over step `b`'s indices is the rows they name. -/
theorem payload_eq (b : Fin 128) (hn : S128.numel = S128x128.size gathers_S100000x128_S128x128.axis')
    (hin : ∀ x, (listVal arg f b x).toNat < S100000x128.size gathers_S100000x128_S128x128.axis) :
    SparseCore.gatherPayload gathers_S100000x128_S128x128 X (SparseCore.rows (listVal arg f b) hn hin) = rowsVal X (arg.view.read (Elt F) f) b := by
  funext y
  unfold SparseCore.gatherPayload rowsVal
  congr 1
  funext a
  apply Fin.ext
  match a with
  | 0 =>
    refine (congrArg Fin.val (Shape.Gathers.idx_axis gathers_S100000x128_S128x128 _ y)).trans ?_
    have hk : (S128.rowMajor.symm ((y 0 : Fin 128).cast hn.symm)) 0 = (y 0 : Fin 128) := by
      apply Fin.ext
      have := Shape.rowMajor_val_one (d := ![128]) (S128.rowMajor.symm ((y 0 : Fin 128).cast hn.symm))
      rw [← this]
      exact congrArg Fin.val (S128.rowMajor.apply_symm_apply _)
    have hw : listVal arg f b (S128.rowMajor.symm ((y 0 : Fin 128).cast hn.symm)) = wordAt (arg.view.read (Elt F) f) b (y 0 : Fin 128) := by
      unfold listVal; rw [hk]
    show (listVal arg f b (S128.rowMajor.symm ((y 0 : Fin 128).cast hn.symm))).toNat = (wordAt (arg.view.read (Elt F) f) b (y 0 : Fin 128)).toNat % 100000
    have hlt := hin (S128.rowMajor.symm ((y 0 : Fin 128).cast hn.symm))
    rw [hw] at hlt ⊢
    exact (Nat.mod_eq_of_lt hlt).symm
  | 1 => exact Shape.Gathers.idx_of_ne gathers_S100000x128_S128x128 _ y 1 (by decide)

/-- A share of the whole table. -/
def Tbl : sProp 𝕄 := owns (V d cc jj) (tblAll tbl) qt X

variable (slot : Memref sig .scVector .vmem S128x128 .f32) (g : DmaSem sig)

/-- The rows that step `b`'s indices name on their way into a slot of rows, the list lent from slot `p`. -/
def GBusy (p : Fin 2) (b : Fin 128) : sProp 𝕄 :=
  iprop(Fly (V d cc jj) (.dma g) slot.view.dmaCredit
      iprop(owns (V d cc jj) slot fullShare (rowsVal X (arg.view.read (Elt F) f) b) ∗ Tbl d cc jj tbl X qt
        ∗ owns (V d cc jj) (inList al p) fullShare (listVal arg f b))
    ∗ semVal (V d cc jj, .dma (semAt s p)) 0 ∗ Src d cc jj arg f q)

/-- Every word of the indices is a row of the table. -/
def InRange : Prop := ∀ j, (arg.view.read (Elt F) f j).toNat < 100000

/-- The gather starts. -/
theorem wp_issueG {p : Fin 2} {b : Fin 128} {src : Memref sig .scVector .hbm S100000x128 .f32} {dst : Memref sig .scVector .vmem S128x128 .f32}
    {offs : Memref sig .scVector .vmem S128 .i32} {hn : S128.numel = S128x128.size gathers_S100000x128_S128x128.axis'}
    {sem : DmaSem sig} {hp : (V d cc jj).2.kind = .scVector} {hsrc : src.view.WordExact} {he : EltTy.bits .f32 = 32} {hsp : Space.hbm = .hbm ∨ Space.hbm = .shared}
    {hr : S100000x128.StreamRows 0}
    {k : PUnit → Prog (TpuEff nD τ sig (Elt F) Λ₀ (V d cc jj).2) α} {Q : α → sProp 𝕄}
    (hS : src = tblAll tbl) (hD : dst = slot) (hL : offs = inList al p) (hM : sem = g) (hI : InRange (F := F) arg f)
    (hcr : ∑ j, (slot.slice (S128x128.rowRect gathers_S100000x128_S128x128.axis' j)
      (S128x128.stride_rowRect gathers_S100000x128_S128x128.axis' j)).view.dmaCredit = slot.view.dmaCredit) :
    iprop(InReady d cc jj arg al s f q p b ∗ Tbl d cc jj tbl X qt ∗ (∃ Y, owns (V d cc jj) slot fullShare Y) ∗ semVal (V d cc jj, .dma g) 0)
      ⊢ iprop((GBusy d cc jj arg al s f q tbl X qt slot g p b -∗ wp frame (wpE (defs₀ (F := F)) 𝒱₀ (V d cc jj) none) Set.univ (k ⟨⟩) Q)
          -∗ wp frame (wpE (defs₀ (F := F)) 𝒱₀ (V d cc jj) none) Set.univ
            (SparseCore.enqueueIndirectGather (p := (V d cc jj).2) hp src dst gathers_S100000x128_S128x128 offs hn sem hsrc he hsp hr >>= k) Q) := by
  have hin : ∀ x, (listVal arg f b x).toNat < S100000x128.size gathers_S100000x128_S128x128.axis := fun x => hI _
  have hl := Entails.of_eq (owns_list d cc jj arg al f p b)
  unfold InReady Tbl
  iintro ⟨⟨H, Hs, Hr⟩, Ht, ⟨%Y, Hd⟩, Hg⟩ Hk
  ihave H := hl $$ H
  iapply (wp_gather (V d cc jj) hS hD hL hM (q := qt) (qo := fullShare) (X := X) (Y := Y) (I := listVal arg f b)
    hcr (by decide) hin (payload_eq arg f X b hn hin)) $$ [Ht Hd H Hg]
  · isplitl [Ht]; · iexact Ht
    isplitl [Hd]; · iexact Hd
    isplitl [H]; · iexact H
    iexact Hg
  iintro Hf
  iapply Hk
  unfold GBusy Tbl
  isplitl [Hf]; · iexact Hf
  isplitl [Hs] <;> iassumption

/-- The wait for it: the slot of rows filled, the list's slot at rest again. -/
theorem wp_waitG {p : Fin 2} {b : Fin 128} {sp : Space} {s' : Shape} {e' : EltTy} {srcw : Memref sig .scVector sp s' e'}
    {dstw : Memref sig .scVector .vmem S128x128 .f32}
    {sem : DmaSem sig} {hsrc : srcw.view.WordExact} {hdst : dstw.view.WordExact}
    {k : PUnit → Prog (TpuEff nD τ sig (Elt F) Λ₀ (V d cc jj).2) α} {Q : α → sProp 𝕄}
    (hD : dstw = slot) (hM : sem = g) {O : CellTallies nD τ sig (HIx 2)} {W : Waits sig (HIx 2)} (hO : ∀ g, O g none = 0) :
    iprop(levAts (K (F := F)).L (K (F := F)).lev ∗ GBusy d cc jj arg al s f q tbl X qt slot g p b ∗ Owing (V d cc jj) O W)
      ⊢ iprop((iprop(InReady d cc jj arg al s f q p b ∗ Tbl d cc jj tbl X qt
              ∗ owns (V d cc jj) slot fullShare (rowsVal X (arg.view.read (Elt F) f) b)
              ∗ semVal (V d cc jj, .dma g) 0 ∗ Owing (V d cc jj) O W)
            -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hD
  have hl := Entails.of_eq (owns_list d cc jj arg al f p b).symm
  unfold GBusy
  iintro ⟨#Hlv, ⟨Hf, Hs, Hr⟩, HO⟩ Hk
  iapply (wp_collect (V d cc jj) hM rfl hO) $$ [Hf HO]
  · isplitr; · iexact Hlv
    isplitl [Hf]; · iexact Hf
    iexact HO
  iintro ⟨⟨H, Ht, Hl⟩, Hg, HO⟩
  iapply Hk
  isplitl [Hl Hs Hr]
  · unfold InReady
    isplitl [Hl]; · iapply hl; iexact Hl
    isplitl [Hs]; · iexact Hs
    iexact Hr
  isplitl [Ht]; · iexact Ht
  isplitl [H]; · iexact H
  isplitl [Hg]; · iexact Hg
  iexact HO

end In

end Tile

end Cert.Proof.Neumf
-- ==== Proof.MlpFacts.lean ====
/-
  The numbers of the first SparseCore kernel: what its loop carries at each trip, and the offsets, conditions and side
  conditions of the trip at those.
-/
module

public import proofs.«01_k».proof.Proof.Stage

@[expose] public section

noncomputable section

namespace Cert.Proof.Neumf

open Cert.KernelIdeal Cert.KernelIdeal.Gen
open Idealize.ShloMosaic

/-- The number of a tile: subcores first, then cores. -/
def tileNo (i : grid0.Coords) : Fin 32 := ⟨(i 1).val + 16 * (i 0).val, by
  have h1 : (i 1).val < 16 := (i 1).isLt
  have h0 : (i 0).val < 2 := (i 0).isLt
  omega⟩

/-- The grid step a tile takes at a trip: its own four, in order. -/
def stepNo (n : Fin 32) (k : ℕ) : Fin 128 := ⟨4 * n.val + k % 4, by have := n.isLt; omega⟩

/-- The slot of a count: its parity. -/
def par (k : ℕ) : Fin 2 := ⟨k % 2, Nat.mod_lt _ (by decide)⟩

/-- The word that counts the index copies issued before trip `k`. -/
abbrev wIss (k : ℕ) : BitVec 32 := BitVec.ofNat 32 (min (k + 1) 4)

/-- The word that counts the trips done before trip `k`. -/
abbrev wCnt (k : ℕ) : BitVec 32 := BitVec.ofNat 32 k

/-- The word that counts the outgoing blocks waited for before trip `k`. -/
abbrev wPrev (k : ℕ) : BitVec 32 := BitVec.ofNat 32 (k - 1)

/-- The word that holds the step number before trip `k`. -/
abbrev wStep (k : ℕ) : BitVec 32 := BitVec.ofNat 32 (k % 4)

/-- What the loop carries before trip `k`: index copies issued, index copies waited for, the same of the second index
    array, row copies issued and waited for, the same of the second result, and the step within the tile. -/
def words (k : ℕ) : BitVec 32 × BitVec 32 × BitVec 32 × BitVec 32 × BitVec 32 × BitVec 32 × BitVec 32 × BitVec 32 × BitVec 32 :=
  (wIss k, wCnt k, wIss k, wCnt k, wCnt k, wPrev k, wCnt k, wPrev k, wStep k)

/-- The pipeline's loop makes four trips. -/
theorem trips0 : k0_t1_loop.trips = 4 := by decide +kernel

/-- The places that check 1 of the body asks about lie inside their arrays. -/
theorem chk1_ok : ∀ (i : grid0.Coords) (k : Fin k0_t1_loop.trips),
    k0_chk1 i k (wIss k.val) (wCnt k.val) (wIss k.val) (wCnt k.val) (wCnt k.val) (wPrev k.val) (wCnt k.val) (wPrev k.val) (wStep k.val) := by decide +kernel

/-- The places that check 2 of the body asks about lie inside their arrays. -/
theorem chk2_ok : ∀ k : Fin k0_t1_loop.trips, k0_chk2 (wCnt k.val) := by decide +kernel

/-- The places that check 3 of the body asks about lie inside their arrays. -/
theorem chk3_ok : ∀ k : Fin k0_t1_loop.trips, k0_chk3 (wCnt k.val) := by decide +kernel

/-- The places that check 4 of the body asks about lie inside their arrays. -/
theorem chk4_ok : ∀ k : Fin k0_t1_loop.trips, k0_chk4 (wCnt k.val) := by decide +kernel

/-- The places that check 5 of the body asks about lie inside their arrays. -/
theorem chk5_ok : ∀ k : Fin k0_t1_loop.trips, k0_chk5 (wCnt k.val) := by decide +kernel

/-- Condition 1 of the body holds on every trip but the last. -/
theorem cond1_eq : ∀ (i : grid0.Coords) (k : Fin k0_t1_loop.trips), (k0_cond1 i k (wStep k.val) = 1#1) = (k.val < 3) := by
  intro i k; apply propext; revert i k; decide +kernel

/-- Condition 2 of the body holds on every trip but the last. -/
theorem cond2_eq : ∀ (i : grid0.Coords) (k : Fin k0_t1_loop.trips), (k0_cond2 i k (wStep k.val) = 1#1) = (k.val < 3) := by
  intro i k; apply propext; revert i k; decide +kernel

/-- Condition 3 of the body holds on every trip. -/
theorem cond3_ok : ∀ (i : grid0.Coords) (k : Fin k0_t1_loop.trips), k0_cond3 i k (wStep k.val) = 1#1 := by decide +kernel

/-- Condition 4 of the body holds on every trip. -/
theorem cond4_ok : ∀ (i : grid0.Coords) (k : Fin k0_t1_loop.trips), k0_cond4 i k (wStep k.val) = 1#1 := by decide +kernel

/-- Condition 9 of the body holds on every trip. -/
theorem cond9_ok : ∀ (i : grid0.Coords) (k : Fin k0_t1_loop.trips), k0_cond9 i k (wStep k.val) = 1#1 := by decide +kernel

/-- Condition 10 of the body holds on every trip. -/
theorem cond10_ok : ∀ (i : grid0.Coords) (k : Fin k0_t1_loop.trips), k0_cond10 i k (wStep k.val) = 1#1 := by decide +kernel

/-- Condition 13 of the body holds on every trip but the first. -/
theorem cond13_eq : ∀ (i : grid0.Coords) (k : Fin k0_t1_loop.trips), (k0_cond13 i k (wStep k.val) = 1#1) = (0 < k.val) := by
  intro i k; apply propext; revert i k; decide +kernel

/-- Condition 14 of the body holds on every trip but the first. -/
theorem cond14_eq : ∀ (i : grid0.Coords) (k : Fin k0_t1_loop.trips), (k0_cond14 i k (wStep k.val) = 1#1) = (0 < k.val) := by
  intro i k; apply propext; revert i k; decide +kernel

/-- Offset 4 of the body: the slot of the step after trip `k`'s in its double buffer. -/
theorem off4_eq : ∀ k : Fin k0_t1_loop.trips, k.val < 3 → k0_off4 (wIss k.val) = ![(par (k.val + 1)).val, 0, 0] := by decide +kernel

/-- Offset 7 of the body: the slot of the step after trip `k`'s in its double buffer. -/
theorem off7_eq : ∀ k : Fin k0_t1_loop.trips, k.val < 3 → k0_off7 (wIss k.val) = ![(par (k.val + 1)).val, 0, 0] := by decide +kernel

/-- Offset 6 of the body: the semaphore of the step after trip `k`'s. -/
theorem off6_eq : ∀ k : Fin k0_t1_loop.trips, k.val < 3 → k0_off6 (wIss k.val) = ![(par (k.val + 1)).val] := by decide +kernel

/-- Offset 9 of the body: the semaphore of the step after trip `k`'s. -/
theorem off9_eq : ∀ k : Fin k0_t1_loop.trips, k.val < 3 → k0_off9 (wIss k.val) = ![(par (k.val + 1)).val] := by decide +kernel

/-- Offset 5 of the body: the index window of the step after trip `k`'s. -/
theorem off5_eq : ∀ (i : grid0.Coords) (k : Fin k0_t1_loop.trips), k.val < 3 →
    k0_off5 i (wStep k.val) = ![0, 128 * (stepNo (tileNo i) (k.val + 1)).val] := by decide +kernel

/-- Offset 8 of the body: the index window of the step after trip `k`'s. -/
theorem off8_eq : ∀ (i : grid0.Coords) (k : Fin k0_t1_loop.trips), k.val < 3 →
    k0_off8 i (wStep k.val) = ![0, 128 * (stepNo (tileNo i) (k.val + 1)).val] := by decide +kernel

/-- Offset 10 of the body: the slot of trip `k`'s step in its double buffer. -/
theorem off10_eq : ∀ k : Fin k0_t1_loop.trips, k0_off10 (wCnt k.val) = ![(par k.val).val, 0, 0] := by decide +kernel

/-- Offset 13 of the body: the slot of trip `k`'s step in its double buffer. -/
theorem off13_eq : ∀ k : Fin k0_t1_loop.trips, k0_off13 (wCnt k.val) = ![(par k.val).val, 0, 0] := by decide +kernel

/-- Offset 16 of the body: the slot of trip `k`'s step in its double buffer. -/
theorem off16_eq : ∀ k : Fin k0_t1_loop.trips, k0_off16 (wCnt k.val) = ![(par k.val).val, 0, 0] := by decide +kernel

/-- Offset 17 of the body: the slot of trip `k`'s step in its double buffer. -/
theorem off17_eq : ∀ k : Fin k0_t1_loop.trips, k0_off17 (wCnt k.val) = ![(par k.val).val, 0, 0] := by decide +kernel

/-- Offset 18 of the body: the slot of trip `k`'s step in its double buffer. -/
theorem off18_eq : ∀ k : Fin k0_t1_loop.trips, k0_off18 (wCnt k.val) = ![(par k.val).val, 0, 0] := by decide +kernel

/-- Offset 19 of the body: the slot of trip `k`'s step in its double buffer. -/
theorem off19_eq : ∀ k : Fin k0_t1_loop.trips, k0_off19 (wCnt k.val) = ![(par k.val).val, 0, 0] := by decide +kernel

/-- Offset 20 of the body: the slot of trip `k`'s step in its double buffer. -/
theorem off20_eq : ∀ k : Fin k0_t1_loop.trips, k0_off20 (wCnt k.val) = ![(par k.val).val, 0, 0] := by decide +kernel

/-- Offset 22 of the body: the slot of trip `k`'s step in its double buffer. -/
theorem off22_eq : ∀ k : Fin k0_t1_loop.trips, k0_off22 (wCnt k.val) = ![(par k.val).val, 0, 0] := by decide +kernel

/-- Offset 25 of the body: the slot of trip `k`'s step in its double buffer. -/
theorem off25_eq : ∀ k : Fin k0_t1_loop.trips, k0_off25 (wCnt k.val) = ![(par k.val).val, 0, 0] := by decide +kernel

/-- Offset 12 of the body: the semaphore of trip `k`'s step. -/
theorem off12_eq : ∀ k : Fin k0_t1_loop.trips, k0_off12 (wCnt k.val) = ![(par k.val).val] := by decide +kernel

/-- Offset 15 of the body: the semaphore of trip `k`'s step. -/
theorem off15_eq : ∀ k : Fin k0_t1_loop.trips, k0_off15 (wCnt k.val) = ![(par k.val).val] := by decide +kernel

/-- Offset 24 of the body: the semaphore of trip `k`'s step. -/
theorem off24_eq : ∀ k : Fin k0_t1_loop.trips, k0_off24 (wCnt k.val) = ![(par k.val).val] := by decide +kernel

/-- Offset 27 of the body: the semaphore of trip `k`'s step. -/
theorem off27_eq : ∀ k : Fin k0_t1_loop.trips, k0_off27 (wCnt k.val) = ![(par k.val).val] := by decide +kernel

/-- Offset 23 of the body: the output block of trip `k`'s step. -/
theorem off23_eq : ∀ (i : grid0.Coords) (k : Fin k0_t1_loop.trips),
    k0_off23 i (wStep k.val) = ![128 * (stepNo (tileNo i) k.val).val, 0] := by decide +kernel

/-- Offset 26 of the body: the output block of trip `k`'s step. -/
theorem off26_eq : ∀ (i : grid0.Coords) (k : Fin k0_t1_loop.trips),
    k0_off26 i (wStep k.val) = ![128 * (stepNo (tileNo i) k.val).val, 0] := by decide +kernel

/-- Offset 28 of the body: the slot of the step before trip `k`'s in its double buffer. -/
theorem off28_eq : ∀ k : Fin k0_t1_loop.trips, k0_off28 (wPrev k.val) = ![(par (k.val - 1)).val, 0, 0] := by decide +kernel

/-- Offset 31 of the body: the slot of the step before trip `k`'s in its double buffer. -/
theorem off31_eq : ∀ k : Fin k0_t1_loop.trips, k0_off31 (wPrev k.val) = ![(par (k.val - 1)).val, 0, 0] := by decide +kernel

/-- Offset 30 of the body: the semaphore of the step before trip `k`'s. -/
theorem off30_eq : ∀ k : Fin k0_t1_loop.trips, k0_off30 (wPrev k.val) = ![(par (k.val - 1)).val] := by decide +kernel

/-- Offset 33 of the body: the semaphore of the step before trip `k`'s. -/
theorem off33_eq : ∀ k : Fin k0_t1_loop.trips, k0_off33 (wPrev k.val) = ![(par (k.val - 1)).val] := by decide +kernel

/-- Offset 29 of the body: the output block of the step before trip `k`'s. -/
theorem off29_eq : ∀ (i : grid0.Coords) (k : Fin k0_t1_loop.trips), 0 < k.val →
    k0_off29 i (wStep k.val) = ![128 * (stepNo (tileNo i) (k.val - 1)).val, 0] := by decide +kernel

/-- Offset 32 of the body: the output block of the step before trip `k`'s. -/
theorem off32_eq : ∀ (i : grid0.Coords) (k : Fin k0_t1_loop.trips), 0 < k.val →
    k0_off32 i (wStep k.val) = ![128 * (stepNo (tileNo i) (k.val - 1)).val, 0] := by decide +kernel

/-- The step before and the step after use the same slot. -/
theorem par_prev {k : ℕ} (h : 0 < k) : par (k - 1) = par (k + 1) := Fin.ext (by show (k - 1) % 2 = (k + 1) % 2; omega)

/-- Two steps on, the same slot is used again. -/
theorem par_two (k : ℕ) : par (k + 1 + 1) = par k := Fin.ext (by show (k + 1 + 1) % 2 = k % 2; omega)

/-! ## What a trip computes of its words -/

/-- The first number the loop's tiles are told: four times the tile's. -/
def baseWord (i : grid0.Coords) : BitVec 32 := BitVec.ofNat 32 (4 * (tileNo i).val)

/-- Trip `k`'s loop variable. -/
abbrev tIv (k : Fin k0_t1_loop.trips) : BitVec 32 := Scf.iv 0#32 1#32 k

/-- Whether trip `k` is the first. -/
abbrev tFirst (k : Fin k0_t1_loop.trips) : BitVec 1 := Scalar.cmpi .eq (tIv k) 0#32

/-- Whether trip `k` is the last. -/
abbrev tLast (k : Fin k0_t1_loop.trips) : BitVec 1 := Scalar.cmpi .eq (tIv k) 3#32

/-- The block number of trip `k`, as the program computes it. -/
abbrev tCur (v4 : BitVec 32) (k : Fin k0_t1_loop.trips) : BitVec 32 := Scalar.addi (wStep k.val) v4

/-- The block number before that of trip `k`, going round at the ends. -/
abbrev tPrev (v4 : BitVec 32) (k : Fin k0_t1_loop.trips) : BitVec 32 :=
  Scalar.addi (Scalar.select (Scalar.cmpi .eq (Scalar.select 1#1 (Scalar.subi (wStep k.val) 1#32) (wStep k.val)) 4294967295#32) 3#32
    (Scalar.select 1#1 (Scalar.subi (wStep k.val) 1#32) (wStep k.val))) v4

/-- The block number after that of trip `k`, going round at the ends. -/
abbrev tNext (v4 : BitVec 32) (k : Fin k0_t1_loop.trips) : BitVec 32 :=
  Scalar.addi (Scalar.select (Scalar.cmpi .eq (Scalar.select 1#1 (Scalar.addi (wStep k.val) 1#32) (wStep k.val)) 4#32) 0#32
    (Scalar.select 1#1 (Scalar.addi (wStep k.val) 1#32) (wStep k.val))) v4

/-- Whether the next trip's block differs from this one's. -/
abbrev tMore (v4 : BitVec 32) (k : Fin k0_t1_loop.trips) : BitVec 1 := Scalar.cmpi .ne (tCur v4 k) (tNext v4 k)

/-- Whether trip `k` is before the last one. -/
abbrev tIn (k : Fin k0_t1_loop.trips) : BitVec 1 := Scalar.xori (Scalar.cmpi .sge (tIv k) 3#32) 1#1

/-- The count of index copies issued, after trip `k`. -/
theorem word_iss : ∀ (i : grid0.Coords) (k : Fin k0_t1_loop.trips),
    Scalar.select (Scalar.andi (Scalar.andi (tMore (baseWord i) k) (tIn k)) 1#1) (Scalar.addi (wIss k.val) 1#32) (wIss k.val) = wIss (k.val + 1) := by
  decide +kernel

/-- The count of blocks sent out, after trip `k`. -/
theorem word_out : ∀ (i : grid0.Coords) (k : Fin k0_t1_loop.trips),
    Scalar.select (Scalar.andi (Scalar.ori (tMore (baseWord i) k) (tLast k)) 1#1) (Scalar.addi (wCnt k.val) 1#32) (wCnt k.val) = wCnt (k.val + 1) := by
  decide +kernel

/-- The count of index windows used up, after trip `k`. -/
theorem word_in : ∀ (i : grid0.Coords) (k : Fin k0_t1_loop.trips),
    Scalar.select (Scalar.ori (tMore (baseWord i) k) (tLast k)) (Scalar.addi (wCnt k.val) 1#32) (wCnt k.val) = wCnt (k.val + 1) := by
  decide +kernel

/-- The count of outgoing blocks waited for, after trip `k`. -/
theorem word_prev : ∀ (i : grid0.Coords) (k : Fin k0_t1_loop.trips),
    Scalar.select (Scalar.andi (Scalar.andi (Scalar.cmpi .ne (tCur (baseWord i) k) (tPrev (baseWord i) k)) (Scalar.xori (tFirst k) 1#1)) 1#1)
      (Scalar.addi (wPrev k.val) 1#32) (wPrev k.val) = wPrev (k.val + 1) := by
  decide +kernel

/-- The step number that the loop carries on from trip `k`. -/
theorem word_step : ∀ k : Fin k0_t1_loop.trips,
    Scalar.select (Scalar.cmpi .eq (Scalar.select 1#1 (Scalar.addi (wStep k.val) 1#32) (wStep k.val)) 4#32) 0#32
      (Scalar.select 1#1 (Scalar.addi (wStep k.val) 1#32) (wStep k.val)) = wStep (k.val + 1) := by
  decide +kernel

end Cert.Proof.Neumf
-- ==== Proof.Sides.lean ====
/-
  One side of a kernel that gathers rows: the index array staged through two slots, the rows gathered into two slots of
  rows, and these copied out to the result. The state of a side between two trips, and the pieces a trip moves.
-/
module

public import proofs.«01_k».proof.Proof.MlpFacts

@[expose] public section

noncomputable section

namespace Cert.Proof.Neumf

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-! ## Slots of rows and blocks of the result -/

/-- A slot of the outgoing double buffer lies inside the buffer. -/
theorem inb_row (p : Fin 2) : ∀ a, (![p.val, 0, 0] : Fin 3 → ℕ) a + S1x128x128.size a ≤ S2x128x128.size a := by
  revert p; decide

/-- Slot `p` of a pair of row buffers. -/
def outSlot (rw : Memref sig .scVector .vmem S2x128x128 .f32) (p : Fin 2) : Memref sig .scVector .vmem S128x128 .f32 :=
  (rw.slice (Rect.unit (s := S2x128x128) ![p.val, 0, 0] S1x128x128.size (inb_row p)) (fun _ => rfl)).squeeze S128x128 squeezes_S1x128x128_S128x128

/-- The program's spelling of an outgoing slot names that slot. -/
theorem outSlot_eq {rw : Memref sig .scVector .vmem S2x128x128 .f32} {o : Fin 3 → ℕ} {p : Fin 2} (ho : o = ![p.val, 0, 0])
    {h : ∀ a, o a + S1x128x128.size a ≤ S2x128x128.size a} :
    (rw.slice (Rect.unit (s := S2x128x128) o S1x128x128.size h) (fun _ => rfl)).squeeze S128x128 squeezes_S1x128x128_S128x128 = outSlot rw p := by
  subst ho; rfl

/-- A block of 128 rows lies inside the output. -/
theorem inb_oblk (b : Fin 128) : ∀ a, (![128 * b.val, 0] : Fin 2 → ℕ) a + S128x128.size a ≤ S16384x128.size a := by
  intro a; have := b.isLt
  match a with
  | 0 => show 128 * b.val + 128 ≤ 16384; omega
  | 1 => exact le_refl _

/-- The rectangle of step `b`'s rows of a result. -/
def oblkRect (b : Fin 128) : Rect S16384x128 := Rect.unit (s := S16384x128) ![128 * b.val, 0] S128x128.size (inb_oblk b)

/-- Step `b`'s rows of a result. -/
def outBlk (o : Memref sig .scVector .hbm S16384x128 .f32) (b : Fin 128) : Memref sig .scVector .hbm S128x128 .f32 :=
  o.slice (oblkRect b) (fun _ => rfl)

/-- The program's spelling of an output block names that block. -/
theorem outBlk_eq {out : Memref sig .scVector .hbm S16384x128 .f32} {o : Fin 2 → ℕ} {b : Fin 128} (ho : o = ![128 * b.val, 0])
    {h : ∀ a, o a + S128x128.size a ≤ S16384x128.size a} :
    out.slice (Rect.unit (s := S16384x128) o S128x128.size h) (fun _ => rfl) = outBlk out b := by
  subst ho; rfl

/-- The rows gathered into an outgoing slot credit the semaphore with the whole slot's amount. -/
theorem slot_credit (rw : Memref sig .scVector .vmem S2x128x128 .f32) (p : Fin 2) :
    ∑ j, ((outSlot rw p).slice (S128x128.rowRect gathers_S100000x128_S128x128.axis' j)
      (S128x128.stride_rowRect gathers_S100000x128_S128x128.axis' j)).view.dmaCredit = (outSlot rw p).view.dmaCredit :=
  SparseCore.sum_rowCredit_eq_dmaCredit (outSlot rw p) gathers_S100000x128_S128x128.axis' (fun _ => rfl)

/-! ## A side -/

/-- The buffers and semaphores of one side. -/
structure Side where
  arg : Memref sig .scVector .hbm S1x16384 .i32
  tbl : Memref sig .scVector .hbm S100000x128 .f32
  out : Memref sig .scVector .hbm S16384x128 .f32
  al : Memref sig .scVector .vmem S2x1x128 .i32
  s : DmaSems sig S2
  rw : Memref sig .scVector .vmem S2x128x128 .f32
  so : DmaSems sig S2
  gs : DmaSems sig S_
  harg : arg.IsWhole
  htbl : tbl.IsWhole
  hout : out.IsWhole
  hal : al.IsWhole
  hrw : rw.IsWhole

/-- The semaphore of a side's gathers. -/
abbrev Side.g (A : Side) : DmaSem sig := A.gs.sem

/-- What one side reads, and by what shares. -/
structure SideVal (F : FTy → Type) (A : Side) where
  f : A.arg.view.ty.Contents (Elt F)
  q : Fin 2 → PosShare TreeShare
  X : S100000x128.Idx → Elt F .f32
  qt : PosShare TreeShare

section Tile

variable (d : Dev nD) (cc : Fin τ.nSC) (jj : Fin τ.nSub) (A : Side) (v : SideVal F A) (n : Fin 32)

/-- The index slot `p` at rest, with anything in it. -/
def aFree (p : Fin 2) : sProp 𝕄 := InFree d cc jj A.arg A.al A.s v.f (v.q p) p

/-- The index slot of step `k`, holding that step's window. -/
def aReady (k : ℕ) : sProp 𝕄 := InReady d cc jj A.arg A.al A.s v.f (v.q (par k)) (par k) (stepNo n k)

/-- The index slot of step `k`, with that step's window on its way. -/
def aBusy (k : ℕ) : sProp 𝕄 := InBusy d cc jj A.arg A.al A.s v.f (v.q (par k)) (par k) (stepNo n k)

/-- The staging slot of step `k`: on its way, or at rest past the last. -/
def aNext (k : ℕ) : sProp 𝕄 := if k < 4 then aBusy d cc jj A v n k else aFree d cc jj A v (par k)

/-- The rows of step `k`. -/
def aRows (k : ℕ) : S128x128.Idx → Elt F .f32 := rowsVal v.X (A.arg.view.read (Elt F) v.f) (stepNo n k)

/-- The outgoing slot `p` at rest, with its semaphore at zero. -/
def oFree (p : Fin 2) : sProp 𝕄 :=
  iprop((∃ Y, owns (V d cc jj) (outSlot A.rw p) fullShare (Y : S128x128.Idx → Elt F .f32)) ∗ semVal (V d cc jj, .dma (semAt A.so p)) 0)

/-- The rows of step `k` on their way out. -/
def oBusy (k : ℕ) : sProp 𝕄 :=
  Fly (V d cc jj) (.dma (semAt A.so (par k))) (outBlk A.out (stepNo n k)).view.dmaCredit
    iprop(owns (V d cc jj) (outBlk A.out (stepNo n k)) fullShare (aRows A v n k) ∗ owns (V d cc jj) (outSlot A.rw (par k)) fullShare (aRows A v n k))

/-- The row slot the step before used. -/
def oPrev (k : ℕ) : sProp 𝕄 := if 0 < k then oBusy d cc jj A v n (k - 1) else oFree (F := F) d cc jj A (par (k + 1))

/-- The output block of step `k`, not yet written. -/
def todo (k : ℕ) : sProp 𝕄 := iprop(∃ Y, owns (V d cc jj) (outBlk A.out (stepNo n k)) fullShare (Y : S128x128.Idx → Elt F .f32))

/-- The output block of step `k`, holding its final rows. -/
def done (k : ℕ) : sProp 𝕄 := owns (V d cc jj) (outBlk A.out (stepNo n k)) fullShare (aRows A v n k)

/-- Step `b`'s rows of the result before trip `k`, when they are not on their way. -/
def blk (k b : ℕ) : sProp 𝕄 := if b + 1 < k then done d cc jj A v n b else if b + 1 = k then iprop(emp) else todo (F := F) d cc jj A n b
/-- The same in the midst of trip `k`. -/
def blkMid (k b : ℕ) : sProp 𝕄 := if b + 1 < k then done d cc jj A v n b else if b + 1 = k ∨ b = k then iprop(emp) else todo (F := F) d cc jj A n b

/-- The tile's four output blocks before trip `k`. -/
def blks (k : ℕ) : sProp 𝕄 := iprop(blk d cc jj A v n k 0 ∗ blk d cc jj A v n k 1 ∗ blk d cc jj A v n k 2 ∗ blk d cc jj A v n k 3)

/-- The tile's four output blocks in the middle of trip `k`, without the one that trip sends. -/
def blksMid (k : ℕ) : sProp 𝕄 := iprop(blkMid d cc jj A v n k 0 ∗ blkMid d cc jj A v n k 1 ∗ blkMid d cc jj A v n k 2 ∗ blkMid d cc jj A v n k 3)

/-- Before trip `k` the block of that step can be taken out, unwritten. -/
theorem blks_take {k : ℕ} (hk : k < 4) : blks d cc jj A v n k ⊢ iprop(todo (F := F) d cc jj A n k ∗ blksMid d cc jj A v n k) := by
  unfold blks blksMid blk blkMid
  match k, hk with
  | 0, _ =>
    simp
    iintro ⟨H0, H1, H2, H3⟩
    isplitl [H0]; · iexact H0
    isplitr; · iempintro
    isplitl [H1]; · iexact H1
    isplitl [H2] <;> iassumption
  | 1, _ =>
    simp
    iintro ⟨H0, H1, H2, H3⟩
    isplitl [H1]; · iexact H1
    isplitl [H0]; · iexact H0
    isplitr; · iempintro
    isplitl [H2] <;> iassumption
  | 2, _ =>
    simp
    iintro ⟨H0, H1, H2, H3⟩
    isplitl [H2]; · iexact H2
    isplitl [H0]; · iexact H0
    isplitl [H1]; · iexact H1
    isplitr; · iempintro
    iexact H3
  | 3, _ =>
    simp
    iintro ⟨H0, H1, H2, H3⟩
    isplitl [H3]; · iexact H3
    isplitl [H0]; · iexact H0
    isplitl [H1]; · iexact H1
    isplitl [H2]; · iexact H2
    iempintro

/-- The block of the step before, once it has arrived, goes back among the four. -/
theorem blks_put {k : ℕ} (hk : k < 4) :
    iprop(blksMid d cc jj A v n k ∗ (if 0 < k then done d cc jj A v n (k - 1) else iprop(emp))) ⊢ blks (F := F) d cc jj A v n (k + 1) := by
  unfold blks blksMid blk blkMid
  match k, hk with
  | 0, _ =>
    simp
    iintro ⟨⟨H0, H1, H2, H3⟩, -⟩
    isplitr; · iempintro
    isplitl [H1]; · iexact H1
    isplitl [H2] <;> iassumption
  | 1, _ =>
    simp
    iintro ⟨⟨H0, H1, H2, H3⟩, H⟩
    isplitl [H]; · iexact H
    isplitr; · iempintro
    isplitl [H2] <;> iassumption
  | 2, _ =>
    simp
    iintro ⟨⟨H0, H1, H2, H3⟩, H⟩
    isplitl [H0]; · iexact H0
    isplitl [H]; · iexact H
    isplitr; · iempintro
    iexact H3
  | 3, _ =>
    simp
    iintro ⟨⟨H0, H1, H2, H3⟩, H⟩
    isplitl [H0]; · iexact H0
    isplitl [H1]; · iexact H1
    isplitl [H]; · iexact H
    iempintro

/-- A side between two trips. -/
def St (k : ℕ) : sProp 𝕄 :=
  iprop(aNext d cc jj A v n k ∗ aFree d cc jj A v (par (k + 1)) ∗ Tbl d cc jj A.tbl v.X v.qt ∗ semVal (V d cc jj, .dma A.g) 0
    ∗ oFree (F := F) d cc jj A (par k) ∗ oPrev d cc jj A v n k ∗ blks d cc jj A v n k)

/-! ## The moves of a trip -/

variable {α : Type}

/-- The rows of step `k` start on their way out. -/
theorem wp_issueO {k' : ℕ} {src : Memref sig .scVector .vmem S128x128 .f32} {dst : Memref sig .scVector .hbm S128x128 .f32}
    {sem : DmaSem sig} {hsrc : src.view.WordExact} {hdst : dst.view.WordExact}
    {hsem : DmaTarget.Typed (nD := nD) .vmem (.dma sem) (.here (p := (V d cc jj).2) dst)}
    {k : PUnit → Prog (TpuEff nD τ sig (Elt F) Λ₀ (V d cc jj).2) α} {Q : α → sProp 𝕄}
    (hS : src = outSlot A.rw (par k')) (hD : dst = outBlk A.out (stepNo n k')) (hM : sem = semAt A.so (par k')) :
    iprop(owns (V d cc jj) (outSlot A.rw (par k')) fullShare (aRows A v n k') ∗ semVal (V d cc jj, .dma (semAt A.so (par k'))) 0 ∗ todo (F := F) d cc jj A n k')
      ⊢ iprop((oBusy d cc jj A v n k' -∗ wp frame (wpE (defs₀ (F := F)) 𝒱₀ (V d cc jj) none) Set.univ (k ⟨⟩) Q)
          -∗ wp frame (wpE (defs₀ (F := F)) 𝒱₀ (V d cc jj) none) Set.univ (.op (.enqueueDma src (.here dst) (.dma sem) hsrc hdst hsem) k) Q) := by
  unfold todo
  iintro ⟨H, Hs, ⟨%Y, Hd⟩⟩ Hk
  iapply (wp_copy (V d cc jj) hS hD hM (q := fullShare) (X := aRows A v n k') (Y := Y) rfl (View.dmaCredit_pos _ (by decide))) $$ [H Hs Hd]
  · isplitl [H]; · iexact H
    isplitl [Hd]; · iexact Hd
    iexact Hs
  iintro Hf
  iapply Hk
  unfold oBusy
  iexact Hf

/-- The wait for it: the slot of rows at rest, the rows of the result in place. -/
theorem wp_waitO {k' : ℕ} {sp : Space} {s' : Shape} {e' : EltTy} {srcw : Memref sig .scVector sp s' e'} {dstw : Memref sig .scVector .hbm S128x128 .f32}
    {sem : DmaSem sig} {hsrc : srcw.view.WordExact} {hdst : dstw.view.WordExact}
    {k : PUnit → Prog (TpuEff nD τ sig (Elt F) Λ₀ (V d cc jj).2) α} {Q : α → sProp 𝕄}
    (hD : dstw = outBlk A.out (stepNo n k')) (hM : sem = semAt A.so (par k')) {O : CellTallies nD τ sig (HIx 2)} {W : Waits sig (HIx 2)} (hO : ∀ g, O g none = 0) :
    iprop(levAts (K (F := F)).L (K (F := F)).lev ∗ oBusy d cc jj A v n k' ∗ Owing (V d cc jj) O W)
      ⊢ iprop((iprop(done d cc jj A v n k' ∗ oFree (F := F) d cc jj A (par k') ∗ Owing (V d cc jj) O W)
            -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hD
  unfold oBusy
  iintro ⟨#Hlv, Hf, HO⟩ Hk
  iapply (wp_collect (V d cc jj) hM rfl hO) $$ [Hf HO]
  · isplitr; · iexact Hlv
    isplitl [Hf]; · iexact Hf
    iexact HO
  iintro ⟨⟨H, Hb⟩, Hs, HO⟩
  iapply Hk
  unfold done oFree
  isplitl [H]; · iexact H
  isplitl [Hb Hs]
  · isplitl [Hb]; · iexists _; iexact Hb
    iexact Hs
  · iexact HO

end Tile

end Cert.Proof.Neumf
-- ==== Proof.MlpTrip.lean ====
/-
  A trip of the first SparseCore kernel's loop, at a symbolic tile and a symbolic trip.
-/
module

public import proofs.«01_k».proof.Proof.Sides

@[expose] public section

noncomputable section

namespace Cert.Proof.Neumf

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-- The SparseCore of a grid point. -/
abbrev iC (i : grid0.Coords) : Fin τ.nSC := (i 0).castLE hcore0

/-- The tile of a grid point. -/
abbrev iJ (i : grid0.Coords) : Fin τ.nSub := (i 1).castLE hsub0

variable (d : Dev nD) (i : grid0.Coords) (A B : Side) (u : SideVal F A) (w : SideVal F B)

/-- The thread that runs a grid point's body. -/
abbrev Tid : Thread nD τ := V d (iC i) (iJ i)

/-- Before the last step the next window is on its way. -/
theorem aNext_lt {cc : Fin τ.nSC} {jj : Fin τ.nSub} {n : Fin 32} {k : ℕ} (h : k < 4) : (aNext d cc jj A u n k : sProp 𝕄) = aBusy d cc jj A u n k := if_pos h

/-- Past the last step the slot is at rest. -/
theorem aNext_ge {cc : Fin τ.nSC} {jj : Fin τ.nSub} {n : Fin 32} {k : ℕ} (h : ¬ k < 4) : (aNext d cc jj A u n k : sProp 𝕄) = aFree d cc jj A u (par k) := if_neg h

set_option maxRecDepth 65536 in
set_option maxHeartbeats 4000000 in
/-- The first part of a trip: the copy of the next step's first indices starts, if there is a next step. -/
theorem part1_spec (k : Fin k0_t1_loop.trips) {Φ : _ → sProp 𝕄} :
    (aFree d (iC i) (iJ i) A u (par (k.val + 1)) : sProp 𝕄)
      ⊢ iprop((∀ h5 h4 h3 h2 h1, aNext d (iC i) (iJ i) A u (tileNo i) (k.val + 1)
            -∗ Φ ⟨h5, h4, h3, h2, h1, tIv k, tFirst k, tLast k, tCur (baseWord i) k, tPrev (baseWord i) k, tNext (baseWord i) k,
              wIss (k.val + 1), tMore (baseWord i) k, tIn k⟩)
          -∗ wp frame (wpE (defs₀ (F := F)) 𝒱₀ (Tid d i) none) Set.univ
            (k0_part1 i A.arg A.harg B.arg B.harg A.tbl A.htbl B.tbl B.htbl A.out A.hout B.out B.hout A.gs B.gs A.al A.hal A.s B.al B.hal B.s
              A.rw A.hrw A.so B.rw B.hrw B.so (baseWord i) 0#32 1#32 k
              (wIss k.val) (wCnt k.val) (wIss k.val) (wCnt k.val) (wCnt k.val) (wPrev k.val) (wCnt k.val) (wPrev k.val) (wStep k.val)) Φ) := by
  rw [k0_part1_eq_skeleton]; unfold k0_part1_skel
  iintro H Hk
  simp only [Sem.Prog.bind_lift, Sem.Prog.bind_op, Sem.Prog.bind_ret]
  rw [wp_assume_of _ _ _ _ (chk5_ok k), wp_assume_of _ _ _ _ (chk4_ok k), wp_assume_of _ _ _ _ (chk3_ok k), wp_assume_of _ _ _ _ (chk2_ok k),
    wp_assume_of _ _ _ _ (chk1_ok i k)]
  by_cases hk : k.val < 3
  · rw [dif_pos ((cond1_eq i k).mpr hk)]
    unfold aFree
    iapply (wp_issueIn d (iC i) (iJ i) A.arg A.al A.s u.f (u.q (par (k.val + 1))) (b := stepNo (tileNo i) (k.val + 1))
      (inBlk_eq (off5_eq i k hk)) (inSlot_eq (off4_eq k hk)) (semAt_eq (off6_eq k hk))) $$ [H]
    · iexact H
    iintro H
    simp only [wp_pure]
    rw [word_iss i k]
    imodintro
    iapply Hk
    rw [aNext_lt d A u (by omega)]
    unfold aBusy
    iexact H
  · rw [dif_neg (fun h => hk ((cond1_eq i k).mp h))]
    simp only [wp_pure]
    rw [word_iss i k]
    imodintro
    iapply Hk
    rw [aNext_ge d A u (by omega)]
    iexact H

/-- The rows of step `k` on their way in. -/
def gBusy (cc : Fin τ.nSC) (jj : Fin τ.nSub) (n : Fin 32) (k : ℕ) : sProp 𝕄 :=
  GBusy d cc jj A.arg A.al A.s u.f (u.q (par k)) A.tbl u.X u.qt (outSlot A.rw (par k)) A.g (par k) (stepNo n k)

set_option maxRecDepth 65536 in
set_option maxHeartbeats 4000000 in
/-- The second part: the same of the second indices, then the waits for this step's. -/
theorem part2_spec (k : Fin k0_t1_loop.trips) {O : CellTallies nD τ sig (HIx 2)} {W : Waits sig (HIx 2)} (hO : ∀ g, O g none = 0)
    (h1 : k0_chk1 i k (wIss k.val) (wCnt k.val) (wIss k.val) (wCnt k.val) (wCnt k.val) (wPrev k.val) (wCnt k.val) (wPrev k.val) (wStep k.val)) {Φ : _ → sProp 𝕄} :
    iprop(levAts (K (F := F)).L (K (F := F)).lev ∗ aFree d (iC i) (iJ i) B w (par (k.val + 1))
        ∗ aBusy d (iC i) (iJ i) A u (tileNo i) k.val ∗ aBusy d (iC i) (iJ i) B w (tileNo i) k.val ∗ Owing (Tid d i) O W)
      ⊢ iprop((iprop(aNext d (iC i) (iJ i) B w (tileNo i) (k.val + 1)
              ∗ aReady d (iC i) (iJ i) A u (tileNo i) k.val ∗ aReady d (iC i) (iJ i) B w (tileNo i) k.val ∗ Owing (Tid d i) O W)
            -∗ Φ (wIss (k.val + 1)))
          -∗ wp frame (wpE (defs₀ (F := F)) 𝒱₀ (Tid d i) none) Set.univ
            (k0_part2 i A.arg A.harg B.arg B.harg A.tbl A.htbl B.tbl B.htbl A.out A.hout B.out B.hout A.gs B.gs A.al A.hal A.s B.al B.hal B.s
              A.rw A.hrw A.so B.rw B.hrw B.so k
              (wIss k.val) (wCnt k.val) (wIss k.val) (wCnt k.val) (wCnt k.val) (wPrev k.val) (wCnt k.val) (wPrev k.val) (wStep k.val)
              h1 (tIv k) (tFirst k) (tCur (baseWord i) k) (tPrev (baseWord i) k) (tNext (baseWord i) k) (tMore (baseWord i) k) (tIn k)) Φ) := by
  rw [k0_part2_eq_skeleton]; unfold k0_part2_skel
  iintro ⟨#Hlv, HB, HA, HB', HO⟩ Hk
  simp only [Sem.Prog.bind_lift, Sem.Prog.bind_op, Sem.Prog.bind_ret, ite_self, dif_pos (cond3_ok i k), dif_pos (cond4_ok i k)]
  unfold aBusy aReady
  by_cases hk : k.val < 3
  · rw [dif_pos ((cond2_eq i k).mpr hk)]
    unfold aFree
    iapply (wp_issueIn d (iC i) (iJ i) B.arg B.al B.s w.f (w.q (par (k.val + 1))) (b := stepNo (tileNo i) (k.val + 1))
      (inBlk_eq (off8_eq i k hk)) (inSlot_eq (off7_eq k hk)) (semAt_eq (off9_eq k hk))) $$ [HB]
    · iexact HB
    iintro HB
    iapply (wp_waitIn d (iC i) (iJ i) A.arg A.al A.s u.f (u.q (par k.val)) (inSlot_eq (off10_eq k)) (semAt_eq (off12_eq k)) hO) $$ [HA HO]
    · isplitr; · iexact Hlv
      isplitl [HA] <;> iassumption
    iintro ⟨HA, HO⟩
    iapply (wp_waitIn d (iC i) (iJ i) B.arg B.al B.s w.f (w.q (par k.val)) (inSlot_eq (off13_eq k)) (semAt_eq (off15_eq k)) hO) $$ [HB' HO]
    · isplitr; · iexact Hlv
      isplitl [HB'] <;> iassumption
    iintro ⟨HB', HO⟩
    simp only [wp_pure]
    rw [word_iss i k]
    imodintro
    iapply Hk
    rw [aNext_lt d B w (by omega)]
    unfold aBusy
    isplitl [HB]; · iexact HB
    isplitl [HA]; · iexact HA
    isplitl [HB'] <;> iassumption
  · rw [dif_neg (fun h => hk ((cond2_eq i k).mp h))]
    iapply (wp_waitIn d (iC i) (iJ i) A.arg A.al A.s u.f (u.q (par k.val)) (inSlot_eq (off10_eq k)) (semAt_eq (off12_eq k)) hO) $$ [HA HO]
    · isplitr; · iexact Hlv
      isplitl [HA] <;> iassumption
    iintro ⟨HA, HO⟩
    iapply (wp_waitIn d (iC i) (iJ i) B.arg B.al B.s w.f (w.q (par k.val)) (inSlot_eq (off13_eq k)) (semAt_eq (off15_eq k)) hO) $$ [HB' HO]
    · isplitr; · iexact Hlv
      isplitl [HB'] <;> iassumption
    iintro ⟨HB', HO⟩
    simp only [wp_pure]
    rw [word_iss i k]
    imodintro
    iapply Hk
    rw [aNext_ge d B w (by omega)]
    isplitl [HB]; · iexact HB
    isplitl [HA]; · iexact HA
    isplitl [HB'] <;> iassumption

set_option maxRecDepth 65536 in
set_option maxHeartbeats 4000000 in
/-- The third part: both gathers start, and the first is waited for. -/
theorem part3_spec (k : Fin k0_t1_loop.trips) {O : CellTallies nD τ sig (HIx 2)} {W : Waits sig (HIx 2)} (hO : ∀ g, O g none = 0)
    (hIA : InRange (F := F) A.arg u.f) (hIB : InRange (F := F) B.arg w.f)
    (h5 : k0_chk5 (wCnt k.val)) (h4 : k0_chk4 (wCnt k.val)) (h3 : k0_chk3 (wCnt k.val)) (h2 : k0_chk2 (wCnt k.val)) {Φ : _ → sProp 𝕄} :
    iprop(levAts (K (F := F)).L (K (F := F)).lev ∗ aReady d (iC i) (iJ i) A u (tileNo i) k.val ∗ aReady d (iC i) (iJ i) B w (tileNo i) k.val
        ∗ Tbl (Tid d i).1 (iC i) (iJ i) A.tbl u.X u.qt ∗ Tbl d (iC i) (iJ i) B.tbl w.X w.qt
        ∗ oFree (F := F) d (iC i) (iJ i) A (par k.val) ∗ oFree (F := F) d (iC i) (iJ i) B (par k.val)
        ∗ semVal (Tid d i, .dma A.g) 0 ∗ semVal (Tid d i, .dma B.g) 0 ∗ Owing (Tid d i) O W)
      ⊢ iprop((iprop((aReady d (iC i) (iJ i) A u (tileNo i) k.val ∗ Tbl d (iC i) (iJ i) A.tbl u.X u.qt
                ∗ owns (Tid d i) (outSlot A.rw (par k.val)) fullShare (aRows A u (tileNo i) k.val) ∗ semVal (Tid d i, .dma A.g) 0
                ∗ semVal (Tid d i, .dma (semAt A.so (par k.val))) 0)
              ∗ (gBusy d B w (iC i) (iJ i) (tileNo i) k.val ∗ semVal (Tid d i, .dma (semAt B.so (par k.val))) 0) ∗ Owing (Tid d i) O W)
            -∗ Φ ⟨⟩)
          -∗ wp frame (wpE (defs₀ (F := F)) 𝒱₀ (Tid d i) none) Set.univ
            (k0_part3 i A.arg A.harg B.arg B.harg A.tbl A.htbl B.tbl B.htbl A.out A.hout B.out B.hout A.gs B.gs A.al A.hal A.s B.al B.hal B.s
              A.rw A.hrw A.so B.rw B.hrw B.so
              (wCnt k.val) (wCnt k.val) (wCnt k.val) (wCnt k.val) h5 h4 h3 h2) Φ) := by
  rw [k0_part3_eq_skeleton]; unfold k0_part3_skel
  iintro ⟨#Hlv, HA, HB, HtA, HtB, HoA, HoB, HgA, HgB, HO⟩ Hk
  simp only [Sem.Prog.bind_lift, Sem.Prog.bind_op, Sem.Prog.bind_ret, ite_self, SparseCore.waitIndirectGather]
  unfold aReady oFree
  icases HoA with ⟨HoA, HsA⟩
  icases HoB with ⟨HoB, HsB⟩
  iapply (wp_issueG d (iC i) (iJ i) A.arg A.al A.s u.f (u.q (par k.val)) A.tbl u.X u.qt (outSlot A.rw (par k.val)) A.g rfl
    (outSlot_eq (off16_eq k)) (inList_eq (off17_eq k)) rfl hIA (slot_credit A.rw (par k.val))) $$ [HA HtA HoA HgA]
  · isplitl [HA]; · iexact HA
    isplitl [HtA]; · iexact HtA
    isplitl [HoA] <;> iassumption
  iintro HA
  iapply (wp_issueG d (iC i) (iJ i) B.arg B.al B.s w.f (w.q (par k.val)) B.tbl w.X w.qt (outSlot B.rw (par k.val)) B.g rfl
    (outSlot_eq (off18_eq k)) (inList_eq (off19_eq k)) rfl hIB (slot_credit B.rw (par k.val))) $$ [HB HtB HoB HgB]
  · isplitl [HB]; · iexact HB
    isplitl [HtB]; · iexact HtB
    isplitl [HoB] <;> iassumption
  iintro HB
  iapply (wp_waitG d (iC i) (iJ i) A.arg A.al A.s u.f (u.q (par k.val)) A.tbl u.X u.qt (outSlot A.rw (par k.val)) A.g
    (outSlot_eq (off20_eq k)) rfl hO) $$ [HA HO]
  · isplitr; · iexact Hlv
    isplitl [HA] <;> iassumption
  iintro ⟨HA, HtA, HoA, HgA, HO⟩
  simp only [wp_pure]
  imodintro
  iapply Hk
  unfold gBusy aRows
  isplitl [HA HtA HoA HgA HsA]
  · isplitl [HA]; · iexact HA
    isplitl [HtA]; · iexact HtA
    isplitl [HoA]; · iexact HoA
    isplitl [HgA] <;> iassumption
  isplitl [HB HsB]
  · isplitl [HB] <;> iassumption
  · iexact HO

set_option maxRecDepth 65536 in
set_option maxHeartbeats 4000000 in
/-- The fourth part: the second gather is waited for, and both steps of rows start on their way out. -/
theorem part4_spec (k : Fin k0_t1_loop.trips) {O : CellTallies nD τ sig (HIx 2)} {W : Waits sig (HIx 2)} (hO : ∀ g, O g none = 0)
    (h5 : k0_chk5 (wCnt k.val)) (h4 : k0_chk4 (wCnt k.val))
    (h1 : k0_chk1 i k (wIss k.val) (wCnt k.val) (wIss k.val) (wCnt k.val) (wCnt k.val) (wPrev k.val) (wCnt k.val) (wPrev k.val) (wStep k.val)) {Φ : _ → sProp 𝕄} :
    iprop(levAts (K (F := F)).L (K (F := F)).lev ∗ gBusy d B w (iC i) (iJ i) (tileNo i) k.val ∗ semVal (Tid d i, .dma (semAt B.so (par k.val))) 0
        ∗ owns (Tid d i) (outSlot A.rw (par k.val)) fullShare (aRows A u (tileNo i) k.val) ∗ semVal (Tid d i, .dma (semAt A.so (par k.val))) 0
        ∗ todo (F := F) d (iC i) (iJ i) A (tileNo i) k.val ∗ todo (F := F) d (iC i) (iJ i) B (tileNo i) k.val ∗ Owing (Tid d i) O W)
      ⊢ iprop((iprop(aReady d (iC i) (iJ i) B w (tileNo i) k.val ∗ Tbl d (iC i) (iJ i) B.tbl w.X w.qt ∗ semVal (Tid d i, .dma B.g) 0
              ∗ oBusy d (iC i) (iJ i) A u (tileNo i) k.val ∗ oBusy d (iC i) (iJ i) B w (tileNo i) k.val ∗ Owing (Tid d i) O W)
            -∗ Φ ⟨wCnt (k.val + 1), wCnt (k.val + 1)⟩)
          -∗ wp frame (wpE (defs₀ (F := F)) 𝒱₀ (Tid d i) none) Set.univ
            (k0_part4 i A.arg A.harg B.arg B.harg A.tbl A.htbl B.tbl B.htbl A.out A.hout B.out B.hout A.gs B.gs A.al A.hal A.s B.al B.hal B.s
              A.rw A.hrw A.so B.rw B.hrw B.so k
              (wIss k.val) (wCnt k.val) (wIss k.val) (wCnt k.val) (wCnt k.val) (wPrev k.val) (wCnt k.val) (wPrev k.val) (wStep k.val)
              h5 h4 h1 (tFirst k) (tLast k) (tCur (baseWord i) k) (tPrev (baseWord i) k) (tNext (baseWord i) k)) Φ) := by
  rw [k0_part4_eq_skeleton]; unfold k0_part4_skel
  iintro ⟨#Hlv, HB, HsB, HoA, HsA, HdA, HdB, HO⟩ Hk
  simp only [Sem.Prog.bind_lift, Sem.Prog.bind_op, Sem.Prog.bind_ret, ite_self, SparseCore.waitIndirectGather,
    dif_pos (cond9_ok i k), dif_pos (cond10_ok i k)]
  unfold gBusy
  iapply (wp_waitG d (iC i) (iJ i) B.arg B.al B.s w.f (w.q (par k.val)) B.tbl w.X w.qt (outSlot B.rw (par k.val)) B.g
    (outSlot_eq (off18_eq k)) rfl hO) $$ [HB HO]
  · isplitr; · iexact Hlv
    isplitl [HB] <;> iassumption
  iintro ⟨HB, HtB, HoB, HgB, HO⟩
  iapply (wp_issueO d (iC i) (iJ i) A u (tileNo i) (outSlot_eq (off22_eq k)) (outBlk_eq (off23_eq i k)) (semAt_eq (off24_eq k))) $$ [HoA HsA HdA]
  · isplitl [HoA]; · iexact HoA
    isplitl [HsA] <;> iassumption
  iintro HA
  iapply (wp_issueO d (iC i) (iJ i) B w (tileNo i) (outSlot_eq (off25_eq k)) (outBlk_eq (off26_eq i k)) (semAt_eq (off27_eq k))) $$ [HoB HsB HdB]
  · unfold aRows
    isplitl [HoB]; · iexact HoB
    isplitl [HsB] <;> iassumption
  iintro HB'
  simp only [wp_pure]
  rw [word_out i k]
  imodintro
  iapply Hk
  unfold aReady
  isplitl [HB]; · iexact HB
  isplitl [HtB]; · iexact HtB
  isplitl [HgB]; · iexact HgB
  isplitl [HA]; · iexact HA
  isplitl [HB'] <;> iassumption

end Cert.Proof.Neumf
-- ==== Proof.MlpBody.lean ====
/-
  The first SparseCore kernel on one tile: the trips joined, the loop, and what its prologue and epilogue do.
-/
module

public import proofs.«01_k».proof.Proof.MlpTrip

@[expose] public section

noncomputable section

namespace Cert.Proof.Neumf

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable (d : Dev nD) (i : grid0.Coords) (A B : Side) (u : SideVal F A) (w : SideVal F B)

/-- A slot whose window has been used is at rest for the step after next. -/
theorem aReady_free {cc : Fin τ.nSC} {jj : Fin τ.nSub} {n : Fin 32} {k : ℕ} :
    (aReady d cc jj A u n k : sProp 𝕄) ⊢ aFree d cc jj A u (par (k + 1 + 1)) := by
  rw [par_two]; unfold aReady aFree
  exact inReady_free d cc jj A.arg A.al A.s u.f (u.q (par k)) (par k) (stepNo n k)

/-- What holds of a pair of sides between two trips, and of what the loop carries. -/
def Inv (O : CellTallies nD τ sig (HIx 2)) (W : Waits sig (HIx 2)) (k : ℕ)
    (acc : BitVec 32 × BitVec 32 × BitVec 32 × BitVec 32 × BitVec 32 × BitVec 32 × BitVec 32 × BitVec 32 × BitVec 32) : sProp 𝕄 :=
  iprop(⌜acc = words k⌝ ∗ levAts (K (F := F)).L (K (F := F)).lev ∗ St d (iC i) (iJ i) A u (tileNo i) k ∗ St d (iC i) (iJ i) B w (tileNo i) k ∗ Owing (Tid d i) O W)

/-- A side after a trip from its pieces. -/
theorem St_next {cc : Fin τ.nSC} {jj : Fin τ.nSub} {n : Fin 32} {k : ℕ} (hk : k < 4) :
    iprop(aNext d cc jj A u n (k + 1) ∗ aReady d cc jj A u n k ∗ Tbl d cc jj A.tbl u.X u.qt ∗ semVal (V d cc jj, .dma A.g) 0
        ∗ oFree (F := F) d cc jj A (par (k + 1)) ∗ oBusy d cc jj A u n k ∗ blksMid d cc jj A u n k
        ∗ (if 0 < k then done d cc jj A u n (k - 1) else iprop(emp)))
      ⊢ St (F := F) d cc jj A u n (k + 1) := by
  have hf := aReady_free (F := F) d A u (cc := cc) (jj := jj) (n := n) (k := k)
  have hb := blks_put (F := F) d cc jj A u n hk
  have ho : (oPrev d cc jj A u n (k + 1) : sProp 𝕄) = oBusy d cc jj A u n k := if_pos (Nat.succ_pos k)
  unfold St
  rw [ho]
  iintro ⟨H1, H2, H3, H4, H5, H6, H7, H8⟩
  isplitl [H1]; · iexact H1
  isplitl [H2]; · iapply hf; iexact H2
  isplitl [H3]; · iexact H3
  isplitl [H4]; · iexact H4
  isplitl [H5]; · iexact H5
  isplitl [H6]; · iexact H6
  iapply hb
  isplitl [H7] <;> iassumption

/-- What one side's loop holds before trip `k`, written out. -/
theorem St_def {cc : Fin τ.nSC} {jj : Fin τ.nSub} {n : Fin 32} (k : ℕ) : (St d cc jj A u n k : sProp 𝕄)
    = iprop(aNext d cc jj A u n k ∗ aFree d cc jj A u (par (k + 1)) ∗ Tbl d cc jj A.tbl u.X u.qt ∗ semVal (V d cc jj, .dma A.g) 0
    ∗ oFree (F := F) d cc jj A (par k) ∗ oPrev d cc jj A u n k ∗ blks d cc jj A u n k) := rfl

set_option maxRecDepth 65536 in
set_option maxHeartbeats 4000000 in
/-- A trip. -/
theorem trip (k : Fin k0_t1_loop.trips) {O : CellTallies nD τ sig (HIx 2)} {W : Waits sig (HIx 2)} (hO : ∀ g, O g none = 0)
    (hIA : InRange (F := F) A.arg u.f) (hIB : InRange (F := F) B.arg w.f) (v9 : BitVec 32) (acc : _) :
    Inv (F := F) d i A B u w O W k.val acc
      ⊢ wp frame (wpE (defs₀ (F := F)) 𝒱₀ (Tid d i) none) Set.univ
          (k0_t1_body i A.arg A.harg B.arg B.harg A.tbl A.htbl B.tbl B.htbl A.out A.hout B.out B.hout A.gs B.gs A.al A.hal A.s B.al B.hal B.s
              A.rw A.hrw A.so B.rw B.hrw B.so (baseWord i) v9 k acc)
          (Inv (F := F) d i A B u w O W (k.val + 1)) := by
  have hk : k.val < 4 := trips0 ▸ k.isLt
  have htA := blks_take (F := F) d (iC i) (iJ i) A u (tileNo i) hk
  have htB := blks_take (F := F) d (iC i) (iJ i) B w (tileNo i) hk
  unfold Inv
  rw [St_def d A u k.val, St_def d B w k.val]
  rw [aNext_lt d A u hk, aNext_lt d B w hk]
  unfold k0_t1_body
  iintro ⟨%hacc, #Hlv, ⟨HA, HfA, HtA, HgA, HoA, HpA, HbA⟩, ⟨HB, HfB, HtB, HgB, HoB, HpB, HbB⟩, HO⟩
  subst hacc
  rw [show words k.val = (wIss k.val, wCnt k.val, wIss k.val, wCnt k.val, wCnt k.val, wPrev k.val, wCnt k.val, wPrev k.val, wStep k.val) from rfl]
  rw [wp_bind]
  iapply (part1_spec d i A B u k) $$ [HfA]
  · iexact HfA
  iintro %h5 %h4 %h3 %h2 %h1 HnA
  dsimp only
  rw [wp_bind]
  iapply (part2_spec d i A B u w k hO h1) $$ [HfB HA HB HO]
  · isplitr; · iexact Hlv
    isplitl [HfB]; · iexact HfB
    isplitl [HA]; · iexact HA
    isplitl [HB] <;> iassumption
  iintro ⟨HnB, HA, HB, HO⟩
  rw [wp_bind]
  iapply (part3_spec d i A B u w k hO hIA hIB h5 h4 h3 h2) $$ [HA HB HtA HtB HoA HoB HgA HgB HO]
  · isplitr; · iexact Hlv
    isplitl [HA]; · iexact HA
    isplitl [HB]; · iexact HB
    isplitl [HtA]; · iexact HtA
    isplitl [HtB]; · iexact HtB
    isplitl [HoA]; · iexact HoA
    isplitl [HoB]; · iexact HoB
    isplitl [HgA]; · iexact HgA
    isplitl [HgB] <;> iassumption
  iintro ⟨⟨HA, HtA, HoA, HgA, HsA⟩, ⟨HB, HsB⟩, HO⟩
  ihave HbA := htA $$ HbA
  icases HbA with ⟨HdA, HbA⟩
  ihave HbB := htB $$ HbB
  icases HbB with ⟨HdB, HbB⟩
  rw [wp_bind]
  iapply (part4_spec d i A B u w k hO h5 h4 h1) $$ [HB HsB HoA HsA HdA HdB HO]
  · isplitr; · iexact Hlv
    isplitl [HB]; · iexact HB
    isplitl [HsB]; · iexact HsB
    isplitl [HoA]; · iexact HoA
    isplitl [HsA]; · iexact HsA
    isplitl [HdA]; · iexact HdA
    isplitl [HdB] <;> iassumption
  iintro ⟨HB, HtB, HgB, HqA, HqB, HO⟩
  simp only [Sem.Prog.bind_lift, Sem.Prog.bind_op, Sem.Prog.bind_ret, ite_self]
  rw [word_prev i k, word_in i k, word_step k]
  have hnA := St_next (F := F) d A u (cc := iC i) (jj := iJ i) (n := tileNo i) hk
  have hnB := St_next (F := F) d B w (cc := iC i) (jj := iJ i) (n := tileNo i) hk
  by_cases h0 : 0 < k.val
  · rw [dif_pos ((cond13_eq i k).mpr h0), dif_pos ((cond14_eq i k).mpr h0)]
    ihave HpA := (Entails.of_eq (show (oPrev d (iC i) (iJ i) A u (tileNo i) k.val : sProp 𝕄) = oBusy d (iC i) (iJ i) A u (tileNo i) (k.val - 1) from if_pos h0)) $$ HpA
    ihave HpB := (Entails.of_eq (show (oPrev d (iC i) (iJ i) B w (tileNo i) k.val : sProp 𝕄) = oBusy d (iC i) (iJ i) B w (tileNo i) (k.val - 1) from if_pos h0)) $$ HpB
    iapply (wp_waitO d (iC i) (iJ i) A u (tileNo i) (outBlk_eq (off29_eq i k h0)) (semAt_eq (off30_eq k)) hO) $$ [HpA HO]
    · isplitr; · iexact Hlv
      isplitl [HpA] <;> iassumption
    iintro ⟨HdA, HoA, HO⟩
    iapply (wp_waitO d (iC i) (iJ i) B w (tileNo i) (outBlk_eq (off32_eq i k h0)) (semAt_eq (off33_eq k)) hO) $$ [HpB HO]
    · isplitr; · iexact Hlv
      isplitl [HpB] <;> iassumption
    iintro ⟨HdB, HoB, HO⟩
    simp only [wp_pure]
    rw [if_pos h0, ← par_prev h0] at hnA hnB
    imodintro
    isplitr; · ipureintro; rfl
    isplitr; · iexact Hlv
    isplitl [HnA HA HtA HgA HoA HqA HbA HdA]
    · iapply hnA
      isplitl [HnA]; · iexact HnA
      isplitl [HA]; · iexact HA
      isplitl [HtA]; · iexact HtA
      isplitl [HgA]; · iexact HgA
      isplitl [HoA]; · iexact HoA
      isplitl [HqA]; · iexact HqA
      isplitl [HbA] <;> iassumption
    isplitl [HnB HB HtB HgB HoB HqB HbB HdB]
    · iapply hnB
      isplitl [HnB]; · iexact HnB
      isplitl [HB]; · iexact HB
      isplitl [HtB]; · iexact HtB
      isplitl [HgB]; · iexact HgB
      isplitl [HoB]; · iexact HoB
      isplitl [HqB]; · iexact HqB
      isplitl [HbB] <;> iassumption
    iexact HO
  · rw [dif_neg (fun h => h0 ((cond13_eq i k).mp h)), dif_neg (fun h => h0 ((cond14_eq i k).mp h))]
    ihave HpA := (Entails.of_eq (show (oPrev d (iC i) (iJ i) A u (tileNo i) k.val : sProp 𝕄) = oFree (F := F) d (iC i) (iJ i) A (par (k.val + 1)) from if_neg h0)) $$ HpA
    ihave HpB := (Entails.of_eq (show (oPrev d (iC i) (iJ i) B w (tileNo i) k.val : sProp 𝕄) = oFree (F := F) d (iC i) (iJ i) B (par (k.val + 1)) from if_neg h0)) $$ HpB
    simp only [wp_pure]
    rw [if_neg h0] at hnA hnB
    imodintro
    isplitr; · ipureintro; rfl
    isplitr; · iexact Hlv
    isplitl [HnA HA HtA HgA HpA HqA HbA]
    · iapply hnA
      isplitl [HnA]; · iexact HnA
      isplitl [HA]; · iexact HA
      isplitl [HtA]; · iexact HtA
      isplitl [HgA]; · iexact HgA
      isplitl [HpA]; · iexact HpA
      isplitl [HqA]; · iexact HqA
      isplitl [HbA]; · iexact HbA
      iempintro
    isplitl [HnB HB HtB HgB HpB HqB HbB]
    · iapply hnB
      isplitl [HnB]; · iexact HnB
      isplitl [HB]; · iexact HB
      isplitl [HtB]; · iexact HtB
      isplitl [HgB]; · iexact HgB
      isplitl [HpB]; · iexact HpB
      isplitl [HqB]; · iexact HqB
      isplitl [HbB]; · iexact HbB
      iempintro
    iexact HO

/-! ## The whole body -/

/-- The places that check 6 of the body asks about lie inside their arrays. -/
theorem chk6_ok : k0_chk6 (wPrev 4) := by decide +kernel

/-- The places that check 7 of the body asks about lie inside their arrays. -/
theorem chk7_ok : ∀ i : grid0.Coords, k0_chk7 i (wStep 4) := by decide +kernel

/-- The places that check 8 of the body asks about lie inside their arrays. -/
theorem chk8_ok : k0_chk8 (wPrev 4) := by decide +kernel

/-- Offset 2 of the body: the index window of the first step. -/
theorem off2_eq : ∀ i : grid0.Coords, k0_off2 i = ![0, 128 * (stepNo (tileNo i) 0).val] := by decide +kernel

/-- Offset 35 of the body: the output block of the last step. -/
theorem off35_eq : ∀ i : grid0.Coords, k0_off35 i (wStep 4) = ![128 * (stepNo (tileNo i) 3).val, 0] := by decide +kernel

/-- Offset 39 of the body: the output block of the last step. -/
theorem off39_eq : ∀ i : grid0.Coords, k0_off39 i (wStep 4) = ![128 * (stepNo (tileNo i) 3).val, 0] := by decide +kernel

/-- Offset 36 of the body: the semaphore of the last step. -/
theorem off36_eq : k0_off36 (wPrev 4) = ![(par 3).val] := by decide +kernel

/-- Offset 40 of the body: the semaphore of the last step. -/
theorem off40_eq : k0_off40 (wPrev 4) = ![(par 3).val] := by decide +kernel

/-- Offset 1 of the body: the slot of the first step in its double buffer. -/
theorem off1_eq : k0_off1 = ![(par 0).val, 0, 0] := by decide +kernel

/-- Offset 3 of the body: the semaphore of the first step. -/
theorem off3_eq : k0_off3 = ![(par 0).val] := by decide +kernel

/-- A tile's first step, as the program computes it, is the word `baseWord`. -/
theorem base_eq : ∀ i : grid0.Coords, Scalar.muli (Scalar.addi (Scalar.addi 0#32 (Scalar.muli (BitVec.ofNat 32 (i 1).val) 1#32)) (Scalar.muli (BitVec.ofNat 32 (i 0).val) 16#32)) 4#32 = baseWord i := by
  decide +kernel

/-- A side at the start: everything at rest. -/
def Start (cc : Fin τ.nSC) (jj : Fin τ.nSub) (n : Fin 32) : sProp 𝕄 :=
  iprop(aFree d cc jj A u (par 0) ∗ aFree d cc jj A u (par 1) ∗ Tbl d cc jj A.tbl u.X u.qt ∗ semVal (V d cc jj, .dma A.g) 0
    ∗ oFree (F := F) d cc jj A (par 0) ∗ oFree (F := F) d cc jj A (par 1)
    ∗ todo (F := F) d cc jj A n 0 ∗ todo (F := F) d cc jj A n 1 ∗ todo (F := F) d cc jj A n 2 ∗ todo (F := F) d cc jj A n 3)

/-- A side at the end: its rows in place, everything else at rest. -/
def Finish (cc : Fin τ.nSC) (jj : Fin τ.nSub) (n : Fin 32) : sProp 𝕄 :=
  iprop(aFree d cc jj A u (par 0) ∗ aFree d cc jj A u (par 1) ∗ Tbl d cc jj A.tbl u.X u.qt ∗ semVal (V d cc jj, .dma A.g) 0
    ∗ oFree (F := F) d cc jj A (par 0) ∗ oFree (F := F) d cc jj A (par 1)
    ∗ done d cc jj A u n 0 ∗ done d cc jj A u n 1 ∗ done d cc jj A u n 2 ∗ done d cc jj A u n 3)

/-- What the pipeline's opening leaves of one side is what its loop needs before trip 0. -/
theorem St_zero {cc : Fin τ.nSC} {jj : Fin τ.nSub} {n : Fin 32} :
    iprop(aBusy d cc jj A u n 0 ∗ aFree d cc jj A u (par 1) ∗ Tbl d cc jj A.tbl u.X u.qt ∗ semVal (V d cc jj, .dma A.g) 0
      ∗ oFree (F := F) d cc jj A (par 0) ∗ oFree (F := F) d cc jj A (par 1)
      ∗ todo (F := F) d cc jj A n 0 ∗ todo (F := F) d cc jj A n 1 ∗ todo (F := F) d cc jj A n 2 ∗ todo (F := F) d cc jj A n 3)
      ⊢ St (F := F) d cc jj A u n 0 := by
  unfold St blks blk
  rw [aNext_lt d A u (by omega)]
  rw [show (oPrev d cc jj A u n 0 : sProp 𝕄) = oFree (F := F) d cc jj A (par 1) from if_neg (by omega)]
  exact Entails.of_eq rfl

/-- What the loop leaves of one side after its last trip: both index slots at rest, and the last
block on its way. -/
theorem St_four {cc : Fin τ.nSC} {jj : Fin τ.nSub} {n : Fin 32} :
    (St d cc jj A u n 4 : sProp 𝕄) ⊢ iprop(aFree d cc jj A u (par 0) ∗ aFree d cc jj A u (par 1) ∗ Tbl d cc jj A.tbl u.X u.qt ∗ semVal (V d cc jj, .dma A.g) 0
      ∗ oFree (F := F) d cc jj A (par 0) ∗ oBusy d cc jj A u n 3 ∗ done d cc jj A u n 0 ∗ done d cc jj A u n 1 ∗ done d cc jj A u n 2) := by
  unfold St blks blk
  rw [aNext_ge d A u (by omega)]
  rw [show (oPrev d cc jj A u n 4 : sProp 𝕄) = oBusy d cc jj A u n 3 from if_pos (by omega)]
  rw [show par 4 = par 0 from rfl, show par (4 + 1) = par 1 from rfl]
  simp
  iintro ⟨H1, H2, H3, H4, H5, H6, H7, H8, H9, -⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

set_option maxRecDepth 65536 in
set_option maxHeartbeats 4000000 in
/-- The kernel on one tile, from both sides at rest to both sides' rows in place. -/
theorem mlp_body {O : CellTallies nD τ sig (HIx 2)} {W : Waits sig (HIx 2)} (hO : ∀ g, O g none = 0)
    (hIA : InRange (F := F) A.arg u.f) (hIB : InRange (F := F) B.arg w.f) :
    iprop(levAts (K (F := F)).L (K (F := F)).lev ∗ Start d A u (iC i) (iJ i) (tileNo i) ∗ Start d B w (iC i) (iJ i) (tileNo i) ∗ Owing (Tid d i) O W)
      ⊢ wp frame (wpE (defs₀ (F := F)) 𝒱₀ (Tid d i) none) Set.univ
          (cc0__sc_mlp i A.arg A.harg B.arg B.harg A.tbl A.htbl B.tbl B.htbl A.out A.hout B.out B.hout A.gs B.gs A.al A.hal A.s B.al B.hal B.s
              A.rw A.hrw A.so B.rw B.hrw B.so)
          fun _ => iprop(Finish (F := F) d A u (iC i) (iJ i) (tileNo i) ∗ Finish d B w (iC i) (iJ i) (tileNo i) ∗ Owing (Tid d i) O W) := by
  have h0A := St_zero (F := F) d A u (cc := iC i) (jj := iJ i) (n := tileNo i)
  have h0B := St_zero (F := F) d B w (cc := iC i) (jj := iJ i) (n := tileNo i)
  have h4A := St_four (F := F) d A u (cc := iC i) (jj := iJ i) (n := tileNo i)
  have h4B := St_four (F := F) d B w (cc := iC i) (jj := iJ i) (n := tileNo i)
  rw [cc0__sc_mlp_eq_skeleton]; unfold cc0__sc_mlp_skel
  unfold Start
  iintro ⟨#Hlv, ⟨HA, HA1, HtA, HgA, HoA, HpA, HbA⟩, ⟨HB, HB1, HtB, HgB, HoB, HpB, HbB⟩, HO⟩
  rw [wp_bind, k0_part5_eq_skeleton]; unfold k0_part5_skel
  simp only [Sem.Prog.bind_lift, Sem.Prog.bind_op, Sem.Prog.bind_ret]
  rw [base_eq i]
  unfold aFree
  iapply (wp_issueIn d (iC i) (iJ i) A.arg A.al A.s u.f (u.q (par 0)) (b := stepNo (tileNo i) 0)
      (inBlk_eq (off2_eq i)) (inSlot_eq off1_eq) (semAt_eq off3_eq)) $$ [HA]
  · iexact HA
  iintro HA
  simp only [wp_pure]
  imodintro
  rw [wp_bind, k0_part6_eq_skeleton]; unfold k0_part6_skel
  simp only [Sem.Prog.bind_lift, Sem.Prog.bind_op, Sem.Prog.bind_ret]
  iapply (wp_issueIn d (iC i) (iJ i) B.arg B.al B.s w.f (w.q (par 0)) (b := stepNo (tileNo i) 0)
      (inBlk_eq (off2_eq i)) (inSlot_eq off1_eq) (semAt_eq off3_eq)) $$ [HB]
  · iexact HB
  iintro HB
  sl_for (Inv (F := F) d i A B u w O W) $$ [HA HA1 HtA HgA HoA HpA HbA HB HB1 HtB HgB HoB HpB HbB HO]
  · intro k acc
    exact trip d i A B u w k hO hIA hIB _ acc
  · unfold Inv
    isplitr; · ipureintro; rfl
    isplitr; · iexact Hlv
    isplitl [HA HA1 HtA HgA HoA HpA HbA]
    · iapply h0A
      unfold aBusy aFree
      isplitl [HA]; · iexact HA
      isplitl [HA1]; · iexact HA1
      isplitl [HtA]; · iexact HtA
      isplitl [HgA]; · iexact HgA
      isplitl [HoA]; · iexact HoA
      isplitl [HpA] <;> iassumption
    isplitl [HB HB1 HtB HgB HoB HpB HbB]
    · iapply h0B
      unfold aBusy aFree
      isplitl [HB]; · iexact HB
      isplitl [HB1]; · iexact HB1
      isplitl [HtB]; · iexact HtB
      isplitl [HgB]; · iexact HgB
      isplitl [HoB]; · iexact HoB
      isplitl [HpB] <;> iassumption
    iexact HO
  iintro %acc HI
  rw [show Scf.trips k0_t1_loop.lb k0_t1_loop.ub k0_t1_loop.st = 4 from trips0]
  unfold Inv
  icases HI with ⟨%hacc, -, HA, HB, HO⟩
  subst hacc
  unfold mlp_body.sl.prog.cont_1 words
  dsimp only
  rw [wp_assume_of _ _ _ _ chk8_ok, wp_assume_of _ _ _ _ (chk7_ok i), wp_assume_of _ _ _ _ chk6_ok]
  simp only [wp_pure]
  imodintro
  ihave HA := h4A $$ HA
  ihave HB := h4B $$ HB
  icases HA with ⟨HA, HA1, HtA, HgA, HoA, HpA, HdA0, HdA1, HdA2⟩
  icases HB with ⟨HB, HB1, HtB, HgB, HoB, HpB, HdB0, HdB1, HdB2⟩
  iapply (wp_waitO d (iC i) (iJ i) A u (tileNo i) (outBlk_eq (off35_eq i)) (semAt_eq off36_eq) hO) $$ [HpA HO]
  · isplitr; · iexact Hlv
    isplitl [HpA] <;> iassumption
  iintro ⟨HdA3, HpA, HO⟩
  iapply (wp_waitO d (iC i) (iJ i) B w (tileNo i) (outBlk_eq (off39_eq i)) (semAt_eq off40_eq) hO) $$ [HpB HO]
  · isplitr; · iexact Hlv
    isplitl [HpB] <;> iassumption
  iintro ⟨HdB3, HpB, HO⟩
  simp only [wp_pure]
  imodintro
  unfold Finish
  isplitl [HA HA1 HtA HgA HoA HpA HdA0 HdA1 HdA2 HdA3]
  · isplitl [HA]; · iexact HA
    isplitl [HA1]; · iexact HA1
    isplitl [HtA]; · iexact HtA
    isplitl [HgA]; · iexact HgA
    isplitl [HoA]; · iexact HoA
    isplitl [HpA]; · iexact HpA
    isplitl [HdA0]; · iexact HdA0
    isplitl [HdA1]; · iexact HdA1
    isplitl [HdA2] <;> iassumption
  isplitl [HB HB1 HtB HgB HoB HpB HdB0 HdB1 HdB2 HdB3]
  · isplitl [HB]; · iexact HB
    isplitl [HB1]; · iexact HB1
    isplitl [HtB]; · iexact HtB
    isplitl [HgB]; · iexact HgB
    isplitl [HoB]; · iexact HoB
    isplitl [HpB]; · iexact HpB
    isplitl [HdB0]; · iexact HdB0
    isplitl [HdB1]; · iexact HdB1
    isplitl [HdB2] <;> iassumption
  iexact HO

end Cert.Proof.Neumf
-- ==== Proof.GmfFacts.lean ====
/-
  The numbers of the second SparseCore kernel: what its loop carries at each trip, and the offsets, conditions and side
  conditions of the trip at those.
-/
module

public import proofs.«01_k».proof.Proof.MlpFacts

@[expose] public section

noncomputable section

namespace Cert.Proof.Neumf.Gmf

open Cert.KernelIdeal Cert.KernelIdeal.Gen
open Idealize.ShloMosaic

/-- The number of a tile: subcores first, then cores. -/
def tileNo (i : grid1.Coords) : Fin 32 := ⟨(i 1).val + 16 * (i 0).val, by
  have h1 : (i 1).val < 16 := (i 1).isLt
  have h0 : (i 0).val < 2 := (i 0).isLt
  omega⟩

/-- What the loop carries before trip `k`: index copies issued and waited for, the same of the second index array, row
    copies issued and waited for, and the step within the tile. -/
def words (k : ℕ) : BitVec 32 × BitVec 32 × BitVec 32 × BitVec 32 × BitVec 32 × BitVec 32 × BitVec 32 :=
  (wIss k, wCnt k, wIss k, wCnt k, wCnt k, wPrev k, wStep k)

/-- The pipeline's loop makes four trips. -/
theorem trips1 : k1_t1_loop.trips = 4 := by decide +kernel

/-- The multiplying loop makes 128 trips, one for each row of the block. -/
theorem trips2 : k1_t2_loop.trips = 128 := by decide +kernel

/-- The places that check 1 of the body asks about lie inside their arrays. -/
theorem chk1_ok : ∀ (i : grid1.Coords) (k : Fin k1_t1_loop.trips),
    k1_chk1 i k (wIss k.val) (wCnt k.val) (wIss k.val) (wCnt k.val) (wCnt k.val) (wPrev k.val) (wStep k.val) := by decide +kernel

/-- The places that check 2 of the body asks about lie inside their arrays. -/
theorem chk2_ok : ∀ k : Fin k1_t1_loop.trips, k1_chk2 (wCnt k.val) := by decide +kernel

/-- The places that check 3 of the body asks about lie inside their arrays. -/
theorem chk3_ok : ∀ k : Fin k1_t1_loop.trips, k1_chk3 (wCnt k.val) := by decide +kernel

/-- The places that check 4 of the body asks about lie inside their arrays. -/
theorem chk4_ok : ∀ k : Fin k1_t1_loop.trips, k1_chk4 (wCnt k.val) := by decide +kernel

/-- The places that check 5 of the body asks about lie inside their arrays. -/
theorem chk5_ok : k1_chk5 (wPrev 4) := by decide +kernel

/-- The places that check 6 of the body asks about lie inside their arrays. -/
theorem chk6_ok : ∀ i : grid1.Coords, k1_chk6 i (wStep 4) := by decide +kernel

/-- Condition 1 of the body holds on every trip but the last. -/
theorem cond1_eq : ∀ (i : grid1.Coords) (k : Fin k1_t1_loop.trips), (k1_cond1 i k (wStep k.val) = 1#1) = (k.val < 3) := by
  intro i k; apply propext; revert i k; decide +kernel

/-- Condition 2 of the body holds on every trip but the last. -/
theorem cond2_eq : ∀ (i : grid1.Coords) (k : Fin k1_t1_loop.trips), (k1_cond2 i k (wStep k.val) = 1#1) = (k.val < 3) := by
  intro i k; apply propext; revert i k; decide +kernel

/-- Condition 3 of the body holds on every trip. -/
theorem cond3_ok : ∀ (i : grid1.Coords) (k : Fin k1_t1_loop.trips), k1_cond3 i k (wStep k.val) = 1#1 := by decide +kernel

/-- Condition 4 of the body holds on every trip. -/
theorem cond4_ok : ∀ (i : grid1.Coords) (k : Fin k1_t1_loop.trips), k1_cond4 i k (wStep k.val) = 1#1 := by decide +kernel

/-- Condition 8 of the body holds on every trip. -/
theorem cond8_ok : ∀ (i : grid1.Coords) (k : Fin k1_t1_loop.trips), k1_cond8 i k (wStep k.val) = 1#1 := by decide +kernel

/-- Condition 11 of the body holds on every trip but the first. -/
theorem cond11_eq : ∀ (i : grid1.Coords) (k : Fin k1_t1_loop.trips), (k1_cond11 i k (wStep k.val) = 1#1) = (0 < k.val) := by
  intro i k; apply propext; revert i k; decide +kernel

/-- Offset 1 of the body: the slot of the first step in its double buffer. -/
theorem off1_eq : k1_off1 = ![(par 0).val, 0, 0] := by decide +kernel

/-- Offset 3 of the body: the semaphore of the first step. -/
theorem off3_eq : k1_off3 = ![(par 0).val] := by decide +kernel

/-- Offset 2 of the body: the index window of the first step. -/
theorem off2_eq : ∀ i : grid1.Coords, k1_off2 i = ![0, 128 * (stepNo (tileNo i) 0).val] := by decide +kernel

/-- Offset 4 of the body: the slot of the step after trip `k`'s in its double buffer. -/
theorem off4_eq : ∀ k : Fin k1_t1_loop.trips, k.val < 3 → k1_off4 (wIss k.val) = ![(par (k.val + 1)).val, 0, 0] := by decide +kernel

/-- Offset 7 of the body: the slot of the step after trip `k`'s in its double buffer. -/
theorem off7_eq : ∀ k : Fin k1_t1_loop.trips, k.val < 3 → k1_off7 (wIss k.val) = ![(par (k.val + 1)).val, 0, 0] := by decide +kernel

/-- Offset 6 of the body: the semaphore of the step after trip `k`'s. -/
theorem off6_eq : ∀ k : Fin k1_t1_loop.trips, k.val < 3 → k1_off6 (wIss k.val) = ![(par (k.val + 1)).val] := by decide +kernel

/-- Offset 9 of the body: the semaphore of the step after trip `k`'s. -/
theorem off9_eq : ∀ k : Fin k1_t1_loop.trips, k.val < 3 → k1_off9 (wIss k.val) = ![(par (k.val + 1)).val] := by decide +kernel

/-- Offset 5 of the body: the index window of the step after trip `k`'s. -/
theorem off5_eq : ∀ (i : grid1.Coords) (k : Fin k1_t1_loop.trips), k.val < 3 →
    k1_off5 i (wStep k.val) = ![0, 128 * (stepNo (tileNo i) (k.val + 1)).val] := by decide +kernel

/-- Offset 8 of the body: the index window of the step after trip `k`'s. -/
theorem off8_eq : ∀ (i : grid1.Coords) (k : Fin k1_t1_loop.trips), k.val < 3 →
    k1_off8 i (wStep k.val) = ![0, 128 * (stepNo (tileNo i) (k.val + 1)).val] := by decide +kernel

/-- Offset 10 of the body: the slot of trip `k`'s step in its double buffer. -/
theorem off10_eq : ∀ k : Fin k1_t1_loop.trips, k1_off10 (wCnt k.val) = ![(par k.val).val, 0, 0] := by decide +kernel

/-- Offset 13 of the body: the slot of trip `k`'s step in its double buffer. -/
theorem off13_eq : ∀ k : Fin k1_t1_loop.trips, k1_off13 (wCnt k.val) = ![(par k.val).val, 0, 0] := by decide +kernel

/-- Offset 16 of the body: the slot of trip `k`'s step in its double buffer. -/
theorem off16_eq : ∀ k : Fin k1_t1_loop.trips, k1_off16 (wCnt k.val) = ![(par k.val).val, 0, 0] := by decide +kernel

/-- Offset 17 of the body: the slot of trip `k`'s step in its double buffer. -/
theorem off17_eq : ∀ k : Fin k1_t1_loop.trips, k1_off17 (wCnt k.val) = ![(par k.val).val, 0, 0] := by decide +kernel

/-- Offset 20 of the body: the slot of trip `k`'s step in its double buffer. -/
theorem off20_eq : ∀ k : Fin k1_t1_loop.trips, k1_off20 (wCnt k.val) = ![(par k.val).val, 0, 0] := by decide +kernel

/-- Offset 25 of the body: the slot of trip `k`'s step in its double buffer. -/
theorem off25_eq : ∀ k : Fin k1_t1_loop.trips, k1_off25 (wCnt k.val) = ![(par k.val).val, 0, 0] := by decide +kernel

/-- Offset 12 of the body: the semaphore of trip `k`'s step. -/
theorem off12_eq : ∀ k : Fin k1_t1_loop.trips, k1_off12 (wCnt k.val) = ![(par k.val).val] := by decide +kernel

/-- Offset 15 of the body: the semaphore of trip `k`'s step. -/
theorem off15_eq : ∀ k : Fin k1_t1_loop.trips, k1_off15 (wCnt k.val) = ![(par k.val).val] := by decide +kernel

/-- Offset 27 of the body: the semaphore of trip `k`'s step. -/
theorem off27_eq : ∀ k : Fin k1_t1_loop.trips, k1_off27 (wCnt k.val) = ![(par k.val).val] := by decide +kernel

/-- Offset 26 of the body: the output block of trip `k`'s step. -/
theorem off26_eq : ∀ (i : grid1.Coords) (k : Fin k1_t1_loop.trips),
    k1_off26 i (wStep k.val) = ![128 * (stepNo (tileNo i) k.val).val, 0] := by decide +kernel

/-- Offset 30 of the body: the semaphore of the step before trip `k`'s. -/
theorem off30_eq : ∀ k : Fin k1_t1_loop.trips, k1_off30 (wPrev k.val) = ![(par (k.val - 1)).val] := by decide +kernel

/-- Offset 29 of the body: the output block of the step before trip `k`'s. -/
theorem off29_eq : ∀ (i : grid1.Coords) (k : Fin k1_t1_loop.trips), 0 < k.val →
    k1_off29 i (wStep k.val) = ![128 * (stepNo (tileNo i) (k.val - 1)).val, 0] := by decide +kernel

/-- Offset 32 of the body: the output block of the last step. -/
theorem off32_eq : ∀ i : grid1.Coords, k1_off32 i (wStep 4) = ![128 * (stepNo (tileNo i) 3).val, 0] := by decide +kernel

/-- Offset 33 of the body: the semaphore of the last step. -/
theorem off33_eq : k1_off33 (wPrev 4) = ![(par 3).val] := by decide +kernel

/-! ## What a trip computes of its words -/

/-- The first number the loop's tiles are told: four times the tile's. -/
def baseWord (i : grid1.Coords) : BitVec 32 := BitVec.ofNat 32 (4 * (tileNo i).val)

/-- A tile's first step, as the program computes it, is the word `baseWord`. -/
theorem base_eq : ∀ i : grid1.Coords, Scalar.muli (Scalar.addi (Scalar.addi 0#32 (Scalar.muli (BitVec.ofNat 32 (i 1).val) 1#32)) (Scalar.muli (BitVec.ofNat 32 (i 0).val) 16#32)) 4#32 = baseWord i := by
  decide +kernel

/-- Trip `k`'s loop variable. -/
abbrev tIv (k : Fin k1_t1_loop.trips) : BitVec 32 := Scf.iv 0#32 1#32 k

/-- Whether trip `k` is the first. -/
abbrev tFirst (k : Fin k1_t1_loop.trips) : BitVec 1 := Scalar.cmpi .eq (tIv k) 0#32

/-- Whether trip `k` is the last. -/
abbrev tLast (k : Fin k1_t1_loop.trips) : BitVec 1 := Scalar.cmpi .eq (tIv k) 3#32

/-- The block number of trip `k`, as the program computes it. -/
abbrev tCur (v4 : BitVec 32) (k : Fin k1_t1_loop.trips) : BitVec 32 := Scalar.addi (wStep k.val) v4

/-- The block number before that of trip `k`, going round at the ends. -/
abbrev tPrev (v4 : BitVec 32) (k : Fin k1_t1_loop.trips) : BitVec 32 :=
  Scalar.addi (Scalar.select (Scalar.cmpi .eq (Scalar.select 1#1 (Scalar.subi (wStep k.val) 1#32) (wStep k.val)) 4294967295#32) 3#32
    (Scalar.select 1#1 (Scalar.subi (wStep k.val) 1#32) (wStep k.val))) v4

/-- The block number after that of trip `k`, going round at the ends. -/
abbrev tNext (v4 : BitVec 32) (k : Fin k1_t1_loop.trips) : BitVec 32 :=
  Scalar.addi (Scalar.select (Scalar.cmpi .eq (Scalar.select 1#1 (Scalar.addi (wStep k.val) 1#32) (wStep k.val)) 4#32) 0#32
    (Scalar.select 1#1 (Scalar.addi (wStep k.val) 1#32) (wStep k.val))) v4

/-- Whether the next trip's block differs from this one's. -/
abbrev tMore (v4 : BitVec 32) (k : Fin k1_t1_loop.trips) : BitVec 1 :=
  Scalar.andi (Scalar.cmpi .ne (tCur v4 k) (tNext v4 k)) (Scalar.xori (Scalar.cmpi .sge (tIv k) 3#32) 1#1)

/-- The count of index copies issued, after trip `k`. -/
theorem word_iss : ∀ (i : grid1.Coords) (k : Fin k1_t1_loop.trips),
    Scalar.select (Scalar.andi (tMore (baseWord i) k) 1#1) (Scalar.addi (wIss k.val) 1#32) (wIss k.val) = wIss (k.val + 1) := by
  decide +kernel

/-- The count of blocks sent out, after trip `k`. -/
theorem word_out : ∀ (i : grid1.Coords) (k : Fin k1_t1_loop.trips),
    Scalar.select (Scalar.andi (Scalar.ori (Scalar.cmpi .ne (tCur (baseWord i) k) (tNext (baseWord i) k)) (tLast k)) 1#1) (Scalar.addi (wCnt k.val) 1#32) (wCnt k.val) = wCnt (k.val + 1) := by
  decide +kernel

/-- The count of index windows used up, after trip `k`. -/
theorem word_in : ∀ (i : grid1.Coords) (k : Fin k1_t1_loop.trips),
    Scalar.select (Scalar.ori (Scalar.cmpi .ne (tCur (baseWord i) k) (tNext (baseWord i) k)) (tLast k)) (Scalar.addi (wCnt k.val) 1#32) (wCnt k.val) = wCnt (k.val + 1) := by
  decide +kernel

/-- The count of outgoing blocks waited for, after trip `k`. -/
theorem word_prev : ∀ (i : grid1.Coords) (k : Fin k1_t1_loop.trips),
    Scalar.select (Scalar.andi (Scalar.andi (Scalar.cmpi .ne (tCur (baseWord i) k) (tPrev (baseWord i) k)) (Scalar.xori (tFirst k) 1#1)) 1#1)
      (Scalar.addi (wPrev k.val) 1#32) (wPrev k.val) = wPrev (k.val + 1) := by
  decide +kernel

/-- The step number that the loop carries on from trip `k`. -/
theorem word_step : ∀ k : Fin k1_t1_loop.trips,
    Scalar.select (Scalar.cmpi .eq (Scalar.select 1#1 (Scalar.addi (wStep k.val) 1#32) (wStep k.val)) 4#32) 0#32
      (Scalar.select 1#1 (Scalar.addi (wStep k.val) 1#32) (wStep k.val)) = wStep (k.val + 1) := by
  decide +kernel

end Cert.Proof.Neumf.Gmf
-- ==== Proof.GmfLoop.lean ====
/-
  The product loop of the second SparseCore kernel: two buffers of 128 gathered rows, and the products of lanes 0–31 of
  the one with lanes 32–63 of the other written row by row into a slot of results.
-/
module

public import proofs.«01_k».proof.Proof.GmfFacts

@[expose] public section

noncomputable section

namespace Cert.Proof.Neumf.Gmf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

section Rules

variable (c : Thread nD τ) {α : Type} {cs : CoreSpace} {s : Shape} {e : EltTy}

/-- A load from an owned memref reads what it is owned at. -/
theorem wp_load_owns {m : Memref sig c.2.kind cs s e} {r : Rect s} {hl : m.view.LoadsAt r} {q : PosShare TreeShare} {X : s.Idx → Elt F e}
    {k : (r.shape.Idx → Elt F e) → Prog (TpuEff nD τ sig (Elt F) Λ₀ c.2) α} {Q : α → sProp 𝕄} :
    (owns c m q X : sProp 𝕄)
      ⊢ iprop((owns c m q X -∗ wp frame (wpE (defs₀ (F := F)) 𝒱₀ c none) Set.univ (k (fun x => X (r.emb x))) Q)
          -∗ wp frame (wpE (defs₀ (F := F)) 𝒱₀ c none) Set.univ (.op (.load m r.toLoadRect hl) k) Q) := by
  unfold owns
  iintro ⟨%f, %hf, H⟩ Hk
  iapply (wp_load_rect 𝒱₀ c none Set.univ (defs := defs₀ (F := F)) (Q := Q) (k := k) (hl := hl) (S := m.view.set) (q := q) (f := f) (View.set_slice_subset m.view r)) $$ [H]
  · iexact H
  iintro H
  have hx : (fun x => X (r.emb x)) = (m.access r).read (Elt F) f := by subst hf; rfl
  rw [hx]
  iapply Hk
  iexists f; isplitr; · ipureintro; exact hf
  iexact H

/-- A store into an owned memref: it is owned at any contents that have the stored ones in the rectangle and the old
    ones outside. -/
theorem wp_store_owns {m : Memref sig c.2.kind cs s e} {r : Rect s} {w : r.shape.Idx → Elt F e}
    {hx : (m.access r).Stores Finset.univ} {hm : Finset.univ = Finset.univ ∨ ∀ a, r.stride a = 1} {X X' : s.Idx → Elt F e}
    {k : PUnit → Prog (TpuEff nD τ sig (Elt F) Λ₀ c.2) α} {Q : α → sProp 𝕄}
    (hin : ∀ x, X' (r.emb x) = w x) (hout : ∀ y, y ∉ r.set → X' y = X y) :
    (owns c m fullShare X : sProp 𝕄)
      ⊢ iprop((owns c m fullShare X' -∗ wp frame (wpE (defs₀ (F := F)) 𝒱₀ c none) Set.univ (k ⟨⟩) Q)
          -∗ wp frame (wpE (defs₀ (F := F)) 𝒱₀ c none) Set.univ (.op (.store m r w Finset.univ hx hm) k) Q) := by
  unfold owns
  iintro ⟨%f, %hf, H⟩ Hk
  iapply (wp_store_writes₀ 𝒱₀ c none Set.univ (defs := defs₀ (F := F)) (Q := Q) (k := k) (hx := hx) (hm := hm) (S := m.view.set) (f := f)
    (View.set_slice_subset m.view r)) $$ [H]
  · iexact H
  iintro H
  iapply Hk
  iexists _; isplitr; swap; · iexact H
  ipureintro
  funext y
  by_cases hy : y ∈ r.set
  · obtain ⟨x, rfl⟩ := r.exists_idx_of_mem hy
    exact (View.read_writes_cons_emb m.view f r w [] x).trans (hin x).symm
  · exact (View.read_writes_cons_miss m.view f ⟨r, w⟩ [] y hy).trans ((congrFun hf y).trans (hout y hy).symm)

end Rules

/-! ## The products -/

/-- A row of results. -/
def rowOf (y : S128x32.Idx) : Fin 128 := y 0
/-- A lane of results. -/
def laneOf (y : S128x32.Idx) : Fin 32 := y 1

/-- Lane `c` of the first narrow table, in a packed row. -/
def laneLo (c : Fin 32) : Fin 128 := ⟨c.val, by omega⟩

/-- Lane `c` of the second narrow table, in a packed row. -/
def laneHi (c : Fin 32) : Fin 128 := ⟨32 + c.val, by omega⟩

/-- Lanes 0–31 of the one times lanes 32–63 of the other. -/
def prod (R S : S128x128.Idx → Elt F .f32) : S128x32.Idx → Elt F .f32 := fun y =>
  FloatOps.mulf (φ := .f32) (R (ix2 (rowOf y) (laneLo (laneOf y)))) (S (ix2 (rowOf y) (laneHi (laneOf y))))

/-- The slot of results when the rows before `t` are done. -/
def part (R S : S128x128.Idx → Elt F .f32) (Y : S128x32.Idx → Elt F .f32) (t : ℕ) : S128x32.Idx → Elt F .f32 := fun y =>
  if (rowOf y).val < t then prod R S y else Y y

/-- The same when also the first half of row `t` is. -/
def partMid (R S : S128x128.Idx → Elt F .f32) (Y : S128x32.Idx → Elt F .f32) (t : ℕ) : S128x32.Idx → Elt F .f32 := fun y =>
  if (rowOf y).val < t ∨ ((rowOf y).val = t ∧ (laneOf y).val < 16) then prod R S y else Y y

/-- The first stored piece is the elementwise product of the two loaded ones. -/
theorem pay1_eq (a b : S1x16.Idx → Elt F .f32) (x : S1x16.Idx) : k1_pay1 a b x = FloatOps.mulf (φ := .f32) (a x) (b x) := by
  have h : Shape.reshapeEquiv shapeCasts_S1x16_S16 (Shape.reshapeEquiv shapeCasts_S16_S1x16 x) = x := by
    rw [Shape.reshapeEquiv_reshapeEquiv, Shape.reshapeEquiv_self]
  show FloatOps.mulf (φ := .f32) (a (Shape.reshapeEquiv shapeCasts_S1x16_S16 (Shape.reshapeEquiv shapeCasts_S16_S1x16 x)))
    (b (Shape.reshapeEquiv shapeCasts_S1x16_S16 (Shape.reshapeEquiv shapeCasts_S16_S1x16 x))) = _
  rw [h]

/-- The second stored piece is the elementwise product of the two loaded ones. -/
theorem pay2_eq (a b : S1x16.Idx → Elt F .f32) (x : S1x16.Idx) : k1_pay2 a b x = FloatOps.mulf (φ := .f32) (a x) (b x) := pay1_eq a b x

/-- Where an element of a stored piece lies in the block of results. -/
theorem emb_res {o : Fin 2 → ℕ} {t c : ℕ} (ho : o = ![t, c]) (h : ∀ a, o a + S1x16.size a ≤ S128x32.size a) (x : S1x16.Idx) :
    (((Rect.unit (s := S128x32) o S1x16.size h).emb x) 0 : Fin 128).val = t
      ∧ (((Rect.unit (s := S128x32) o S1x16.size h).emb x) 1 : Fin 32).val = c + (x 1 : Fin 16).val := by
  subst ho
  have h0 : (x 0 : Fin 1).val = 0 := Nat.lt_one_iff.mp (x 0 : Fin 1).isLt
  refine ⟨?_, ?_⟩
  · show t + 1 * (x 0 : Fin 1).val = t
    rw [h0]; rfl
  · show c + 1 * (x 1 : Fin 16).val = _
    rw [Nat.one_mul]

/-- Where an element of a loaded piece lies in the block of gathered rows. -/
theorem emb_row {o : Fin 2 → ℕ} {t c : ℕ} (ho : o = ![t, c]) (h : ∀ a, o a + S1x16.size a ≤ S128x128.size a) (x : S1x16.Idx) :
    (((Rect.unit (s := S128x128) o S1x16.size h).emb x) 0 : Fin 128).val = t
      ∧ (((Rect.unit (s := S128x128) o S1x16.size h).emb x) 1 : Fin 128).val = c + (x 1 : Fin 16).val := by
  subst ho
  have h0 : (x 0 : Fin 1).val = 0 := Nat.lt_one_iff.mp (x 0 : Fin 1).isLt
  refine ⟨?_, ?_⟩
  · show t + 1 * (x 0 : Fin 1).val = t
    rw [h0]; rfl
  · show c + 1 * (x 1 : Fin 16).val = _
    rw [Nat.one_mul]

/-- An element of the row and of the piece's sixteen lanes lies in the stored piece. -/
theorem mem_row {o : Fin 2 → ℕ} {t c : ℕ} (ho : o = ![t, c]) (h : ∀ a, o a + S1x16.size a ≤ S128x32.size a)
    (y : S128x32.Idx) (h0 : (rowOf y).val = t) (h1 : c ≤ (laneOf y).val) (h2 : (laneOf y).val < c + 16) :
    y ∈ (Rect.unit (s := S128x32) o S1x16.size h).set := by
  have hx := emb_res ho h (ix2 (0 : Fin 1) (⟨(laneOf y).val - c, by omega⟩ : Fin 16))
  rw [← Rect.map_emb_univ, Finset.mem_map]
  refine ⟨ix2 (0 : Fin 1) (⟨(laneOf y).val - c, by omega⟩ : Fin 16), Finset.mem_univ _, ?_⟩
  have h3 : c + ((laneOf y).val - c) = (laneOf y).val := by omega
  funext a
  apply Fin.ext
  match a with
  | 0 => exact hx.1.trans h0.symm
  | 1 => exact hx.2.trans h3

/-- The product at an element, from the two gathered elements that it multiplies. -/
theorem prod_at (R S : S128x128.Idx → Elt F .f32) (y : S128x32.Idx) (a b : S128x128.Idx)
    (ha0 : (a 0 : Fin 128).val = (rowOf y).val) (ha1 : (a 1 : Fin 128).val = (laneOf y).val)
    (hb0 : (b 0 : Fin 128).val = (rowOf y).val) (hb1 : (b 1 : Fin 128).val = 32 + (laneOf y).val) :
    prod R S y = FloatOps.mulf (φ := .f32) (R a) (S b) := by
  have ea : (ix2 (rowOf y) (laneLo (laneOf y)) : S128x128.Idx) = a := by
    funext j; apply Fin.ext
    match j with
    | 0 => exact ha0.symm
    | 1 => exact ha1.symm
  have eb : (ix2 (rowOf y) (laneHi (laneOf y)) : S128x128.Idx) = b := by
    funext j; apply Fin.ext
    match j with
    | 0 => exact hb0.symm
    | 1 => exact hb1.symm
  exact congrArg₂ (FloatOps.mulf (φ := .f32)) (congrArg R ea) (congrArg S eb)

section Body

variable (d : Dev nD) (i : grid1.Coords)
  (arg2 : Memref sig .scVector .hbm S1x16384 .i32) (harg2 : arg2.IsWhole) (arg3 : Memref sig .scVector .hbm S1x16384 .i32) (harg3 : arg3.IsWhole)
  (arg4 : Memref sig .scVector .hbm S100000x128 .f32) (harg4 : arg4.IsWhole) (arg5 : Memref sig .scVector .hbm S16384x32 .f32) (harg5 : arg5.IsWhole)
  (arg6 : Memref sig .scVector .vmem S128x128 .f32) (harg6 : arg6.IsWhole) (arg7 : Memref sig .scVector .vmem S128x128 .f32) (harg7 : arg7.IsWhole)
  (arg8 arg9 : DmaSems sig S_)
  (al : Memref sig .scVector .vmem S2x1x128 .i32) (hal : al.IsWhole) (v5 : DmaSems sig S2)
  (al0 : Memref sig .scVector .vmem S2x1x128 .i32) (hal0 : al0.IsWhole) (v6 : DmaSems sig S2)
  (rw' : Memref sig .scVector .vmem S2x128x32 .f32) (hrw : rw'.IsWhole) (v7 : DmaSems sig S2)

/-- The SparseCore of a grid point. -/
abbrev jC (i : grid1.Coords) : Fin τ.nSC := (i 0).castLE hcore1

/-- The tile of a grid point. -/
abbrev jJ (i : grid1.Coords) : Fin τ.nSub := (i 1).castLE hsub1

/-- The thread that runs a grid point's body. -/
abbrev Tid : Thread nD τ := V d (jC i) (jJ i)

/-- The slot of results the loop writes, as the loop names it. -/
abbrev rawSlot (w : BitVec 32) (h : k1_chk4 w) : Memref sig .scVector .vmem S128x32 .f32 :=
  (rw'.slice (Rect.unit (s := S2x128x32) (k1_off20 w) S1x128x32.size (k1_off20_inb w h)) (fun _ => rfl)).squeeze S128x32 squeezes_S1x128x32_S128x32

/-- What holds before row `t` of the product loop. -/
def RowInv (R S : S128x128.Idx → Elt F .f32) (Y : S128x32.Idx → Elt F .f32) (m : Memref sig .scVector .vmem S128x32 .f32) (t : ℕ) (_ : Unit) : sProp 𝕄 :=
  iprop(owns (Tid d i) arg6 fullShare R ∗ owns (Tid d i) arg7 fullShare S ∗ owns (Tid d i) m fullShare (part R S Y t))

set_option maxRecDepth 65536 in
set_option maxHeartbeats 4000000 in
/-- One row of products. -/
theorem row_step (R S : S128x128.Idx → Elt F .f32) (Y : S128x32.Idx → Elt F .f32) (w12 w14 w15 : BitVec 32)
    (h4 : k1_chk4 w15) (h3 : k1_chk3 w14) (h2 : k1_chk2 w12) (v77 : BitVec 1) (v78 v88 : BitVec 32) (t : Fin k1_t2_loop.trips) (acc : Unit) :
    RowInv (F := F) d i arg6 arg7 R S Y (rawSlot rw' w15 h4) t.val acc
      ⊢ wp frame (wpE (defs₀ (F := F)) 𝒱₀ (Tid d i) none) Set.univ
          (k1_t2_body i arg2 harg2 arg3 harg3 arg4 harg4 arg5 harg5 arg6 harg6 arg7 harg7 arg8 arg9 al hal v5 al0 hal0 v6 rw' hrw v7
            w12 w14 w15 h4 h3 h2 v77 v78 v88 t acc)
          (RowInv (F := F) d i arg6 arg7 R S Y (rawSlot rw' w15 h4) (t.val + 1)) := by
  have h1in : ∀ x : S1x16.Idx, partMid R S Y t.val ((Rect.unit (s := S128x32) (k1_off21 t) S1x16.size (k1_off21_inb t)).emb x)
      = k1_pay1 (fun x => R ((Rect.unit (s := S128x128) (k1_off18 t) S1x16.size (k1_off18_inb t)).emb x))
          (fun x => S ((Rect.unit (s := S128x128) (k1_off19 t) S1x16.size (k1_off19_inb t)).emb x)) x := by
    intro x
    rw [pay1_eq]
    obtain ⟨e0, e1⟩ := emb_res (k1_off21_eq t) (k1_off21_inb t) x
    obtain ⟨a0, a1⟩ := emb_row (k1_off18_eq t) (k1_off18_inb t) x
    obtain ⟨b0, b1⟩ := emb_row (k1_off19_eq t) (k1_off19_inb t) x
    have hx : (x 1 : Fin 16).val < 16 := (x 1 : Fin 16).isLt
    have hl : 0 + (x 1 : Fin 16).val < 16 := by omega
    refine (if_pos (.inr ⟨e0, lt_of_eq_of_lt e1 hl⟩)).trans ?_
    exact prod_at R S _ _ _ (a0.trans e0.symm) (a1.trans e1.symm) (b0.trans e0.symm) (b1.trans ((by omega : 32 + (x 1 : Fin 16).val = 32 + (0 + (x 1 : Fin 16).val)).trans (congrArg (32 + ·) e1.symm)))
  have h1out : ∀ y : S128x32.Idx, y ∉ (Rect.unit (s := S128x32) (k1_off21 t) S1x16.size (k1_off21_inb t)).set →
      partMid R S Y t.val y = part R S Y t.val y := by
    intro y hy
    by_cases h : (rowOf y).val = t.val ∧ (laneOf y).val < 16
    · exact absurd (mem_row (k1_off21_eq t) (k1_off21_inb t) y h.1 (Nat.zero_le _) (by omega)) hy
    · unfold part partMid
      simp only [h, _root_.or_false]
  have h2in : ∀ x : S1x16.Idx, part R S Y (t.val + 1) ((Rect.unit (s := S128x32) (k1_off24 t) S1x16.size (k1_off24_inb t)).emb x)
      = k1_pay2 (fun x => R ((Rect.unit (s := S128x128) (k1_off22 t) S1x16.size (k1_off22_inb t)).emb x))
          (fun x => S ((Rect.unit (s := S128x128) (k1_off23 t) S1x16.size (k1_off23_inb t)).emb x)) x := by
    intro x
    rw [pay2_eq]
    obtain ⟨e0, e1⟩ := emb_res (k1_off24_eq t) (k1_off24_inb t) x
    obtain ⟨a0, a1⟩ := emb_row (k1_off22_eq t) (k1_off22_inb t) x
    obtain ⟨b0, b1⟩ := emb_row (k1_off23_eq t) (k1_off23_inb t) x
    refine (if_pos (Nat.lt_succ_of_le (le_of_eq e0))).trans ?_
    exact prod_at R S _ _ _ (a0.trans e0.symm) (a1.trans e1.symm) (b0.trans e0.symm) (b1.trans ((by omega : 48 + (x 1 : Fin 16).val = 32 + (16 + (x 1 : Fin 16).val)).trans (congrArg (32 + ·) e1.symm)))
  have h2out : ∀ y : S128x32.Idx, y ∉ (Rect.unit (s := S128x32) (k1_off24 t) S1x16.size (k1_off24_inb t)).set →
      part R S Y (t.val + 1) y = partMid R S Y t.val y := by
    intro y hy
    have h1 := (laneOf y).isLt
    have h : ¬ ((rowOf y).val = t.val ∧ 16 ≤ (laneOf y).val) := fun h =>
      hy (mem_row (k1_off24_eq t) (k1_off24_inb t) y h.1 h.2 (by omega))
    have hc : ((rowOf y).val < t.val + 1) ↔ ((rowOf y).val < t.val ∨ ((rowOf y).val = t.val ∧ (laneOf y).val < 16)) := by omega
    unfold part partMid
    simp only [hc]
  unfold k1_t2_body RowInv
  iintro ⟨HR, HS, HY⟩
  simp only [Sem.Prog.bind_lift, Sem.Prog.bind_op, Sem.Prog.bind_ret]
  iapply (wp_load_owns (Tid d i)) $$ [HR]
  · iexact HR
  iintro HR
  iapply (wp_load_owns (Tid d i)) $$ [HS]
  · iexact HS
  iintro HS
  iapply (wp_load_owns (Tid d i)) $$ [HY]
  · iexact HY
  iintro HY
  iapply (wp_store_owns (Tid d i) h1in h1out) $$ [HY]
  · iexact HY
  iintro HY
  iapply (wp_load_owns (Tid d i)) $$ [HR]
  · iexact HR
  iintro HR
  iapply (wp_load_owns (Tid d i)) $$ [HS]
  · iexact HS
  iintro HS
  iapply (wp_load_owns (Tid d i)) $$ [HY]
  · iexact HY
  iintro HY
  iapply (wp_store_owns (Tid d i) h2in h2out) $$ [HY]
  · iexact HY
  iintro HY
  simp only [wp_pure]
  imodintro
  isplitl [HR]; · iexact HR
  isplitl [HS] <;> iassumption

end Body

end Cert.Proof.Neumf.Gmf
-- ==== Proof.GmfSides.lean ====
/-
  The state of the second SparseCore kernel between two trips: two feeds of gathered rows, each with its index array staged
  through two slots, and the slots of results copied out.
-/
module

public import proofs.«01_k».proof.Proof.GmfLoop
public import proofs.«01_k».proof.Proof.Sides

@[expose] public section

noncomputable section

namespace Cert.Proof.Neumf.Gmf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-! ## Slots of results and blocks of the result -/

/-- A slot of the outgoing double buffer lies inside the buffer. -/
theorem inb_row (p : Fin 2) : ∀ a, (![p.val, 0, 0] : Fin 3 → ℕ) a + S1x128x32.size a ≤ S2x128x32.size a := by
  revert p; decide

/-- Slot `p` of a pair of row buffers. -/
def outSlot (rw : Memref sig .scVector .vmem S2x128x32 .f32) (p : Fin 2) : Memref sig .scVector .vmem S128x32 .f32 :=
  (rw.slice (Rect.unit (s := S2x128x32) ![p.val, 0, 0] S1x128x32.size (inb_row p)) (fun _ => rfl)).squeeze S128x32 squeezes_S1x128x32_S128x32

/-- The program's spelling of an outgoing slot names that slot. -/
theorem outSlot_eq {rw : Memref sig .scVector .vmem S2x128x32 .f32} {o : Fin 3 → ℕ} {p : Fin 2} (ho : o = ![p.val, 0, 0])
    {h : ∀ a, o a + S1x128x32.size a ≤ S2x128x32.size a} :
    (rw.slice (Rect.unit (s := S2x128x32) o S1x128x32.size h) (fun _ => rfl)).squeeze S128x32 squeezes_S1x128x32_S128x32 = outSlot rw p := by
  subst ho; rfl

/-- A block of 128 rows lies inside the output. -/
theorem inb_oblk (b : Fin 128) : ∀ a, (![128 * b.val, 0] : Fin 2 → ℕ) a + S128x32.size a ≤ S16384x32.size a := by
  intro a; have := b.isLt
  match a with
  | 0 => show 128 * b.val + 128 ≤ 16384; omega
  | 1 => exact le_refl _

/-- The rectangle of step `b`'s rows of a result. -/
def oblkRect (b : Fin 128) : Rect S16384x32 := Rect.unit (s := S16384x32) ![128 * b.val, 0] S128x32.size (inb_oblk b)

/-- Step `b`'s rows of a result. -/
def outBlk (o : Memref sig .scVector .hbm S16384x32 .f32) (b : Fin 128) : Memref sig .scVector .hbm S128x32 .f32 :=
  o.slice (oblkRect b) (fun _ => rfl)

/-- The program's spelling of an output block names that block. -/
theorem outBlk_eq {out : Memref sig .scVector .hbm S16384x32 .f32} {o : Fin 2 → ℕ} {b : Fin 128} (ho : o = ![128 * b.val, 0])
    {h : ∀ a, o a + S128x32.size a ≤ S16384x32.size a} :
    out.slice (Rect.unit (s := S16384x32) o S128x32.size h) (fun _ => rfl) = outBlk out b := by
  subst ho; rfl

/-- The buffers and semaphores of one feed. -/
structure Feed where
  arg : Memref sig .scVector .hbm S1x16384 .i32
  scr : Memref sig .scVector .vmem S128x128 .f32
  gs : DmaSems sig S_
  al : Memref sig .scVector .vmem S2x1x128 .i32
  s : DmaSems sig S2
  harg : arg.IsWhole
  hscr : scr.IsWhole
  hal : al.IsWhole

/-- The semaphore of a feed's gathers. -/
abbrev Feed.g (A : Feed) : DmaSem sig := A.gs.sem

/-- The table both feeds read, and where the results go. -/
structure Ends where
  tbl : Memref sig .scVector .hbm S100000x128 .f32
  out : Memref sig .scVector .hbm S16384x32 .f32
  rw : Memref sig .scVector .vmem S2x128x32 .f32
  so : DmaSems sig S2
  htbl : tbl.IsWhole
  hout : out.IsWhole
  hrw : rw.IsWhole

/-- What one feed reads of its indices, and by what shares it and the table are read. -/
structure FeedVal (F : FTy → Type) (A : Feed) where
  f : A.arg.view.ty.Contents (Elt F)
  q : Fin 2 → PosShare TreeShare
  qt : PosShare TreeShare

section Feeds

variable (d : Dev nD) (cc : Fin τ.nSC) (jj : Fin τ.nSub) (E : Ends) (X : S100000x128.Idx → Elt F .f32) (A : Feed) (v : FeedVal F A) (n : Fin 32)

/-- The index slot `p` at rest, with anything in it. -/
def aFree (p : Fin 2) : sProp 𝕄 := InFree d cc jj A.arg A.al A.s v.f (v.q p) p

/-- The index slot of step `k`, holding that step's window. -/
def aReady (k : ℕ) : sProp 𝕄 := InReady d cc jj A.arg A.al A.s v.f (v.q (par k)) (par k) (stepNo n k)

/-- The index slot of step `k`, with that step's window on its way. -/
def aBusy (k : ℕ) : sProp 𝕄 := InBusy d cc jj A.arg A.al A.s v.f (v.q (par k)) (par k) (stepNo n k)

/-- The staging slot of step `k`: on its way, or at rest past the last. -/
def aNext (k : ℕ) : sProp 𝕄 := if k < 4 then aBusy d cc jj A v n k else aFree d cc jj A v (par k)

/-- The rows of step `k`. -/
def aRows (k : ℕ) : S128x128.Idx → Elt F .f32 := rowsVal X (A.arg.view.read (Elt F) v.f) (stepNo n k)

/-- Before the last step the next window is on its way. -/
theorem aNext_lt {k : ℕ} (h : k < 4) : (aNext d cc jj A v n k : sProp 𝕄) = aBusy d cc jj A v n k := if_pos h

/-- Past the last step the slot is at rest. -/
theorem aNext_ge {k : ℕ} (h : ¬ k < 4) : (aNext d cc jj A v n k : sProp 𝕄) = aFree d cc jj A v (par k) := if_neg h

/-- A slot whose window has been used is at rest for the step after next. -/
theorem aReady_free {k : ℕ} : (aReady d cc jj A v n k : sProp 𝕄) ⊢ aFree d cc jj A v (par (k + 1 + 1)) := by
  rw [par_two]; unfold aReady aFree
  exact inReady_free d cc jj A.arg A.al A.s v.f (v.q (par k)) (par k) (stepNo n k)

/-- The table, the buffer of rows and the gathers' semaphore of a feed, at rest. -/
def Rest1 : sProp 𝕄 :=
  iprop(Tbl d cc jj E.tbl X v.qt ∗ (∃ Y, owns (V d cc jj) A.scr fullShare (Y : S128x128.Idx → Elt F .f32)) ∗ semVal (V d cc jj, .dma A.g) 0)

/-- A feed between two trips. -/
def FSt (k : ℕ) : sProp 𝕄 := iprop(aNext d cc jj A v n k ∗ aFree d cc jj A v (par (k + 1)) ∗ Rest1 d cc jj E X A v)

/-- The rows gathered into a buffer of 128 rows credit the semaphore with the whole buffer's
amount. -/
theorem scr_credit (m : Memref sig .scVector .vmem S128x128 .f32) :
    ∑ j, (m.slice (S128x128.rowRect gathers_S100000x128_S128x128.axis' j)
      (S128x128.stride_rowRect gathers_S100000x128_S128x128.axis' j)).view.dmaCredit = m.view.dmaCredit :=
  SparseCore.sum_rowCredit_eq_dmaCredit m gathers_S100000x128_S128x128.axis' (fun _ => rfl)

end Feeds

section Tile

variable (d : Dev nD) (cc : Fin τ.nSC) (jj : Fin τ.nSub) (E : Ends) (G : ℕ → S128x32.Idx → Elt F .f32) (n : Fin 32)

/-- The outgoing slot `p` at rest, with its semaphore at zero. -/
def oFree (p : Fin 2) : sProp 𝕄 :=
  iprop((∃ Y, owns (V d cc jj) (outSlot E.rw p) fullShare (Y : S128x32.Idx → Elt F .f32)) ∗ semVal (V d cc jj, .dma (semAt E.so p)) 0)

/-- The rows of step `k` on their way out. -/
def oBusy (k : ℕ) : sProp 𝕄 :=
  Fly (V d cc jj) (.dma (semAt E.so (par k))) (outBlk E.out (stepNo n k)).view.dmaCredit
    iprop(owns (V d cc jj) (outBlk E.out (stepNo n k)) fullShare (G k) ∗ owns (V d cc jj) (outSlot E.rw (par k)) fullShare (G k))

/-- The row slot the step before used. -/
def oPrev (k : ℕ) : sProp 𝕄 := if 0 < k then oBusy d cc jj E G n (k - 1) else oFree (F := F) d cc jj E (par (k + 1))

/-- The output block of step `k`, not yet written. -/
def todo (k : ℕ) : sProp 𝕄 := iprop(∃ Y, owns (V d cc jj) (outBlk E.out (stepNo n k)) fullShare (Y : S128x32.Idx → Elt F .f32))

/-- The output block of step `k`, holding its final rows. -/
def done (k : ℕ) : sProp 𝕄 := owns (V d cc jj) (outBlk E.out (stepNo n k)) fullShare (G k)

/-- Step `b`'s rows of the result before trip `k`, when they are not on their way. -/
def blk (k b : ℕ) : sProp 𝕄 := if b + 1 < k then done d cc jj E G n b else if b + 1 = k then iprop(emp) else todo (F := F) d cc jj E n b
/-- The same in the midst of trip `k`. -/
def blkMid (k b : ℕ) : sProp 𝕄 := if b + 1 < k then done d cc jj E G n b else if b + 1 = k ∨ b = k then iprop(emp) else todo (F := F) d cc jj E n b

/-- The tile's four output blocks before trip `k`. -/
def blks (k : ℕ) : sProp 𝕄 := iprop(blk d cc jj E G n k 0 ∗ blk d cc jj E G n k 1 ∗ blk d cc jj E G n k 2 ∗ blk d cc jj E G n k 3)

/-- The tile's four output blocks in the middle of trip `k`, without the one that trip sends. -/
def blksMid (k : ℕ) : sProp 𝕄 := iprop(blkMid d cc jj E G n k 0 ∗ blkMid d cc jj E G n k 1 ∗ blkMid d cc jj E G n k 2 ∗ blkMid d cc jj E G n k 3)

/-- Before trip `k` the block of that step can be taken out, unwritten. -/
theorem blks_take {k : ℕ} (hk : k < 4) : blks d cc jj E G n k ⊢ iprop(todo (F := F) d cc jj E n k ∗ blksMid d cc jj E G n k) := by
  unfold blks blksMid blk blkMid
  match k, hk with
  | 0, _ =>
    simp
    iintro ⟨H0, H1, H2, H3⟩
    isplitl [H0]; · iexact H0
    isplitr; · iempintro
    isplitl [H1]; · iexact H1
    isplitl [H2] <;> iassumption
  | 1, _ =>
    simp
    iintro ⟨H0, H1, H2, H3⟩
    isplitl [H1]; · iexact H1
    isplitl [H0]; · iexact H0
    isplitr; · iempintro
    isplitl [H2] <;> iassumption
  | 2, _ =>
    simp
    iintro ⟨H0, H1, H2, H3⟩
    isplitl [H2]; · iexact H2
    isplitl [H0]; · iexact H0
    isplitl [H1]; · iexact H1
    isplitr; · iempintro
    iexact H3
  | 3, _ =>
    simp
    iintro ⟨H0, H1, H2, H3⟩
    isplitl [H3]; · iexact H3
    isplitl [H0]; · iexact H0
    isplitl [H1]; · iexact H1
    isplitl [H2]; · iexact H2
    iempintro

/-- The block of the step before, once it has arrived, goes back among the four. -/
theorem blks_put {k : ℕ} (hk : k < 4) :
    iprop(blksMid d cc jj E G n k ∗ (if 0 < k then done d cc jj E G n (k - 1) else iprop(emp))) ⊢ blks (F := F) d cc jj E G n (k + 1) := by
  unfold blks blksMid blk blkMid
  match k, hk with
  | 0, _ =>
    simp
    iintro ⟨⟨H0, H1, H2, H3⟩, -⟩
    isplitr; · iempintro
    isplitl [H1]; · iexact H1
    isplitl [H2] <;> iassumption
  | 1, _ =>
    simp
    iintro ⟨⟨H0, H1, H2, H3⟩, H⟩
    isplitl [H]; · iexact H
    isplitr; · iempintro
    isplitl [H2] <;> iassumption
  | 2, _ =>
    simp
    iintro ⟨⟨H0, H1, H2, H3⟩, H⟩
    isplitl [H0]; · iexact H0
    isplitl [H]; · iexact H
    isplitr; · iempintro
    iexact H3
  | 3, _ =>
    simp
    iintro ⟨⟨H0, H1, H2, H3⟩, H⟩
    isplitl [H0]; · iexact H0
    isplitl [H1]; · iexact H1
    isplitl [H]; · iexact H
    iempintro

/-- The results between two trips. -/
def OSt (k : ℕ) : sProp 𝕄 := iprop(oFree (F := F) d cc jj E (par k) ∗ oPrev d cc jj E G n k ∗ blks d cc jj E G n k)

/-! ## The moves of a trip -/

variable {α : Type}

/-- The rows of step `k` start on their way out. -/
theorem wp_issueO {k' : ℕ} {src : Memref sig .scVector .vmem S128x32 .f32} {dst : Memref sig .scVector .hbm S128x32 .f32}
    {sem : DmaSem sig} {hsrc : src.view.WordExact} {hdst : dst.view.WordExact}
    {hsem : DmaTarget.Typed (nD := nD) .vmem (.dma sem) (.here (p := (V d cc jj).2) dst)}
    {k : PUnit → Prog (TpuEff nD τ sig (Elt F) Λ₀ (V d cc jj).2) α} {Q : α → sProp 𝕄}
    (hS : src = outSlot E.rw (par k')) (hD : dst = outBlk E.out (stepNo n k')) (hM : sem = semAt E.so (par k')) :
    iprop(owns (V d cc jj) (outSlot E.rw (par k')) fullShare (G k') ∗ semVal (V d cc jj, .dma (semAt E.so (par k'))) 0 ∗ todo (F := F) d cc jj E n k')
      ⊢ iprop((oBusy d cc jj E G n k' -∗ wp frame (wpE (defs₀ (F := F)) 𝒱₀ (V d cc jj) none) Set.univ (k ⟨⟩) Q)
          -∗ wp frame (wpE (defs₀ (F := F)) 𝒱₀ (V d cc jj) none) Set.univ (.op (.enqueueDma src (.here dst) (.dma sem) hsrc hdst hsem) k) Q) := by
  unfold todo
  iintro ⟨H, Hs, ⟨%Y, Hd⟩⟩ Hk
  iapply (wp_copy (V d cc jj) hS hD hM (q := fullShare) (X := G k') (Y := Y) rfl (View.dmaCredit_pos _ (by decide))) $$ [H Hs Hd]
  · isplitl [H]; · iexact H
    isplitl [Hd]; · iexact Hd
    iexact Hs
  iintro Hf
  iapply Hk
  unfold oBusy
  iexact Hf

/-- The wait for it: the slot of rows at rest, the rows of the result in place. -/
theorem wp_waitO {k' : ℕ} {sp : Space} {s' : Shape} {e' : EltTy} {srcw : Memref sig .scVector sp s' e'} {dstw : Memref sig .scVector .hbm S128x32 .f32}
    {sem : DmaSem sig} {hsrc : srcw.view.WordExact} {hdst : dstw.view.WordExact}
    {k : PUnit → Prog (TpuEff nD τ sig (Elt F) Λ₀ (V d cc jj).2) α} {Q : α → sProp 𝕄}
    (hD : dstw = outBlk E.out (stepNo n k')) (hM : sem = semAt E.so (par k')) {O : CellTallies nD τ sig (HIx 2)} {W : Waits sig (HIx 2)} (hO : ∀ g, O g none = 0) :
    iprop(levAts (K (F := F)).L (K (F := F)).lev ∗ oBusy d cc jj E G n k' ∗ Owing (V d cc jj) O W)
      ⊢ iprop((iprop(done d cc jj E G n k' ∗ oFree (F := F) d cc jj E (par k') ∗ Owing (V d cc jj) O W)
            -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hD
  unfold oBusy
  iintro ⟨#Hlv, Hf, HO⟩ Hk
  iapply (wp_collect (V d cc jj) hM rfl hO) $$ [Hf HO]
  · isplitr; · iexact Hlv
    isplitl [Hf]; · iexact Hf
    iexact HO
  iintro ⟨⟨H, Hb⟩, Hs, HO⟩
  iapply Hk
  unfold done oFree
  isplitl [H]; · iexact H
  isplitl [Hb Hs]
  · isplitl [Hb]; · iexists _; iexact Hb
    iexact Hs
  · iexact HO

end Tile

end Cert.Proof.Neumf.Gmf
-- ==== Proof.GmfTrip.lean ====
/-
  One trip of the second SparseCore kernel's loop, part by part.
-/
module

public import proofs.«01_k».proof.Proof.GmfSides

@[expose] public section

noncomputable section

namespace Cert.Proof.Neumf.Gmf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable (d : Dev nD) (i : grid1.Coords) (E : Ends) (X : S100000x128.Idx → Elt F .f32) (A B : Feed) (u : FeedVal F A) (w : FeedVal F B)

set_option maxRecDepth 65536 in
set_option maxHeartbeats 4000000 in
/-- The first part of a trip: the copy of the next step's first indices starts, if there is a next step. -/
theorem part1_spec (k : Fin k1_t1_loop.trips) {Φ : _ → sProp 𝕄} :
    (aFree d (jC i) (jJ i) A u (par (k.val + 1)) : sProp 𝕄)
      ⊢ iprop((∀ h4 h3 h2 h1, aNext d (jC i) (jJ i) A u (tileNo i) (k.val + 1)
            -∗ Φ ⟨h4, h3, h2, h1, tIv k, tFirst k, tLast k, tCur (baseWord i) k, tPrev (baseWord i) k, tNext (baseWord i) k,
              wIss (k.val + 1), tMore (baseWord i) k⟩)
          -∗ wp frame (wpE (defs₀ (F := F)) 𝒱₀ (Tid d i) none) Set.univ
            (k1_part1 i A.arg A.harg B.arg B.harg E.tbl E.htbl E.out E.hout A.scr A.hscr B.scr B.hscr A.gs B.gs A.al A.hal A.s B.al B.hal B.s E.rw E.hrw E.so (baseWord i) 0#32 1#32 k
              (wIss k.val) (wCnt k.val) (wIss k.val) (wCnt k.val) (wCnt k.val) (wPrev k.val) (wStep k.val)) Φ) := by
  rw [k1_part1_eq_skeleton]; unfold k1_part1_skel
  iintro H Hk
  simp only [Sem.Prog.bind_lift, Sem.Prog.bind_op, Sem.Prog.bind_ret]
  rw [wp_assume_of _ _ _ _ (chk4_ok k), wp_assume_of _ _ _ _ (chk3_ok k), wp_assume_of _ _ _ _ (chk2_ok k),
    wp_assume_of _ _ _ _ (chk1_ok i k)]
  by_cases hk : k.val < 3
  · rw [dif_pos ((cond1_eq i k).mpr hk)]
    unfold aFree
    iapply (wp_issueIn d (jC i) (jJ i) A.arg A.al A.s u.f (u.q (par (k.val + 1))) (b := stepNo (tileNo i) (k.val + 1))
      (inBlk_eq (off5_eq i k hk)) (inSlot_eq (off4_eq k hk)) (semAt_eq (off6_eq k hk))) $$ [H]
    · iexact H
    iintro H
    simp only [wp_pure]
    rw [word_iss i k]
    imodintro
    iapply Hk
    rw [aNext_lt d (jC i) (jJ i) A u (tileNo i) (by omega)]
    unfold aBusy
    iexact H
  · rw [dif_neg (fun h => hk ((cond1_eq i k).mp h))]
    simp only [wp_pure]
    rw [word_iss i k]
    imodintro
    iapply Hk
    rw [aNext_ge d (jC i) (jJ i) A u (tileNo i) (by omega)]
    iexact H

set_option maxRecDepth 65536 in
set_option maxHeartbeats 4000000 in
/-- The second part: the same of the second indices, then the waits for this step's. -/
theorem part2_spec (k : Fin k1_t1_loop.trips) {O : CellTallies nD τ sig (HIx 2)} {W : Waits sig (HIx 2)} (hO : ∀ g, O g none = 0)
    (h2 : k1_chk2 (wCnt k.val)) (h1 : k1_chk1 i k (wIss k.val) (wCnt k.val) (wIss k.val) (wCnt k.val) (wCnt k.val) (wPrev k.val) (wStep k.val)) {Φ : _ → sProp 𝕄} :
    iprop(levAts (K (F := F)).L (K (F := F)).lev ∗ aFree d (jC i) (jJ i) B w (par (k.val + 1))
        ∗ aBusy d (jC i) (jJ i) A u (tileNo i) k.val ∗ aBusy d (jC i) (jJ i) B w (tileNo i) k.val ∗ Owing (Tid d i) O W)
      ⊢ iprop((iprop(aNext d (jC i) (jJ i) B w (tileNo i) (k.val + 1)
              ∗ aReady d (jC i) (jJ i) A u (tileNo i) k.val ∗ aReady d (jC i) (jJ i) B w (tileNo i) k.val ∗ Owing (Tid d i) O W)
            -∗ Φ (wIss (k.val + 1)))
          -∗ wp frame (wpE (defs₀ (F := F)) 𝒱₀ (Tid d i) none) Set.univ
            (k1_part2 i A.arg A.harg B.arg B.harg E.tbl E.htbl E.out E.hout A.scr A.hscr B.scr B.hscr A.gs B.gs A.al A.hal A.s B.al B.hal B.s E.rw E.hrw E.so k
              (wIss k.val) (wCnt k.val) (wIss k.val) (wCnt k.val) (wCnt k.val) (wPrev k.val) (wStep k.val)
              h2 h1 (tIv k) (tFirst k) (tCur (baseWord i) k) (tPrev (baseWord i) k) (tNext (baseWord i) k) (tMore (baseWord i) k)) Φ) := by
  rw [k1_part2_eq_skeleton]; unfold k1_part2_skel
  iintro ⟨#Hlv, HB, HA, HB', HO⟩ Hk
  simp only [Sem.Prog.bind_lift, Sem.Prog.bind_op, Sem.Prog.bind_ret, ite_self, dif_pos (cond3_ok i k), dif_pos (cond4_ok i k)]
  unfold aBusy aReady
  by_cases hk : k.val < 3
  · rw [dif_pos ((cond2_eq i k).mpr hk)]
    unfold aFree
    iapply (wp_issueIn d (jC i) (jJ i) B.arg B.al B.s w.f (w.q (par (k.val + 1))) (b := stepNo (tileNo i) (k.val + 1))
      (inBlk_eq (off8_eq i k hk)) (inSlot_eq (off7_eq k hk)) (semAt_eq (off9_eq k hk))) $$ [HB]
    · iexact HB
    iintro HB
    iapply (wp_waitIn d (jC i) (jJ i) A.arg A.al A.s u.f (u.q (par k.val)) (inSlot_eq (off10_eq k)) (semAt_eq (off12_eq k)) hO) $$ [HA HO]
    · isplitr; · iexact Hlv
      isplitl [HA] <;> iassumption
    iintro ⟨HA, HO⟩
    iapply (wp_waitIn d (jC i) (jJ i) B.arg B.al B.s w.f (w.q (par k.val)) (inSlot_eq (off13_eq k)) (semAt_eq (off15_eq k)) hO) $$ [HB' HO]
    · isplitr; · iexact Hlv
      isplitl [HB'] <;> iassumption
    iintro ⟨HB', HO⟩
    simp only [wp_pure]
    rw [word_iss i k]
    imodintro
    iapply Hk
    rw [aNext_lt d (jC i) (jJ i) B w (tileNo i) (by omega)]
    unfold aBusy
    isplitl [HB]; · iexact HB
    isplitl [HA]; · iexact HA
    isplitl [HB'] <;> iassumption
  · rw [dif_neg (fun h => hk ((cond2_eq i k).mp h))]
    iapply (wp_waitIn d (jC i) (jJ i) A.arg A.al A.s u.f (u.q (par k.val)) (inSlot_eq (off10_eq k)) (semAt_eq (off12_eq k)) hO) $$ [HA HO]
    · isplitr; · iexact Hlv
      isplitl [HA] <;> iassumption
    iintro ⟨HA, HO⟩
    iapply (wp_waitIn d (jC i) (jJ i) B.arg B.al B.s w.f (w.q (par k.val)) (inSlot_eq (off13_eq k)) (semAt_eq (off15_eq k)) hO) $$ [HB' HO]
    · isplitr; · iexact Hlv
      isplitl [HB'] <;> iassumption
    iintro ⟨HB', HO⟩
    simp only [wp_pure]
    rw [word_iss i k]
    imodintro
    iapply Hk
    rw [aNext_ge d (jC i) (jJ i) B w (tileNo i) (by omega)]
    isplitl [HB]; · iexact HB
    isplitl [HA]; · iexact HA
    isplitl [HB'] <;> iassumption

/-- Before the first row nothing has been multiplied. -/
theorem part_zero (R S : S128x128.Idx → Elt F .f32) (Y : S128x32.Idx → Elt F .f32) : part R S Y 0 = Y := by
  funext y; exact if_neg (Nat.not_lt_zero _)

/-- After all 128 rows the block holds the whole product. -/
theorem part_all (R S : S128x128.Idx → Elt F .f32) (Y : S128x32.Idx → Elt F .f32) : part R S Y 128 = prod R S := by
  funext y; exact if_pos (rowOf y).isLt

/-- The results of step `k`. -/
def gRows (k : ℕ) : S128x32.Idx → Elt F .f32 := prod (aRows X A u (tileNo i) k) (aRows X B w (tileNo i) k)

set_option maxRecDepth 65536 in
set_option maxHeartbeats 4000000 in
/-- The third part: both gathers start and are waited for, and the products of their rows fill the slot of results. -/
theorem part3_spec (k : Fin k1_t1_loop.trips) {O : CellTallies nD τ sig (HIx 2)} {W : Waits sig (HIx 2)} (hO : ∀ g, O g none = 0)
    (hIA : InRange (F := F) A.arg u.f) (hIB : InRange (F := F) B.arg w.f)
    (h4 : k1_chk4 (wCnt k.val)) (h3 : k1_chk3 (wCnt k.val)) (h2 : k1_chk2 (wCnt k.val)) (v77 : BitVec 1) (v78 v88 : BitVec 32) {Φ : _ → sProp 𝕄} :
    iprop(levAts (K (F := F)).L (K (F := F)).lev ∗ aReady d (jC i) (jJ i) A u (tileNo i) k.val ∗ aReady d (jC i) (jJ i) B w (tileNo i) k.val
        ∗ Rest1 d (jC i) (jJ i) E X A u ∗ Rest1 d (jC i) (jJ i) E X B w
        ∗ oFree (F := F) d (jC i) (jJ i) E (par k.val) ∗ Owing (Tid d i) O W)
      ⊢ iprop((iprop(aReady d (jC i) (jJ i) A u (tileNo i) k.val ∗ aReady d (jC i) (jJ i) B w (tileNo i) k.val
                ∗ Rest1 d (jC i) (jJ i) E X A u ∗ Rest1 d (jC i) (jJ i) E X B w
                ∗ (owns (Tid d i) (outSlot E.rw (par k.val)) fullShare (gRows i X A B u w k.val)
                  ∗ semVal (Tid d i, .dma (semAt E.so (par k.val))) 0) ∗ Owing (Tid d i) O W)
            -∗ Φ ⟨⟩)
          -∗ wp frame (wpE (defs₀ (F := F)) 𝒱₀ (Tid d i) none) Set.univ
            (k1_part3 i A.arg A.harg B.arg B.harg E.tbl E.htbl E.out E.hout A.scr A.hscr B.scr B.hscr A.gs B.gs A.al A.hal A.s B.al B.hal B.s E.rw E.hrw E.so
              (wCnt k.val) (wCnt k.val) (wCnt k.val) h4 h3 h2 v77 v78 v88) Φ) := by
  have hslot : rawSlot E.rw (wCnt k.val) h4 = outSlot E.rw (par k.val) := outSlot_eq (off20_eq k)
  rw [k1_part3_eq_skeleton]; unfold k1_part3_skel
  unfold aReady oFree Rest1
  iintro ⟨#Hlv, HA, HB, ⟨HtA, HxA, HgA⟩, ⟨HtB, HxB, HgB⟩, ⟨⟨%Y, HY⟩, Hs⟩, HO⟩ Hk
  simp only [Sem.Prog.bind_lift, Sem.Prog.bind_op, Sem.Prog.bind_ret, ite_self, SparseCore.waitIndirectGather]
  iapply (wp_issueG d (jC i) (jJ i) A.arg A.al A.s u.f (u.q (par k.val)) E.tbl X u.qt A.scr A.g rfl
    rfl (inList_eq (off16_eq k)) rfl hIA (scr_credit A.scr)) $$ [HA HtA HxA HgA]
  · isplitl [HA]; · iexact HA
    isplitl [HtA]; · iexact HtA
    isplitl [HxA] <;> iassumption
  iintro HA
  iapply (wp_issueG d (jC i) (jJ i) B.arg B.al B.s w.f (w.q (par k.val)) E.tbl X w.qt B.scr B.g rfl
    rfl (inList_eq (off17_eq k)) rfl hIB (scr_credit B.scr)) $$ [HB HtB HxB HgB]
  · isplitl [HB]; · iexact HB
    isplitl [HtB]; · iexact HtB
    isplitl [HxB] <;> iassumption
  iintro HB
  iapply (wp_waitG d (jC i) (jJ i) A.arg A.al A.s u.f (u.q (par k.val)) E.tbl X u.qt A.scr A.g
    rfl rfl hO) $$ [HA HO]
  · isplitr; · iexact Hlv
    isplitl [HA] <;> iassumption
  iintro ⟨HA, HtA, HxA, HgA, HO⟩
  iapply (wp_waitG d (jC i) (jJ i) B.arg B.al B.s w.f (w.q (par k.val)) E.tbl X w.qt B.scr B.g
    rfl rfl hO) $$ [HB HO]
  · isplitr; · iexact Hlv
    isplitl [HB] <;> iassumption
  iintro ⟨HB, HtB, HxB, HgB, HO⟩
  sl_for (RowInv (F := F) d i A.scr B.scr (aRows X A u (tileNo i) k.val) (aRows X B w (tileNo i) k.val) Y (rawSlot E.rw (wCnt k.val) h4)) $$ [HxA HxB HY]
  · intro t acc
    exact row_step d i A.arg A.harg B.arg B.harg E.tbl E.htbl E.out E.hout A.scr A.hscr B.scr B.hscr A.gs B.gs A.al A.hal A.s B.al B.hal B.s E.rw E.hrw E.so _ _ Y _ _ _ h4 h3 h2 v77 v78 v88 t acc
  · unfold RowInv aRows
    rw [hslot, part_zero]
    isplitl [HxA]; · iexact HxA
    isplitl [HxB] <;> iassumption
  iintro %acc HI
  rw [show Scf.trips k1_t2_loop.lb k1_t2_loop.ub k1_t2_loop.st = 128 from trips2]
  unfold RowInv
  rw [hslot, part_all]
  icases HI with ⟨HxA, HxB, HY⟩
  try unfold part3_spec.sl.prog.cont_1
  simp only [wp_pure, ite_self]
  imodintro
  iapply Hk
  unfold gRows
  isplitl [HA]; · iexact HA
  isplitl [HB]; · iexact HB
  isplitl [HtA HxA HgA]
  · isplitl [HtA]; · iexact HtA
    isplitl [HxA]
    · iexists _; iexact HxA
    iexact HgA
  isplitl [HtB HxB HgB]
  · isplitl [HtB]; · iexact HtB
    isplitl [HxB]
    · iexists _; iexact HxB
    iexact HgB
  isplitl [HY Hs]
  · isplitl [HY] <;> iassumption
  iexact HO

set_option maxRecDepth 65536 in
set_option maxHeartbeats 4000000 in
/-- The fourth part: the results start on their way out, and those of the step before are waited for. -/
theorem part4_spec (k : Fin k1_t1_loop.trips) {O : CellTallies nD τ sig (HIx 2)} {W : Waits sig (HIx 2)} (hO : ∀ g, O g none = 0)
    (G : ℕ → S128x32.Idx → Elt F .f32)
    (h1 : k1_chk1 i k (wIss k.val) (wCnt k.val) (wIss k.val) (wCnt k.val) (wCnt k.val) (wPrev k.val) (wStep k.val)) {Φ : _ → sProp 𝕄} :
    iprop(levAts (K (F := F)).L (K (F := F)).lev
        ∗ (owns (Tid d i) (outSlot E.rw (par k.val)) fullShare (G k.val) ∗ semVal (Tid d i, .dma (semAt E.so (par k.val))) 0)
        ∗ oPrev d (jC i) (jJ i) E G (tileNo i) k.val ∗ blks d (jC i) (jJ i) E G (tileNo i) k.val ∗ Owing (Tid d i) O W)
      ⊢ iprop((iprop(OSt d (jC i) (jJ i) E G (tileNo i) (k.val + 1) ∗ Owing (Tid d i) O W)
            -∗ Φ ⟨wCnt (k.val + 1), wPrev (k.val + 1), wCnt (k.val + 1), wCnt (k.val + 1), Scalar.select 1#1 (Scalar.addi (wStep k.val) 1#32) (wStep k.val),
                Scalar.cmpi .eq (Scalar.select 1#1 (Scalar.addi (wStep k.val) 1#32) (wStep k.val)) 4#32⟩)
          -∗ wp frame (wpE (defs₀ (F := F)) 𝒱₀ (Tid d i) none) Set.univ
            (k1_part4 i A.arg A.harg B.arg B.harg E.tbl E.htbl E.out E.hout A.scr A.hscr B.scr B.hscr A.gs B.gs A.al A.hal A.s B.al B.hal B.s E.rw E.hrw E.so k
              (wIss k.val) (wCnt k.val) (wIss k.val) (wCnt k.val) (wCnt k.val) (wPrev k.val) (wStep k.val)
              h1 (tFirst k) (tLast k) (tCur (baseWord i) k) (tPrev (baseWord i) k) (tNext (baseWord i) k)) Φ) := by
  have hk : k.val < 4 := trips1 ▸ k.isLt
  have ht := blks_take (F := F) d (jC i) (jJ i) E G (tileNo i) hk
  have hb := blks_put (F := F) d (jC i) (jJ i) E G (tileNo i) hk
  have ho : (oPrev d (jC i) (jJ i) E G (tileNo i) (k.val + 1) : sProp 𝕄) = oBusy d (jC i) (jJ i) E G (tileNo i) k.val := if_pos (Nat.succ_pos k.val)
  rw [k1_part4_eq_skeleton]; unfold k1_part4_skel
  unfold OSt
  rw [ho]
  by_cases h0 : 0 < k.val
  · rw [show (oPrev d (jC i) (jJ i) E G (tileNo i) k.val : sProp 𝕄) = oBusy d (jC i) (jJ i) E G (tileNo i) (k.val - 1) from if_pos h0]
    rw [if_pos h0] at hb
    iintro ⟨#Hlv, ⟨HY, Hs⟩, Hp, Hb, HO⟩ Hk
    ihave Hb := ht $$ Hb
    icases Hb with ⟨Hd, Hb⟩
    simp only [Sem.Prog.bind_lift, Sem.Prog.bind_op, Sem.Prog.bind_ret, ite_self, dif_pos (cond8_ok i k), dif_pos ((cond11_eq i k).mpr h0)]
    iapply (wp_issueO d (jC i) (jJ i) E G (tileNo i) (outSlot_eq (off25_eq k)) (outBlk_eq (off26_eq i k)) (semAt_eq (off27_eq k))) $$ [HY Hs Hd]
    · isplitl [HY]; · iexact HY
      isplitl [Hs] <;> iassumption
    iintro HA
    iapply (wp_waitO d (jC i) (jJ i) E G (tileNo i) (outBlk_eq (off29_eq i k h0)) (semAt_eq (off30_eq k)) hO) $$ [Hp HO]
    · isplitr; · iexact Hlv
      isplitl [Hp] <;> iassumption
    iintro ⟨Hd, Hf, HO⟩
    simp only [wp_pure]
    rw [word_out i k, word_prev i k, word_in i k]
    imodintro
    iapply Hk
    rw [par_prev h0]
    isplitr [HO]; swap; · iexact HO
    isplitl [Hf]; · iexact Hf
    isplitl [HA]; · iexact HA
    iapply hb
    isplitl [Hb] <;> iassumption
  · rw [show (oPrev d (jC i) (jJ i) E G (tileNo i) k.val : sProp 𝕄) = oFree (F := F) d (jC i) (jJ i) E (par (k.val + 1)) from if_neg h0]
    rw [if_neg h0] at hb
    iintro ⟨#Hlv, ⟨HY, Hs⟩, Hp, Hb, HO⟩ Hk
    ihave Hb := ht $$ Hb
    icases Hb with ⟨Hd, Hb⟩
    simp only [Sem.Prog.bind_lift, Sem.Prog.bind_op, Sem.Prog.bind_ret, ite_self, dif_pos (cond8_ok i k), dif_neg (fun h => h0 ((cond11_eq i k).mp h))]
    iapply (wp_issueO d (jC i) (jJ i) E G (tileNo i) (outSlot_eq (off25_eq k)) (outBlk_eq (off26_eq i k)) (semAt_eq (off27_eq k))) $$ [HY Hs Hd]
    · isplitl [HY]; · iexact HY
      isplitl [Hs] <;> iassumption
    iintro HA
    simp only [wp_pure]
    rw [word_out i k, word_prev i k, word_in i k]
    imodintro
    iapply Hk
    isplitr [HO]; swap; · iexact HO
    isplitl [Hp]; · iexact Hp
    isplitl [HA]; · iexact HA
    iapply hb
    isplitl [Hb]; · iexact Hb
    iempintro

end Cert.Proof.Neumf.Gmf
-- ==== Proof.GmfBody.lean ====
/-
  The second SparseCore kernel on one tile: trips composed, from everything at rest to the tile's products in place.
-/
module

public import proofs.«01_k».proof.Proof.GmfTrip

@[expose] public section

noncomputable section

namespace Cert.Proof.Neumf.Gmf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable (d : Dev nD) (i : grid1.Coords) (E : Ends) (X : S100000x128.Idx → Elt F .f32) (A B : Feed) (u : FeedVal F A) (w : FeedVal F B)

/-- What holds between two trips, and of what the loop carries. -/
def Inv (O : CellTallies nD τ sig (HIx 2)) (W : Waits sig (HIx 2)) (k : ℕ)
    (acc : BitVec 32 × BitVec 32 × BitVec 32 × BitVec 32 × BitVec 32 × BitVec 32 × BitVec 32) : sProp 𝕄 :=
  iprop(⌜acc = words k⌝ ∗ levAts (K (F := F)).L (K (F := F)).lev ∗ FSt d (jC i) (jJ i) E X A u (tileNo i) k ∗ FSt d (jC i) (jJ i) E X B w (tileNo i) k
    ∗ OSt d (jC i) (jJ i) E (gRows i X A B u w) (tileNo i) k ∗ Owing (Tid d i) O W)

set_option maxRecDepth 65536 in
set_option maxHeartbeats 4000000 in
/-- A trip. -/
theorem trip (k : Fin k1_t1_loop.trips) {O : CellTallies nD τ sig (HIx 2)} {W : Waits sig (HIx 2)} (hO : ∀ g, O g none = 0)
    (hIA : InRange (F := F) A.arg u.f) (hIB : InRange (F := F) B.arg w.f) (v8 : BitVec 32) (acc : _) :
    Inv (F := F) d i E X A B u w O W k.val acc
      ⊢ wp frame (wpE (defs₀ (F := F)) 𝒱₀ (Tid d i) none) Set.univ
          (k1_t1_body i A.arg A.harg B.arg B.harg E.tbl E.htbl E.out E.hout A.scr A.hscr B.scr B.hscr A.gs B.gs A.al A.hal A.s B.al B.hal B.s E.rw E.hrw E.so (baseWord i) v8 k acc)
          (Inv (F := F) d i E X A B u w O W (k.val + 1)) := by
  have hk : k.val < 4 := trips1 ▸ k.isLt
  have hfA := aReady_free (F := F) d (jC i) (jJ i) A u (tileNo i) (k := k.val)
  have hfB := aReady_free (F := F) d (jC i) (jJ i) B w (tileNo i) (k := k.val)
  unfold Inv FSt
  rw [show (OSt d (jC i) (jJ i) E (gRows i X A B u w) (tileNo i) k.val : sProp 𝕄)
    = iprop(oFree (F := F) d (jC i) (jJ i) E (par k.val) ∗ oPrev d (jC i) (jJ i) E (gRows i X A B u w) (tileNo i) k.val
      ∗ blks d (jC i) (jJ i) E (gRows i X A B u w) (tileNo i) k.val) from rfl]
  rw [aNext_lt d (jC i) (jJ i) A u (tileNo i) hk, aNext_lt d (jC i) (jJ i) B w (tileNo i) hk]
  unfold k1_t1_body
  iintro ⟨%hacc, #Hlv, ⟨HA, HfA, HrA⟩, ⟨HB, HfB, HrB⟩, ⟨Ho, Hp, Hb⟩, HO⟩
  subst hacc
  rw [show words k.val = (wIss k.val, wCnt k.val, wIss k.val, wCnt k.val, wCnt k.val, wPrev k.val, wStep k.val) from rfl]
  rw [wp_bind]
  iapply (part1_spec d i E A B u k) $$ [HfA]
  · iexact HfA
  iintro %h4 %h3 %h2 %h1 HnA
  dsimp only
  rw [wp_bind]
  iapply (part2_spec d i E A B u w k hO h2 h1) $$ [HfB HA HB HO]
  · isplitr; · iexact Hlv
    isplitl [HfB]; · iexact HfB
    isplitl [HA]; · iexact HA
    isplitl [HB] <;> iassumption
  iintro ⟨HnB, HA, HB, HO⟩
  rw [wp_bind]
  iapply (part3_spec d i E X A B u w k hO hIA hIB h4 h3 h2) $$ [HA HB HrA HrB Ho HO]
  · isplitr; · iexact Hlv
    isplitl [HA]; · iexact HA
    isplitl [HB]; · iexact HB
    isplitl [HrA]; · iexact HrA
    isplitl [HrB]; · iexact HrB
    isplitl [Ho] <;> iassumption
  iintro ⟨HA, HB, HrA, HrB, Ho, HO⟩
  rw [wp_bind]
  iapply (part4_spec d i E A B k hO (gRows i X A B u w) h1) $$ [Ho Hp Hb HO]
  · isplitr; · iexact Hlv
    isplitl [Ho]; · iexact Ho
    isplitl [Hp]; · iexact Hp
    isplitl [Hb] <;> iassumption
  iintro ⟨Ho, HO⟩
  simp only [Sem.Prog.bind_lift, Sem.Prog.bind_op, Sem.Prog.bind_ret, ite_self]
  rw [word_step k]
  simp only [wp_pure]
  imodintro
  isplitr; · ipureintro; rfl
  isplitr; · iexact Hlv
  isplitl [HnA HA HrA]
  · isplitl [HnA]; · iexact HnA
    isplitl [HA]
    · iapply hfA; iexact HA
    iexact HrA
  isplitl [HnB HB HrB]
  · isplitl [HnB]; · iexact HnB
    isplitl [HB]
    · iapply hfB; iexact HB
    iexact HrB
  isplitl [Ho] <;> iassumption

/-! ## The whole body -/

/-- A feed at rest. -/
def Feeding (cc : Fin τ.nSC) (jj : Fin τ.nSub) : sProp 𝕄 :=
  iprop(aFree d cc jj A u (par 0) ∗ aFree d cc jj A u (par 1) ∗ Rest1 d cc jj E X A u)

/-- The results' slots at rest, and the result's blocks at any contents. -/
def Start (cc : Fin τ.nSC) (jj : Fin τ.nSub) (n : Fin 32) : sProp 𝕄 :=
  iprop(oFree (F := F) d cc jj E (par 0) ∗ oFree (F := F) d cc jj E (par 1)
    ∗ todo (F := F) d cc jj E n 0 ∗ todo (F := F) d cc jj E n 1 ∗ todo (F := F) d cc jj E n 2 ∗ todo (F := F) d cc jj E n 3)

/-- The same with the blocks in place. -/
def Finish (G : ℕ → S128x32.Idx → Elt F .f32) (cc : Fin τ.nSC) (jj : Fin τ.nSub) (n : Fin 32) : sProp 𝕄 :=
  iprop(oFree (F := F) d cc jj E (par 0) ∗ oFree (F := F) d cc jj E (par 1)
    ∗ done d cc jj E G n 0 ∗ done d cc jj E G n 1 ∗ done d cc jj E G n 2 ∗ done d cc jj E G n 3)

/-- What the pipeline's opening leaves of one input is what its loop needs before trip 0. -/
theorem FSt_zero {cc : Fin τ.nSC} {jj : Fin τ.nSub} {n : Fin 32} :
    iprop(aBusy d cc jj A u n 0 ∗ aFree d cc jj A u (par 1) ∗ Rest1 d cc jj E X A u) ⊢ FSt (F := F) d cc jj E X A u n 0 := by
  unfold FSt
  rw [aNext_lt d cc jj A u n (by omega)]

/-- What the loop leaves of one input after its last trip is that input at rest. -/
theorem FSt_four {cc : Fin τ.nSC} {jj : Fin τ.nSub} {n : Fin 32} :
    (FSt d cc jj E X A u n 4 : sProp 𝕄) ⊢ Feeding d E X A u cc jj := by
  unfold FSt Feeding
  rw [aNext_ge d cc jj A u n (by omega)]
  exact Entails.of_eq rfl

/-- The untouched output side is what the loop needs before trip 0. -/
theorem OSt_zero (G : ℕ → S128x32.Idx → Elt F .f32) {cc : Fin τ.nSC} {jj : Fin τ.nSub} {n : Fin 32} :
    (Start (F := F) d E cc jj n : sProp 𝕄) ⊢ OSt (F := F) d cc jj E G n 0 := by
  unfold Start OSt blks blk
  rw [show (oPrev d cc jj E G n 0 : sProp 𝕄) = oFree (F := F) d cc jj E (par 1) from if_neg (by omega)]
  exact Entails.of_eq rfl

/-- After the last trip one output slot is free, the last block is on its way and the other
blocks are done. -/
theorem OSt_four (G : ℕ → S128x32.Idx → Elt F .f32) {cc : Fin τ.nSC} {jj : Fin τ.nSub} {n : Fin 32} :
    (OSt d cc jj E G n 4 : sProp 𝕄) ⊢ iprop(oFree (F := F) d cc jj E (par 0) ∗ oBusy d cc jj E G n 3 ∗ done d cc jj E G n 0 ∗ done d cc jj E G n 1 ∗ done d cc jj E G n 2) := by
  unfold OSt blks blk
  rw [show (oPrev d cc jj E G n 4 : sProp 𝕄) = oBusy d cc jj E G n 3 from if_pos (by omega)]
  rw [show par 4 = par 0 from rfl]
  simp
  iintro ⟨H5, H6, H7, H8, H9, -⟩
  isplitl [H5]; · iexact H5
  isplitl [H6]; · iexact H6
  isplitl [H7]; · iexact H7
  isplitl [H8] <;> iassumption

set_option maxRecDepth 65536 in
set_option maxHeartbeats 4000000 in
/-- The kernel on one tile, from everything at rest to the tile's products in place. -/
theorem gmf_body {O : CellTallies nD τ sig (HIx 2)} {W : Waits sig (HIx 2)} (hO : ∀ g, O g none = 0)
    (hIA : InRange (F := F) A.arg u.f) (hIB : InRange (F := F) B.arg w.f) :
    iprop(levAts (K (F := F)).L (K (F := F)).lev ∗ Feeding d E X A u (jC i) (jJ i) ∗ Feeding d E X B w (jC i) (jJ i)
        ∗ Start (F := F) d E (jC i) (jJ i) (tileNo i) ∗ Owing (Tid d i) O W)
      ⊢ wp frame (wpE (defs₀ (F := F)) 𝒱₀ (Tid d i) none) Set.univ
          (cc1__sc_gmf i A.arg A.harg B.arg B.harg E.tbl E.htbl E.out E.hout A.scr A.hscr B.scr B.hscr A.gs B.gs A.al A.hal A.s B.al B.hal B.s E.rw E.hrw E.so)
          fun _ => iprop(Feeding d E X A u (jC i) (jJ i) ∗ Feeding d E X B w (jC i) (jJ i)
            ∗ Finish (F := F) d E (gRows i X A B u w) (jC i) (jJ i) (tileNo i) ∗ Owing (Tid d i) O W) := by
  have h0A := FSt_zero (F := F) d E X A u (cc := jC i) (jj := jJ i) (n := tileNo i)
  have h0B := FSt_zero (F := F) d E X B w (cc := jC i) (jj := jJ i) (n := tileNo i)
  have h4A := FSt_four (F := F) d E X A u (cc := jC i) (jj := jJ i) (n := tileNo i)
  have h4B := FSt_four (F := F) d E X B w (cc := jC i) (jj := jJ i) (n := tileNo i)
  have h0O := OSt_zero (F := F) d E (gRows i X A B u w) (cc := jC i) (jj := jJ i) (n := tileNo i)
  have h4O := OSt_four (F := F) d E (gRows i X A B u w) (cc := jC i) (jj := jJ i) (n := tileNo i)
  rw [cc1__sc_gmf_eq_skeleton]; unfold cc1__sc_gmf_skel
  rw [show (Feeding d E X A u (jC i) (jJ i) : sProp 𝕄) = iprop(aFree d (jC i) (jJ i) A u (par 0) ∗ aFree d (jC i) (jJ i) A u (par 1) ∗ Rest1 d (jC i) (jJ i) E X A u) from rfl,
    show (Feeding d E X B w (jC i) (jJ i) : sProp 𝕄) = iprop(aFree d (jC i) (jJ i) B w (par 0) ∗ aFree d (jC i) (jJ i) B w (par 1) ∗ Rest1 d (jC i) (jJ i) E X B w) from rfl]
  iintro ⟨#Hlv, ⟨HA, HA1, HrA⟩, ⟨HB, HB1, HrB⟩, Ho, HO⟩
  rw [wp_bind, k1_part5_eq_skeleton]; unfold k1_part5_skel
  simp only [Sem.Prog.bind_lift, Sem.Prog.bind_op, Sem.Prog.bind_ret]
  rw [base_eq i]
  unfold aFree
  iapply (wp_issueIn d (jC i) (jJ i) A.arg A.al A.s u.f (u.q (par 0)) (b := stepNo (tileNo i) 0)
      (inBlk_eq (off2_eq i)) (inSlot_eq off1_eq) (semAt_eq off3_eq)) $$ [HA]
  · iexact HA
  iintro HA
  simp only [wp_pure]
  imodintro
  rw [wp_bind, k1_part6_eq_skeleton]; unfold k1_part6_skel
  simp only [Sem.Prog.bind_lift, Sem.Prog.bind_op, Sem.Prog.bind_ret]
  iapply (wp_issueIn d (jC i) (jJ i) B.arg B.al B.s w.f (w.q (par 0)) (b := stepNo (tileNo i) 0)
      (inBlk_eq (off2_eq i)) (inSlot_eq off1_eq) (semAt_eq off3_eq)) $$ [HB]
  · iexact HB
  iintro HB
  sl_for (Inv (F := F) d i E X A B u w O W) $$ [HA HA1 HrA HB HB1 HrB Ho HO]
  · intro k acc
    exact trip d i E X A B u w k hO hIA hIB _ acc
  · unfold Inv
    isplitr; · ipureintro; rfl
    isplitr; · iexact Hlv
    isplitl [HA HA1 HrA]
    · iapply h0A
      unfold aBusy aFree
      isplitl [HA]; · iexact HA
      isplitl [HA1] <;> iassumption
    isplitl [HB HB1 HrB]
    · iapply h0B
      unfold aBusy aFree
      isplitl [HB]; · iexact HB
      isplitl [HB1] <;> iassumption
    isplitl [Ho]
    · iapply h0O; iexact Ho
    iexact HO
  iintro %acc HI
  rw [show Scf.trips k1_t1_loop.lb k1_t1_loop.ub k1_t1_loop.st = 4 from trips1]
  unfold Inv
  icases HI with ⟨%hacc, -, HA, HB, Ho, HO⟩
  subst hacc
  unfold gmf_body.sl.prog.cont_1 words
  dsimp only
  rw [wp_assume_of _ _ _ _ (chk6_ok i), wp_assume_of _ _ _ _ chk5_ok]
  simp only [wp_pure]
  imodintro
  ihave HA := h4A $$ HA
  ihave HB := h4B $$ HB
  ihave Ho := h4O $$ Ho
  icases Ho with ⟨Ho, Hp, Hd0, Hd1, Hd2⟩
  iapply (wp_waitO d (jC i) (jJ i) E (gRows i X A B u w) (tileNo i) (outBlk_eq (off32_eq i)) (semAt_eq off33_eq) hO) $$ [Hp HO]
  · isplitr; · iexact Hlv
    isplitl [Hp] <;> iassumption
  iintro ⟨Hd3, Hp, HO⟩
  simp only [wp_pure]
  imodintro
  unfold Finish Feeding
  isplitl [HA]; · iexact HA
  isplitl [HB]; · iexact HB
  isplitl [Ho Hp Hd0 Hd1 Hd2 Hd3]
  · isplitl [Ho]; · iexact Ho
    isplitl [Hp]; · iexact Hp
    isplitl [Hd0]; · iexact Hd0
    isplitl [Hd1]; · iexact Hd1
    isplitl [Hd2] <;> iassumption
  iexact HO

end Cert.Proof.Neumf.Gmf
-- ==== Proof.Shares.lean ====
/-
  Shares of an array for the tiles, a tile's cells and buffers taken out of what it owns, and a double buffer as its two slots.
-/
module

public import proofs.«01_k».proof.Proof.MlpBody
public import proofs.«01_k».proof.Proof.GmfBody

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

open Idealize.ShloMosaic.SparseCore.Cfg (ownBufs ownSems0 ownCells ownRefs mem_ownCells mem_ownRefs mem_ownRefs_of_owner)

/-! ## Shares -/

/-- Share number `i` of the `2 ^ n` equal parts of `q`. -/
def part : ℕ → PosShare TreeShare → ℕ → PosShare TreeShare
  | 0, q, _ => q
  | n + 1, q, i => if i % 2 = 0 then part n q.left (i / 2) else part n q.right (i / 2)

/-- A share of an array is its two halves. -/
theorem pts_halve {ℓ : Loc nD τ sig} (I : Finset (Idx ℓ)) (f : Buf (Elt F) ℓ) (q : PosShare TreeShare) :
    (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- The parts of depth `n + 1` by those of depth `n` and a side. -/
def twoEquiv (n : ℕ) : Fin (2 ^ n) × Fin 2 ≃ Fin (2 ^ (n + 1)) := finProdFinEquiv.trans (finCongr (by omega))

/-- An array at a share is the parts of the share together. -/
theorem pts_parts {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{part n q i.val} f
  | 0, q => (bigSep_univ_of_subsingleton (0 : Fin 1) (Φ := fun i : Fin (2 ^ 0) => (ℓ ↦[I]{part 0 q i.val} f : sProp 𝕄))).symm
  | n + 1, q => by
    rw [pts_halve I f q, pts_parts I f n q.left, pts_parts I f n q.right, ← bigSep_sep',
      bigSep_univ_equiv (twoEquiv n) (fun i : Fin (2 ^ (n + 1)) => (ℓ ↦[I]{part (n + 1) q i.val} f : sProp 𝕄)),
      bigSep_univ_prod]
    refine bigSep_congr fun a _ => ?_
    rw [BI.bigSep_fin_two]
    have h0 : part (n + 1) q (twoEquiv n (a, (0 : Fin 2))).val = part n q.left a.val := by
      have e : (twoEquiv n (a, (0 : Fin 2))).val = 0 + 2 * a.val := rfl
      rw [e, part, if_pos (by omega)]; congr 1; omega
    have h1 : part (n + 1) q (twoEquiv n (a, (1 : Fin 2))).val = part n q.right a.val := by
      have e : (twoEquiv n (a, (1 : Fin 2))).val = 1 + 2 * a.val := rfl
      rw [e, part, if_neg (by omega)]; congr 1; omega
    rw [h0, h1]; rfl

/-! ## A tile's own cells and buffers -/

/-- Some cells of a thread taken out of all it owns. -/
theorem take_cells (thr : Thread nD τ) (C : Finset (SemLoc sig)) (h : ∀ s ∈ C, (GSem.isScoped (thr, s) : Bool) = true) :
    (ownSems0 thr : sProp 𝕄) = iprop((bigSep C fun s => semVal (thr, s) 0)
      ∗ bigSep (ownCells thr \ C.map ⟨fun s => ((thr, s) : GSem nD τ sig), fun _ _ e => (Prod.mk.inj e).2⟩) fun g => semVal g 0) := by
  unfold SparseCore.Cfg.ownSems0
  rw [SparseCore.bigSep_sdiff_split' (t := C.map ⟨fun s => ((thr, s) : GSem nD τ sig), fun _ _ e => (Prod.mk.inj e).2⟩)
    (by
      intro g hg
      obtain ⟨s, hs, rfl⟩ := Finset.mem_map.mp hg
      exact mem_ownCells.mpr ⟨rfl, h s hs⟩), bigSep_map]
  rfl

/-- Some buffers of a tile taken out of all it owns. -/
theorem take_bufs (d : Dev nD) (c : Fin τ.nSC) (i : Fin τ.nSub) (B : Finset (Ref sig .scVector))
    (h : ∀ b ∈ B, ((Proc.scVector c i : Proc τ).devRef b).owner = .proc (.scVector c i)) :
    (ownBufs (V d c i) : sProp 𝕄) = iprop((bigSep B fun b => iprop(∃ f, ((V d c i).loc b) ↦{fullShare} f))
      ∗ bigSep (ownRefs (V d c i).2 \ B.map ⟨(Proc.scVector c i : Proc τ).devRef, Proc.devRef_injective _⟩)
        fun b => iprop(∃ f, (((V d c i).1, b) : Loc nD τ sig) ↦{fullShare} f)) := by
  unfold SparseCore.Cfg.ownBufs
  rw [SparseCore.bigSep_sdiff_split' (t := B.map ⟨(Proc.scVector c i : Proc τ).devRef, Proc.devRef_injective _⟩)
    (by
      intro g hg
      obtain ⟨b, hb, rfl⟩ := Finset.mem_map.mp hg
      exact mem_ownRefs_of_owner (h b hb)), bigSep_map]
  rfl

/-! ## A buffer as two parts -/

section Two

variable (thr : Thread nD τ) {sp : Space} {s : Shape} {e : EltTy} (m : Memref sig thr.2.kind sp s e)
variable (r₀ r₁ : Rect s) (hu : r₀.set ∪ r₁.set = Finset.univ) (hd : Disjoint r₀.set r₁.set)

include hu hd in
/-- A whole buffer at any contents is two rectangles that share it out, each at any contents. -/
theorem two_parts :
    (iprop(∃ f, m.view.loc thr ↦[m.view.set]{fullShare} f) : sProp 𝕄)
      = iprop((∃ f, m.view.loc thr ↦[(m.view.slice r₀).set]{fullShare} f) ∗ (∃ f, m.view.loc thr ↦[(m.view.slice r₁).set]{fullShare} f)) := by
  classical
  have hset : m.view.set = (m.view.slice r₀).set ∪ (m.view.slice r₁).set := by
    rw [View.set_slice, View.set_slice, ← Finset.map_union, hu]; rfl
  have hdis : Disjoint (m.view.slice r₀).set (m.view.slice r₁).set := by
    rw [View.set_slice, View.set_slice]; exact (Finset.disjoint_map _).mpr hd
  have h₁ : (iprop(∃ f, m.view.loc thr ↦[m.view.set]{fullShare} f) : sProp 𝕄)
      ⊢ iprop((∃ f, m.view.loc thr ↦[(m.view.slice r₀).set]{fullShare} f) ∗ (∃ f, m.view.loc thr ↦[(m.view.slice r₁).set]{fullShare} f)) := by
    iintro ⟨%f, H⟩
    ihave H := (pointsTo_split_subset (S := m.view.set) (I := (m.view.slice r₀).set) (View.set_slice_subset m.view r₀)).1 $$ H
    icases H with ⟨H0, H1⟩
    have hs : m.view.set \ (m.view.slice r₀).set = (m.view.slice r₁).set := by
      rw [hset, Finset.union_sdiff_left]; exact Finset.sdiff_eq_self_of_disjoint hdis.symm
    isplitl [H0]; · iexists f; iexact H0
    iexists f
    iapply (Entails.of_eq (show (m.view.loc thr ↦[m.view.set \ (m.view.slice r₀).set]{fullShare} f : sProp 𝕄)
      = m.view.loc thr ↦[(m.view.slice r₁).set]{fullShare} f by rw [hs])); iexact H1
  have h₂ : (iprop((∃ f, m.view.loc thr ↦[(m.view.slice r₀).set]{fullShare} f) ∗ (∃ f, m.view.loc thr ↦[(m.view.slice r₁).set]{fullShare} f)) : sProp 𝕄)
      ⊢ iprop(∃ f, m.view.loc thr ↦[m.view.set]{fullShare} f) := by
    iintro ⟨⟨%f, H0⟩, ⟨%g, H1⟩⟩
    let k : m.view.ty.Contents (Elt F) := fun j => if j ∈ (m.view.slice r₀).set then f j else g j
    have e0 : (m.view.loc thr ↦[(m.view.slice r₀).set]{fullShare} f : sProp 𝕄) = m.view.loc thr ↦[(m.view.slice r₀).set]{fullShare} k :=
      pointsTo_congr fun j hj => (if_pos hj).symm
    have e1 : (m.view.loc thr ↦[(m.view.slice r₁).set]{fullShare} g : sProp 𝕄) = m.view.loc thr ↦[(m.view.slice r₁).set]{fullShare} k :=
      pointsTo_congr fun j hj => (if_neg (fun h0 => (Finset.disjoint_left.mp hdis h0) hj)).symm
    ihave H0 := (Entails.of_eq e0) $$ H0
    ihave H1 := (Entails.of_eq e1) $$ H1
    iexists k
    have hs : m.view.set \ (m.view.slice r₀).set = (m.view.slice r₁).set := by
      rw [hset, Finset.union_sdiff_left]; exact Finset.sdiff_eq_self_of_disjoint hdis.symm
    iapply (pointsTo_split_subset (S := m.view.set) (I := (m.view.slice r₀).set) (View.set_slice_subset m.view r₀)).2
    isplitl [H0]; · iexact H0
    iapply (Entails.of_eq (show (m.view.loc thr ↦[(m.view.slice r₁).set]{fullShare} k : sProp 𝕄)
      = m.view.loc thr ↦[m.view.set \ (m.view.slice r₀).set]{fullShare} k by rw [hs])); iexact H1
  exact BI.equiv_iff.mp ⟨h₁, h₂⟩

end Two

/-- Owning a memref at some contents is holding its elements at some contents. -/
theorem owns_any (thr : Thread nD τ) {sp : Space} {s : Shape} {e : EltTy} (m : Memref sig thr.2.kind sp s e) :
    (iprop(∃ X, owns thr m fullShare X) : sProp 𝕄) = iprop(∃ f, m.view.loc thr ↦[m.view.set]{fullShare} f) := by
  have h₁ : (iprop(∃ X, owns thr m fullShare X) : sProp 𝕄) ⊢ iprop(∃ f, m.view.loc thr ↦[m.view.set]{fullShare} f) := by
    unfold owns
    iintro ⟨%X, %f, -, H⟩
    iexists f; iexact H
  have h₂ : (iprop(∃ f, m.view.loc thr ↦[m.view.set]{fullShare} f) : sProp 𝕄) ⊢ iprop(∃ X, owns thr m fullShare X) := by
    iintro ⟨%f, H⟩
    iexists _
    iapply (Entails.of_eq (owns_read (F := F) (c := thr) m fullShare f).symm); iexact H
  exact BI.equiv_iff.mp ⟨h₁, h₂⟩

section Slots

variable (d : Dev nD) (cc : Fin τ.nSC) (jj : Fin τ.nSub)

/-- The two index slots make up the whole buffer. -/
theorem slotIn_union : (Rect.unit (s := S2x1x128) ![(par 0).val, 0, 0] S1x1x128.size (inb_slot (par 0))).set
    ∪ (Rect.unit (s := S2x1x128) ![(par 1).val, 0, 0] S1x1x128.size (inb_slot (par 1))).set = Finset.univ := by
  refine Finset.eq_univ_of_forall fun i => ?_
  have h0 : (i 0).val < 2 := (i 0).isLt
  have h1 : (i 1).val < 1 := (i 1).isLt
  have h2 : (i 2).val < 128 := (i 2).isLt
  rw [Finset.mem_union, Rect.mem_set_unit, Rect.mem_set_unit]
  rcases (show (i 0).val = 0 ∨ (i 0).val = 1 by omega) with h | h
  · left; intro a
    match a with
    | 0 => exact ⟨Nat.zero_le _, (by rw [h]; decide)⟩
    | 1 => exact ⟨Nat.zero_le _, h1⟩
    | 2 => exact ⟨Nat.zero_le _, h2⟩
  · right; intro a
    match a with
    | 0 => exact ⟨(by rw [h]; decide), (by rw [h]; decide)⟩
    | 1 => exact ⟨Nat.zero_le _, h1⟩
    | 2 => exact ⟨Nat.zero_le _, h2⟩

/-- The two index slots have no element in common. -/
theorem slotIn_disjoint : Disjoint (Rect.unit (s := S2x1x128) ![(par 0).val, 0, 0] S1x1x128.size (inb_slot (par 0))).set
    (Rect.unit (s := S2x1x128) ![(par 1).val, 0, 0] S1x1x128.size (inb_slot (par 1))).set := by
  refine Finset.disjoint_left.mpr fun i h h' => ?_
  have a := (Rect.mem_set_unit.mp h 0).2
  have b := (Rect.mem_set_unit.mp h' 0).1
  have e : (![(par 0).val, 0, 0] : Fin 3 → ℕ) 0 + S1x1x128.size 0 = 1 := rfl
  have e' : (![(par 1).val, 0, 0] : Fin 3 → ℕ) 0 = 1 := rfl
  omega

/-- A double buffer of indices is its two slots. -/
theorem in_slots (al : Memref sig .scVector .vmem S2x1x128 .i32) :
    (iprop(∃ f, al.view.loc (V d cc jj) ↦[al.view.set]{fullShare} f) : sProp 𝕄)
      = iprop((∃ X, owns (V d cc jj) (inSlot al (par 0)) fullShare X) ∗ (∃ X, owns (V d cc jj) (inSlot al (par 1)) fullShare X)) := by
  rw [owns_any (F := F) (V d cc jj) (inSlot al (par 0)), owns_any (F := F) (V d cc jj) (inSlot al (par 1)),
    two_parts (F := F) (V d cc jj) al _ _ slotIn_union slotIn_disjoint]
  have h : ∀ p : Fin 2, (inSlot al p).view.set = (al.view.slice (Rect.unit (s := S2x1x128) ![p.val, 0, 0] S1x1x128.size (inb_slot p))).set :=
    fun p => View.set_reshape _ _
  rw [h, h]; rfl

/-- The two outgoing slots make up the whole buffer. -/
theorem slotOut_union : (Rect.unit (s := S2x128x128) ![(par 0).val, 0, 0] S1x128x128.size (inb_row (par 0))).set
    ∪ (Rect.unit (s := S2x128x128) ![(par 1).val, 0, 0] S1x128x128.size (inb_row (par 1))).set = Finset.univ := by
  refine Finset.eq_univ_of_forall fun i => ?_
  have h0 : (i 0).val < 2 := (i 0).isLt
  have h1 : (i 1).val < 128 := (i 1).isLt
  have h2 : (i 2).val < 128 := (i 2).isLt
  rw [Finset.mem_union, Rect.mem_set_unit, Rect.mem_set_unit]
  rcases (show (i 0).val = 0 ∨ (i 0).val = 1 by omega) with h | h
  · left; intro a
    match a with
    | 0 => exact ⟨Nat.zero_le _, (by rw [h]; decide)⟩
    | 1 => exact ⟨Nat.zero_le _, h1⟩
    | 2 => exact ⟨Nat.zero_le _, h2⟩
  · right; intro a
    match a with
    | 0 => exact ⟨(by rw [h]; decide), (by rw [h]; decide)⟩
    | 1 => exact ⟨Nat.zero_le _, h1⟩
    | 2 => exact ⟨Nat.zero_le _, h2⟩

/-- The two outgoing slots have no element in common. -/
theorem slotOut_disjoint : Disjoint (Rect.unit (s := S2x128x128) ![(par 0).val, 0, 0] S1x128x128.size (inb_row (par 0))).set
    (Rect.unit (s := S2x128x128) ![(par 1).val, 0, 0] S1x128x128.size (inb_row (par 1))).set := by
  refine Finset.disjoint_left.mpr fun i h h' => ?_
  have a := (Rect.mem_set_unit.mp h 0).2
  have b := (Rect.mem_set_unit.mp h' 0).1
  have e : (![(par 0).val, 0, 0] : Fin 3 → ℕ) 0 + S1x128x128.size 0 = 1 := rfl
  have e' : (![(par 1).val, 0, 0] : Fin 3 → ℕ) 0 = 1 := rfl
  omega

/-- A pair of row buffers is its two slots. -/
theorem out_slots (rw : Memref sig .scVector .vmem S2x128x128 .f32) :
    (iprop(∃ f, rw.view.loc (V d cc jj) ↦[rw.view.set]{fullShare} f) : sProp 𝕄)
      = iprop((∃ X, owns (V d cc jj) (outSlot rw (par 0)) fullShare X) ∗ (∃ X, owns (V d cc jj) (outSlot rw (par 1)) fullShare X)) := by
  rw [owns_any (F := F) (V d cc jj) (outSlot rw (par 0)), owns_any (F := F) (V d cc jj) (outSlot rw (par 1)),
    two_parts (F := F) (V d cc jj) rw _ _ slotOut_union slotOut_disjoint]
  have h : ∀ p : Fin 2, (outSlot rw p).view.set = (rw.view.slice (Rect.unit (s := S2x128x128) ![p.val, 0, 0] S1x128x128.size (inb_row p))).set :=
    fun p => View.set_reshape _ _
  rw [h, h]; rfl

/-- A share of a table is a share of what a gather addresses. -/
theorem tbl_pts (t : Memref sig .scVector .hbm S100000x128 .f32) (q : PosShare TreeShare) (g : t.view.ty.Contents (Elt F)) :
    (Tbl d cc jj t (t.view.read (Elt F) g) q : sProp 𝕄) = t.view.loc (V d cc jj) ↦[t.view.set]{q} g := by
  let r : Rect S100000x128 := Rect.unit (s := S100000x128) ![0, 0] S100000x128.size inb_S100000x128_S100000x128_0_0
  have h := owns_slice_read (Ix := HIx 2) (Name := ℕ) (U := UU) (Lvl := ℕ) (V d cc jj) t q r (fun _ => rfl) g
  have hr : r.set = Finset.univ := Rect.set_eq_univ_of_whole r fun a => by
    match a with
    | 0 => exact ⟨rfl, rfl, rfl⟩
    | 1 => exact ⟨rfl, rfl, rfl⟩
  have hs : (t.view.slice r).set = t.view.set := by rw [View.set_slice, hr]; rfl
  have he : ∀ j : S100000x128.Idx, r.emb j = j := fun j => by
    funext a
    match a with
    | 0 => exact Fin.ext (by show 0 + 1 * (j 0).val = (j 0).val; omega)
    | 1 => exact Fin.ext (by show 0 + 1 * (j 1).val = (j 1).val; omega)
  rw [hs] at h
  rw [← h]
  unfold Tbl tblAll
  congr 1
  funext j
  exact congrArg _ (he j).symm

end Slots

/-! ## A side's arrays and scratch -/

section Enter

variable (d : Dev nD) (cc : Fin τ.nSC) (jj : Fin τ.nSub) (A : Side) (f : A.arg.view.ty.Contents (Elt F)) (q : PosShare TreeShare)
variable (g : A.tbl.view.ty.Contents (Elt F)) (qt : PosShare TreeShare) (G : A.out.view.ty.Contents (Elt F)) (n : Fin 32)

/-- What a side reads when it is dealt a share of the indices and a share of the table. -/
def mkVal : SideVal F A where
  f := f
  q := fun p => match p with | 0 => q.left | 1 => q.right
  X := A.tbl.view.read (Elt F) g
  qt := qt

/-- The shares of its arrays that a side is dealt, and the four blocks of its result at contents `G`. -/
def Arrays : sProp 𝕄 :=
  iprop((A.arg.view.loc (V d cc jj) ↦[A.arg.view.set]{q} f) ∗ (A.tbl.view.loc (V d cc jj) ↦[A.tbl.view.set]{qt} g)
    ∗ (A.out.view.loc (V d cc jj) ↦[(A.out.view.slice (oblkRect (stepNo n 0))).set]{fullShare} G)
    ∗ (A.out.view.loc (V d cc jj) ↦[(A.out.view.slice (oblkRect (stepNo n 1))).set]{fullShare} G)
    ∗ (A.out.view.loc (V d cc jj) ↦[(A.out.view.slice (oblkRect (stepNo n 2))).set]{fullShare} G)
    ∗ (A.out.view.loc (V d cc jj) ↦[(A.out.view.slice (oblkRect (stepNo n 3))).set]{fullShare} G))

/-- A side's staging buffers at any contents and its semaphores at zero. -/
def Scratch : sProp 𝕄 :=
  iprop((∃ f, A.al.view.loc (V d cc jj) ↦[A.al.view.set]{fullShare} f) ∗ (∃ f, A.rw.view.loc (V d cc jj) ↦[A.rw.view.set]{fullShare} f)
    ∗ semVal (V d cc jj, .dma A.g) 0
    ∗ semVal (V d cc jj, .dma (semAt A.s (par 0))) 0 ∗ semVal (V d cc jj, .dma (semAt A.s (par 1))) 0
    ∗ semVal (V d cc jj, .dma (semAt A.so (par 0))) 0 ∗ semVal (V d cc jj, .dma (semAt A.so (par 1))) 0)

/-- A piece of the output, held with any contents, is a block not yet written. -/
theorem todo_of (k : ℕ) : (A.out.view.loc (V d cc jj) ↦[(A.out.view.slice (oblkRect (stepNo n k))).set]{fullShare} G : sProp 𝕄)
    ⊢ todo (F := F) d cc jj A n k := by
  have h := owns_slice_read (Ix := HIx 2) (Name := ℕ) (U := UU) (Lvl := ℕ) (V d cc jj) A.out fullShare (oblkRect (stepNo n k)) (fun _ => rfl) G
  unfold todo outBlk
  rw [← h]
  iintro H
  iexists _; iexact H

/-- A finished block is the piece of the output array with its final contents. -/
theorem done_to (v : SideVal F A) (hG : A.out.view.read (Elt F) G = gathered v.X (A.arg.view.read (Elt F) v.f)) (k : ℕ) :
    (done d cc jj A v n k : sProp 𝕄) = A.out.view.loc (V d cc jj) ↦[(A.out.view.slice (oblkRect (stepNo n k))).set]{fullShare} G := by
  have h := owns_slice_read (Ix := HIx 2) (Name := ℕ) (U := UU) (Lvl := ℕ) (V d cc jj) A.out fullShare (oblkRect (stepNo n k)) (fun _ => rfl) G
  rw [← h]
  unfold done outBlk
  congr 1
  funext y
  rw [hG]
  unfold aRows rowsVal gathered wordAt
  refine congrArg v.X ?_
  have e0 : (⟨128 * (stepNo n k).val + (y 0 : Fin 128).val, by have := (stepNo n k).isLt; have : (y 0 : Fin 128).val < 128 := (y 0 : Fin 128).isLt; omega⟩ : Fin 16384)
      = ((oblkRect (stepNo n k)).emb y 0 : Fin 16384) :=
    Fin.ext (by show 128 * (stepNo n k).val + (y 0 : Fin 128).val = 128 * (stepNo n k).val + 1 * (y 0 : Fin 128).val; omega)
  have e1 : (y 1 : Fin 128) = ((oblkRect (stepNo n k)).emb y 1 : Fin 128) :=
    Fin.ext (by show (y 1 : Fin 128).val = 0 + 1 * (y 1 : Fin 128).val; omega)
  rw [← e0, ← e1]

/-- A side starts from its arrays and its scratch. -/
theorem start_of : iprop(Arrays d cc jj A f q g qt G n ∗ Scratch (F := F) d cc jj A) ⊢ Start d A (mkVal A f q g qt) cc jj n := by
  have hq := pts_halve (F := F) (ℓ := A.arg.view.loc (V d cc jj)) A.arg.view.set f q
  have ht := tbl_pts (F := F) d cc jj A.tbl qt g
  have h0 := todo_of (F := F) d cc jj A G n 0
  have h1 := todo_of (F := F) d cc jj A G n 1
  have h2 := todo_of (F := F) d cc jj A G n 2
  have h3 := todo_of (F := F) d cc jj A G n 3
  unfold Arrays Scratch Start aFree oFree InFree Src
  rw [in_slots (F := F) d cc jj A.al, out_slots (F := F) d cc jj A.rw]
  iintro ⟨⟨Ha, Ht, H0, H1, H2, H3⟩, ⟨Hl0, Hl1⟩, ⟨Hr0, Hr1⟩, Hg, Hs0, Hs1, Ho0, Ho1⟩
  ihave Ha := (Entails.of_eq hq) $$ Ha
  icases Ha with ⟨Ha0, Ha1⟩
  isplitl [Hl0 Hs0 Ha0]
  · isplitl [Hl0]; · iexact Hl0
    isplitl [Hs0]; · iexact Hs0
    iexact Ha0
  isplitl [Hl1 Hs1 Ha1]
  · isplitl [Hl1]; · iexact Hl1
    isplitl [Hs1]; · iexact Hs1
    iexact Ha1
  isplitl [Ht]; · iapply (Entails.of_eq ht.symm); iexact Ht
  isplitl [Hg]; · iexact Hg
  isplitl [Hr0 Ho0]
  · isplitl [Hr0]; · iexact Hr0
    iexact Ho0
  isplitl [Hr1 Ho1]
  · isplitl [Hr1]; · iexact Hr1
    iexact Ho1
  isplitl [H0]; · iapply h0; iexact H0
  isplitl [H1]; · iapply h1; iexact H1
  isplitl [H2]; · iapply h2; iexact H2
  iapply h3; iexact H3

/-- A finished side gives back its arrays, the result's blocks filled, and its scratch. -/
theorem finish_to (hG : A.out.view.read (Elt F) G = gathered (A.tbl.view.read (Elt F) g) (A.arg.view.read (Elt F) f)) :
    Finish d A (mkVal A f q g qt) cc jj n ⊢ iprop(Arrays d cc jj A f q g qt G n ∗ Scratch (F := F) d cc jj A) := by
  have hq := pts_halve (F := F) (ℓ := A.arg.view.loc (V d cc jj)) A.arg.view.set f q
  have ht := tbl_pts (F := F) d cc jj A.tbl qt g
  have hd := done_to (F := F) d cc jj A G n (mkVal A f q g qt) hG
  unfold Arrays Scratch Finish aFree oFree InFree Src
  rw [in_slots (F := F) d cc jj A.al, out_slots (F := F) d cc jj A.rw, hd, hd, hd, hd]
  iintro ⟨⟨Hl0, Hs0, Ha0⟩, ⟨Hl1, Hs1, Ha1⟩, Ht, Hg, ⟨Hr0, Ho0⟩, ⟨Hr1, Ho1⟩, H0, H1, H2, H3⟩
  isplitl [Ha0 Ha1 Ht H0 H1 H2 H3]
  · isplitl [Ha0 Ha1]
    · iapply (Entails.of_eq hq.symm)
      isplitl [Ha0]; · iexact Ha0
      iexact Ha1
    isplitl [Ht]; · iapply (Entails.of_eq ht); iexact Ht
    isplitl [H0]; · iexact H0
    isplitl [H1]; · iexact H1
    isplitl [H2]; · iexact H2
    iexact H3
  isplitl [Hl0 Hl1]
  · isplitl [Hl0]; · iexact Hl0
    iexact Hl1
  isplitl [Hr0 Hr1]
  · isplitl [Hr0]; · iexact Hr0
    iexact Hr1
  isplitl [Hg]; · iexact Hg
  isplitl [Hs0]; · iexact Hs0
  isplitl [Hs1]; · iexact Hs1
  isplitl [Ho0]; · iexact Ho0
  iexact Ho1

end Enter

end Cert.Proof.Neumf
-- ==== Proof.MlpTile.lean ====
/-
  A tile's part of the first SparseCore kernel: from its dealt shares and blocks to the same with the blocks filled.
-/
module

public import proofs.«01_k».proof.Proof.Shares

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

open Idealize.ShloMosaic.SparseCore.Cfg (ownBufs ownSems0 ownCells ownRefs)

/-! ## The two sides -/

/-- The users' side. -/
def sideA : Side where
  arg := Memref.whole main_v2_scv
  tbl := Memref.whole main_arg3_scv
  out := Memref.whole main_v6_0_scv
  al := Memref.whole cc0_scoped0
  s := cc0_scoped1
  rw := Memref.whole cc0_scoped4
  so := cc0_scoped5
  gs := cc0_scratch0
  harg := Memref.isWhole_whole _
  htbl := Memref.isWhole_whole _
  hout := Memref.isWhole_whole _
  hal := Memref.isWhole_whole _
  hrw := Memref.isWhole_whole _

/-- The items' side. -/
def sideB : Side where
  arg := Memref.whole main_v5_scv
  tbl := Memref.whole main_arg4_scv
  out := Memref.whole main_v6_1_scv
  al := Memref.whole cc0_scoped2
  s := cc0_scoped3
  rw := Memref.whole cc0_scoped6
  so := cc0_scoped7
  gs := cc0_scratch1
  harg := Memref.isWhole_whole _
  htbl := Memref.isWhole_whole _
  hout := Memref.isWhole_whole _
  hal := Memref.isWhole_whole _
  hrw := Memref.isWhole_whole _

/-! ## The tile's cells and buffers -/

/-- The cells of the first kernel on a tile. -/
def cells0 : Finset (SemLoc sig) :=
  {.dma sideA.g, .dma (semAt sideA.s (par 0)), .dma (semAt sideA.s (par 1)), .dma (semAt sideA.so (par 0)), .dma (semAt sideA.so (par 1)),
    .dma sideB.g, .dma (semAt sideB.s (par 0)), .dma (semAt sideB.s (par 1)), .dma (semAt sideB.so (par 0)), .dma (semAt sideB.so (par 1))}

/-- Its staging buffers. -/
def bufs0 : Finset (Ref sig .scVector) := {cc0_scoped0, cc0_scoped4, cc0_scoped2, cc0_scoped6}

section Own

variable (d : Dev nD) (cc : Fin τ.nSC) (jj : Fin τ.nSub)

/-- The call's semaphores belong to the call. -/
theorem cells0_scoped : ∀ s ∈ cells0, (GSem.isScoped (V d cc jj, s) : Bool) = true := by
  intro s hs
  have h : ∀ s ∈ cells0, s.isScoped (Kind.scVector) = true := by decide +kernel
  exact h s hs

/-- The call's buffers belong to the tile. -/
theorem bufs0_owner : ∀ b ∈ bufs0, ((Proc.scVector cc jj : Proc τ).devRef b).owner = .proc (.scVector cc jj) := by
  intro b hb
  simp only [bufs0, Finset.mem_insert, Finset.mem_singleton] at hb
  rcases hb with rfl | rfl | rfl | rfl <;> rfl

/-- What holds of all the call's semaphores, semaphore by semaphore. -/
theorem cells0_eq (Φ : SemLoc sig → sProp 𝕄) : bigSep cells0 Φ = iprop(Φ (.dma sideA.g) ∗ Φ (.dma (semAt sideA.s (par 0))) ∗ Φ (.dma (semAt sideA.s (par 1)))
    ∗ Φ (.dma (semAt sideA.so (par 0))) ∗ Φ (.dma (semAt sideA.so (par 1)))
    ∗ Φ (.dma sideB.g) ∗ Φ (.dma (semAt sideB.s (par 0))) ∗ Φ (.dma (semAt sideB.s (par 1)))
    ∗ Φ (.dma (semAt sideB.so (par 0))) ∗ Φ (.dma (semAt sideB.so (par 1)))) := by
  unfold cells0
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel), bigSep_singleton]

/-- What holds of all the call's buffers, buffer by buffer. -/
theorem bufs0_eq (Φ : Ref sig .scVector → sProp 𝕄) : bigSep bufs0 Φ = iprop(Φ cc0_scoped0 ∗ Φ cc0_scoped4 ∗ Φ cc0_scoped2 ∗ Φ cc0_scoped6) := by
  unfold bufs0
  rw [SparseCore.bigSep_insert' (by decide +kernel), SparseCore.bigSep_insert' (by decide +kernel), SparseCore.bigSep_insert' (by decide +kernel), bigSep_singleton]

/-- What a tile owns besides the first kernel's cells and buffers. -/
def Others0 : sProp 𝕄 :=
  iprop((bigSep (ownCells (V d cc jj) \ cells0.map ⟨fun s => ((V d cc jj, s) : GSem nD τ sig), fun _ _ e => (Prod.mk.inj e).2⟩) fun g => semVal g 0)
    ∗ bigSep (ownRefs (V d cc jj).2 \ bufs0.map ⟨(Proc.scVector cc jj : Proc τ).devRef, Proc.devRef_injective _⟩)
        fun b => iprop(∃ f, (((V d cc jj).1, b) : Loc nD τ sig) ↦{fullShare} f))

/-- A tile's own cells and buffers are the two sides' scratch and the others. -/
theorem own0 : iprop(scopedBufs (V d cc jj) ∗ scopedSems0 (V d cc jj) : sProp 𝕄)
    ⊣⊢ iprop(Scratch (F := F) d cc jj sideA ∗ Scratch (F := F) d cc jj sideB ∗ Others0 (F := F) d cc jj) := by
  rw [(K (F := F)).scopedBufs_V facts d cc jj, SparseCore.Cfg.scopedSems0_V (Val := Elt F) d cc jj,
    take_cells (F := F) (V d cc jj) cells0 (cells0_scoped d cc jj), take_bufs (F := F) d cc jj bufs0 (bufs0_owner cc jj), cells0_eq, bufs0_eq]
  have e : ∀ (sp : Space) (b : Ref sig .scVector), (Memref.whole b).view.set = Finset.univ := fun _ b => View.set_whole b
  unfold Scratch Others0
  have eA1 : sideA.al.view.set = Finset.univ := View.set_whole _
  have eA2 : sideA.rw.view.set = Finset.univ := View.set_whole _
  have eB1 : sideB.al.view.set = Finset.univ := View.set_whole _
  have eB2 : sideB.rw.view.set = Finset.univ := View.set_whole _
  rw [eA1, eA2, eB1, eB2]
  constructor
  · iintro ⟨⟨⟨H1, H2, H3, H4⟩, HB⟩, ⟨G1, G2, G3, G4, G5, G6, G7, G8, G9, G10⟩, HC⟩
    isplitl [H1 H2 G1 G2 G3 G4 G5]
    · isplitl [H1]; · iexact H1
      isplitl [H2]; · iexact H2
      isplitl [G1]; · iexact G1
      isplitl [G2]; · iexact G2
      isplitl [G3]; · iexact G3
      isplitl [G4]; · iexact G4
      iexact G5
    isplitl [H3 H4 G6 G7 G8 G9 G10]
    · isplitl [H3]; · iexact H3
      isplitl [H4]; · iexact H4
      isplitl [G6]; · iexact G6
      isplitl [G7]; · iexact G7
      isplitl [G8]; · iexact G8
      isplitl [G9]; · iexact G9
      iexact G10
    isplitl [HC] <;> iassumption
  · iintro ⟨⟨H1, H2, G1, G2, G3, G4, G5⟩, ⟨H3, H4, G6, G7, G8, G9, G10⟩, HC, HB⟩
    isplitl [H1 H2 H3 H4 HB]
    · isplitr [HB]
      · isplitl [H1]; · iexact H1
        isplitl [H2]; · iexact H2
        isplitl [H3]; · iexact H3
        iexact H4
      · iexact HB
    isplitr [HC]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    · iexact HC

end Own

end Cert.Proof.Neumf
-- ==== Proof.GmfTile.lean ====
/-
  A tile's part of the second SparseCore kernel: from its dealt shares and blocks to the same with the blocks filled.
-/
module

public import proofs.«01_k».proof.Proof.Shares

@[expose] public section

noncomputable section

namespace Cert.Proof.Neumf.Gmf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

open Idealize.ShloMosaic.SparseCore.Cfg (ownBufs ownSems0 ownCells ownRefs)

/-- The products of two gathered arrays of rows, the one's lanes 0–31 by the other's lanes 32–63. -/
def prodAll (R S : S16384x128.Idx → Elt F .f32) : S16384x32.Idx → Elt F .f32 := fun j =>
  FloatOps.mulf (φ := .f32) (R (ix2 (j 0 : Fin 16384) (laneLo (j 1 : Fin 32)))) (S (ix2 (j 0 : Fin 16384) (laneHi (j 1 : Fin 32))))

section Slots

variable (d : Dev nD) (cc : Fin τ.nSC) (jj : Fin τ.nSub)

/-- The two outgoing slots make up the whole buffer. -/
theorem slotOut_union : (Rect.unit (s := S2x128x32) ![(par 0).val, 0, 0] S1x128x32.size (inb_row (par 0))).set
    ∪ (Rect.unit (s := S2x128x32) ![(par 1).val, 0, 0] S1x128x32.size (inb_row (par 1))).set = Finset.univ := by
  refine Finset.eq_univ_of_forall fun i => ?_
  have h0 : (i 0).val < 2 := (i 0).isLt
  have h1 : (i 1).val < 128 := (i 1).isLt
  have h2 : (i 2).val < 32 := (i 2).isLt
  rw [Finset.mem_union, Rect.mem_set_unit, Rect.mem_set_unit]
  rcases (show (i 0).val = 0 ∨ (i 0).val = 1 by omega) with h | h
  · left; intro a
    match a with
    | 0 => exact ⟨Nat.zero_le _, (by rw [h]; decide)⟩
    | 1 => exact ⟨Nat.zero_le _, h1⟩
    | 2 => exact ⟨Nat.zero_le _, h2⟩
  · right; intro a
    match a with
    | 0 => exact ⟨(by rw [h]; decide), (by rw [h]; decide)⟩
    | 1 => exact ⟨Nat.zero_le _, h1⟩
    | 2 => exact ⟨Nat.zero_le _, h2⟩

/-- The two outgoing slots have no element in common. -/
theorem slotOut_disjoint : Disjoint (Rect.unit (s := S2x128x32) ![(par 0).val, 0, 0] S1x128x32.size (inb_row (par 0))).set
    (Rect.unit (s := S2x128x32) ![(par 1).val, 0, 0] S1x128x32.size (inb_row (par 1))).set := by
  refine Finset.disjoint_left.mpr fun i h h' => ?_
  have a := (Rect.mem_set_unit.mp h 0).2
  have b := (Rect.mem_set_unit.mp h' 0).1
  have e : (![(par 0).val, 0, 0] : Fin 3 → ℕ) 0 + S1x128x32.size 0 = 1 := rfl
  have e' : (![(par 1).val, 0, 0] : Fin 3 → ℕ) 0 = 1 := rfl
  omega

/-- A pair of result buffers is its two slots. -/
theorem out_slots (rw : Memref sig .scVector .vmem S2x128x32 .f32) :
    (iprop(∃ f, rw.view.loc (V d cc jj) ↦[rw.view.set]{fullShare} f) : sProp 𝕄)
      = iprop((∃ X, owns (V d cc jj) (outSlot rw (par 0)) fullShare X) ∗ (∃ X, owns (V d cc jj) (outSlot rw (par 1)) fullShare X)) := by
  rw [owns_any (F := F) (V d cc jj) (outSlot rw (par 0)), owns_any (F := F) (V d cc jj) (outSlot rw (par 1)),
    two_parts (F := F) (V d cc jj) rw _ _ slotOut_union slotOut_disjoint]
  have h : ∀ p : Fin 2, (outSlot rw p).view.set = (rw.view.slice (Rect.unit (s := S2x128x32) ![p.val, 0, 0] S1x128x32.size (inb_row p))).set :=
    fun p => View.set_reshape _ _
  rw [h, h]; rfl

end Slots

/-! ## The arrays and the scratch -/

section Enter

variable (d : Dev nD) (cc : Fin τ.nSC) (jj : Fin τ.nSub) (E : Ends) (A B : Feed) (f : A.arg.view.ty.Contents (Elt F)) (f' : B.arg.view.ty.Contents (Elt F))
variable (q : PosShare TreeShare) (g : E.tbl.view.ty.Contents (Elt F)) (G : E.out.view.ty.Contents (Elt F)) (n : Fin 32)

/-- What a feed reads when it is dealt a share of its indices and a share of the table. -/
def mkVal (A : Feed) (f : A.arg.view.ty.Contents (Elt F)) (q qt : PosShare TreeShare) : FeedVal F A where
  f := f
  q := fun p => match p with | 0 => q.left | 1 => q.right
  qt := qt

/-- The shares of the arrays that a tile is dealt, and its four blocks of the result at contents `G`. -/
def Arrays : sProp 𝕄 :=
  iprop((A.arg.view.loc (V d cc jj) ↦[A.arg.view.set]{q} f) ∗ (B.arg.view.loc (V d cc jj) ↦[B.arg.view.set]{q} f')
    ∗ (E.tbl.view.loc (V d cc jj) ↦[E.tbl.view.set]{q} g)
    ∗ (E.out.view.loc (V d cc jj) ↦[(E.out.view.slice (oblkRect (stepNo n 0))).set]{fullShare} G)
    ∗ (E.out.view.loc (V d cc jj) ↦[(E.out.view.slice (oblkRect (stepNo n 1))).set]{fullShare} G)
    ∗ (E.out.view.loc (V d cc jj) ↦[(E.out.view.slice (oblkRect (stepNo n 2))).set]{fullShare} G)
    ∗ (E.out.view.loc (V d cc jj) ↦[(E.out.view.slice (oblkRect (stepNo n 3))).set]{fullShare} G))

/-- A feed's staging buffers at any contents and its semaphores at zero. -/
def FeedScratch (A : Feed) : sProp 𝕄 :=
  iprop((∃ f, A.al.view.loc (V d cc jj) ↦[A.al.view.set]{fullShare} f) ∗ (∃ f, A.scr.view.loc (V d cc jj) ↦[A.scr.view.set]{fullShare} f)
    ∗ semVal (V d cc jj, .dma A.g) 0
    ∗ semVal (V d cc jj, .dma (semAt A.s (par 0))) 0 ∗ semVal (V d cc jj, .dma (semAt A.s (par 1))) 0)

/-- The results' slots at any contents and their semaphores at zero. -/
def EndScratch : sProp 𝕄 :=
  iprop((∃ f, E.rw.view.loc (V d cc jj) ↦[E.rw.view.set]{fullShare} f)
    ∗ semVal (V d cc jj, .dma (semAt E.so (par 0))) 0 ∗ semVal (V d cc jj, .dma (semAt E.so (par 1))) 0)

/-- A piece of the output, held with any contents, is a block not yet written. -/
theorem todo_of (k : ℕ) : (E.out.view.loc (V d cc jj) ↦[(E.out.view.slice (oblkRect (stepNo n k))).set]{fullShare} G : sProp 𝕄)
    ⊢ todo (F := F) d cc jj E n k := by
  have h := owns_slice_read (Ix := HIx 2) (Name := ℕ) (U := UU) (Lvl := ℕ) (V d cc jj) E.out fullShare (oblkRect (stepNo n k)) (fun _ => rfl) G
  unfold todo outBlk
  rw [← h]
  iintro H
  iexists _; iexact H

/-- A finished block is the piece of the output array with its final contents. -/
theorem done_to (X : S100000x128.Idx → Elt F .f32) (I J : S1x16384.Idx → BitVec 32)
    (hG : E.out.view.read (Elt F) G = prodAll (gathered X I) (gathered X J)) (H : ℕ → S128x32.Idx → Elt F .f32)
    (k : ℕ) (hH : H k = prod (rowsVal X I (stepNo n k)) (rowsVal X J (stepNo n k))) :
    (done d cc jj E H n k : sProp 𝕄) = E.out.view.loc (V d cc jj) ↦[(E.out.view.slice (oblkRect (stepNo n k))).set]{fullShare} G := by
  have h := owns_slice_read (Ix := HIx 2) (Name := ℕ) (U := UU) (Lvl := ℕ) (V d cc jj) E.out fullShare (oblkRect (stepNo n k)) (fun _ => rfl) G
  rw [← h]
  unfold done outBlk
  congr 1
  funext y
  rw [hG, hH]
  unfold prod prodAll rowsVal gathered wordAt
  have e0 : (⟨128 * (stepNo n k).val + (rowOf y).val, by have := (stepNo n k).isLt; have := (rowOf y).isLt; omega⟩ : Fin 16384)
      = ((oblkRect (stepNo n k)).emb y 0 : Fin 16384) :=
    Fin.ext (by show 128 * (stepNo n k).val + (y 0 : Fin 128).val = 128 * (stepNo n k).val + 1 * (y 0 : Fin 128).val; omega)
  have e1 : laneOf y = ((oblkRect (stepNo n k)).emb y 1 : Fin 32) :=
    Fin.ext (by show (y 1 : Fin 32).val = 0 + 1 * (y 1 : Fin 32).val; omega)
  rw [← e0, ← e1]

/-- A tile's two feeds and its results start from its arrays and its scratch. -/
theorem start_of : iprop(Arrays d cc jj E A B f f' q g G n ∗ FeedScratch (F := F) d cc jj A ∗ FeedScratch (F := F) d cc jj B ∗ EndScratch (F := F) d cc jj E)
    ⊢ iprop(Feeding d E (E.tbl.view.read (Elt F) g) A (mkVal A f q q.left) cc jj ∗ Feeding d E (E.tbl.view.read (Elt F) g) B (mkVal B f' q q.right) cc jj
      ∗ Start (F := F) d E cc jj n) := by
  have hq := pts_halve (F := F) (ℓ := A.arg.view.loc (V d cc jj)) A.arg.view.set f q
  have hq' := pts_halve (F := F) (ℓ := B.arg.view.loc (V d cc jj)) B.arg.view.set f' q
  have hg := pts_halve (F := F) (ℓ := E.tbl.view.loc (V d cc jj)) E.tbl.view.set g q
  have ht := tbl_pts (F := F) d cc jj E.tbl q.left g
  have ht' := tbl_pts (F := F) d cc jj E.tbl q.right g
  have h0 := todo_of (F := F) d cc jj E G n 0
  have h1 := todo_of (F := F) d cc jj E G n 1
  have h2 := todo_of (F := F) d cc jj E G n 2
  have h3 := todo_of (F := F) d cc jj E G n 3
  unfold Arrays FeedScratch EndScratch Feeding Start aFree oFree InFree Src Rest1
  rw [in_slots (F := F) d cc jj A.al, in_slots (F := F) d cc jj B.al, out_slots (F := F) d cc jj E.rw, owns_any (F := F) (V d cc jj) A.scr, owns_any (F := F) (V d cc jj) B.scr]
  iintro ⟨⟨Ha, Hb, Ht, H0, H1, H2, H3⟩, ⟨⟨Al0, Al1⟩, As, Ag, A0, A1⟩, ⟨⟨Bl0, Bl1⟩, Bs, Bg, B0, B1⟩, ⟨Hr0, Hr1⟩, Ho0, Ho1⟩
  ihave Ha := (Entails.of_eq hq) $$ Ha
  icases Ha with ⟨Ha0, Ha1⟩
  ihave Hb := (Entails.of_eq hq') $$ Hb
  icases Hb with ⟨Hb0, Hb1⟩
  ihave Ht := (Entails.of_eq hg) $$ Ht
  icases Ht with ⟨Ht0, Ht1⟩
  isplitl [Al0 Al1 As Ag A0 A1 Ha0 Ha1 Ht0]
  · isplitl [Al0 A0 Ha0]
    · isplitl [Al0]; · iexact Al0
      isplitl [A0]; · iexact A0
      iexact Ha0
    isplitl [Al1 A1 Ha1]
    · isplitl [Al1]; · iexact Al1
      isplitl [A1]; · iexact A1
      iexact Ha1
    isplitl [Ht0]; · iapply (Entails.of_eq ht.symm); iexact Ht0
    isplitl [As]; · iexact As
    iexact Ag
  isplitl [Bl0 Bl1 Bs Bg B0 B1 Hb0 Hb1 Ht1]
  · isplitl [Bl0 B0 Hb0]
    · isplitl [Bl0]; · iexact Bl0
      isplitl [B0]; · iexact B0
      iexact Hb0
    isplitl [Bl1 B1 Hb1]
    · isplitl [Bl1]; · iexact Bl1
      isplitl [B1]; · iexact B1
      iexact Hb1
    isplitl [Ht1]; · iapply (Entails.of_eq ht'.symm); iexact Ht1
    isplitl [Bs]; · iexact Bs
    iexact Bg
  isplitl [Hr0 Ho0]
  · isplitl [Hr0]; · iexact Hr0
    iexact Ho0
  isplitl [Hr1 Ho1]
  · isplitl [Hr1]; · iexact Hr1
    iexact Ho1
  isplitl [H0]; · iapply h0; iexact H0
  isplitl [H1]; · iapply h1; iexact H1
  isplitl [H2]; · iapply h2; iexact H2
  iapply h3; iexact H3

/-- At the end the arrays come back, the result's blocks filled, and the scratch. -/
theorem finish_to (H : ℕ → S128x32.Idx → Elt F .f32)
    (hG : E.out.view.read (Elt F) G = prodAll (gathered (E.tbl.view.read (Elt F) g) (A.arg.view.read (Elt F) f))
      (gathered (E.tbl.view.read (Elt F) g) (B.arg.view.read (Elt F) f')))
    (hH : ∀ k, H k = prod (rowsVal (E.tbl.view.read (Elt F) g) (A.arg.view.read (Elt F) f) (stepNo n k))
      (rowsVal (E.tbl.view.read (Elt F) g) (B.arg.view.read (Elt F) f') (stepNo n k))) :
    iprop(Feeding d E (E.tbl.view.read (Elt F) g) A (mkVal A f q q.left) cc jj ∗ Feeding d E (E.tbl.view.read (Elt F) g) B (mkVal B f' q q.right) cc jj
        ∗ Finish (F := F) d E H cc jj n)
      ⊢ iprop(Arrays d cc jj E A B f f' q g G n ∗ FeedScratch (F := F) d cc jj A ∗ FeedScratch (F := F) d cc jj B ∗ EndScratch (F := F) d cc jj E) := by
  have hq := pts_halve (F := F) (ℓ := A.arg.view.loc (V d cc jj)) A.arg.view.set f q
  have hq' := pts_halve (F := F) (ℓ := B.arg.view.loc (V d cc jj)) B.arg.view.set f' q
  have hg := pts_halve (F := F) (ℓ := E.tbl.view.loc (V d cc jj)) E.tbl.view.set g q
  have ht := tbl_pts (F := F) d cc jj E.tbl q.left g
  have ht' := tbl_pts (F := F) d cc jj E.tbl q.right g
  have hd := fun k => done_to (F := F) d cc jj E G n _ _ _ hG H k (hH k)
  unfold Arrays FeedScratch EndScratch Feeding Finish aFree oFree InFree Src Rest1
  rw [in_slots (F := F) d cc jj A.al, in_slots (F := F) d cc jj B.al, out_slots (F := F) d cc jj E.rw, owns_any (F := F) (V d cc jj) A.scr, owns_any (F := F) (V d cc jj) B.scr, hd, hd, hd, hd]
  iintro ⟨⟨⟨Al0, A0, Ha0⟩, ⟨Al1, A1, Ha1⟩, Ht0, As, Ag⟩, ⟨⟨Bl0, B0, Hb0⟩, ⟨Bl1, B1, Hb1⟩, Ht1, Bs, Bg⟩, ⟨Hr0, Ho0⟩, ⟨Hr1, Ho1⟩, H0, H1, H2, H3⟩
  isplitl [Ha0 Ha1 Hb0 Hb1 Ht0 Ht1 H0 H1 H2 H3]
  · isplitl [Ha0 Ha1]
    · iapply (Entails.of_eq hq.symm)
      isplitl [Ha0]; · iexact Ha0
      iexact Ha1
    isplitl [Hb0 Hb1]
    · iapply (Entails.of_eq hq'.symm)
      isplitl [Hb0]; · iexact Hb0
      iexact Hb1
    isplitl [Ht0 Ht1]
    · iapply (Entails.of_eq hg.symm)
      isplitl [Ht0]; · iapply (Entails.of_eq ht); iexact Ht0
      iapply (Entails.of_eq ht'); iexact Ht1
    isplitl [H0]; · iexact H0
    isplitl [H1]; · iexact H1
    isplitl [H2]; · iexact H2
    iexact H3
  isplitl [Al0 Al1 As Ag A0 A1]
  · isplitl [Al0 Al1]
    · isplitl [Al0]; · iexact Al0
      iexact Al1
    isplitl [As]; · iexact As
    isplitl [Ag]; · iexact Ag
    isplitl [A0]; · iexact A0
    iexact A1
  isplitl [Bl0 Bl1 Bs Bg B0 B1]
  · isplitl [Bl0 Bl1]
    · isplitl [Bl0]; · iexact Bl0
      iexact Bl1
    isplitl [Bs]; · iexact Bs
    isplitl [Bg]; · iexact Bg
    isplitl [B0]; · iexact B0
    iexact B1
  isplitl [Hr0 Hr1]
  · isplitl [Hr0]; · iexact Hr0
    iexact Hr1
  isplitl [Ho0]; · iexact Ho0
  iexact Ho1

end Enter

/-! ## The feeds and the ends -/

/-- The users' feed. -/
def feedA : Feed where
  arg := Memref.whole main_v24_0_scv
  scr := Memref.whole cc1_scratch0
  gs := cc1_scratch2
  al := Memref.whole cc1_scoped0
  s := cc1_scoped1
  harg := Memref.isWhole_whole _
  hscr := Memref.isWhole_whole _
  hal := Memref.isWhole_whole _

/-- The items' feed. -/
def feedB : Feed where
  arg := Memref.whole main_v24_1_scv
  scr := Memref.whole cc1_scratch1
  gs := cc1_scratch3
  al := Memref.whole cc1_scoped2
  s := cc1_scoped3
  harg := Memref.isWhole_whole _
  hscr := Memref.isWhole_whole _
  hal := Memref.isWhole_whole _

/-- The packed table and the products. -/
def ends : Ends where
  tbl := Memref.whole main_v23_scv
  out := Memref.whole main_v25_scv
  rw := Memref.whole cc1_scoped4
  so := cc1_scoped5
  htbl := Memref.isWhole_whole _
  hout := Memref.isWhole_whole _
  hrw := Memref.isWhole_whole _

/-- The cells of the second kernel on a tile. -/
def cells1 : Finset (SemLoc sig) :=
  {.dma feedA.g, .dma (semAt feedA.s (par 0)), .dma (semAt feedA.s (par 1)), .dma feedB.g, .dma (semAt feedB.s (par 0)), .dma (semAt feedB.s (par 1)),
    .dma (semAt ends.so (par 0)), .dma (semAt ends.so (par 1))}

/-- Its buffers. -/
def bufs1 : Finset (Ref sig .scVector) := {cc1_scoped0, cc1_scratch0, cc1_scoped2, cc1_scratch1, cc1_scoped4}

section Own

variable (d : Dev nD) (cc : Fin τ.nSC) (jj : Fin τ.nSub)

/-- The call's semaphores belong to the call. -/
theorem cells1_scoped : ∀ s ∈ cells1, (GSem.isScoped (V d cc jj, s) : Bool) = true := by
  intro s hs
  have h : ∀ s ∈ cells1, s.isScoped (Kind.scVector) = true := by decide +kernel
  exact h s hs

/-- The call's buffers belong to the tile. -/
theorem bufs1_owner : ∀ b ∈ bufs1, ((Proc.scVector cc jj : Proc τ).devRef b).owner = .proc (.scVector cc jj) := by
  intro b hb
  simp only [bufs1, Finset.mem_insert, Finset.mem_singleton] at hb
  rcases hb with rfl | rfl | rfl | rfl | rfl <;> rfl

/-- What holds of all the call's semaphores, semaphore by semaphore. -/
theorem cells1_eq (Φ : SemLoc sig → sProp 𝕄) : bigSep cells1 Φ = iprop(Φ (.dma feedA.g) ∗ Φ (.dma (semAt feedA.s (par 0))) ∗ Φ (.dma (semAt feedA.s (par 1)))
    ∗ Φ (.dma feedB.g) ∗ Φ (.dma (semAt feedB.s (par 0))) ∗ Φ (.dma (semAt feedB.s (par 1)))
    ∗ Φ (.dma (semAt ends.so (par 0))) ∗ Φ (.dma (semAt ends.so (par 1)))) := by
  unfold cells1
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), bigSep_singleton]

/-- What holds of all the call's buffers, buffer by buffer. -/
theorem bufs1_eq (Φ : Ref sig .scVector → sProp 𝕄) : bigSep bufs1 Φ = iprop(Φ cc1_scoped0 ∗ Φ cc1_scratch0 ∗ Φ cc1_scoped2 ∗ Φ cc1_scratch1 ∗ Φ cc1_scoped4) := by
  unfold bufs1
  rw [SparseCore.bigSep_insert' (by decide +kernel), SparseCore.bigSep_insert' (by decide +kernel), SparseCore.bigSep_insert' (by decide +kernel),
    SparseCore.bigSep_insert' (by decide +kernel), bigSep_singleton]

/-- What a tile owns besides the second kernel's cells and buffers. -/
def Others1 : sProp 𝕄 :=
  iprop((bigSep (ownCells (V d cc jj) \ cells1.map ⟨fun s => ((V d cc jj, s) : GSem nD τ sig), fun _ _ e => (Prod.mk.inj e).2⟩) fun g => semVal g 0)
    ∗ bigSep (ownRefs (V d cc jj).2 \ bufs1.map ⟨(Proc.scVector cc jj : Proc τ).devRef, Proc.devRef_injective _⟩)
        fun b => iprop(∃ f, (((V d cc jj).1, b) : Loc nD τ sig) ↦{fullShare} f))

/-- A tile's own cells and buffers are the kernel's scratch and the others. -/
theorem own1 : iprop(scopedBufs (V d cc jj) ∗ scopedSems0 (V d cc jj) : sProp 𝕄)
    ⊣⊢ iprop(FeedScratch (F := F) d cc jj feedA ∗ FeedScratch (F := F) d cc jj feedB ∗ EndScratch (F := F) d cc jj ends ∗ Others1 (F := F) d cc jj) := by
  rw [(K (F := F)).scopedBufs_V facts d cc jj, SparseCore.Cfg.scopedSems0_V (Val := Elt F) d cc jj,
    take_cells (F := F) (V d cc jj) cells1 (cells1_scoped d cc jj), take_bufs (F := F) d cc jj bufs1 (bufs1_owner cc jj), cells1_eq, bufs1_eq]
  unfold FeedScratch EndScratch Others1
  have eA1 : feedA.al.view.set = Finset.univ := View.set_whole _
  have eA2 : feedA.scr.view.set = Finset.univ := View.set_whole _
  have eB1 : feedB.al.view.set = Finset.univ := View.set_whole _
  have eB2 : feedB.scr.view.set = Finset.univ := View.set_whole _
  have eE : ends.rw.view.set = Finset.univ := View.set_whole _
  rw [eA1, eA2, eB1, eB2, eE]
  constructor
  · iintro ⟨⟨⟨H1, H2, H3, H4, H5⟩, HB⟩, ⟨G1, G2, G3, G4, G5, G6, G7, G8⟩, HC⟩
    isplitl [H1 H2 G1 G2 G3]
    · isplitl [H1]; · iexact H1
      isplitl [H2]; · iexact H2
      isplitl [G1]; · iexact G1
      isplitl [G2]; · iexact G2
      iexact G3
    isplitl [H3 H4 G4 G5 G6]
    · isplitl [H3]; · iexact H3
      isplitl [H4]; · iexact H4
      isplitl [G4]; · iexact G4
      isplitl [G5]; · iexact G5
      iexact G6
    isplitl [H5 G7 G8]
    · isplitl [H5]; · iexact H5
      isplitl [G7]; · iexact G7
      iexact G8
    isplitl [HC] <;> iassumption
  · iintro ⟨⟨H1, H2, G1, G2, G3⟩, ⟨H3, H4, G4, G5, G6⟩, ⟨H5, G7, G8⟩, HC, HB⟩
    isplitl [H1 H2 H3 H4 H5 HB]
    · isplitr [HB]
      · isplitl [H1]; · iexact H1
        isplitl [H2]; · iexact H2
        isplitl [H3]; · iexact H3
        isplitl [H4]; · iexact H4
        iexact H5
      · iexact HB
    isplitr [HC]
    · isplitl [G1]; · iexact G1
      isplitl [G2]; · iexact G2
      isplitl [G3]; · iexact G3
      isplitl [G4]; · iexact G4
      isplitl [G5]; · iexact G5
      isplitl [G6]; · iexact G6
      isplitl [G7]; · iexact G7
      iexact G8
    · iexact HC

end Own

end Cert.Proof.Neumf.Gmf
-- ==== Proof.Pay.lean ====
/-
  What the two SparseCore calls hand their tiles and get back, and that each tile does its part.
-/
module

public import proofs.«01_k».proof.Proof.MlpTile
public import proofs.«01_k».proof.Proof.GmfTile

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-- What the two calls read, and what the results hold before. -/
structure Data (F : FTy → Type) where
  u : Dev nD → S1x16384.Idx → BitVec 32
  w : Dev nD → S1x16384.Idx → BitVec 32
  X : Dev nD → S100000x128.Idx → Elt F .f32
  Y : Dev nD → S100000x128.Idx → Elt F .f32
  Z : Dev nD → S100000x128.Idx → Elt F .f32
  a : Dev nD → S16384x128.Idx → Elt F .f32
  b : Dev nD → S16384x128.Idx → Elt F .f32
  g : Dev nD → S16384x32.Idx → Elt F .f32

/-- Every index names a row of a table. -/
def Data.Ok (D : Data F) : Prop := ∀ d j, (D.u d j).toNat < 100000 ∧ (D.w d j).toNat < 100000

section

variable (Dt : Data F)

/-- The share of a read array that tile `n` is dealt. -/
abbrev qn (n : Fin 32) : PosShare TreeShare := part 5 fullShare n.val

/-- The first call's part of a tile, the results' blocks at `a` and `b`. -/
def tile0 (d : Dev nD) (L : grid0.Coords) (a b : S16384x128.Idx → Elt F .f32) : sProp 𝕄 :=
  iprop(Arrays (F := F) d (iC L) (iJ L) sideA (Dt.u d) (qn (tileNo L)) (Dt.X d) (qn (tileNo L)) a (tileNo L)
    ∗ Arrays (F := F) d (iC L) (iJ L) sideB (Dt.w d) (qn (tileNo L)) (Dt.Y d) (qn (tileNo L)) b (tileNo L))

/-- The second call's part of a tile, the result's blocks at `g`. -/
def tile1 (d : Dev nD) (L : grid1.Coords) (g : S16384x32.Idx → Elt F .f32) : sProp 𝕄 :=
  Gmf.Arrays (F := F) d (Gmf.jC L) (Gmf.jJ L) Gmf.ends Gmf.feedA Gmf.feedB (Dt.u d) (Dt.w d) (qn (Gmf.tileNo L)) (Dt.Z d) g (Gmf.tileNo L)

/-- What the first call leaves: the users' rows, the items' rows; and the second, the products. -/
def outA (d : Dev nD) : S16384x128.Idx → Elt F .f32 := gathered (Dt.X d) (Dt.u d)

/-- What the first SparseCore call leaves in its second result. -/
def outB (d : Dev nD) : S16384x128.Idx → Elt F .f32 := gathered (Dt.Y d) (Dt.w d)

/-- What the second SparseCore call leaves in its result. -/
def outG (d : Dev nD) : S16384x32.Idx → Elt F .f32 := Gmf.prodAll (gathered (Dt.Z d) (Dt.u d)) (gathered (Dt.Z d) (Dt.w d))

/-- A tile's place in the first call's grid. -/
def place0 (c : Fin (grid0.bound 0)) (s : Fin (grid0.bound 1)) : grid0.Coords :=
  fun | 0 => c | 1 => s | ⟨_ + 2, h⟩ => absurd h (Nat.not_lt.2 (Nat.le_add_left _ _))
/-- A tile's place in the second call's grid. -/
def place1 (c : Fin (grid1.bound 0)) (s : Fin (grid1.bound 1)) : grid1.Coords :=
  fun | 0 => c | 1 => s | ⟨_ + 2, h⟩ => absurd h (Nat.not_lt.2 (Nat.le_add_left _ _))

/-- What a tile is given for the first call. -/
def go0 (d : Dev nD) (c : Fin ((K (F := F)).nCore 0)) (i : Fin ((K (F := F)).nSub 0)) : sProp 𝕄 :=
  tile0 Dt d (place0 ⟨c.val, c.isLt⟩ ⟨i.val, i.isLt⟩) (Dt.a d) (Dt.b d)

/-- What a tile gives back from the first call. -/
def td0 (d : Dev nD) (c : Fin ((K (F := F)).nCore 0)) (i : Fin ((K (F := F)).nSub 0)) : sProp 𝕄 :=
  tile0 Dt d (place0 ⟨c.val, c.isLt⟩ ⟨i.val, i.isLt⟩) (outA Dt d) (outB Dt d)

/-- What a tile is given for the second call. -/
def go1 (d : Dev nD) (c : Fin ((K (F := F)).nCore 1)) (i : Fin ((K (F := F)).nSub 1)) : sProp 𝕄 :=
  tile1 Dt d (place1 ⟨c.val, c.isLt⟩ ⟨i.val, i.isLt⟩) (Dt.g d)

/-- What a tile gives back from the second call. -/
def td1 (d : Dev nD) (c : Fin ((K (F := F)).nCore 1)) (i : Fin ((K (F := F)).nSub 1)) : sProp 𝕄 :=
  tile1 Dt d (place1 ⟨c.val, c.isLt⟩ ⟨i.val, i.isLt⟩) (outG Dt d)

/-- Each call takes its tiles' parts and brings them back filled. -/
def P : (K (F := F)).Pay (nD := nD) (Val := Elt F) (Name := ℕ) (U := UU) where
  st := fun q d c => match q with
    | 0 => bigSep Finset.univ fun i => go0 Dt d c i
    | 1 => bigSep Finset.univ fun i => go1 Dt d c i
  dn := fun q d c => match q with
    | 0 => bigSep Finset.univ fun i => td0 Dt d c i
    | 1 => bigSep Finset.univ fun i => td1 Dt d c i
  go := fun q d c i => match q with
    | 0 => go0 Dt d c i
    | 1 => go1 Dt d c i
  td := fun q d c i => match q with
    | 0 => td0 Dt d c i
    | 1 => td1 Dt d c i
  x := fun _ _ => iprop(emp)

/-- One side's share of the arrays can be handed from thread to thread. -/
instance arrays_storable (d : Dev nD) (cc : Fin τ.nSC) (jj : Fin τ.nSub) (A : Side) (f : A.arg.view.ty.Contents (Elt F)) (q : PosShare TreeShare)
    (g : A.tbl.view.ty.Contents (Elt F)) (qt : PosShare TreeShare) (G : A.out.view.ty.Contents (Elt F)) (n : Fin 32) :
    BI.Storable (upEmb : UEmb _ 𝕄) (Arrays (F := F) d cc jj A f q g qt G n) := by
  unfold Arrays; infer_instance

/-- The second call's share of the arrays can be handed from thread to thread. -/
instance arrays1_storable (d : Dev nD) (cc : Fin τ.nSC) (jj : Fin τ.nSub) (E : Gmf.Ends) (A B : Gmf.Feed) (f : A.arg.view.ty.Contents (Elt F))
    (f' : B.arg.view.ty.Contents (Elt F)) (q : PosShare TreeShare) (g : E.tbl.view.ty.Contents (Elt F)) (G : E.out.view.ty.Contents (Elt F)) (n : Fin 32) :
    BI.Storable (upEmb : UEmb _ 𝕄) (Gmf.Arrays (F := F) d cc jj E A B f f' q g G n) := by
  unfold Gmf.Arrays; infer_instance

/-- A tile's share in the first call can be handed from thread to thread. -/
instance tile0_storable (d : Dev nD) (L : grid0.Coords) (a b : S16384x128.Idx → Elt F .f32) :
    BI.Storable (upEmb : UEmb _ 𝕄) (tile0 Dt d L a b) := by
  haveI := arrays_storable (F := F) d (iC L) (iJ L) sideA (Dt.u d) (qn (tileNo L)) (Dt.X d) (qn (tileNo L)) a (tileNo L)
  haveI := arrays_storable (F := F) d (iC L) (iJ L) sideB (Dt.w d) (qn (tileNo L)) (Dt.Y d) (qn (tileNo L)) b (tileNo L)
  exact BI.Storable.sep (upEmb : UEmb _ 𝕄) _ _

/-- A tile's share in the second call can be handed from thread to thread. -/
instance tile1_storable (d : Dev nD) (L : grid1.Coords) (g : S16384x32.Idx → Elt F .f32) :
    BI.Storable (upEmb : UEmb _ 𝕄) (tile1 Dt d L g) :=
  arrays1_storable d _ _ _ _ _ _ _ _ _ _ _

/-- What a tile is given in the first call can be handed from thread to thread. -/
instance go0_storable (d : Dev nD) (c : Fin ((K (F := F)).nCore 0)) (i : Fin ((K (F := F)).nSub 0)) :
    BI.Storable (upEmb : UEmb _ 𝕄) (go0 Dt d c i) := by unfold go0; infer_instance

/-- What a tile gives back in the first call can be handed from thread to thread. -/
instance td0_storable (d : Dev nD) (c : Fin ((K (F := F)).nCore 0)) (i : Fin ((K (F := F)).nSub 0)) :
    BI.Storable (upEmb : UEmb _ 𝕄) (td0 Dt d c i) := by unfold td0; infer_instance

/-- What a tile is given in the second call can be handed from thread to thread. -/
instance go1_storable (d : Dev nD) (c : Fin ((K (F := F)).nCore 1)) (i : Fin ((K (F := F)).nSub 1)) :
    BI.Storable (upEmb : UEmb _ 𝕄) (go1 Dt d c i) := by unfold go1; infer_instance

/-- What a tile gives back in the second call can be handed from thread to thread. -/
instance td1_storable (d : Dev nD) (c : Fin ((K (F := F)).nCore 1)) (i : Fin ((K (F := F)).nSub 1)) :
    BI.Storable (upEmb : UEmb _ 𝕄) (td1 Dt d c i) := by unfold td1; infer_instance

/-- What a core is given in the first call can be handed from thread to thread. -/
instance st0_storable (d : Dev nD) (c : Fin ((K (F := F)).nCore 0)) :
    BI.Storable (upEmb : UEmb _ 𝕄) (bigSep Finset.univ fun i => go0 Dt d c i) := inferInstance

/-- What a core gives back in the first call can be handed from thread to thread. -/
instance dn0_storable (d : Dev nD) (c : Fin ((K (F := F)).nCore 0)) :
    BI.Storable (upEmb : UEmb _ 𝕄) (bigSep Finset.univ fun i => td0 Dt d c i) := inferInstance

/-- What a core is given in the second call can be handed from thread to thread. -/
instance st1_storable (d : Dev nD) (c : Fin ((K (F := F)).nCore 1)) :
    BI.Storable (upEmb : UEmb _ 𝕄) (bigSep Finset.univ fun i => go1 Dt d c i) := inferInstance

/-- What a core gives back in the second call can be handed from thread to thread. -/
instance dn1_storable (d : Dev nD) (c : Fin ((K (F := F)).nCore 1)) :
    BI.Storable (upEmb : UEmb _ 𝕄) (bigSep Finset.univ fun i => td1 Dt d c i) := inferInstance

/-- The handshake of the first call carries to a core its tiles' shares. -/
theorem P_st0 (d : Dev nD) (c : Fin ((K (F := F)).nCore 0)) : (P Dt).st 0 d c = bigSep Finset.univ fun i => go0 Dt d c i := rfl

/-- The handshake of the second call carries to a core its tiles' shares. -/
theorem P_st1 (d : Dev nD) (c : Fin ((K (F := F)).nCore 1)) : (P Dt).st 1 d c = bigSep Finset.univ fun i => go1 Dt d c i := rfl

/-- The handshake of the first call carries from a core its tiles' shares. -/
theorem P_dn0 (d : Dev nD) (c : Fin ((K (F := F)).nCore 0)) : (P Dt).dn 0 d c = bigSep Finset.univ fun i => td0 Dt d c i := rfl

/-- The handshake of the second call carries from a core its tiles' shares. -/
theorem P_dn1 (d : Dev nD) (c : Fin ((K (F := F)).nCore 1)) : (P Dt).dn 1 d c = bigSep Finset.univ fun i => td1 Dt d c i := rfl

/-- The handshake of the first call carries to a tile what the tile is given. -/
theorem P_go0 (d : Dev nD) (c : Fin ((K (F := F)).nCore 0)) (i : Fin ((K (F := F)).nSub 0)) : (P Dt).go 0 d c i = go0 Dt d c i := rfl

/-- The handshake of the second call carries to a tile what the tile is given. -/
theorem P_go1 (d : Dev nD) (c : Fin ((K (F := F)).nCore 1)) (i : Fin ((K (F := F)).nSub 1)) : (P Dt).go 1 d c i = go1 Dt d c i := rfl

/-- The handshake of the first call carries from a tile what the tile gives back. -/
theorem P_td0 (d : Dev nD) (c : Fin ((K (F := F)).nCore 0)) (i : Fin ((K (F := F)).nSub 0)) : (P Dt).td 0 d c i = td0 Dt d c i := rfl

/-- The handshake of the second call carries from a tile what the tile gives back. -/
theorem P_td1 (d : Dev nD) (c : Fin ((K (F := F)).nCore 1)) (i : Fin ((K (F := F)).nSub 1)) : (P Dt).td 1 d c i = td1 Dt d c i := rfl

/-- What cores are given can be handed from thread to thread, in both calls. -/
theorem storable_st : ∀ (q : Fin 2) (d : Dev nD) (c : Fin ((K (F := F)).nCore q)), BI.Storable (upEmb : UEmb _ 𝕄) ((P Dt).st q d c) :=
  Fin.forall_fin_two.mpr ⟨fun d c => by rw [P_st0]; exact st0_storable Dt d c, fun d c => by rw [P_st1]; exact st1_storable Dt d c⟩

/-- What cores give back can be handed from thread to thread, in both calls. -/
theorem storable_dn : ∀ (q : Fin 2) (d : Dev nD) (c : Fin ((K (F := F)).nCore q)), BI.Storable (upEmb : UEmb _ 𝕄) ((P Dt).dn q d c) :=
  Fin.forall_fin_two.mpr ⟨fun d c => by rw [P_dn0]; exact dn0_storable Dt d c, fun d c => by rw [P_dn1]; exact dn1_storable Dt d c⟩

/-- What tiles are given can be handed from thread to thread, in both calls. -/
theorem storable_go : ∀ (q : Fin 2) (d : Dev nD) (c : Fin ((K (F := F)).nCore q)) (i : Fin ((K (F := F)).nSub q)),
    BI.Storable (upEmb : UEmb _ 𝕄) ((P Dt).go q d c i) :=
  Fin.forall_fin_two.mpr ⟨fun d c i => by rw [P_go0]; exact go0_storable Dt d c i, fun d c i => by rw [P_go1]; exact go1_storable Dt d c i⟩

/-- What tiles give back can be handed from thread to thread, in both calls. -/
theorem storable_td : ∀ (q : Fin 2) (d : Dev nD) (c : Fin ((K (F := F)).nCore q)) (i : Fin ((K (F := F)).nSub q)),
    BI.Storable (upEmb : UEmb _ 𝕄) ((P Dt).td q d c i) :=
  Fin.forall_fin_two.mpr ⟨fun d c i => by rw [P_td0]; exact td0_storable Dt d c i, fun d c i => by rw [P_td1]; exact td1_storable Dt d c i⟩

/-- All that the handshakes carry can be handed from thread to thread. -/
instance P_storable : (P Dt).IsStorable where
  st := storable_st Dt
  dn := storable_dn Dt
  go := storable_go Dt
  td := storable_td Dt

/-! ## A tile's run -/

/-- A body that ends with what it owes unchanged has met what was asked of it. -/
theorem obl_end {thr : Thread nD τ} {A B C : sProp 𝕄} {O : CellTallies nD τ sig (HIx 2)} {W : Waits sig (HIx 2)} {q : Fin 2} :
    iprop(A ∗ B ∗ C ∗ Owing thr O W)
      ⊢ iprop(A ∗ B ∗ C ∗ ∃ W', ⌜∀ p ∈ W', p ∈ W ∨ p.2 = none ∨ p.2 = some q⌝ ∗ owes thr O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Index rows in range give every index window in range. -/
theorem inRange_of {D : Data F} (hD : D.Ok) (d : Dev nD) : InRange (F := F) sideA.arg (D.u d) ∧ InRange (F := F) sideB.arg (D.w d)
    ∧ InRange (F := F) Gmf.feedA.arg (D.u d) ∧ InRange (F := F) Gmf.feedB.arg (D.w d) :=
  ⟨fun j => (hD d j).1, fun j => (hD d j).2, fun j => (hD d j).1, fun j => (hD d j).2⟩

/-- A tile's body of the first call, from its share to its share with the gathered rows. -/
theorem tile0_run (hD : Dt.Ok) (d : Dev nD) (L : grid0.Coords) (O : CellTallies nD τ sig (HIx 2)) (W : Waits sig (HIx 2)) (hO : ∀ g, O g none = 0) :
    iprop(levAts (K (F := F)).L (K (F := F)).lev ∗ emp ∗ tile0 Dt d L (Dt.a d) (Dt.b d)
        ∗ scopedBufs (Tid d L) ∗ scopedSems0 (Tid d L) ∗ owes (Tid d L) O W)
      ⊢ wp frame (wpE (defs₀ (F := F)) 𝒱₀ (Tid d L) none) Set.univ
          (cc0__sc_mlp L sideA.arg sideA.harg sideB.arg sideB.harg sideA.tbl sideA.htbl sideB.tbl sideB.htbl sideA.out sideA.hout sideB.out sideB.hout
            sideA.gs sideB.gs sideA.al sideA.hal sideA.s sideB.al sideB.hal sideB.s sideA.rw sideA.hrw sideA.so sideB.rw sideB.hrw sideB.so)
          fun _ => iprop(tile0 Dt d L (outA Dt d) (outB Dt d) ∗ scopedBufs (Tid d L) ∗ scopedSems0 (Tid d L) ∗ Owing (Tid d L) O W) := by
  have hr := inRange_of hD d
  have hown := own0 (F := F) d (iC L) (iJ L)
  have hsA := start_of (F := F) d (iC L) (iJ L) sideA (Dt.u d) (qn (tileNo L)) (Dt.X d) (qn (tileNo L)) (Dt.a d) (tileNo L)
  have hsB := start_of (F := F) d (iC L) (iJ L) sideB (Dt.w d) (qn (tileNo L)) (Dt.Y d) (qn (tileNo L)) (Dt.b d) (tileNo L)
  have hfA := finish_to (F := F) d (iC L) (iJ L) sideA (Dt.u d) (qn (tileNo L)) (Dt.X d) (qn (tileNo L)) (outA Dt d) (tileNo L) rfl
  have hfB := finish_to (F := F) d (iC L) (iJ L) sideB (Dt.w d) (qn (tileNo L)) (Dt.Y d) (qn (tileNo L)) (outB Dt d) (tileNo L) rfl
  have hb := mlp_body (F := F) d L sideA sideB (mkVal sideA (Dt.u d) (qn (tileNo L)) (Dt.X d) (qn (tileNo L)))
    (mkVal sideB (Dt.w d) (qn (tileNo L)) (Dt.Y d) (qn (tileNo L))) (O := O) (W := W) hO hr.1 hr.2.1
  have hin : iprop(levAts (K (F := F)).L (K (F := F)).lev ∗ emp ∗ tile0 Dt d L (Dt.a d) (Dt.b d)
        ∗ scopedBufs (Tid d L) ∗ scopedSems0 (Tid d L) ∗ owes (Tid d L) O W)
      ⊢ iprop((levAts (K (F := F)).L (K (F := F)).lev ∗ Start d sideA (mkVal sideA (Dt.u d) (qn (tileNo L)) (Dt.X d) (qn (tileNo L))) (iC L) (iJ L) (tileNo L)
        ∗ Start d sideB (mkVal sideB (Dt.w d) (qn (tileNo L)) (Dt.Y d) (qn (tileNo L))) (iC L) (iJ L) (tileNo L) ∗ Owing (Tid d L) O W)
        ∗ Others0 (F := F) d (iC L) (iJ L)) := by
    unfold tile0 Owing
    iintro ⟨#Hl, -, ⟨HA, HB⟩, Hsb, Hss, HO⟩
    ihave H := hown.1 $$ [Hsb Hss]
    · isplitl [Hsb] <;> iassumption
    icases H with ⟨SA, SB, HX⟩
    isplitr [HX]
    · isplitr; · iexact Hl
      isplitl [HA SA]
      · iapply hsA
        isplitl [HA] <;> iassumption
      isplitl [HB SB]
      · iapply hsB
        isplitl [HB] <;> iassumption
      iexists W
      isplitr
      · ipureintro; exact fun p hp => Or.inl hp
      · iexact HO
    · iexact HX
  refine hin.trans ?_
  refine (BI.sep_mono_l hb).trans ?_
  refine (wp_frame_r frame _ _).trans (wp_mono frame _ _ fun _ => ?_)
  unfold tile0
  iintro ⟨⟨FA, FB, HO⟩, HX⟩
  ihave HA := hfA $$ FA
  ihave HB := hfB $$ FB
  icases HA with ⟨HA, SA⟩
  icases HB with ⟨HB, SB⟩
  ihave H := hown.2 $$ [SA SB HX]
  · isplitl [SA]; · iexact SA
    isplitl [SB] <;> iassumption
  icases H with ⟨Hsb, Hss⟩
  isplitl [HA HB]
  · isplitl [HA] <;> iassumption
  isplitl [Hsb]; · iexact Hsb
  isplitl [Hss] <;> iassumption

/-- A tile's body of the second call, from its share to its share with the products. -/
theorem tile1_run (hD : Dt.Ok) (d : Dev nD) (L : grid1.Coords) (O : CellTallies nD τ sig (HIx 2)) (W : Waits sig (HIx 2)) (hO : ∀ g, O g none = 0) :
    iprop(levAts (K (F := F)).L (K (F := F)).lev ∗ emp ∗ tile1 Dt d L (Dt.g d)
        ∗ scopedBufs (Gmf.Tid d L) ∗ scopedSems0 (Gmf.Tid d L) ∗ owes (Gmf.Tid d L) O W)
      ⊢ wp frame (wpE (defs₀ (F := F)) 𝒱₀ (Gmf.Tid d L) none) Set.univ
          (cc1__sc_gmf L Gmf.feedA.arg Gmf.feedA.harg Gmf.feedB.arg Gmf.feedB.harg Gmf.ends.tbl Gmf.ends.htbl Gmf.ends.out Gmf.ends.hout
            Gmf.feedA.scr Gmf.feedA.hscr Gmf.feedB.scr Gmf.feedB.hscr Gmf.feedA.gs Gmf.feedB.gs Gmf.feedA.al Gmf.feedA.hal Gmf.feedA.s
            Gmf.feedB.al Gmf.feedB.hal Gmf.feedB.s Gmf.ends.rw Gmf.ends.hrw Gmf.ends.so)
          fun _ => iprop(tile1 Dt d L (outG Dt d) ∗ scopedBufs (Gmf.Tid d L) ∗ scopedSems0 (Gmf.Tid d L) ∗ Owing (Gmf.Tid d L) O W) := by
  have hr := inRange_of hD d
  have hown := Gmf.own1 (F := F) d (Gmf.jC L) (Gmf.jJ L)
  have hs := Gmf.start_of (F := F) d (Gmf.jC L) (Gmf.jJ L) Gmf.ends Gmf.feedA Gmf.feedB (Dt.u d) (Dt.w d) (qn (Gmf.tileNo L)) (Dt.Z d) (Dt.g d) (Gmf.tileNo L)
  have hb := Gmf.gmf_body (F := F) d L Gmf.ends (Gmf.ends.tbl.view.read (Elt F) (Dt.Z d)) Gmf.feedA Gmf.feedB
    (Gmf.mkVal Gmf.feedA (Dt.u d) (qn (Gmf.tileNo L)) (qn (Gmf.tileNo L)).left) (Gmf.mkVal Gmf.feedB (Dt.w d) (qn (Gmf.tileNo L)) (qn (Gmf.tileNo L)).right)
    (O := O) (W := W) hO hr.2.2.1 hr.2.2.2
  have hf := Gmf.finish_to (F := F) d (Gmf.jC L) (Gmf.jJ L) Gmf.ends Gmf.feedA Gmf.feedB (Dt.u d) (Dt.w d) (qn (Gmf.tileNo L)) (Dt.Z d) (outG Dt d) (Gmf.tileNo L)
    (Gmf.gRows L (Gmf.ends.tbl.view.read (Elt F) (Dt.Z d)) Gmf.feedA Gmf.feedB
      (Gmf.mkVal Gmf.feedA (Dt.u d) (qn (Gmf.tileNo L)) (qn (Gmf.tileNo L)).left) (Gmf.mkVal Gmf.feedB (Dt.w d) (qn (Gmf.tileNo L)) (qn (Gmf.tileNo L)).right))
    rfl (fun k => rfl)
  have hin : iprop(levAts (K (F := F)).L (K (F := F)).lev ∗ emp ∗ tile1 Dt d L (Dt.g d)
        ∗ scopedBufs (Gmf.Tid d L) ∗ scopedSems0 (Gmf.Tid d L) ∗ owes (Gmf.Tid d L) O W)
      ⊢ iprop((levAts (K (F := F)).L (K (F := F)).lev
        ∗ Gmf.Feeding d Gmf.ends (Gmf.ends.tbl.view.read (Elt F) (Dt.Z d)) Gmf.feedA (Gmf.mkVal Gmf.feedA (Dt.u d) (qn (Gmf.tileNo L)) (qn (Gmf.tileNo L)).left) (Gmf.jC L) (Gmf.jJ L)
        ∗ Gmf.Feeding d Gmf.ends (Gmf.ends.tbl.view.read (Elt F) (Dt.Z d)) Gmf.feedB (Gmf.mkVal Gmf.feedB (Dt.w d) (qn (Gmf.tileNo L)) (qn (Gmf.tileNo L)).right) (Gmf.jC L) (Gmf.jJ L)
        ∗ Gmf.Start (F := F) d Gmf.ends (Gmf.jC L) (Gmf.jJ L) (Gmf.tileNo L) ∗ Owing (Gmf.Tid d L) O W)
        ∗ Gmf.Others1 (F := F) d (Gmf.jC L) (Gmf.jJ L)) := by
    unfold tile1 Owing
    iintro ⟨#Hl, -, HA, Hsb, Hss, HO⟩
    ihave H := hown.1 $$ [Hsb Hss]
    · isplitl [Hsb] <;> iassumption
    icases H with ⟨SA, SB, SE, HX⟩
    isplitr [HX]
    · isplitr; · iexact Hl
      ihave H := hs $$ [HA SA SB SE]
      · isplitl [HA]; · iexact HA
        isplitl [SA]; · iexact SA
        isplitl [SB] <;> iassumption
      icases H with ⟨H1, H2, H3⟩
      isplitl [H1]; · iexact H1
      isplitl [H2]; · iexact H2
      isplitl [H3]; · iexact H3
      iexists W
      isplitr
      · ipureintro; exact fun p hp => Or.inl hp
      · iexact HO
    · iexact HX
  refine hin.trans ?_
  refine (BI.sep_mono_l hb).trans ?_
  refine (wp_frame_r frame _ _).trans (wp_mono frame _ _ fun _ => ?_)
  unfold tile1
  iintro ⟨⟨FA, FB, FE, HO⟩, HX⟩
  ihave H := hf $$ [FA FB FE]
  · isplitl [FA]; · iexact FA
    isplitl [FB] <;> iassumption
  icases H with ⟨HA, SA, SB, SE⟩
  ihave H := hown.2 $$ [SA SB SE HX]
  · isplitl [SA]; · iexact SA
    isplitl [SB]; · iexact SB
    isplitl [SE] <;> iassumption
  icases H with ⟨Hsb, Hss⟩
  isplitl [HA]; · iexact HA
  isplitl [Hsb]; · iexact Hsb
  isplitl [Hss] <;> iassumption

/-! ## The obligations -/

/-- What the program runs on a tile for the first call. -/
theorem defs₀_call0 (c : Fin τ.nSC) (s : Fin τ.nSub) :
    defs₀ (F := F) (.scVector c s) 0 ()
      = SparseCore.onTile hcore0 hsub0 (fun c s => cc0__sc_mlp (place0 c s) sideA.arg sideA.harg sideB.arg sideB.harg sideA.tbl sideA.htbl sideB.tbl sideB.htbl
          sideA.out sideA.hout sideB.out sideB.hout sideA.gs sideB.gs sideA.al sideA.hal sideA.s sideB.al sideB.hal sideB.s sideA.rw sideA.hrw sideA.so
          sideB.rw sideB.hrw sideB.so) ⟨⟩ c s := rfl

/-- What the program runs on a tile for the second call. -/
theorem defs₀_call1 (c : Fin τ.nSC) (s : Fin τ.nSub) :
    defs₀ (F := F) (.scVector c s) 1 ()
      = SparseCore.onTile hcore1 hsub1 (fun c s => cc1__sc_gmf (place1 c s) Gmf.feedA.arg Gmf.feedA.harg Gmf.feedB.arg Gmf.feedB.harg Gmf.ends.tbl Gmf.ends.htbl
          Gmf.ends.out Gmf.ends.hout Gmf.feedA.scr Gmf.feedA.hscr Gmf.feedB.scr Gmf.feedB.hscr Gmf.feedA.gs Gmf.feedB.gs Gmf.feedA.al Gmf.feedA.hal Gmf.feedA.s
          Gmf.feedB.al Gmf.feedB.hal Gmf.feedB.s Gmf.ends.rw Gmf.ends.hrw Gmf.ends.so) ⟨⟩ c s := rfl

set_option maxRecDepth 16384 in
/-- The first call's body does on every tile what the launch asks. -/
theorem tileObl0 (hD : Dt.Ok) : (K (F := F)).TileObl (D (F := F)) 𝒱 (P Dt) v₀ 0 := by
  intro d c i O W hO _ _
  simp only [show (P Dt).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  exact (tile0_run Dt hD d (place0 ⟨_, hci.1⟩ ⟨_, hci.2⟩) O W hO).trans (wp_mono frame _ _ fun _ => obl_end)

set_option maxRecDepth 16384 in
/-- The second call's body does on every tile what the launch asks. -/
theorem tileObl1 (hD : Dt.Ok) : (K (F := F)).TileObl (D (F := F)) 𝒱 (P Dt) v₀ 1 := by
  intro d c i O W hO _ _
  simp only [show (P Dt).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact (tile1_run Dt hD d (place1 ⟨_, hci.1⟩ ⟨_, hci.2⟩) O W hO).trans (wp_mono frame _ _ fun _ => obl_end)

/-- A call's tiles take their parts as the call brings them, and give theirs back as the call takes them. -/
theorem vecSplit0 : (K (F := F)).VecSplit' (P Dt) 0 := by
  intro d c
  have h₁ : (P Dt).st 0 d c = bigSep Finset.univ fun i => (P Dt).go 0 d c i :=
    (P_st0 Dt d c).trans (bigSep_congr fun i _ => (P_go0 Dt d c i).symm)
  have h₂ : (P Dt).dn 0 d c = bigSep Finset.univ fun i => (P Dt).td 0 d c i :=
    (P_dn0 Dt d c).trans (bigSep_congr fun i _ => (P_td0 Dt d c i).symm)
  rw [h₁, h₂]
  generalize (bigSep Finset.univ fun i => (P Dt).go 0 d c i) = A
  generalize (bigSep Finset.univ fun i => (P Dt).td 0 d c i) = B
  iintro H; imodintro
  isplitl [H]; · iexact H
  iintro H; iexact H

/-- In the second call a core's share is its tiles' shares together. -/
theorem vecSplit1 : (K (F := F)).VecSplit' (P Dt) 1 := by
  intro d c
  have h₁ : (P Dt).st 1 d c = bigSep Finset.univ fun i => (P Dt).go 1 d c i :=
    (P_st1 Dt d c).trans (bigSep_congr fun i _ => (P_go1 Dt d c i).symm)
  have h₂ : (P Dt).dn 1 d c = bigSep Finset.univ fun i => (P Dt).td 1 d c i :=
    (P_dn1 Dt d c).trans (bigSep_congr fun i _ => (P_td1 Dt d c i).symm)
  rw [h₁, h₂]
  generalize (bigSep Finset.univ fun i => (P Dt).go 1 d c i) = A
  generalize (bigSep Finset.univ fun i => (P Dt).td 1 d c i) = B
  iintro H; imodintro
  isplitl [H]; · iexact H
  iintro H; iexact H

end

end Cert.Proof.Neumf
-- ==== Proof.Whole.lean ====
/-
  The parts of all tiles together: the arrays that the two SparseCore calls read and write, whole.
-/
module

public import proofs.«01_k».proof.Proof.Pay

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-- The tiles by core and subcore. -/
def tilesEquiv : Fin 2 × Fin 16 ≃ Fin 32 := finProdFinEquiv
/-- The steps by tile and trip. -/
def stepsEquiv : Fin 32 × Fin 4 ≃ Fin 128 := finProdFinEquiv

/-- The number of a core's tile among all 32. -/
theorem tilesEquiv_val (c : Fin 2) (i : Fin 16) : (tilesEquiv (c, i)).val = i.val + 16 * c.val := rfl

/-- The number of a tile's step among all 128 blocks. -/
theorem stepsEquiv_eq (n : Fin 32) (t : Fin 4) : stepsEquiv (n, t) = stepNo n t.val := Fin.ext (by
  have e : (stepsEquiv (n, t)).val = t.val + 4 * n.val := rfl
  have h := t.isLt
  rw [e]; show _ = 4 * n.val + t.val % 4; omega)

/-- A family over the tiles, by core and subcore. -/
theorem by_tiles (Φ : Fin 32 → sProp 𝕄) :
    (bigSep Finset.univ fun c : Fin 2 => bigSep Finset.univ fun i : Fin 16 => Φ (tilesEquiv (c, i))) = bigSep Finset.univ Φ := by
  rw [bigSep_univ_equiv tilesEquiv Φ, bigSep_univ_prod]

/-- Four things held are each held. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- A family over the steps, by tile and trip. -/
theorem by_steps (Φ : Fin 128 → sProp 𝕄) :
    (bigSep Finset.univ fun n : Fin 32 => iprop(Φ (stepNo n 0) ∗ Φ (stepNo n 1) ∗ Φ (stepNo n 2) ∗ Φ (stepNo n 3))) = bigSep Finset.univ Φ := by
  rw [bigSep_univ_equiv stepsEquiv Φ, bigSep_univ_prod]
  refine bigSep_congr fun n _ => ?_
  rw [four]
  simp only [stepsEquiv_eq]
  rfl

/-- The steps' blocks of rows share out a result of 128 lanes. -/
theorem blocks128 {ℓ : Loc nD τ sig} (K : Fin 128 → Finset (Idx ℓ)) (hd : ∀ b b', b ≠ b' → Disjoint (K b) (K b'))
    (hu : ∀ i, ∃ b, i ∈ K b) (G : Buf (Elt F) ℓ) :
    (bigSep Finset.univ fun b => (ℓ ↦[K b]{fullShare} G : sProp 𝕄)) = ℓ ↦{fullShare} G := by
  rw [← pointsTo_biUnion Finset.univ K fun b _ b' _ h => hd b b' h]
  have e : (Finset.univ.biUnion K) = Finset.univ := Finset.eq_univ_of_forall fun i => by
    obtain ⟨b, hb⟩ := hu i
    exact Finset.mem_biUnion.mpr ⟨b, Finset.mem_univ _, hb⟩
  rw [e]

/-- Different blocks of a wide output have no element in common. -/
theorem oblk_disjoint (b b' : Fin 128) (h : b ≠ b') : Disjoint (oblkRect b).set (oblkRect b').set :=
  Finset.disjoint_left.mpr fun i hi hi' => by
    have a := Rect.mem_set_unit.mp hi 0
    have a' := Rect.mem_set_unit.mp hi' 0
    have e : (![128 * b.val, 0] : Fin 2 → ℕ) 0 = 128 * b.val := rfl
    have e' : (![128 * b'.val, 0] : Fin 2 → ℕ) 0 = 128 * b'.val := rfl
    have s : S128x128.size 0 = 128 := rfl
    have := fun q => h (Fin.ext q)
    omega

/-- Every element of a wide output lies in some block. -/
theorem oblk_cover (i : S16384x128.Idx) : ∃ b, i ∈ (oblkRect b).set := by
  have h0 : (i 0).val < 16384 := (i 0).isLt
  have h1 : (i 1).val < 128 := (i 1).isLt
  refine ⟨⟨(i 0).val / 128, by omega⟩, Rect.mem_set_unit.mpr fun a => ?_⟩
  match a with
  | 0 =>
    refine ⟨?_, ?_⟩
    · show 128 * ((i 0).val / 128) ≤ (i 0).val; omega
    · show (i 0).val < 128 * ((i 0).val / 128) + 128; omega
  | 1 => exact ⟨Nat.zero_le _, h1⟩

/-- Different blocks of the narrow output have no element in common. -/
theorem oblk1_disjoint (b b' : Fin 128) (h : b ≠ b') : Disjoint (Gmf.oblkRect b).set (Gmf.oblkRect b').set :=
  Finset.disjoint_left.mpr fun i hi hi' => by
    have a := Rect.mem_set_unit.mp hi 0
    have a' := Rect.mem_set_unit.mp hi' 0
    have e : (![128 * b.val, 0] : Fin 2 → ℕ) 0 = 128 * b.val := rfl
    have e' : (![128 * b'.val, 0] : Fin 2 → ℕ) 0 = 128 * b'.val := rfl
    have s : S128x32.size 0 = 128 := rfl
    have := fun q => h (Fin.ext q)
    omega

/-- Every element of the narrow output lies in some block. -/
theorem oblk1_cover (i : S16384x32.Idx) : ∃ b, i ∈ (Gmf.oblkRect b).set := by
  have h0 : (i 0).val < 16384 := (i 0).isLt
  have h1 : (i 1).val < 32 := (i 1).isLt
  refine ⟨⟨(i 0).val / 128, by omega⟩, Rect.mem_set_unit.mpr fun a => ?_⟩
  match a with
  | 0 =>
    refine ⟨?_, ?_⟩
    · show 128 * ((i 0).val / 128) ≤ (i 0).val; omega
    · show (i 0).val < 128 * ((i 0).val / 128) + 128; omega
  | 1 => exact ⟨Nat.zero_le _, h1⟩

/-! ## One side of the first call, whole -/

/-- A read array and its shares. -/
theorem shares32 {ℓ : Loc nD τ sig} (f : Buf (Elt F) ℓ) :
    (bigSep Finset.univ fun n : Fin 32 => (ℓ ↦[Finset.univ]{qn n} f : sProp 𝕄)) = ℓ ↦{fullShare} f :=
  (pts_parts (F := F) (ℓ := ℓ) Finset.univ f 5 fullShare).symm

section Calls

variable (Dt : Data F) (d : Dev nD)

/-- Tile `n`'s part of a side with the arrays named as the TensorCore names them. -/
def sidePart (ba bt bo : Ref sig .tc) (f : Buf (Elt F) ((T d : Thread nD τ).loc ba)) (g : Buf (Elt F) ((T d : Thread nD τ).loc bt))
    (G : Buf (Elt F) ((T d : Thread nD τ).loc bo)) (Kb : Fin 128 → Finset (Idx ((T d : Thread nD τ).loc bo))) (n : Fin 32) : sProp 𝕄 :=
  iprop(((T d : Thread nD τ).loc ba ↦[Finset.univ]{qn n} f) ∗ ((T d : Thread nD τ).loc bt ↦[Finset.univ]{qn n} g)
    ∗ ((T d : Thread nD τ).loc bo ↦[Kb (stepNo n 0)]{fullShare} G) ∗ ((T d : Thread nD τ).loc bo ↦[Kb (stepNo n 1)]{fullShare} G)
    ∗ ((T d : Thread nD τ).loc bo ↦[Kb (stepNo n 2)]{fullShare} G) ∗ ((T d : Thread nD τ).loc bo ↦[Kb (stepNo n 3)]{fullShare} G))

/-- All tiles' parts of one side make up that side's whole arrays. -/
theorem sidePart_all (ba bt bo : Ref sig .tc) (f : Buf (Elt F) ((T d : Thread nD τ).loc ba)) (g : Buf (Elt F) ((T d : Thread nD τ).loc bt))
    (G : Buf (Elt F) ((T d : Thread nD τ).loc bo)) (Kb : Fin 128 → Finset (Idx ((T d : Thread nD τ).loc bo)))
    (hd : ∀ b b', b ≠ b' → Disjoint (Kb b) (Kb b')) (hu : ∀ i, ∃ b, i ∈ Kb b) :
    (bigSep Finset.univ fun n : Fin 32 => sidePart (F := F) d ba bt bo f g G Kb n)
      = iprop(((T d : Thread nD τ).loc ba ↦{fullShare} f) ∗ ((T d : Thread nD τ).loc bt ↦{fullShare} g) ∗ ((T d : Thread nD τ).loc bo ↦{fullShare} G)) := by
  unfold sidePart
  rw [bigSep_sep', bigSep_sep', by_steps (F := F) fun b => ((T d : Thread nD τ).loc bo ↦[Kb b]{fullShare} G : sProp 𝕄),
    shares32, shares32, blocks128 Kb hd hu]

/-- A tile's share of the first side's arrays, as its part of the whole. -/
theorem sideA_part (cc : Fin τ.nSC) (jj : Fin τ.nSub) (f : S1x16384.Idx → BitVec 32) (g : S100000x128.Idx → Elt F .f32) (G : S16384x128.Idx → Elt F .f32) (n : Fin 32) :
    Arrays (F := F) d cc jj sideA f (qn n) g (qn n) G n
      = sidePart (F := F) d main_v2 main_arg3 main_v6_0 f g G (fun b => (oblkRect b).set) n := by
  unfold Arrays sidePart
  have h1 : sideA.arg.view.set = Finset.univ := View.set_whole _
  have h2 : sideA.tbl.view.set = Finset.univ := View.set_whole _
  have h3 : ∀ b, (sideA.out.view.slice (oblkRect b)).set = (oblkRect b).set := fun b => by
    show ((View.whole main_v6_0_scv).slice (oblkRect b)).set = _; rw [View.set_slice]; exact Finset.map_refl
  rw [h1, h2, h3, h3, h3, h3]
  rfl

/-- A tile's share of the second side's arrays, as its part of the whole. -/
theorem sideB_part (cc : Fin τ.nSC) (jj : Fin τ.nSub) (f : S1x16384.Idx → BitVec 32) (g : S100000x128.Idx → Elt F .f32) (G : S16384x128.Idx → Elt F .f32) (n : Fin 32) :
    Arrays (F := F) d cc jj sideB f (qn n) g (qn n) G n
      = sidePart (F := F) d main_v5 main_arg4 main_v6_1 f g G (fun b => (oblkRect b).set) n := by
  unfold Arrays sidePart
  have h1 : sideB.arg.view.set = Finset.univ := View.set_whole _
  have h2 : sideB.tbl.view.set = Finset.univ := View.set_whole _
  have h3 : ∀ b, (sideB.out.view.slice (oblkRect b)).set = (oblkRect b).set := fun b => by
    show ((View.whole main_v6_1_scv).slice (oblkRect b)).set = _; rw [View.set_slice]; exact Finset.map_refl
  rw [h1, h2, h3, h3, h3, h3]
  rfl

/-- All tiles' parts of the first call are its arrays, whole. -/
theorem whole0 (a b : S16384x128.Idx → Elt F .f32) :
    (bigSep Finset.univ fun c : Fin 2 => bigSep Finset.univ fun i : Fin 16 => tile0 Dt d (place0 ⟨c.val, c.isLt⟩ ⟨i.val, i.isLt⟩) a b)
      = iprop((((T d : Thread nD τ).loc main_v2 ↦{fullShare} (Dt.u d)) ∗ ((T d : Thread nD τ).loc main_arg3 ↦{fullShare} (Dt.X d)) ∗ ((T d : Thread nD τ).loc main_v6_0 ↦{fullShare} a))
        ∗ (((T d : Thread nD τ).loc main_v5 ↦{fullShare} (Dt.w d)) ∗ ((T d : Thread nD τ).loc main_arg4 ↦{fullShare} (Dt.Y d)) ∗ ((T d : Thread nD τ).loc main_v6_1 ↦{fullShare} b))) := by
  rw [← sidePart_all (F := F) d main_v2 main_arg3 main_v6_0 (Dt.u d) (Dt.X d) a (fun b => (oblkRect b).set) oblk_disjoint oblk_cover,
    ← sidePart_all (F := F) d main_v5 main_arg4 main_v6_1 (Dt.w d) (Dt.Y d) b (fun b => (oblkRect b).set) oblk_disjoint oblk_cover,
    ← bigSep_sep', ← by_tiles]
  refine bigSep_congr fun c _ => bigSep_congr fun i _ => ?_
  have e : tileNo (place0 ⟨c.val, c.isLt⟩ ⟨i.val, i.isLt⟩) = tilesEquiv (c, i) := Fin.ext rfl
  unfold tile0
  rw [sideA_part, sideB_part, e]

/-- Tile `n`'s part of the second call with the arrays named as the TensorCore names them. -/
def prodPart (f f' : S1x16384.Idx → BitVec 32) (g : S100000x128.Idx → Elt F .f32) (G : S16384x32.Idx → Elt F .f32) (n : Fin 32) : sProp 𝕄 :=
  iprop(((T d : Thread nD τ).loc main_v24_0 ↦[Finset.univ]{qn n} f) ∗ sidePart (F := F) d main_v24_1 main_v23 main_v25 f' g G (fun b => (Gmf.oblkRect b).set) n)

/-- A tile's share of the second call's arrays, as its part of the whole. -/
theorem prod_part (cc : Fin τ.nSC) (jj : Fin τ.nSub) (f f' : S1x16384.Idx → BitVec 32) (g : S100000x128.Idx → Elt F .f32) (G : S16384x32.Idx → Elt F .f32) (n : Fin 32) :
    Gmf.Arrays (F := F) d cc jj Gmf.ends Gmf.feedA Gmf.feedB f f' (qn n) g G n = prodPart (F := F) d f f' g G n := by
  unfold Gmf.Arrays prodPart sidePart
  have h0 : Gmf.feedA.arg.view.set = Finset.univ := View.set_whole _
  have h1 : Gmf.feedB.arg.view.set = Finset.univ := View.set_whole _
  have h2 : Gmf.ends.tbl.view.set = Finset.univ := View.set_whole _
  have h3 : ∀ b, (Gmf.ends.out.view.slice (Gmf.oblkRect b)).set = (Gmf.oblkRect b).set := fun b => by
    show ((View.whole main_v25_scv).slice (Gmf.oblkRect b)).set = _; rw [View.set_slice]; exact Finset.map_refl
  rw [h0, h1, h2, h3, h3, h3, h3]
  rfl

/-- All tiles' parts of the second call are its arrays, whole. -/
theorem whole1 (G : S16384x32.Idx → Elt F .f32) :
    (bigSep Finset.univ fun c : Fin 2 => bigSep Finset.univ fun i : Fin 16 => tile1 Dt d (place1 ⟨c.val, c.isLt⟩ ⟨i.val, i.isLt⟩) G)
      = iprop(((T d : Thread nD τ).loc main_v24_0 ↦{fullShare} (Dt.u d)) ∗ ((T d : Thread nD τ).loc main_v24_1 ↦{fullShare} (Dt.w d))
        ∗ ((T d : Thread nD τ).loc main_v23 ↦{fullShare} (Dt.Z d)) ∗ ((T d : Thread nD τ).loc main_v25 ↦{fullShare} G)) := by
  rw [← sidePart_all (F := F) d main_v24_1 main_v23 main_v25 (Dt.w d) (Dt.Z d) G (fun b => (Gmf.oblkRect b).set) oblk1_disjoint oblk1_cover,
    ← shares32, ← bigSep_sep', ← by_tiles]
  refine bigSep_congr fun c _ => bigSep_congr fun i _ => ?_
  have e : Gmf.tileNo (place1 ⟨c.val, c.isLt⟩ ⟨i.val, i.isLt⟩) = tilesEquiv (c, i) := Fin.ext rfl
  unfold tile1
  rw [prod_part, e]
  rfl

/-- What the first call takes from the TensorCore, and what it brings back. -/
theorem st0_all : (bigSep Finset.univ fun c : Fin ((K (F := F)).nCore 0) => (P Dt).st 0 d c)
    = iprop((((T d : Thread nD τ).loc main_v2 ↦{fullShare} (Dt.u d)) ∗ ((T d : Thread nD τ).loc main_arg3 ↦{fullShare} (Dt.X d)) ∗ ((T d : Thread nD τ).loc main_v6_0 ↦{fullShare} (Dt.a d)))
      ∗ (((T d : Thread nD τ).loc main_v5 ↦{fullShare} (Dt.w d)) ∗ ((T d : Thread nD τ).loc main_arg4 ↦{fullShare} (Dt.Y d)) ∗ ((T d : Thread nD τ).loc main_v6_1 ↦{fullShare} (Dt.b d)))) :=
  (bigSep_congr fun c _ => P_st0 Dt d c).trans (whole0 Dt d (Dt.a d) (Dt.b d))

/-- What all cores give back from the first call: its whole arrays, with the gathered rows. -/
theorem dn0_all : (bigSep Finset.univ fun c : Fin ((K (F := F)).nCore 0) => (P Dt).dn 0 d c)
    = iprop((((T d : Thread nD τ).loc main_v2 ↦{fullShare} (Dt.u d)) ∗ ((T d : Thread nD τ).loc main_arg3 ↦{fullShare} (Dt.X d)) ∗ ((T d : Thread nD τ).loc main_v6_0 ↦{fullShare} (outA Dt d)))
      ∗ (((T d : Thread nD τ).loc main_v5 ↦{fullShare} (Dt.w d)) ∗ ((T d : Thread nD τ).loc main_arg4 ↦{fullShare} (Dt.Y d)) ∗ ((T d : Thread nD τ).loc main_v6_1 ↦{fullShare} (outB Dt d)))) :=
  (bigSep_congr fun c _ => P_dn0 Dt d c).trans (whole0 Dt d (outA Dt d) (outB Dt d))
/-- What the second call takes from the TensorCore, and what it brings back. -/
theorem st1_all : (bigSep Finset.univ fun c : Fin ((K (F := F)).nCore 1) => (P Dt).st 1 d c)
    = iprop(((T d : Thread nD τ).loc main_v24_0 ↦{fullShare} (Dt.u d)) ∗ ((T d : Thread nD τ).loc main_v24_1 ↦{fullShare} (Dt.w d))
        ∗ ((T d : Thread nD τ).loc main_v23 ↦{fullShare} (Dt.Z d)) ∗ ((T d : Thread nD τ).loc main_v25 ↦{fullShare} (Dt.g d))) :=
  (bigSep_congr fun c _ => P_st1 Dt d c).trans (whole1 Dt d (Dt.g d))

/-- What all cores give back from the second call: its whole arrays, with the products. -/
theorem dn1_all : (bigSep Finset.univ fun c : Fin ((K (F := F)).nCore 1) => (P Dt).dn 1 d c)
    = iprop(((T d : Thread nD τ).loc main_v24_0 ↦{fullShare} (Dt.u d)) ∗ ((T d : Thread nD τ).loc main_v24_1 ↦{fullShare} (Dt.w d))
        ∗ ((T d : Thread nD τ).loc main_v23 ↦{fullShare} (Dt.Z d)) ∗ ((T d : Thread nD τ).loc main_v25 ↦{fullShare} (outG Dt d))) :=
  (bigSep_congr fun c _ => P_dn1 Dt d c).trans (whole1 Dt d (outG Dt d))

end Calls

end Cert.Proof.Neumf
-- ==== Proof.TcBody.lean ====
/-
  The bodies of the two TensorCore kernels: what each leaves in its result's staging buffer, from what its inputs' staging buffers hold.
-/
module

public import proofs.«01_k».proof.Proof.GmfLoop

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

open Gmf (wp_load_owns wp_store_owns)

section Whole

variable (c : Thread nD τ) {α : Type} {cs : CoreSpace} {s : Shape} {e : EltTy}

/-- The rectangle of a whole shape at zero offsets places every index at itself. -/
theorem emb_zero {off : Fin s.rank → ℕ} (h0 : ∀ a, off a = 0) (inb : ∀ a, off a + s.size a ≤ s.size a) (x : s.Idx) :
    (Rect.unit off s.size inb).emb x = x := by
  obtain rfl : off = fun _ => 0 := funext h0
  exact Rect.emb_whole_apply s x

/-- A load of a whole owned memref reads what it is owned at. -/
theorem wp_load_all {m : Memref sig c.2.kind cs s e} {off : Fin s.rank → ℕ} {inb : ∀ a, off a + s.size a ≤ s.size a}
    {hl : m.view.LoadsAt (Rect.unit off s.size inb).toLoadRect} {q : PosShare TreeShare} {X : s.Idx → Elt F e}
    {k : (s.Idx → Elt F e) → Prog (TpuEff nD τ sig (Elt F) Λ₀ c.2) α} {Q : α → sProp 𝕄} (h0 : ∀ a, off a = 0) :
    (owns c m q X : sProp 𝕄)
      ⊢ iprop((owns c m q X -∗ wp frame (wpE (defs₀ (F := F)) 𝒱₀ c none) Set.univ (k X) Q)
          -∗ wp frame (wpE (defs₀ (F := F)) 𝒱₀ c none) Set.univ (.op (.load m (Rect.unit off s.size inb).toLoadRect hl) k) Q) := by
  have h := wp_load_owns (F := F) c (m := m) (r := Rect.unit off s.size inb) (hl := hl) (q := q) (X := X) (k := k) (Q := Q)
  have e : (fun x => X ((Rect.unit off s.size inb).emb x)) = X := funext fun x => congrArg X (emb_zero h0 inb x)
  exact h.trans (Entails.of_eq (congrArg (fun Y => iprop((owns c m q X -∗ wp frame (wpE (defs₀ (F := F)) 𝒱₀ c none) Set.univ (k Y) Q)
          -∗ wp frame (wpE (defs₀ (F := F)) 𝒱₀ c none) Set.univ (.op (.load m (Rect.unit off s.size inb).toLoadRect hl) k) Q)) e))

/-- A store over a whole owned memref leaves it owned at what was stored. -/
theorem wp_store_all {m : Memref sig c.2.kind cs s e} {off : Fin s.rank → ℕ} {inb : ∀ a, off a + s.size a ≤ s.size a}
    {w : s.Idx → Elt F e} {hx : (m.access (Rect.unit off s.size inb)).Stores Finset.univ}
    {hm : Finset.univ = Finset.univ ∨ ∀ a, (Rect.unit off s.size inb).stride a = 1} {X : s.Idx → Elt F e}
    {k : PUnit → Prog (TpuEff nD τ sig (Elt F) Λ₀ c.2) α} {Q : α → sProp 𝕄} (h0 : ∀ a, off a = 0) :
    (owns c m fullShare X : sProp 𝕄)
      ⊢ iprop((owns c m fullShare w -∗ wp frame (wpE (defs₀ (F := F)) 𝒱₀ c none) Set.univ (k ⟨⟩) Q)
          -∗ wp frame (wpE (defs₀ (F := F)) 𝒱₀ c none) Set.univ (.op (.store m (Rect.unit off s.size inb) w Finset.univ hx hm) k) Q) :=
  wp_store_owns (F := F) c (X' := w) (fun x => congrArg w (emb_zero h0 inb x)) (fun y hy => absurd (by
    obtain rfl : off = fun _ => 0 := funext h0
    show y ∈ (Rect.whole s).set
    rw [Rect.set_whole]; exact Finset.mem_univ y) hy)

end Whole

/-- The perceptron's body: the three layers and the last product, of the rows staged. -/
theorem layers_body (c : Dev nD) (i : grid2.Coords) (M1 : Memref sig .tc .vmem S4096x128 .f32) (h1 : M1.IsWhole) (M2 : Memref sig .tc .vmem S4096x128 .f32) (h2 : M2.IsWhole) (M3 : Memref sig .tc .vmem S128x128 .f32) (h3 : M3.IsWhole) (M4 : Memref sig .tc .vmem S128x128 .f32) (h4 : M4.IsWhole) (M5 : Memref sig .tc .vmem S1x128 .f32) (h5 : M5.IsWhole) (M6 : Memref sig .tc .vmem S128x64 .f32) (h6 : M6.IsWhole) (M7 : Memref sig .tc .vmem S1x64 .f32) (h7 : M7.IsWhole) (M8 : Memref sig .tc .vmem S64x32 .f32) (h8 : M8.IsWhole) (M9 : Memref sig .tc .vmem S1x32 .f32) (h9 : M9.IsWhole) (M10 : Memref sig .tc .vmem S32x1 .f32) (h10 : M10.IsWhole) (M11 : Memref sig .tc .vmem S4096 .f32) (h11 : M11.IsWhole)
    (x1 : S4096x128.Idx → F .f32) (x2 : S4096x128.Idx → F .f32) (x3 : S128x128.Idx → F .f32) (x4 : S128x128.Idx → F .f32) (x5 : S1x128.Idx → F .f32) (x6 : S128x64.Idx → F .f32) (x7 : S1x64.Idx → F .f32) (x8 : S64x32.Idx → F .f32) (x9 : S1x32.Idx → F .f32) (x10 : S32x1.Idx → F .f32) (x11 : S4096.Idx → F .f32) (Q : PUnit → sProp 𝕄) :
    iprop(owns (T c) M1 fullShare x1 ∗ owns (T c) M2 fullShare x2 ∗ owns (T c) M3 fullShare x3 ∗ owns (T c) M4 fullShare x4 ∗ owns (T c) M5 fullShare x5 ∗ owns (T c) M6 fullShare x6 ∗ owns (T c) M7 fullShare x7 ∗ owns (T c) M8 fullShare x8 ∗ owns (T c) M9 fullShare x9 ∗ owns (T c) M10 fullShare x10 ∗ owns (T c) M11 fullShare x11
      ∗ (iprop(owns (T c) M1 fullShare x1 ∗ owns (T c) M2 fullShare x2 ∗ owns (T c) M3 fullShare x3 ∗ owns (T c) M4 fullShare x4 ∗ owns (T c) M5 fullShare x5 ∗ owns (T c) M6 fullShare x6 ∗ owns (T c) M7 fullShare x7 ∗ owns (T c) M8 fullShare x8 ∗ owns (T c) M9 fullShare x9 ∗ owns (T c) M10 fullShare x10 ∗ owns (T c) M11 fullShare (k2_pay1 (k2_pay2 x1 x3 x2 x4 x5 x6 x7 x8) x9 x10)) -∗ Q ⟨⟩))
      ⊢ wp frame (wpE (defs₀ (F := F)) 𝒱₀ (T c) none) Set.univ (cc2__tc_mlp_body i M1 h1 M2 h2 M3 h3 M4 h4 M5 h5 M6 h6 M7 h7 M8 h8 M9 h9 M10 h10 M11 h11) Q := by
  rw [cc2__tc_mlp_body_eq_skeleton]
  unfold cc2__tc_mlp_body_skel
  rw [k2_part1_eq_skeleton]
  unfold k2_part1_skel
  iintro ⟨H1, H2, H3, H4, H5, H6, H7, H8, H9, H10, H11, Hk⟩
  simp only [Sem.Prog.bind_lift, Sem.Prog.bind_op, Sem.Prog.bind_ret]
  iapply (wp_load_all (T c) (by decide)) $$ [H1]
  · iexact H1
  iintro H1
  iapply (wp_load_all (T c) (by decide)) $$ [H3]
  · iexact H3
  iintro H3
  iapply (wp_load_all (T c) (by decide)) $$ [H2]
  · iexact H2
  iintro H2
  iapply (wp_load_all (T c) (by decide)) $$ [H4]
  · iexact H4
  iintro H4
  iapply (wp_load_all (T c) (by decide)) $$ [H5]
  · iexact H5
  iintro H5
  iapply (wp_load_all (T c) (by decide)) $$ [H6]
  · iexact H6
  iintro H6
  iapply (wp_load_all (T c) (by decide)) $$ [H7]
  · iexact H7
  iintro H7
  iapply (wp_load_all (T c) (by decide)) $$ [H8]
  · iexact H8
  iintro H8
  iapply (wp_load_all (T c) (by decide)) $$ [H9]
  · iexact H9
  iintro H9
  iapply (wp_load_all (T c) (by decide)) $$ [H10]
  · iexact H10
  iintro H10
  iapply (wp_load_all (T c) (by decide)) $$ [H11]
  · iexact H11
  iintro H11
  iapply (wp_store_all (T c) (by decide)) $$ [H11]
  · iexact H11
  iintro H11
  simp only [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The last body: the product of the first factors' rows with their weights, and the perceptron's part and the bias added. -/
theorem final_body (c : Dev nD) (i : grid3.Coords) (M1 : Memref sig .tc .vmem S4096x32 .f32) (h1 : M1.IsWhole) (M2 : Memref sig .tc .vmem S4096 .f32) (h2 : M2.IsWhole) (M3 : Memref sig .tc .vmem S32x1 .f32) (h3 : M3.IsWhole) (M4 : Memref sig .tc .vmem S1x1 .f32) (h4 : M4.IsWhole) (M5 : Memref sig .tc .vmem S4096 .f32) (h5 : M5.IsWhole)
    (x1 : S4096x32.Idx → F .f32) (x2 : S4096.Idx → F .f32) (x3 : S32x1.Idx → F .f32) (x4 : S1x1.Idx → F .f32) (x5 : S4096.Idx → F .f32) (Q : PUnit → sProp 𝕄) :
    iprop(owns (T c) M1 fullShare x1 ∗ owns (T c) M2 fullShare x2 ∗ owns (T c) M3 fullShare x3 ∗ owns (T c) M4 fullShare x4 ∗ owns (T c) M5 fullShare x5
      ∗ (iprop(owns (T c) M1 fullShare x1 ∗ owns (T c) M2 fullShare x2 ∗ owns (T c) M3 fullShare x3 ∗ owns (T c) M4 fullShare x4 ∗ owns (T c) M5 fullShare (k3_pay1 x1 x3 x2 x4)) -∗ Q ⟨⟩))
      ⊢ wp frame (wpE (defs₀ (F := F)) 𝒱₀ (T c) none) Set.univ (cc3__tc_final_body i M1 h1 M2 h2 M3 h3 M4 h4 M5 h5) Q := by
  rw [cc3__tc_final_body_eq_skeleton]
  unfold cc3__tc_final_body_skel
  iintro ⟨H1, H2, H3, H4, H5, Hk⟩
  simp only [Sem.Prog.bind_lift, Sem.Prog.bind_op, Sem.Prog.bind_ret]
  iapply (wp_load_all (T c) (by decide)) $$ [H1]
  · iexact H1
  iintro H1
  iapply (wp_load_all (T c) (by decide)) $$ [H3]
  · iexact H3
  iintro H3
  iapply (wp_load_all (T c) (by decide)) $$ [H2]
  · iexact H2
  iintro H2
  iapply (wp_load_all (T c) (by decide)) $$ [H4]
  · iexact H4
  iintro H4
  iapply (wp_load_all (T c) (by decide)) $$ [H5]
  · iexact H5
  iintro H5
  iapply (wp_store_all (T c) (by decide)) $$ [H5]
  · iexact H5
  iintro H5
  simp only [wp_pure]
  imodintro
  iapply Hk
  isplitl [H1]; · iexact H1
  isplitl [H2]; · iexact H2
  isplitl [H3]; · iexact H3
  isplitl [H4]; · iexact H4
  iexact H5

end Cert.Proof.Neumf
-- ==== Proof.TcRegions.lean ====
/-
  The two TensorCore calls as regions of the program: what each one's windows hold at each grid point, and the arrays it leaves.
-/
module

public import proofs.«01_k».proof.Proof.TcBody
public import proofs.«01_k».proof.Proof.Gen.KernelIdeal.Launch
public import proofs.«01_k».proof.Proof.Gen.KernelIdeal.Points
public import Idealize.ShloMosaic.Lib.Pipeline.ValueKit
public import Idealize.ShloMosaic.Lib.Pipeline.Regions
public import Idealize.ShloMosaic.Lib.Pipeline.FrameBody

@[expose] public section

noncomputable section

namespace Cert.Proof.Neumf

open Cert.KernelIdeal Cert.KernelIdeal.Gen

open Idealize.ShloMosaic
open Idealize.ShloMosaic.ValueIdx (ix1 ix2 ix3)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

open Idealize.ShloMosaic.TcCoe
open Idealize.ShloMosaic.Pipeline (Dat BodyObligation)

variable (V : (c : Dev nD) → (b : Ref sig .tc) → Buf (Elt F) ((c : Thread nD τ).loc b)) (B : ℕ)

/-- What TensorCore call 0's body leaves in its result's buffer at point `t`: its payload of the blocks there. -/
def left2 (c : Dev nD) (t : Fin cfg2.N) : S4096.Idx → F .f32 :=
  k2_pay1 (k2_pay2 (((cfg2.win 0).blk t).view.read (Elt F) (V c (Pipeline.arrRef spec2 0))) (((cfg2.win 2).blk t).view.read (Elt F) (V c (Pipeline.arrRef spec2 2))) (((cfg2.win 1).blk t).view.read (Elt F) (V c (Pipeline.arrRef spec2 1))) (((cfg2.win 3).blk t).view.read (Elt F) (V c (Pipeline.arrRef spec2 3))) (((cfg2.win 4).blk t).view.read (Elt F) (V c (Pipeline.arrRef spec2 4))) (((cfg2.win 5).blk t).view.read (Elt F) (V c (Pipeline.arrRef spec2 5))) (((cfg2.win 6).blk t).view.read (Elt F) (V c (Pipeline.arrRef spec2 6))) (((cfg2.win 7).blk t).view.read (Elt F) (V c (Pipeline.arrRef spec2 7))))
    (((cfg2.win 8).blk t).view.read (Elt F) (V c (Pipeline.arrRef spec2 8))) (((cfg2.win 9).blk t).view.read (Elt F) (V c (Pipeline.arrRef spec2 9)))

/-- The data of TensorCore call 0 from contents `V`: every input's buffer keeps its block, the result's holds what the
    body leaves; nothing is owed, and the waits recorded sit at or below level `B`. -/
def dat2 (c : Dev nD) : Dat τ (Elt F) (HIx 2) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
    | ⟨4, _⟩ => ((cfg2.win 4).blk t).view.read (Elt F) (V c (Pipeline.arrRef spec2 4))
    | ⟨5, _⟩ => ((cfg2.win 5).blk t).view.read (Elt F) (V c (Pipeline.arrRef spec2 5))
    | ⟨6, _⟩ => ((cfg2.win 6).blk t).view.read (Elt F) (V c (Pipeline.arrRef spec2 6))
    | ⟨7, _⟩ => ((cfg2.win 7).blk t).view.read (Elt F) (V c (Pipeline.arrRef spec2 7))
    | ⟨8, _⟩ => ((cfg2.win 8).blk t).view.read (Elt F) (V c (Pipeline.arrRef spec2 8))
    | ⟨9, _⟩ => ((cfg2.win 9).blk t).view.read (Elt F) (V c (Pipeline.arrRef spec2 9))
    | ⟨10, _⟩ => left2 V c t
  Φ _ := Pipeline.scopedRest (Ix := HIx 2) (Name := ℕ) (U := UU) (Lvl := ℕ) (Val := Elt F) spec2 c
  q _ := fullShare
  owed _ := 0
  recorded _ := {x | (K (F := F)).lev ((c : Thread nD τ), x.1) x.2 ≤ B}

/-- Before a grid point of the first TensorCore call, window 0 holds its block of the input. -/
theorem before2_0 (c : Dev nD) (t : Fin cfg2.N) (d : (cfg2.win 0).block.Idx → Elt F (cfg2.win 0).elt) :
    (dat2 V B c).before 0 t d = ((cfg2.win 0).blk t).view.read (Elt F) (V c (Pipeline.arrRef spec2 0)) :=
  (dat2 V B c).before_in_eq_fetched 0 rfl (fun _ => rfl) (fun _ _ _ => rfl) (fun _ => rfl) t d

/-- Before a grid point of the first TensorCore call, window 1 holds its block of the input. -/
theorem before2_1 (c : Dev nD) (t : Fin cfg2.N) (d : (cfg2.win 1).block.Idx → Elt F (cfg2.win 1).elt) :
    (dat2 V B c).before 1 t d = ((cfg2.win 1).blk t).view.read (Elt F) (V c (Pipeline.arrRef spec2 1)) :=
  (dat2 V B c).before_in_eq_fetched 1 rfl (fun _ => rfl) (fun _ _ _ => rfl) (fun _ => rfl) t d

/-- Before a grid point of the first TensorCore call, window 2 holds its block of the input. -/
theorem before2_2 (c : Dev nD) (t : Fin cfg2.N) (d : (cfg2.win 2).block.Idx → Elt F (cfg2.win 2).elt) :
    (dat2 V B c).before 2 t d = ((cfg2.win 2).blk t).view.read (Elt F) (V c (Pipeline.arrRef spec2 2)) :=
  (dat2 V B c).before_in_eq_fetched 2 rfl (fun _ => rfl) (fun _ _ _ => rfl) (fun _ => rfl) t d

/-- Before a grid point of the first TensorCore call, window 3 holds its block of the input. -/
theorem before2_3 (c : Dev nD) (t : Fin cfg2.N) (d : (cfg2.win 3).block.Idx → Elt F (cfg2.win 3).elt) :
    (dat2 V B c).before 3 t d = ((cfg2.win 3).blk t).view.read (Elt F) (V c (Pipeline.arrRef spec2 3)) :=
  (dat2 V B c).before_in_eq_fetched 3 rfl (fun _ => rfl) (fun _ _ _ => rfl) (fun _ => rfl) t d

/-- Before a grid point of the first TensorCore call, window 4 holds its block of the input. -/
theorem before2_4 (c : Dev nD) (t : Fin cfg2.N) (d : (cfg2.win 4).block.Idx → Elt F (cfg2.win 4).elt) :
    (dat2 V B c).before 4 t d = ((cfg2.win 4).blk t).view.read (Elt F) (V c (Pipeline.arrRef spec2 4)) :=
  (dat2 V B c).before_in_eq_fetched 4 rfl (fun _ => rfl) (fun _ _ _ => rfl) (fun _ => rfl) t d

/-- Before a grid point of the first TensorCore call, window 5 holds its block of the input. -/
theorem before2_5 (c : Dev nD) (t : Fin cfg2.N) (d : (cfg2.win 5).block.Idx → Elt F (cfg2.win 5).elt) :
    (dat2 V B c).before 5 t d = ((cfg2.win 5).blk t).view.read (Elt F) (V c (Pipeline.arrRef spec2 5)) :=
  (dat2 V B c).before_in_eq_fetched 5 rfl (fun _ => rfl) (fun _ _ _ => rfl) (fun _ => rfl) t d

/-- Before a grid point of the first TensorCore call, window 6 holds its block of the input. -/
theorem before2_6 (c : Dev nD) (t : Fin cfg2.N) (d : (cfg2.win 6).block.Idx → Elt F (cfg2.win 6).elt) :
    (dat2 V B c).before 6 t d = ((cfg2.win 6).blk t).view.read (Elt F) (V c (Pipeline.arrRef spec2 6)) :=
  (dat2 V B c).before_in_eq_fetched 6 rfl (fun _ => rfl) (fun _ _ _ => rfl) (fun _ => rfl) t d

/-- Before a grid point of the first TensorCore call, window 7 holds its block of the input. -/
theorem before2_7 (c : Dev nD) (t : Fin cfg2.N) (d : (cfg2.win 7).block.Idx → Elt F (cfg2.win 7).elt) :
    (dat2 V B c).before 7 t d = ((cfg2.win 7).blk t).view.read (Elt F) (V c (Pipeline.arrRef spec2 7)) :=
  (dat2 V B c).before_in_eq_fetched 7 rfl (fun _ => rfl) (fun _ _ _ => rfl) (fun _ => rfl) t d

/-- Before a grid point of the first TensorCore call, window 8 holds its block of the input. -/
theorem before2_8 (c : Dev nD) (t : Fin cfg2.N) (d : (cfg2.win 8).block.Idx → Elt F (cfg2.win 8).elt) :
    (dat2 V B c).before 8 t d = ((cfg2.win 8).blk t).view.read (Elt F) (V c (Pipeline.arrRef spec2 8)) :=
  (dat2 V B c).before_in_eq_fetched 8 rfl (fun _ => rfl) (fun _ _ _ => rfl) (fun _ => rfl) t d

/-- Before a grid point of the first TensorCore call, window 9 holds its block of the input. -/
theorem before2_9 (c : Dev nD) (t : Fin cfg2.N) (d : (cfg2.win 9).block.Idx → Elt F (cfg2.win 9).elt) :
    (dat2 V B c).before 9 t d = ((cfg2.win 9).blk t).view.read (Elt F) (V c (Pipeline.arrRef spec2 9)) :=
  (dat2 V B c).before_in_eq_fetched 9 rfl (fun _ => rfl) (fun _ _ _ => rfl) (fun _ => rfl) t d

/-- The body of TensorCore call 0 keeps its data at every point. -/
theorem bodyOk2 (c : Dev nD) : BodyObligation (dat2 V B c) (defs₀ (F := F)) 𝒱₀ (none : HIx 2) Set.univ := fun t => by
  have e0 : ∀ d, (owns (T c) (win2_0.stage (cfg2.slots t 0)) fullShare ((dat2 V B c).before 0 t d) : sProp 𝕄) = owns (T c) (win2_0.stage (cfg2.slots t 0)) fullShare (((cfg2.win 0).blk t).view.read (Elt F) (V c (Pipeline.arrRef spec2 0))) :=
    fun d => congrArg (fun x => (owns (T c) (win2_0.stage (cfg2.slots t 0)) fullShare x : sProp 𝕄)) (before2_0 V B c t d)
  have e1 : ∀ d, (owns (T c) (win2_1.stage (cfg2.slots t 1)) fullShare ((dat2 V B c).before 1 t d) : sProp 𝕄) = owns (T c) (win2_1.stage (cfg2.slots t 1)) fullShare (((cfg2.win 1).blk t).view.read (Elt F) (V c (Pipeline.arrRef spec2 1))) :=
    fun d => congrArg (fun x => (owns (T c) (win2_1.stage (cfg2.slots t 1)) fullShare x : sProp 𝕄)) (before2_1 V B c t d)
  have e2 : ∀ d, (owns (T c) (win2_2.stage (cfg2.slots t 2)) fullShare ((dat2 V B c).before 2 t d) : sProp 𝕄) = owns (T c) (win2_2.stage (cfg2.slots t 2)) fullShare (((cfg2.win 2).blk t).view.read (Elt F) (V c (Pipeline.arrRef spec2 2))) :=
    fun d => congrArg (fun x => (owns (T c) (win2_2.stage (cfg2.slots t 2)) fullShare x : sProp 𝕄)) (before2_2 V B c t d)
  have e3 : ∀ d, (owns (T c) (win2_3.stage (cfg2.slots t 3)) fullShare ((dat2 V B c).before 3 t d) : sProp 𝕄) = owns (T c) (win2_3.stage (cfg2.slots t 3)) fullShare (((cfg2.win 3).blk t).view.read (Elt F) (V c (Pipeline.arrRef spec2 3))) :=
    fun d => congrArg (fun x => (owns (T c) (win2_3.stage (cfg2.slots t 3)) fullShare x : sProp 𝕄)) (before2_3 V B c t d)
  have e4 : ∀ d, (owns (T c) (win2_4.stage (cfg2.slots t 4)) fullShare ((dat2 V B c).before 4 t d) : sProp 𝕄) = owns (T c) (win2_4.stage (cfg2.slots t 4)) fullShare (((cfg2.win 4).blk t).view.read (Elt F) (V c (Pipeline.arrRef spec2 4))) :=
    fun d => congrArg (fun x => (owns (T c) (win2_4.stage (cfg2.slots t 4)) fullShare x : sProp 𝕄)) (before2_4 V B c t d)
  have e5 : ∀ d, (owns (T c) (win2_5.stage (cfg2.slots t 5)) fullShare ((dat2 V B c).before 5 t d) : sProp 𝕄) = owns (T c) (win2_5.stage (cfg2.slots t 5)) fullShare (((cfg2.win 5).blk t).view.read (Elt F) (V c (Pipeline.arrRef spec2 5))) :=
    fun d => congrArg (fun x => (owns (T c) (win2_5.stage (cfg2.slots t 5)) fullShare x : sProp 𝕄)) (before2_5 V B c t d)
  have e6 : ∀ d, (owns (T c) (win2_6.stage (cfg2.slots t 6)) fullShare ((dat2 V B c).before 6 t d) : sProp 𝕄) = owns (T c) (win2_6.stage (cfg2.slots t 6)) fullShare (((cfg2.win 6).blk t).view.read (Elt F) (V c (Pipeline.arrRef spec2 6))) :=
    fun d => congrArg (fun x => (owns (T c) (win2_6.stage (cfg2.slots t 6)) fullShare x : sProp 𝕄)) (before2_6 V B c t d)
  have e7 : ∀ d, (owns (T c) (win2_7.stage (cfg2.slots t 7)) fullShare ((dat2 V B c).before 7 t d) : sProp 𝕄) = owns (T c) (win2_7.stage (cfg2.slots t 7)) fullShare (((cfg2.win 7).blk t).view.read (Elt F) (V c (Pipeline.arrRef spec2 7))) :=
    fun d => congrArg (fun x => (owns (T c) (win2_7.stage (cfg2.slots t 7)) fullShare x : sProp 𝕄)) (before2_7 V B c t d)
  have e8 : ∀ d, (owns (T c) (win2_8.stage (cfg2.slots t 8)) fullShare ((dat2 V B c).before 8 t d) : sProp 𝕄) = owns (T c) (win2_8.stage (cfg2.slots t 8)) fullShare (((cfg2.win 8).blk t).view.read (Elt F) (V c (Pipeline.arrRef spec2 8))) :=
    fun d => congrArg (fun x => (owns (T c) (win2_8.stage (cfg2.slots t 8)) fullShare x : sProp 𝕄)) (before2_8 V B c t d)
  have e9 : ∀ d, (owns (T c) (win2_9.stage (cfg2.slots t 9)) fullShare ((dat2 V B c).before 9 t d) : sProp 𝕄) = owns (T c) (win2_9.stage (cfg2.slots t 9)) fullShare (((cfg2.win 9).blk t).view.read (Elt F) (V c (Pipeline.arrRef spec2 9))) :=
    fun d => congrArg (fun x => (owns (T c) (win2_9.stage (cfg2.slots t 9)) fullShare x : sProp 𝕄)) (before2_9 V B c t d)
  rw [bigSep_W2, bigSep_W2]
  rw [show (dat2 V B c).Φ t.castSucc = (dat2 V B c).Φ t.succ from rfl,
    show (dat2 V B c).owesAt (none : HIx 2) t.succ = (dat2 V B c).owesAt (none : HIx 2) t.castSucc from rfl,
    show defs₀ (F := F) .tc cfg2.body (cfg2.bodyArgs t (cfg2.slots t)) = bodyAt2 t from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (Entails.of_eq (e0 d0)) $$ H0
  ihave H1 := (Entails.of_eq (e1 d1)) $$ H1
  ihave H2 := (Entails.of_eq (e2 d2)) $$ H2
  ihave H3 := (Entails.of_eq (e3 d3)) $$ H3
  ihave H4 := (Entails.of_eq (e4 d4)) $$ H4
  ihave H5 := (Entails.of_eq (e5 d5)) $$ H5
  ihave H6 := (Entails.of_eq (e6 d6)) $$ H6
  ihave H7 := (Entails.of_eq (e7 d7)) $$ H7
  ihave H8 := (Entails.of_eq (e8 d8)) $$ H8
  ihave H9 := (Entails.of_eq (e9 d9)) $$ H9
  iapply (layers_body (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10))
    (((cfg2.win 0).blk t).view.read (Elt F) (V c (Pipeline.arrRef spec2 0))) (((cfg2.win 1).blk t).view.read (Elt F) (V c (Pipeline.arrRef spec2 1))) (((cfg2.win 2).blk t).view.read (Elt F) (V c (Pipeline.arrRef spec2 2))) (((cfg2.win 3).blk t).view.read (Elt F) (V c (Pipeline.arrRef spec2 3))) (((cfg2.win 4).blk t).view.read (Elt F) (V c (Pipeline.arrRef spec2 4))) (((cfg2.win 5).blk t).view.read (Elt F) (V c (Pipeline.arrRef spec2 5))) (((cfg2.win 6).blk t).view.read (Elt F) (V c (Pipeline.arrRef spec2 6))) (((cfg2.win 7).blk t).view.read (Elt F) (V c (Pipeline.arrRef spec2 7))) (((cfg2.win 8).blk t).view.read (Elt F) (V c (Pipeline.arrRef spec2 8))) (((cfg2.win 9).blk t).view.read (Elt F) (V c (Pipeline.arrRef spec2 9))) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What TensorCore call 1's body leaves in its result's buffer at point `t`: its payload of the blocks there. -/
def left3 (c : Dev nD) (t : Fin cfg3.N) : S4096.Idx → F .f32 :=
  k3_pay1 (((cfg3.win 0).blk t).view.read (Elt F) (V c (Pipeline.arrRef spec3 0))) (((cfg3.win 2).blk t).view.read (Elt F) (V c (Pipeline.arrRef spec3 2))) (((cfg3.win 1).blk t).view.read (Elt F) (V c (Pipeline.arrRef spec3 1))) (((cfg3.win 3).blk t).view.read (Elt F) (V c (Pipeline.arrRef spec3 3)))

/-- The data of TensorCore call 1 from contents `V`: every input's buffer keeps its block, the result's holds what the
    body leaves; nothing is owed, and the waits recorded sit at or below level `B`. -/
def dat3 (c : Dev nD) : Dat τ (Elt F) (HIx 2) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
    | ⟨4, _⟩ => left3 V c t
  Φ _ := Pipeline.scopedRest (Ix := HIx 2) (Name := ℕ) (U := UU) (Lvl := ℕ) (Val := Elt F) spec3 c
  q _ := fullShare
  owed _ := 0
  recorded _ := {x | (K (F := F)).lev ((c : Thread nD τ), x.1) x.2 ≤ B}

/-- Before a grid point of the second TensorCore call, window 0 holds its block of the input. -/
theorem before3_0 (c : Dev nD) (t : Fin cfg3.N) (d : (cfg3.win 0).block.Idx → Elt F (cfg3.win 0).elt) :
    (dat3 V B c).before 0 t d = ((cfg3.win 0).blk t).view.read (Elt F) (V c (Pipeline.arrRef spec3 0)) :=
  (dat3 V B c).before_in_eq_fetched 0 rfl (fun _ => rfl) (fun _ _ _ => rfl) (fun _ => rfl) t d

/-- Before a grid point of the second TensorCore call, window 1 holds its block of the input. -/
theorem before3_1 (c : Dev nD) (t : Fin cfg3.N) (d : (cfg3.win 1).block.Idx → Elt F (cfg3.win 1).elt) :
    (dat3 V B c).before 1 t d = ((cfg3.win 1).blk t).view.read (Elt F) (V c (Pipeline.arrRef spec3 1)) :=
  (dat3 V B c).before_in_eq_fetched 1 rfl (fun _ => rfl) (fun _ _ _ => rfl) (fun _ => rfl) t d

/-- Before a grid point of the second TensorCore call, window 2 holds its block of the input. -/
theorem before3_2 (c : Dev nD) (t : Fin cfg3.N) (d : (cfg3.win 2).block.Idx → Elt F (cfg3.win 2).elt) :
    (dat3 V B c).before 2 t d = ((cfg3.win 2).blk t).view.read (Elt F) (V c (Pipeline.arrRef spec3 2)) :=
  (dat3 V B c).before_in_eq_fetched 2 rfl (fun _ => rfl) (fun _ _ _ => rfl) (fun _ => rfl) t d

/-- Before a grid point of the second TensorCore call, window 3 holds its block of the input. -/
theorem before3_3 (c : Dev nD) (t : Fin cfg3.N) (d : (cfg3.win 3).block.Idx → Elt F (cfg3.win 3).elt) :
    (dat3 V B c).before 3 t d = ((cfg3.win 3).blk t).view.read (Elt F) (V c (Pipeline.arrRef spec3 3)) :=
  (dat3 V B c).before_in_eq_fetched 3 rfl (fun _ => rfl) (fun _ _ _ => rfl) (fun _ => rfl) t d

/-- The body of TensorCore call 1 keeps its data at every point. -/
theorem bodyOk3 (c : Dev nD) : BodyObligation (dat3 V B c) (defs₀ (F := F)) 𝒱₀ (none : HIx 2) Set.univ := fun t => by
  have e0 : ∀ d, (owns (T c) (win3_0.stage (cfg3.slots t 0)) fullShare ((dat3 V B c).before 0 t d) : sProp 𝕄) = owns (T c) (win3_0.stage (cfg3.slots t 0)) fullShare (((cfg3.win 0).blk t).view.read (Elt F) (V c (Pipeline.arrRef spec3 0))) :=
    fun d => congrArg (fun x => (owns (T c) (win3_0.stage (cfg3.slots t 0)) fullShare x : sProp 𝕄)) (before3_0 V B c t d)
  have e1 : ∀ d, (owns (T c) (win3_1.stage (cfg3.slots t 1)) fullShare ((dat3 V B c).before 1 t d) : sProp 𝕄) = owns (T c) (win3_1.stage (cfg3.slots t 1)) fullShare (((cfg3.win 1).blk t).view.read (Elt F) (V c (Pipeline.arrRef spec3 1))) :=
    fun d => congrArg (fun x => (owns (T c) (win3_1.stage (cfg3.slots t 1)) fullShare x : sProp 𝕄)) (before3_1 V B c t d)
  have e2 : ∀ d, (owns (T c) (win3_2.stage (cfg3.slots t 2)) fullShare ((dat3 V B c).before 2 t d) : sProp 𝕄) = owns (T c) (win3_2.stage (cfg3.slots t 2)) fullShare (((cfg3.win 2).blk t).view.read (Elt F) (V c (Pipeline.arrRef spec3 2))) :=
    fun d => congrArg (fun x => (owns (T c) (win3_2.stage (cfg3.slots t 2)) fullShare x : sProp 𝕄)) (before3_2 V B c t d)
  have e3 : ∀ d, (owns (T c) (win3_3.stage (cfg3.slots t 3)) fullShare ((dat3 V B c).before 3 t d) : sProp 𝕄) = owns (T c) (win3_3.stage (cfg3.slots t 3)) fullShare (((cfg3.win 3).blk t).view.read (Elt F) (V c (Pipeline.arrRef spec3 3))) :=
    fun d => congrArg (fun x => (owns (T c) (win3_3.stage (cfg3.slots t 3)) fullShare x : sProp 𝕄)) (before3_3 V B c t d)
  rw [bigSep_W3, bigSep_W3]
  rw [show (dat3 V B c).Φ t.castSucc = (dat3 V B c).Φ t.succ from rfl,
    show (dat3 V B c).owesAt (none : HIx 2) t.succ = (dat3 V B c).owesAt (none : HIx 2) t.castSucc from rfl,
    show defs₀ (F := F) .tc cfg3.body (cfg3.bodyArgs t (cfg3.slots t)) = bodyAt3 t from rfl]
  iintro ⟨HΦ, Howes, ⟨%d0, H0⟩, ⟨%d1, H1⟩, ⟨%d2, H2⟩, ⟨%d3, H3⟩, ⟨%d4, H4⟩⟩
  ihave H0 := (Entails.of_eq (e0 d0)) $$ H0
  ihave H1 := (Entails.of_eq (e1 d1)) $$ H1
  ihave H2 := (Entails.of_eq (e2 d2)) $$ H2
  ihave H3 := (Entails.of_eq (e3 d3)) $$ H3
  iapply (final_body (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4))
    (((cfg3.win 0).blk t).view.read (Elt F) (V c (Pipeline.arrRef spec3 0))) (((cfg3.win 1).blk t).view.read (Elt F) (V c (Pipeline.arrRef spec3 1))) (((cfg3.win 2).blk t).view.read (Elt F) (V c (Pipeline.arrRef spec3 2))) (((cfg3.win 3).blk t).view.read (Elt F) (V c (Pipeline.arrRef spec3 3))) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- No pipeline reads a table. -/
abbrev adm : (p : Fin 2) → (pcfgs (F := F) p).Adm := fun p => (cfgs p).toPCfg_adm

/-- Both calls' data, from contents `V`. -/
def pdats : (p : Fin 2) → (c : Dev nD) → Dat τ (Elt F) (HIx 2) ℕ UU ℕ (Pipeline.pin (pcfgs (F := F)) adm p) c
  | ⟨0, _⟩ => fun c => dat2 V B c
  | ⟨1, _⟩ => fun c => dat3 V B c

/-- The core owes nothing, and its recorded waits sit at or below level `B`. -/
abbrev Idle (c : Dev nD) : sProp 𝕄 :=
  iprop(∃ W, ⌜(K (F := F)).WBelow (c : Thread nD τ) W B⌝ ∗ owes (c : Thread nD τ) (0 : CellTallies nD τ sig (HIx 2)) W)

variable (L : GSem nD τ sig → Finset (HIx 2)) (lv : GSem nD τ sig → HIx 2 → ℕ)
variable (Vp : (c : Dev nD) → (b : Ref sig .tc) → Buf (Elt F) ((c : Thread nD τ).loc b))

set_option backward.isDefEq.respectTransparency.types false in
/-- TensorCore call 0 as a region over the unscoped buffers: entered at `V`, left at any `Vp` that has the result's array
    as the call leaves it and agrees with `V` elsewhere. -/
def reg2 (hout : ∀ c, Vp c main_v37 = (dat2 V B c).arrAt 10 cfg2.N) (hne : ∀ c (b : Ref sig .tc), b ≠ main_v37 → Vp c b = V c b) :
    Pipeline.RegionSeg (pcfgs (F := F)) adm (pdats V B) (none : HIx 2) defs₀ 𝒱₀ L lv 0 where
  win := (launch2).win.to₀
  block_pos := (launch2).block_pos
  stage_whole := (launch2).stage_whole
  K := PEmpty
  osem k := k.elim
  ho := Pipeline.OwnSemFacts.none _
  hbody c := (bodyOk2 V B c).loose
  hwaits := Pipeline.hwaits_of_owed_zero _ _ _ _ L lv 0 fun _ _ => rfl
  pre c := iprop(unscopedBufs c (V c) ∗ Idle (F := F) B c)
  post c := iprop(unscopedBufs c (Vp c) ∗ Idle (F := F) B c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (pdats V B) (launch2).win (launch2).arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW x hx)
      iexact HO
    isplitr; · iempintro
    iexact Hrest
  hin c := by
    rw [show (pdats V B 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (pdats V B 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch2).win (launch2).arr_whole c
      (pdats V B) ((pdats V B 0 c).share_full fun _ => rfl) (V c) (Vp c) ((pdats V B 0 c).arrAt · cfg2.N)
      (fun w => by
        fin_cases w
        · exact ((pdats V B 0 c).arrAt_in 0 rfl _).trans (hne c _ (by show Pipeline.arrRef spec2 0 ≠ main_v37; decide)).symm
        · exact ((pdats V B 0 c).arrAt_in 1 rfl _).trans (hne c _ (by show Pipeline.arrRef spec2 1 ≠ main_v37; decide)).symm
        · exact ((pdats V B 0 c).arrAt_in 2 rfl _).trans (hne c _ (by show Pipeline.arrRef spec2 2 ≠ main_v37; decide)).symm
        · exact ((pdats V B 0 c).arrAt_in 3 rfl _).trans (hne c _ (by show Pipeline.arrRef spec2 3 ≠ main_v37; decide)).symm
        · exact ((pdats V B 0 c).arrAt_in 4 rfl _).trans (hne c _ (by show Pipeline.arrRef spec2 4 ≠ main_v37; decide)).symm
        · exact ((pdats V B 0 c).arrAt_in 5 rfl _).trans (hne c _ (by show Pipeline.arrRef spec2 5 ≠ main_v37; decide)).symm
        · exact ((pdats V B 0 c).arrAt_in 6 rfl _).trans (hne c _ (by show Pipeline.arrRef spec2 6 ≠ main_v37; decide)).symm
        · exact ((pdats V B 0 c).arrAt_in 7 rfl _).trans (hne c _ (by show Pipeline.arrRef spec2 7 ≠ main_v37; decide)).symm
        · exact ((pdats V B 0 c).arrAt_in 8 rfl _).trans (hne c _ (by show Pipeline.arrRef spec2 8 ≠ main_v37; decide)).symm
        · exact ((pdats V B 0 c).arrAt_in 9 rfl _).trans (hne c _ (by show Pipeline.arrRef spec2 9 ≠ main_v37; decide)).symm
        · exact (hout c).symm)
      (fun b hb => hne c b fun h => hb (h ▸ Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro x hx
      rcases hW hx with h | h
      · exact h
      · obtain ⟨w, i, rfl⟩ := h
        exact Nat.zero_le _
    iexact HO

set_option backward.isDefEq.respectTransparency.types false in
/-- TensorCore call 1 as a region over the unscoped buffers: entered at `V`, left at any `Vp` that has the result's array
    as the call leaves it and agrees with `V` elsewhere. -/
def reg3 (hout : ∀ c, Vp c main_v41 = (dat3 V B c).arrAt 4 cfg3.N) (hne : ∀ c (b : Ref sig .tc), b ≠ main_v41 → Vp c b = V c b) :
    Pipeline.RegionSeg (pcfgs (F := F)) adm (pdats V B) (none : HIx 2) defs₀ 𝒱₀ L lv 1 where
  win := (launch3).win.to₀
  block_pos := (launch3).block_pos
  stage_whole := (launch3).stage_whole
  K := PEmpty
  osem k := k.elim
  ho := Pipeline.OwnSemFacts.none _
  hbody c := (bodyOk3 V B c).loose
  hwaits := Pipeline.hwaits_of_owed_zero _ _ _ _ L lv 1 fun _ _ => rfl
  pre c := iprop(unscopedBufs c (V c) ∗ Idle (F := F) B c)
  post c := iprop(unscopedBufs c (Vp c) ∗ Idle (F := F) B c)
  X _ := BI.emp
  Y _ := BI.emp
  Z c := Pipeline.unscopedRest (Ix := HIx 2) (Name := ℕ) (U := UU) (Lvl := ℕ) spec3 c (V c)
  hentry c := by
    rw [Pipeline.ownSems0_none]
    have hsplit := Pipeline.arrays_of_unscopedBufs (p := 1) (pcfgs (F := F)) adm (pdats V B) (launch3).win (launch3).arr_whole c
      ((pdats V B 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW x hx)
      iexact HO
    isplitr; · iempintro
    iexact Hrest
  hin c := by
    rw [show (pdats V B 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (pdats V B 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) (launch3).win (launch3).arr_whole c
      (pdats V B) ((pdats V B 1 c).share_full fun _ => rfl) (V c) (Vp c) ((pdats V B 1 c).arrAt · cfg3.N)
      (fun w => by
        fin_cases w
        · exact ((pdats V B 1 c).arrAt_in 0 rfl _).trans (hne c _ (by show Pipeline.arrRef spec3 0 ≠ main_v41; decide)).symm
        · exact ((pdats V B 1 c).arrAt_in 1 rfl _).trans (hne c _ (by show Pipeline.arrRef spec3 1 ≠ main_v41; decide)).symm
        · exact ((pdats V B 1 c).arrAt_in 2 rfl _).trans (hne c _ (by show Pipeline.arrRef spec3 2 ≠ main_v41; decide)).symm
        · exact ((pdats V B 1 c).arrAt_in 3 rfl _).trans (hne c _ (by show Pipeline.arrRef spec3 3 ≠ main_v41; decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro x hx
      rcases hW hx with h | h
      · exact h
      · obtain ⟨w, i, rfl⟩ := h
        exact Nat.zero_le _
    iexact HO

end Cert.Proof.Neumf
-- ==== Proof.HostOps.lean ====
/-
  The host's operations of the kernel's program, in four runs between its calls.
-/
module

public import proofs.«01_k».proof.Proof.Setup

@[expose] public section

noncomputable section

namespace Cert.Proof.Neumf

open Cert.KernelIdeal Cert.KernelIdeal.Gen
open Idealize.ShloMosaic.TcCoe

open Idealize.ShloMosaic

open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

/-- The host's operations before the first SparseCore call: the two index columns. -/
abbrev opsA : List (HloOp τ sig (Elt F)) :=
  [(StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F))),
   (StableHlo.reshape main_v0 main_v1 (rfl : (.i32 : EltTy) = .i32) shapeCasts_S16384x1_S16384),
   (StableHlo.reshape main_v1 main_v2 (rfl : (.i32 : EltTy) = .i32) shapeCasts_S16384_S1x16384),
   (StableHlo.unary main_arg0 main_v3 ((extractStridedSlice S16384x1 ![0, 1] · slices_S16384x2_S16384x1_0_1) : (⟨S16384x2, .i32⟩ : BufTy).Contents (Elt F) → (⟨S16384x1, .i32⟩ : BufTy).Contents (Elt F))),
   (StableHlo.reshape main_v3 main_v4 (rfl : (.i32 : EltTy) = .i32) shapeCasts_S16384x1_S16384),
   (StableHlo.reshape main_v4 main_v5 (rfl : (.i32 : EltTy) = .i32) shapeCasts_S16384_S1x16384)]

/-- What they write. -/
abbrev wrA : List (Ref sig .tc) := [main_v0, main_v1, main_v2, main_v3, main_v4, main_v5]

/-- The arrays that the first group of host operations writes. -/
theorem opsA_writes : (opsA (F := F)).map HloOp.writes = wrA.map fun w => {Proc.devRef (τ := τ) .tc w} := rfl

/-- The first group of host operations touches the TensorCore's arrays only. -/
theorem opsA_bufs : (opsA (F := F)).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub .., StableHlo.reshape_bufs_sub ..⟩

/-- The first group of host operations makes no new array. -/
theorem opsA_fresh : (opsA (F := F)).Forall fun op => op.fresh = ∅ := StableHlo.forall_fresh_of_map rfl

/-- An array that the first group of host operations doesn't write keeps its contents. -/
theorem opsA_keep (V : Valuation τ sig (Elt F)) (r : Ref sig .tc) (h : r ∉ wrA) : StableHlo.after (opsA (F := F)) V r = V r :=
  StableHlo.after_of_writes_sub _ V (StableHlo.forall_writes_sub_of_map opsA_writes) h

/-- Between the two SparseCore calls: the packed table, and the barrier. -/
abbrev opsB : List (HloOp τ sig (Elt F)) :=
  [(StableHlo.unary main_arg1 main_v7 ((transpose S32x100000 [1, 0] · transposes_S100000x32_S32x100000_1_0) : (⟨S100000x32, .f32⟩ : BufTy).Contents (Elt F) → (⟨S32x100000, .f32⟩ : BufTy).Contents (Elt F))),
   (StableHlo.unary main_arg2 main_v8 ((transpose S32x100000 [1, 0] · transposes_S100000x32_S32x100000_1_0) : (⟨S100000x32, .f32⟩ : BufTy).Contents (Elt F) → (⟨S32x100000, .f32⟩ : BufTy).Contents (Elt F))),
   (StableHlo.nullary main_v9 (iotaInDim S64 32 0)),
   (StableHlo.unary main_v9 main_v10 (broadcastInDim S64x1 ![0] bcast_S64_S64x1_0 : (⟨S64, .i32⟩ : BufTy).Contents (Elt F) → (⟨S64x1, .i32⟩ : BufTy).Contents (Elt F))),
   (StableHlo.nullary main_v11 (iotaInDim S128 32 0)),
   (StableHlo.unary main_v11 main_v12 (broadcastInDim S1x128 ![1] bcast_S128_S1x128_1 : (⟨S128, .i32⟩ : BufTy).Contents (Elt F) → (⟨S1x128, .i32⟩ : BufTy).Contents (Elt F))),
   (StableHlo.unary main_v12 main_v13 (broadcastInDim S64x128 ![0, 1] bcast_S1x128_S64x128_0_1 : (⟨S1x128, .i32⟩ : BufTy).Contents (Elt F) → (⟨S64x128, .i32⟩ : BufTy).Contents (Elt F))),
   (StableHlo.unary main_v10 main_v14 (broadcastInDim S64x128 ![0, 1] bcast_S64x1_S64x128_0_1 : (⟨S64x1, .i32⟩ : BufTy).Contents (Elt F) → (⟨S64x128, .i32⟩ : BufTy).Contents (Elt F))),
   (StableHlo.binary main_v13 main_v14 main_v15 (cmpi .eq : (⟨S64x128, .i32⟩ : BufTy).Contents (Elt F) → (⟨S64x128, .i32⟩ : BufTy).Contents (Elt F) → (⟨S64x128, .i1⟩ : BufTy).Contents (Elt F))),
   (StableHlo.unary main_v15 main_v16 (uitofp .bf16 : (⟨S64x128, .i1⟩ : BufTy).Contents (Elt F) → (⟨S64x128, .bf16⟩ : BufTy).Contents (Elt F))),
   (StableHlo.unary main_v7 main_v17 ((truncf .bf16 · bitsLt_bf16_f32) : (⟨S32x100000, .f32⟩ : BufTy).Contents (Elt F) → (⟨S32x100000, .bf16⟩ : BufTy).Contents (Elt F))),
   (StableHlo.unary main_v16 main_v18 ((extractStridedSlice S32x128 ![0, 0] · slices_S64x128_S32x128_0_0) : (⟨S64x128, .bf16⟩ : BufTy).Contents (Elt F) → (⟨S32x128, .bf16⟩ : BufTy).Contents (Elt F))),
   (StableHlo.binary main_v17 main_v18 main_v19 ((fun l r => Host.dotGeneral dot_S32x100000_S32x128_S100000x128_0_0_1_1_n_n none l r) : (⟨S32x100000, .bf16⟩ : BufTy).Contents (Elt F) → (⟨S32x128, .bf16⟩ : BufTy).Contents (Elt F) → (⟨S100000x128, .f32⟩ : BufTy).Contents (Elt F))),
   (StableHlo.unary main_v8 main_v20 ((truncf .bf16 · bitsLt_bf16_f32) : (⟨S32x100000, .f32⟩ : BufTy).Contents (Elt F) → (⟨S32x100000, .bf16⟩ : BufTy).Contents (Elt F))),
   (StableHlo.unary main_v16 main_v21 ((extractStridedSlice S32x128 ![32, 0] · slices_S64x128_S32x128_32_0) : (⟨S64x128, .bf16⟩ : BufTy).Contents (Elt F) → (⟨S32x128, .bf16⟩ : BufTy).Contents (Elt F))),
   (StableHlo.binary main_v20 main_v21 main_v22 ((fun l r => Host.dotGeneral dot_S32x100000_S32x128_S100000x128_0_0_1_1_n_n none l r) : (⟨S32x100000, .bf16⟩ : BufTy).Contents (Elt F) → (⟨S32x128, .bf16⟩ : BufTy).Contents (Elt F) → (⟨S100000x128, .f32⟩ : BufTy).Contents (Elt F))),
   (StableHlo.binary main_v19 main_v22 main_v23 (addf : (⟨S100000x128, .f32⟩ : BufTy).Contents (Elt F) → (⟨S100000x128, .f32⟩ : BufTy).Contents (Elt F) → (⟨S100000x128, .f32⟩ : BufTy).Contents (Elt F))),
   (StableHlo.unary main_v2 main_v24_0 (id : (⟨S1x16384, .i32⟩ : BufTy).Contents (Elt F) → (⟨S1x16384, .i32⟩ : BufTy).Contents (Elt F))),
   (StableHlo.unary main_v5 main_v24_1 (id : (⟨S1x16384, .i32⟩ : BufTy).Contents (Elt F) → (⟨S1x16384, .i32⟩ : BufTy).Contents (Elt F))),
   (StableHlo.unary main_v6_0 main_v24_2 (id : (⟨S16384x128, .f32⟩ : BufTy).Contents (Elt F) → (⟨S16384x128, .f32⟩ : BufTy).Contents (Elt F)))]

/-- What they write. -/
abbrev wrB : List (Ref sig .tc) := [main_v7, main_v8, main_v9, main_v10, main_v11, main_v12, main_v13, main_v14, main_v15, main_v16, main_v17, main_v18, main_v19, main_v20, main_v21, main_v22, main_v23, main_v24_0, main_v24_1, main_v24_2]

/-- The arrays that the second group of host operations writes. -/
theorem opsB_writes : (opsB (F := F)).map HloOp.writes = wrB.map fun w => {Proc.devRef (τ := τ) .tc w} := rfl

/-- The second group of host operations touches the TensorCore's arrays only. -/
theorem opsB_bufs : (opsB (F := F)).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub ..⟩

/-- The second group of host operations makes no new array. -/
theorem opsB_fresh : (opsB (F := F)).Forall fun op => op.fresh = ∅ := StableHlo.forall_fresh_of_map rfl

/-- An array that the second group of host operations doesn't write keeps its contents. -/
theorem opsB_keep (V : Valuation τ sig (Elt F)) (r : Ref sig .tc) (h : r ∉ wrB) : StableHlo.after (opsB (F := F)) V r = V r :=
  StableHlo.after_of_writes_sub _ V (StableHlo.forall_writes_sub_of_map opsB_writes) h

/-- Before the first TensorCore call: the halves of the first layer's weights and the other layers' weights. -/
abbrev opsC : List (HloOp τ sig (Elt F)) :=
  [(StableHlo.unary main_arg5 main_v26 ((extractStridedSlice S128x128 ![0, 0] · slices_S128x256_S128x128_0_0) : (⟨S128x256, .f32⟩ : BufTy).Contents (Elt F) → (⟨S128x128, .f32⟩ : BufTy).Contents (Elt F))),
   (StableHlo.unary main_v26 main_v27 ((transpose S128x128 [1, 0] · transposes_S128x128_S128x128_1_0) : (⟨S128x128, .f32⟩ : BufTy).Contents (Elt F) → (⟨S128x128, .f32⟩ : BufTy).Contents (Elt F))),
   (StableHlo.unary main_arg5 main_v28 ((extractStridedSlice S128x128 ![0, 128] · slices_S128x256_S128x128_0_128) : (⟨S128x256, .f32⟩ : BufTy).Contents (Elt F) → (⟨S128x128, .f32⟩ : BufTy).Contents (Elt F))),
   (StableHlo.unary main_v28 main_v29 ((transpose S128x128 [1, 0] · transposes_S128x128_S128x128_1_0) : (⟨S128x128, .f32⟩ : BufTy).Contents (Elt F) → (⟨S128x128, .f32⟩ : BufTy).Contents (Elt F))),
   (StableHlo.reshape main_arg6 main_v30 (rfl : (.f32 : EltTy) = .f32) shapeCasts_S128_S1x128),
   (StableHlo.unary main_arg7 main_v31 ((transpose S128x64 [1, 0] · transposes_S64x128_S128x64_1_0) : (⟨S64x128, .f32⟩ : BufTy).Contents (Elt F) → (⟨S128x64, .f32⟩ : BufTy).Contents (Elt F))),
   (StableHlo.reshape main_arg8 main_v32 (rfl : (.f32 : EltTy) = .f32) shapeCasts_S64_S1x64),
   (StableHlo.unary main_arg9 main_v33 ((transpose S64x32 [1, 0] · transposes_S32x64_S64x32_1_0) : (⟨S32x64, .f32⟩ : BufTy).Contents (Elt F) → (⟨S64x32, .f32⟩ : BufTy).Contents (Elt F))),
   (StableHlo.reshape main_arg10 main_v34 (rfl : (.f32 : EltTy) = .f32) shapeCasts_S32_S1x32),
   (StableHlo.unary main_arg11 main_v35 ((extractStridedSlice S1x32 ![0, 32] · slices_S1x64_S1x32_0_32) : (⟨S1x64, .f32⟩ : BufTy).Contents (Elt F) → (⟨S1x32, .f32⟩ : BufTy).Contents (Elt F))),
   (StableHlo.unary main_v35 main_v36 ((transpose S32x1 [1, 0] · transposes_S1x32_S32x1_1_0) : (⟨S1x32, .f32⟩ : BufTy).Contents (Elt F) → (⟨S32x1, .f32⟩ : BufTy).Contents (Elt F)))]

/-- What they write. -/
abbrev wrC : List (Ref sig .tc) := [main_v26, main_v27, main_v28, main_v29, main_v30, main_v31, main_v32, main_v33, main_v34, main_v35, main_v36]

/-- The arrays that the third group of host operations writes. -/
theorem opsC_writes : (opsC (F := F)).map HloOp.writes = wrC.map fun w => {Proc.devRef (τ := τ) .tc w} := rfl

/-- The third group of host operations touches the TensorCore's arrays only. -/
theorem opsC_bufs : (opsC (F := F)).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub ..⟩

/-- The third group of host operations makes no new array. -/
theorem opsC_fresh : (opsC (F := F)).Forall fun op => op.fresh = ∅ := StableHlo.forall_fresh_of_map rfl

/-- An array that the third group of host operations doesn't write keeps its contents. -/
theorem opsC_keep (V : Valuation τ sig (Elt F)) (r : Ref sig .tc) (h : r ∉ wrC) : StableHlo.after (opsC (F := F)) V r = V r :=
  StableHlo.after_of_writes_sub _ V (StableHlo.forall_writes_sub_of_map opsC_writes) h

/-- Before the last TensorCore call: the half of the prediction weights for the product, and the bias. -/
abbrev opsD : List (HloOp τ sig (Elt F)) :=
  [(StableHlo.unary main_arg11 main_v38 ((extractStridedSlice S1x32 ![0, 0] · slices_S1x64_S1x32_0_0) : (⟨S1x64, .f32⟩ : BufTy).Contents (Elt F) → (⟨S1x32, .f32⟩ : BufTy).Contents (Elt F))),
   (StableHlo.unary main_v38 main_v39 ((transpose S32x1 [1, 0] · transposes_S1x32_S32x1_1_0) : (⟨S1x32, .f32⟩ : BufTy).Contents (Elt F) → (⟨S32x1, .f32⟩ : BufTy).Contents (Elt F))),
   (StableHlo.reshape main_arg12 main_v40 (rfl : (.f32 : EltTy) = .f32) shapeCasts_S1_S1x1)]

/-- What they write. -/
abbrev wrD : List (Ref sig .tc) := [main_v38, main_v39, main_v40]

/-- The arrays that the last group of host operations writes. -/
theorem opsD_writes : (opsD (F := F)).map HloOp.writes = wrD.map fun w => {Proc.devRef (τ := τ) .tc w} := rfl

/-- The last group of host operations touches the TensorCore's arrays only. -/
theorem opsD_bufs : (opsD (F := F)).Forall fun op => op.bufs ⊆ StableHlo.tcRefs τ sig :=
  ⟨StableHlo.unary_bufs_sub .., StableHlo.unary_bufs_sub .., StableHlo.reshape_bufs_sub ..⟩

/-- The last group of host operations makes no new array. -/
theorem opsD_fresh : (opsD (F := F)).Forall fun op => op.fresh = ∅ := StableHlo.forall_fresh_of_map rfl

/-- An array that the last group of host operations doesn't write keeps its contents. -/
theorem opsD_keep (V : Valuation τ sig (Elt F)) (r : Ref sig .tc) (h : r ∉ wrD) : StableHlo.after (opsD (F := F)) V r = V r :=
  StableHlo.after_of_writes_sub _ V (StableHlo.forall_writes_sub_of_map opsD_writes) h

/-- The two TensorCore calls, as the SparseCore launch's program makes them. -/
abbrev call2 : Prog (TpuEff nD τ sig (Elt F) (SparseCore.Sig (Pipeline.Sig Λ₀ (Fin 2) fun p => (pcfgs (F := F) p).Adm) 2) .tc) PUnit :=
  Prog.lift (.customCall (SparseCore.inner (Pipeline.entry 0)) ())

/-- The second TensorCore call, as @main makes it. -/
abbrev call3 : Prog (TpuEff nD τ sig (Elt F) (SparseCore.Sig (Pipeline.Sig Λ₀ (Fin 2) fun p => (pcfgs (F := F) p).Adm) 2) .tc) PUnit :=
  Prog.lift (.customCall (SparseCore.inner (Pipeline.entry 1)) ())

set_option maxRecDepth 8192 in
/-- The program is its four runs of host operations with the calls between them. -/
theorem main_eq (d : Dev nD) : main (F := F) d
    = (StableHlo.seq opsA >>= fun _ => sc.run d 0 >>= fun _ => StableHlo.seq opsB >>= fun _ => sc.run d 1 >>= fun _ =>
        StableHlo.seq opsC >>= fun _ => call2 >>= fun _ => StableHlo.seq opsD >>= fun _ => call3 >>= fun _ => pure ⟨⟩) := by
  rw [StableHlo.seq_bind_seqK, StableHlo.seq_bind_seqK, StableHlo.seq_bind_seqK, StableHlo.seq_bind_seqK]
  rfl

/-! ## The device's arrays that the host's operations run over -/

/-- The TensorCore's unscoped references, as device buffers. -/
def ucRefs : Finset (DevRef τ sig) := (StableHlo.tcRefs τ sig).filter fun b => ¬ b.isScoped

/-- Holding the long-lived arrays one by one is holding them together. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- Host operations touch long-lived arrays only. -/
theorem sub_uc (ops : List (HloOp τ sig (Elt F))) (h : ops.Forall fun op => op.bufs ⊆ StableHlo.tcRefs τ sig) :
    ∀ op ∈ ops, op.bufs ⊆ ucRefs := fun op hop b hb =>
  Finset.mem_filter.mpr ⟨(List.forall_iff_forall_mem.mp h) op hop hb, fun h' => Bool.false_ne_true ((op.no_scoped b hb).symm.trans h')⟩

/-- An array that is not a call's own is among the long-lived ones. -/
theorem mem_uc (b : Ref sig .tc) (h : b.isScoped = false) : (Proc.devRef (τ := τ) .tc b) ∈ ucRefs :=
  Finset.mem_filter.mpr ⟨StableHlo.devRef_mem_tcRefs b, fun h' => Bool.false_ne_true (h.symm.trans h')⟩

end Cert.Proof.Neumf
-- ==== Proof.Calls.lean ====
/-
  The two TensorCore calls inside the SparseCore launch's program.
-/
module

public import proofs.«01_k».proof.Proof.TcRegions
public import proofs.«01_k».proof.Proof.HostOps

@[expose] public section

noncomputable section

namespace Cert.Proof.Neumf

open Cert.KernelIdeal Cert.KernelIdeal.Gen
open Idealize.ShloMosaic.TcCoe

open Idealize.ShloMosaic

open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable [∀ e, Nonempty (Elt F e)]
variable (V : (c : Dev nD) → (b : Ref sig .tc) → Buf (Elt F) ((c : Thread nD τ).loc b)) (B : ℕ)
variable (Vp : (c : Dev nD) → (b : Ref sig .tc) → Buf (Elt F) ((c : Thread nD τ).loc b))

/-- What the launch deals device `c` for pipeline `p`. -/
def Ghost (p : Fin 2) (c : Dev nD) : sProp 𝕄 :=
  iprop(Pipeline.cellsGhost (Pipeline.pin (pcfgs (F := F)) adm) EP p c ∗ Pipeline.toksInit (Pipeline.pin (pcfgs (F := F)) adm) EP p c)

/-- The call as the kernel's own program makes it. -/
def own2 : Prog (TpuEff nD τ sig (Elt F) (ΛP (F := F)) .tc) PUnit := .op (.customCall (Pipeline.entry 0) ()) fun r => .ret r

/-- The first TensorCore call, as a program of the whole machine, is the call of its own
pipeline. -/
theorem call2_eq : call2 (F := F) = SparseCore.liftProg (own2 (F := F)) := by
  unfold call2 own2
  rfl

/-- The call as the kernel's own program makes it. -/
def own3 : Prog (TpuEff nD τ sig (Elt F) (ΛP (F := F)) .tc) PUnit := .op (.customCall (Pipeline.entry 1) ()) fun r => .ret r

/-- The second TensorCore call, as a program of the whole machine, is the call of its own
pipeline. -/
theorem call3_eq : call3 (F := F) = SparseCore.liftProg (own3 (F := F)) := by
  unfold call3 own3
  rfl

/-- The first TensorCore call: from the arrays at `V` to the arrays at `Vp`. -/
theorem wp_call2 (hout : ∀ c, Vp c main_v37 = (dat2 V B c).arrAt 10 cfg2.N) (hne : ∀ c (b : Ref sig .tc), b ≠ main_v37 → Vp c b = V c b)
    (c : Dev nD) {Q : PUnit → sProp 𝕄} :
    iprop((levAts (K (F := F)).L (K (F := F)).lev ∗ boundary (c.tc : Thread nD τ) ∗ unscopedBufs c (V c) ∗ Idle B c ∗ Ghost 0 c)
        ∗ (iprop(boundary (c.tc : Thread nD τ) ∗ unscopedBufs c (Vp c) ∗ Idle B c) -∗ Q ⟨⟩))
      ⊢ wp frame (wpE ((K (F := F)).defs (D (F := F))) 𝒱 (c.tc : Thread nD τ) none) Set.univ call2 Q := by
  rw [call2_eq]
  have hl := (K (F := F)).wp_liftProg (D (F := F)) 𝒱 (c.tc : Thread nD τ) Set.univ none (own2 (F := F)) Q
  unfold own2 at hl
  have hpre : (reg2 V B (K (F := F)).L (K (F := F)).lev Vp hout hne).pre c = iprop(unscopedBufs c (V c) ∗ Idle B c) := rfl
  have hpost : (reg2 V B (K (F := F)).L (K (F := F)).lev Vp hout hne).post c = iprop(unscopedBufs c (Vp c) ∗ Idle B c) := rfl
  have h := Pipeline.RegionSeg.wp (pcfgs (F := F)) adm (pdats V B) (none : HIx 2) cellOf_inj EP defs₀ 𝒱₀ (K (F := F)).L (K (F := F)).lev
    (reg2 V B (K (F := F)).L (K (F := F)).lev Vp hout hne) c none (fun u hu => nomatch hu) (fun r => Prog.ret r) Q
  rw [hpre, hpost] at h
  unfold Ghost
  iintro ⟨⟨Hl, Hb, Hv, HI, Hg, Ht⟩, HQ⟩
  iapply hl
  iapply h
  isplitl [HQ]
  · iintro ⟨Hb, Hv, HI⟩
    rw [wp_ret]
    imodintro
    iapply HQ
    isplitl [Hb]; · iexact Hb
    isplitl [Hv]; · iexact Hv
    iexact HI
  isplitl [Hb]; · iexact Hb
  isplitl [Hv HI]
  · isplitl [Hv]; · iexact Hv
    iexact HI
  isplitl [Hl]; · iexact Hl
  isplitl [Hg]; · iexact Hg
  iexact Ht

/-- The last TensorCore call, the same. -/
theorem wp_call3 (hout : ∀ c, Vp c main_v41 = (dat3 V B c).arrAt 4 cfg3.N) (hne : ∀ c (b : Ref sig .tc), b ≠ main_v41 → Vp c b = V c b)
    (c : Dev nD) {Q : PUnit → sProp 𝕄} :
    iprop((levAts (K (F := F)).L (K (F := F)).lev ∗ boundary (c.tc : Thread nD τ) ∗ unscopedBufs c (V c) ∗ Idle B c ∗ Ghost 1 c)
        ∗ (iprop(boundary (c.tc : Thread nD τ) ∗ unscopedBufs c (Vp c) ∗ Idle B c) -∗ Q ⟨⟩))
      ⊢ wp frame (wpE ((K (F := F)).defs (D (F := F))) 𝒱 (c.tc : Thread nD τ) none) Set.univ call3 Q := by
  rw [call3_eq]
  have hl := (K (F := F)).wp_liftProg (D (F := F)) 𝒱 (c.tc : Thread nD τ) Set.univ none (own3 (F := F)) Q
  unfold own3 at hl
  have hpre : (reg3 V B (K (F := F)).L (K (F := F)).lev Vp hout hne).pre c = iprop(unscopedBufs c (V c) ∗ Idle B c) := rfl
  have hpost : (reg3 V B (K (F := F)).L (K (F := F)).lev Vp hout hne).post c = iprop(unscopedBufs c (Vp c) ∗ Idle B c) := rfl
  have h := Pipeline.RegionSeg.wp (pcfgs (F := F)) adm (pdats V B) (none : HIx 2) cellOf_inj EP defs₀ 𝒱₀ (K (F := F)).L (K (F := F)).lev
    (reg3 V B (K (F := F)).L (K (F := F)).lev Vp hout hne) c none (fun u hu => nomatch hu) (fun r => Prog.ret r) Q
  rw [hpre, hpost] at h
  unfold Ghost
  iintro ⟨⟨Hl, Hb, Hv, HI, Hg, Ht⟩, HQ⟩
  iapply hl
  iapply h
  isplitl [HQ]
  · iintro ⟨Hb, Hv, HI⟩
    rw [wp_ret]
    imodintro
    iapply HQ
    isplitl [Hb]; · iexact Hb
    isplitl [Hv]; · iexact Hv
    iexact HI
  isplitl [Hb]; · iexact Hb
  isplitl [Hv HI]
  · isplitl [Hv]; · iexact Hv
    iexact HI
  isplitl [Hl]; · iexact Hl
  isplitl [Hg]; · iexact Hg
  iexact Ht

end Cert.Proof.Neumf
-- ==== Proof.TcValues.lean ====
/-
  The arrays that the two TensorCore calls leave, each value by its index.
-/
module

public import proofs.«01_k».proof.Proof.TcRegions

@[expose] public section

noncomputable section

namespace Cert.Proof.Neumf

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

set_option maxRecDepth 16384

open Idealize.ShloMosaic.TcCoe
open Idealize.ShloMosaic.Pipeline (Dat BodyObligation)

/-- The block of rows that row `j` lies in. -/
def blkNo (j : S16384.Idx) : Fin 4 := ⟨(j 0).val / 4096, by have h : (j 0).val < 16384 := (j 0).isLt; omega⟩
/-- Its place in that block. -/
def blkAt (j : S16384.Idx) : S4096.Idx := ValueIdx.ix1 ⟨(j 0).val % 4096, Nat.mod_lt _ (by decide)⟩

/-- Rows `4096 t` to `4096 t + 4095` of an array of 128 lanes. -/
def rows128 (A : S16384x128.Idx → F .f32) (t : Fin 4) : S4096x128.Idx → F .f32 := fun y =>
  A (ValueIdx.ix2 ⟨4096 * t.val + (y 0).val, by have h : (y 0).val < 4096 := (y 0).isLt; omega⟩ (y 1 : Fin 128))
/-- Rows `4096 t` to `4096 t + 4095` of an array of 32 lanes. -/
def rows32 (A : S16384x32.Idx → F .f32) (t : Fin 4) : S4096x32.Idx → F .f32 := fun y =>
  A (ValueIdx.ix2 ⟨4096 * t.val + (y 0).val, by have h : (y 0).val < 4096 := (y 0).isLt; omega⟩ (y 1 : Fin 32))
/-- Values `4096 t` to `4096 t + 4095` of a vector. -/
def rows1 (A : S16384.Idx → F .f32) (t : Fin 4) : S4096.Idx → F .f32 := fun y =>
  A (ValueIdx.ix1 ⟨4096 * t.val + (y 0).val, by have h : (y 0).val < 4096 := (y 0).isLt; omega⟩)

/-- The perceptron's part of every prediction. -/
def mlpArr (A B : S16384x128.Idx → F .f32) (w0 w1 : S128x128.Idx → F .f32) (b0 : S1x128.Idx → F .f32) (w2 : S128x64.Idx → F .f32)
    (b1 : S1x64.Idx → F .f32) (w3 : S64x32.Idx → F .f32) (b2 : S1x32.Idx → F .f32) (p : S32x1.Idx → F .f32) : S16384.Idx → F .f32 := fun j =>
  k2_pay1 (k2_pay2 (rows128 A (blkNo j)) w0 (rows128 B (blkNo j)) w1 b0 w2 b1 w3) b2 p (blkAt j)
/-- Every prediction, from the products of the first factors and the perceptron's part. -/
def predArr (G : S16384x32.Idx → F .f32) (M : S16384.Idx → F .f32) (p : S32x1.Idx → F .f32) (b : S1x1.Idx → F .f32) : S16384.Idx → F .f32 := fun j =>
  k3_pay1 (rows32 G (blkNo j)) p (rows1 M (blkNo j)) b (blkAt j)

/-- Which block window 0 of the first TensorCore call is at: that of the grid point. -/
theorem idx2_0 : ∀ t : Fin grid2.N, win2_0.index t = ![t.val, 0] := by decide +kernel

/-- Which block window 1 of the first TensorCore call is at: that of the grid point. -/
theorem idx2_1 : ∀ t : Fin grid2.N, win2_1.index t = ![t.val, 0] := by decide +kernel

/-- Which block window 2 of the first TensorCore call is at: always the whole array. -/
theorem idx2_2 : ∀ t : Fin grid2.N, win2_2.index t = ![0, 0] := by decide +kernel

/-- Which block window 3 of the first TensorCore call is at: always the whole array. -/
theorem idx2_3 : ∀ t : Fin grid2.N, win2_3.index t = ![0, 0] := by decide +kernel

/-- Which block window 4 of the first TensorCore call is at: always the whole array. -/
theorem idx2_4 : ∀ t : Fin grid2.N, win2_4.index t = ![0, 0] := by decide +kernel

/-- Which block window 5 of the first TensorCore call is at: always the whole array. -/
theorem idx2_5 : ∀ t : Fin grid2.N, win2_5.index t = ![0, 0] := by decide +kernel

/-- Which block window 6 of the first TensorCore call is at: always the whole array. -/
theorem idx2_6 : ∀ t : Fin grid2.N, win2_6.index t = ![0, 0] := by decide +kernel

/-- Which block window 7 of the first TensorCore call is at: always the whole array. -/
theorem idx2_7 : ∀ t : Fin grid2.N, win2_7.index t = ![0, 0] := by decide +kernel

/-- Which block window 8 of the first TensorCore call is at: always the whole array. -/
theorem idx2_8 : ∀ t : Fin grid2.N, win2_8.index t = ![0, 0] := by decide +kernel

/-- Which block window 9 of the first TensorCore call is at: always the whole array. -/
theorem idx2_9 : ∀ t : Fin grid2.N, win2_9.index t = ![0, 0] := by decide +kernel

/-- Which block window 10 of the first TensorCore call is at: that of the grid point. -/
theorem idx2_10 : ∀ t : Fin grid2.N, win2_10.index t = ![t.val] := by decide +kernel

/-- Which of the four row blocks a grid point of the first TensorCore call works on. -/
def pt2 (t : Fin grid2.N) : Fin 4 := ⟨t.val, by have h := t.isLt; have e := N_2; omega⟩

/-- What window 0 of the first TensorCore call reads: the grid point's block of rows. -/
theorem rd2_0 (f : S16384x128.Idx → F .f32) (t : Fin grid2.N) : ((cfg2.win 0).blk t).view.read (Elt F) f = rows128 f (pt2 t) := by
  funext y
  show f (((cfg2.win 0).blk t).view.emb y) = _
  unfold rows128 pt2
  blk_ext [idx2_0 t]

/-- What window 1 of the first TensorCore call reads: the grid point's block of rows. -/
theorem rd2_1 (f : S16384x128.Idx → F .f32) (t : Fin grid2.N) : ((cfg2.win 1).blk t).view.read (Elt F) f = rows128 f (pt2 t) := by
  funext y
  show f (((cfg2.win 1).blk t).view.emb y) = _
  unfold rows128 pt2
  blk_ext [idx2_1 t]

/-- What window 2 of the first TensorCore call reads: the whole array. -/
theorem rd2_2 (f : S128x128.Idx → F .f32) (t : Fin grid2.N) : ((cfg2.win 2).blk t).view.read (Elt F) f = f := by
  funext y
  show f (((cfg2.win 2).blk t).view.emb y) = f y
  blk_ext [idx2_2 t]

/-- What window 3 of the first TensorCore call reads: the whole array. -/
theorem rd2_3 (f : S128x128.Idx → F .f32) (t : Fin grid2.N) : ((cfg2.win 3).blk t).view.read (Elt F) f = f := by
  funext y
  show f (((cfg2.win 3).blk t).view.emb y) = f y
  blk_ext [idx2_3 t]

/-- What window 4 of the first TensorCore call reads: the whole array. -/
theorem rd2_4 (f : S1x128.Idx → F .f32) (t : Fin grid2.N) : ((cfg2.win 4).blk t).view.read (Elt F) f = f := by
  funext y
  show f (((cfg2.win 4).blk t).view.emb y) = f y
  blk_ext [idx2_4 t]

/-- What window 5 of the first TensorCore call reads: the whole array. -/
theorem rd2_5 (f : S128x64.Idx → F .f32) (t : Fin grid2.N) : ((cfg2.win 5).blk t).view.read (Elt F) f = f := by
  funext y
  show f (((cfg2.win 5).blk t).view.emb y) = f y
  blk_ext [idx2_5 t]

/-- What window 6 of the first TensorCore call reads: the whole array. -/
theorem rd2_6 (f : S1x64.Idx → F .f32) (t : Fin grid2.N) : ((cfg2.win 6).blk t).view.read (Elt F) f = f := by
  funext y
  show f (((cfg2.win 6).blk t).view.emb y) = f y
  blk_ext [idx2_6 t]

/-- What window 7 of the first TensorCore call reads: the whole array. -/
theorem rd2_7 (f : S64x32.Idx → F .f32) (t : Fin grid2.N) : ((cfg2.win 7).blk t).view.read (Elt F) f = f := by
  funext y
  show f (((cfg2.win 7).blk t).view.emb y) = f y
  blk_ext [idx2_7 t]

/-- What window 8 of the first TensorCore call reads: the whole array. -/
theorem rd2_8 (f : S1x32.Idx → F .f32) (t : Fin grid2.N) : ((cfg2.win 8).blk t).view.read (Elt F) f = f := by
  funext y
  show f (((cfg2.win 8).blk t).view.emb y) = f y
  blk_ext [idx2_8 t]

/-- What window 9 of the first TensorCore call reads: the whole array. -/
theorem rd2_9 (f : S32x1.Idx → F .f32) (t : Fin grid2.N) : ((cfg2.win 9).blk t).view.read (Elt F) f = f := by
  funext y
  show f (((cfg2.win 9).blk t).view.emb y) = f y
  blk_ext [idx2_9 t]

/-- Which block window 0 of the second TensorCore call is at: that of the grid point. -/
theorem idx3_0 : ∀ t : Fin grid3.N, win3_0.index t = ![t.val, 0] := by decide +kernel

/-- Which block window 1 of the second TensorCore call is at: that of the grid point. -/
theorem idx3_1 : ∀ t : Fin grid3.N, win3_1.index t = ![t.val] := by decide +kernel

/-- Which block window 2 of the second TensorCore call is at: always the whole array. -/
theorem idx3_2 : ∀ t : Fin grid3.N, win3_2.index t = ![0, 0] := by decide +kernel

/-- Which block window 3 of the second TensorCore call is at: always the whole array. -/
theorem idx3_3 : ∀ t : Fin grid3.N, win3_3.index t = ![0, 0] := by decide +kernel

/-- Which block window 4 of the second TensorCore call is at: that of the grid point. -/
theorem idx3_4 : ∀ t : Fin grid3.N, win3_4.index t = ![t.val] := by decide +kernel

/-- Which of the four row blocks a grid point of the second TensorCore call works on. -/
def pt3 (t : Fin grid3.N) : Fin 4 := ⟨t.val, by have h := t.isLt; have e := N_3; omega⟩

/-- What window 0 of the second TensorCore call reads: the grid point's block of rows. -/
theorem rd3_0 (f : S16384x32.Idx → F .f32) (t : Fin grid3.N) : ((cfg3.win 0).blk t).view.read (Elt F) f = rows32 f (pt3 t) := by
  funext y
  show f (((cfg3.win 0).blk t).view.emb y) = _
  unfold rows32 pt3
  blk_ext [idx3_0 t]

/-- What window 1 of the second TensorCore call reads: the grid point's block of rows. -/
theorem rd3_1 (f : S16384.Idx → F .f32) (t : Fin grid3.N) : ((cfg3.win 1).blk t).view.read (Elt F) f = rows1 f (pt3 t) := by
  funext y
  show f (((cfg3.win 1).blk t).view.emb y) = _
  unfold rows1 pt3
  blk_ext [idx3_1 t]

/-- What window 2 of the second TensorCore call reads: the whole array. -/
theorem rd3_2 (f : S32x1.Idx → F .f32) (t : Fin grid3.N) : ((cfg3.win 2).blk t).view.read (Elt F) f = f := by
  funext y
  show f (((cfg3.win 2).blk t).view.emb y) = f y
  blk_ext [idx3_2 t]

/-- What window 3 of the second TensorCore call reads: the whole array. -/
theorem rd3_3 (f : S1x1.Idx → F .f32) (t : Fin grid3.N) : ((cfg3.win 3).blk t).view.read (Elt F) f = f := by
  funext y
  show f (((cfg3.win 3).blk t).view.emb y) = f y
  blk_ext [idx3_3 t]

variable (V : (c : Dev nD) → (b : Ref sig .tc) → Buf (Elt F) ((c : Thread nD τ).loc b)) (B : ℕ)

set_option maxHeartbeats 1600000 in
/-- The perceptron's call leaves the perceptron's part of every prediction. -/
theorem arr2_eq (c : Dev nD) : (dat2 V B c).arrAt 10 cfg2.N
    = mlpArr (V c main_v6_0) (V c main_v6_1) (V c main_v27) (V c main_v29) (V c main_v30) (V c main_v31) (V c main_v32) (V c main_v33) (V c main_v34) (V c main_v36) := by
  refine (dat2 V B c).arrAt_eq_of_covers 10 _ (by decide +kernel) fun t hf y => ?_
  have h0 : blkNo (((cfg2.win 10).blk t).view.emb y) = pt2 t := by
    apply Fin.ext
    have hy : (y 0).val < 4096 := (y 0).isLt
    have e : ((((cfg2.win 10).blk t).view.emb y) 0).val = t.val * 4096 + (y 0).val := by blk_simp [idx2_10 t]
    show ((((cfg2.win 10).blk t).view.emb y) 0).val / 4096 = t.val
    omega
  have h1 : blkAt (((cfg2.win 10).blk t).view.emb y) = y := by
    funext a
    obtain rfl : a = 0 := Subsingleton.elim _ _
    apply Fin.ext
    have hy : (y 0).val < 4096 := (y 0).isLt
    have e : ((((cfg2.win 10).blk t).view.emb y) 0).val = t.val * 4096 + (y 0).val := by blk_simp [idx2_10 t]
    show ((((cfg2.win 10).blk t).view.emb y) 0).val % 4096 = (y 0).val
    omega
  unfold mlpArr
  rw [h0, h1]
  have e : left2 V c t = k2_pay1 (k2_pay2 (rows128 (V c main_v6_0) (pt2 t)) (V c main_v27) (rows128 (V c main_v6_1) (pt2 t)) (V c main_v29)
      (V c main_v30) (V c main_v31) (V c main_v32) (V c main_v33)) (V c main_v34) (V c main_v36) := by
    unfold left2
    rw [rd2_0, rd2_1, rd2_2, rd2_3, rd2_4, rd2_5, rd2_6, rd2_7, rd2_8, rd2_9]
  exact congrFun e y

/-- The last call leaves every prediction. -/
theorem arr3_eq (c : Dev nD) : (dat3 V B c).arrAt 4 cfg3.N
    = predArr (V c main_v25) (V c main_v37) (V c main_v39) (V c main_v40) := by
  refine (dat3 V B c).arrAt_eq_of_covers 4 _ (by decide +kernel) fun t hf y => ?_
  have h0 : blkNo (((cfg3.win 4).blk t).view.emb y) = pt3 t := by
    apply Fin.ext
    have hy : (y 0).val < 4096 := (y 0).isLt
    have e : ((((cfg3.win 4).blk t).view.emb y) 0).val = t.val * 4096 + (y 0).val := by blk_simp [idx3_4 t]
    show ((((cfg3.win 4).blk t).view.emb y) 0).val / 4096 = t.val
    omega
  have h1 : blkAt (((cfg3.win 4).blk t).view.emb y) = y := by
    funext a
    obtain rfl : a = 0 := Subsingleton.elim _ _
    apply Fin.ext
    have hy : (y 0).val < 4096 := (y 0).isLt
    have e : ((((cfg3.win 4).blk t).view.emb y) 0).val = t.val * 4096 + (y 0).val := by blk_simp [idx3_4 t]
    show ((((cfg3.win 4).blk t).view.emb y) 0).val % 4096 = (y 0).val
    omega
  unfold predArr
  rw [h0, h1]
  show left3 V c t y = _
  unfold left3
  rw [rd3_0, rd3_1, rd3_2, rd3_3]

end Cert.Proof.Neumf
-- ==== Proof.Main.lean ====
/-
  The kernel's program on the TensorCore: the arrays' contents at each stage, and the run through its calls.
-/
module

public import proofs.«01_k».proof.Proof.Whole
public import proofs.«01_k».proof.Proof.Calls
public import proofs.«01_k».proof.Proof.TcValues

@[expose] public section

noncomputable section

namespace Cert.Proof.Neumf

open Cert.KernelIdeal Cert.KernelIdeal.Gen
open Idealize.ShloMosaic.TcCoe

open Idealize.ShloMosaic

open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## The arrays at each stage -/

/-- At launch. -/
def V0 (d : Dev nD) : Valuation τ sig (Elt F) := fun b => m (d, b)
/-- When the first SparseCore call starts. -/
def V1 (d : Dev nD) : Valuation τ sig (Elt F) := StableHlo.after opsA (V0 m d)
/-- When it has ended. -/
def V2 (d : Dev nD) : Valuation τ sig (Elt F) :=
  Function.update (Function.update (V1 m d) (main_v6_0 : DevRef τ sig) (gathered (V1 m d main_arg3) (V1 m d main_v2)))
    (main_v6_1 : DevRef τ sig) (gathered (V1 m d main_arg4) (V1 m d main_v5))
/-- When the second SparseCore call starts. -/
def V3 (d : Dev nD) : Valuation τ sig (Elt F) := StableHlo.after opsB (V2 m d)
/-- When it has ended. -/
def V4 (d : Dev nD) : Valuation τ sig (Elt F) :=
  Function.update (V3 m d) (main_v25 : DevRef τ sig)
    (Gmf.prodAll (F := F) (gathered (V3 m d main_v23) (V1 m d main_v2)) (gathered (V3 m d main_v23) (V1 m d main_v5)))
/-- When the first TensorCore call starts. -/
def V5 (d : Dev nD) : Valuation τ sig (Elt F) := StableHlo.after opsC (V4 m d)
/-- When it has ended. -/
def V6 (d : Dev nD) : Valuation τ sig (Elt F) :=
  Function.update (V5 m d) (main_v37 : DevRef τ sig)
    (mlpArr (V5 m d main_v6_0) (V5 m d main_v6_1) (V5 m d main_v27) (V5 m d main_v29) (V5 m d main_v30) (V5 m d main_v31) (V5 m d main_v32)
      (V5 m d main_v33) (V5 m d main_v34) (V5 m d main_v36))
/-- When the last TensorCore call starts. -/
def V7 (d : Dev nD) : Valuation τ sig (Elt F) := StableHlo.after opsD (V6 m d)
/-- At the end. -/
def V8 (d : Dev nD) : Valuation τ sig (Elt F) :=
  Function.update (V7 m d) (main_v41 : DevRef τ sig) (predArr (V7 m d main_v25) (V7 m d main_v37) (V7 m d main_v39) (V7 m d main_v40))

/-- What the two SparseCore calls run over. -/
def data : Data F where
  u d := V1 m d main_v2
  w d := V1 m d main_v5
  X d := V1 m d main_arg3
  Y d := V1 m d main_arg4
  Z d := V3 m d main_v23
  a d := V1 m d main_v6_0
  b d := V1 m d main_v6_1
  g d := V3 m d main_v25

/-! ## A call's arrays out of the held ones, and back -/

/-- References of the TensorCore as device buffers. -/
def refs (l : List (Ref sig .tc)) : Finset (DevRef τ sig) := (l.toFinset).map ⟨Proc.devRef (sig := sig) (.tc : Proc τ), Proc.devRef_injective _⟩

/-- A list of long-lived arrays names only such arrays. -/
theorem refs_sub (l : List (Ref sig .tc)) (h : ∀ b ∈ l, b.isScoped = false) : refs l ⊆ ucRefs := fun b hb => by
  obtain ⟨r, hr, rfl⟩ := Finset.mem_map.mp hb
  exact mem_uc r (h r (List.mem_toFinset.mp hr))

/-- An array is named by a list exactly if it stands in it. -/
theorem mem_refs {l : List (Ref sig .tc)} {r : Ref sig .tc} : (Proc.devRef (τ := τ) .tc r) ∈ refs l ↔ r ∈ l :=
  ⟨fun h => by
    obtain ⟨r', hr, e⟩ := Finset.mem_map.mp h
    exact Proc.devRef_injective _ e ▸ List.mem_toFinset.mp hr, fun h => Finset.mem_map_of_mem _ (List.mem_toFinset.mpr h)⟩

/-- Holding a list's arrays together is holding each of them. -/
theorem held_refs (d : Dev nD) (l : List (Ref sig .tc)) (hl : l.Nodup) (W : Valuation τ sig (Elt F)) :
    (StableHlo.held (d.tc : Thread nD τ) (refs l) W : sProp 𝕄) = bigSepL l fun r => ((d.tc : Thread nD τ).loc r ↦{fullShare} W r) := by
  unfold StableHlo.held refs
  rw [bigSep_map, bigSep_eq_bigSepL l hl]
  rfl

/-- The rest of the arrays where a stage changes only some. -/
theorem held_rest (d : Dev nD) (l : List (Ref sig .tc)) (W W' : Valuation τ sig (Elt F)) (h : ∀ r : Ref sig .tc, r ∉ l → W' r = W r) :
    (StableHlo.held (d.tc : Thread nD τ) (ucRefs \ refs l) W : sProp 𝕄) = StableHlo.held (d.tc : Thread nD τ) (ucRefs \ refs l) W' :=
  StableHlo.held_congr _ fun b hb => by
    obtain ⟨h1, h2⟩ := Finset.mem_sdiff.mp hb
    obtain ⟨r, -, rfl⟩ := Finset.mem_map.mp (Finset.mem_filter.mp h1).1
    exact (h r fun hr => h2 (mem_refs.mpr hr)).symm

/-- Writing one array leaves every other as it was. -/
theorem update_ne {W : Valuation τ sig (Elt F)} {r s : Ref sig .tc} {x : (Proc.devRef (τ := τ) .tc s).ty.Contents (Elt F)} (h : r ≠ s) :
    Function.update W (s : DevRef τ sig) x (r : DevRef τ sig) = W r :=
  Function.update_of_ne (StableHlo.devRef_ne_of_ne h) _ _

/-- The operands and results of the first SparseCore call. -/
abbrev list0 : List (Ref sig .tc) := [main_v2, main_arg3, main_v6_0, main_v5, main_arg4, main_v6_1]

/-- The operands and result of the second SparseCore call. -/
abbrev list1 : List (Ref sig .tc) := [main_v24_0, main_v24_1, main_v23, main_v25]

/-- The first SparseCore call changes only its two results. -/
theorem V2_other (d : Dev nD) (r : Ref sig .tc) (h : r ≠ main_v6_0) (h' : r ≠ main_v6_1) : V2 m d r = V1 m d r :=
  (update_ne h').trans (update_ne h)

/-- The first SparseCore call's first result: the gathered rows of the first table. -/
theorem V2_a (d : Dev nD) : V2 m d main_v6_0 = gathered (V1 m d main_arg3) (V1 m d main_v2) :=
  (update_ne (by decide)).trans (Function.update_self ..)

/-- The first SparseCore call's second result: the gathered rows of the second table. -/
theorem V2_b (d : Dev nD) : V2 m d main_v6_1 = gathered (V1 m d main_arg4) (V1 m d main_v5) := Function.update_self ..

/-- The second SparseCore call changes only its result. -/
theorem V4_other (d : Dev nD) (r : Ref sig .tc) (h : r ≠ main_v25) : V4 m d r = V3 m d r := update_ne h

/-- The first TensorCore call changes only its result. -/
theorem V6_other (d : Dev nD) (r : Ref sig .tc) (h : r ≠ main_v37) : V6 m d r = V5 m d r := update_ne h

/-- The second TensorCore call changes only its result. -/
theorem V8_other (d : Dev nD) (r : Ref sig .tc) (h : r ≠ main_v41) : V8 m d r = V7 m d r := update_ne h

/-- The ordering step between the two SparseCore calls copies both index rows unchanged. -/
theorem barrier_id (V : Valuation τ sig (Elt F)) : StableHlo.after (opsB (F := F)) V main_v24_0 = V main_v2
    ∧ StableHlo.after (opsB (F := F)) V main_v24_1 = V main_v5 := by
  constructor
  · after_results_simp <;> rfl
  · after_results_simp <;> rfl

/-- The second call's first index row is the first call's. -/
theorem V3_u (d : Dev nD) : V3 m d main_v24_0 = V1 m d main_v2 :=
  (barrier_id (V2 m d)).1.trans (V2_other m d _ (by decide) (by decide))

/-- The second call's second index row is the first call's. -/
theorem V3_w (d : Dev nD) : V3 m d main_v24_1 = V1 m d main_v5 :=
  (barrier_id (V2 m d)).2.trans (V2_other m d _ (by decide) (by decide))

/-- Holding the first SparseCore call's arrays, written out one by one. -/
theorem held0 (d : Dev nD) (W : Valuation τ sig (Elt F)) : (StableHlo.held (d.tc : Thread nD τ) (refs list0) W : sProp 𝕄)
    = iprop(((T d : Thread nD τ).loc main_v2 ↦{fullShare} W main_v2) ∗ ((T d : Thread nD τ).loc main_arg3 ↦{fullShare} W main_arg3)
      ∗ ((T d : Thread nD τ).loc main_v6_0 ↦{fullShare} W main_v6_0) ∗ ((T d : Thread nD τ).loc main_v5 ↦{fullShare} W main_v5)
      ∗ ((T d : Thread nD τ).loc main_arg4 ↦{fullShare} W main_arg4) ∗ ((T d : Thread nD τ).loc main_v6_1 ↦{fullShare} W main_v6_1)) :=
  (held_refs d list0 (by decide) W).trans rfl

/-- Holding the second SparseCore call's arrays, written out one by one. -/
theorem held1 (d : Dev nD) (W : Valuation τ sig (Elt F)) : (StableHlo.held (d.tc : Thread nD τ) (refs list1) W : sProp 𝕄)
    = iprop(((T d : Thread nD τ).loc main_v24_0 ↦{fullShare} W main_v24_0) ∗ ((T d : Thread nD τ).loc main_v24_1 ↦{fullShare} W main_v24_1)
      ∗ ((T d : Thread nD τ).loc main_v23 ↦{fullShare} W main_v23) ∗ ((T d : Thread nD τ).loc main_v25 ↦{fullShare} W main_v25)) :=
  (held_refs d list1 (by decide) W).trans rfl

/-- The second SparseCore call's result: products of the gathered rows' two halves. -/
theorem V4_g (d : Dev nD) : V4 m d main_v25
    = Gmf.prodAll (F := F) (gathered (V3 m d main_v23) (V1 m d main_v2)) (gathered (V3 m d main_v23) (V1 m d main_v5)) := Function.update_self ..

/-- Before the first call: its arrays and the rest. -/
theorem open0 (d : Dev nD) : (StableHlo.held (d.tc : Thread nD τ) ucRefs (V1 m d) : sProp 𝕄)
    ⊢ iprop((bigSep Finset.univ fun c : Fin ((K (F := F)).nCore 0) => (P (data m)).st 0 d c)
      ∗ StableHlo.held (d.tc : Thread nD τ) (ucRefs \ refs list0) (V1 m d)) := by
  rw [StableHlo.held_sub_split _ (refs_sub list0 (by decide)), held0, st0_all]
  iintro ⟨⟨H1, H2, H3, H4, H5, H6⟩, HR⟩
  isplitr [HR]
  · isplitl [H1 H2 H3]
    · isplitl [H1]; · iexact H1
      isplitl [H2]; · iexact H2
      iexact H3
    · isplitl [H4]; · iexact H4
      isplitl [H5]; · iexact H5
      iexact H6
  iexact HR

/-- After it: the arrays together again. -/
theorem close0 (d : Dev nD) : iprop((bigSep Finset.univ fun c : Fin ((K (F := F)).nCore 0) => (P (data m)).dn 0 d c)
      ∗ StableHlo.held (d.tc : Thread nD τ) (ucRefs \ refs list0) (V1 m d))
    ⊢ (StableHlo.held (d.tc : Thread nD τ) ucRefs (V2 m d) : sProp 𝕄) := by
  rw [StableHlo.held_sub_split (S := ucRefs) _ (refs_sub list0 (by decide)), held0, dn0_all,
    held_rest d list0 (V1 m d) (V2 m d) fun r hr => V2_other m d r (fun h => hr (h ▸ by decide)) (fun h => hr (h ▸ by decide))]
  rw [V2_a, V2_b, V2_other m d main_v2 (by decide) (by decide), V2_other m d main_arg3 (by decide) (by decide),
    V2_other m d main_v5 (by decide) (by decide), V2_other m d main_arg4 (by decide) (by decide)]
  iintro ⟨⟨⟨H1, H2, H3⟩, H4, H5, H6⟩, HR⟩
  isplitr [HR]
  · isplitl [H1]; · iexact H1
    isplitl [H2]; · iexact H2
    isplitl [H3]; · iexact H3
    isplitl [H4]; · iexact H4
    isplitl [H5]; · iexact H5
    iexact H6
  iexact HR

/-- Before the second SparseCore call its arrays are taken out of those held and given to the
cores. -/
theorem open1 (d : Dev nD) : (StableHlo.held (d.tc : Thread nD τ) ucRefs (V3 m d) : sProp 𝕄)
    ⊢ iprop((bigSep Finset.univ fun c : Fin ((K (F := F)).nCore 1) => (P (data m)).st 1 d c)
      ∗ StableHlo.held (d.tc : Thread nD τ) (ucRefs \ refs list1) (V3 m d)) := by
  rw [StableHlo.held_sub_split _ (refs_sub list1 (by decide)), held1, st1_all]
  rw [V3_u, V3_w]
  iintro ⟨⟨H1, H2, H3, H4⟩, HR⟩
  isplitr [HR]
  · isplitl [H1]; · iexact H1
    isplitl [H2]; · iexact H2
    isplitl [H3]; · iexact H3
    iexact H4
  iexact HR

/-- After the second SparseCore call its arrays come back from the cores and join those held. -/
theorem close1 (d : Dev nD) : iprop((bigSep Finset.univ fun c : Fin ((K (F := F)).nCore 1) => (P (data m)).dn 1 d c)
      ∗ StableHlo.held (d.tc : Thread nD τ) (ucRefs \ refs list1) (V3 m d))
    ⊢ (StableHlo.held (d.tc : Thread nD τ) ucRefs (V4 m d) : sProp 𝕄) := by
  rw [StableHlo.held_sub_split (S := ucRefs) _ (refs_sub list1 (by decide)), held1, dn1_all,
    held_rest d list1 (V3 m d) (V4 m d) fun r hr => V4_other m d r (fun h => hr (h ▸ by decide))]
  rw [V4_other m d main_v24_0 (by decide), V4_other m d main_v24_1 (by decide), V4_other m d main_v23 (by decide), V3_u, V3_w,
    V4_g]
  iintro ⟨⟨H1, H2, H3, H4⟩, HR⟩
  isplitr [HR]
  · isplitl [H1]; · iexact H1
    isplitl [H2]; · iexact H2
    isplitl [H3]; · iexact H3
    iexact H4
  iexact HR

end Cert.Proof.Neumf
-- ==== Proof.Run.lean ====
/-
  The run of the whole program: every array at its last stage, every semaphore at zero.
-/
module

public import proofs.«01_k».proof.Proof.Main

@[expose] public section

noncomputable section

namespace Cert.Proof.Neumf

open Cert.KernelIdeal Cert.KernelIdeal.Gen
open Idealize.ShloMosaic.TcCoe

open Idealize.ShloMosaic

open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

/-! ## Steps of the program -/

/-- A stretch of host operations, then the rest. -/
theorem wp_host (d : Dev nD) {β : Type} (ops : List (HloOp τ sig (Elt F)))
    (hb : ∀ op ∈ ops, op.bufs ⊆ ucRefs) (hf : ∀ op ∈ ops, op.fresh = ∅) (W W' : Valuation τ sig (Elt F))
    (hW : StableHlo.after ops W = W') (k : PUnit → Prog (TpuEff nD τ sig (Elt F) (SparseCore.Sig (ΛP (F := F)) 2) .tc) β) {Q : β → sProp 𝕄} :
    iprop(boundary (d.tc : Thread nD τ) ∗ StableHlo.held (d.tc : Thread nD τ) ucRefs W
        ∗ (iprop(boundary (d.tc : Thread nD τ) ∗ StableHlo.held (d.tc : Thread nD τ) ucRefs W')
          -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (StableHlo.seq ops >>= k) Q := by
  subst hW
  have h := StableHlo.wp_seq (defs := (K (F := F)).defs (D (F := F))) 𝒱 none Set.univ d ucRefs k (K := Q) ops hb hf W
  iintro ⟨Hb, Hh, Hk⟩
  iapply h $$ [Hb Hh]
  · isplitl [Hb] <;> iassumption
  iexact Hk

/-- A SparseCore call, then the rest. -/
theorem wp_sc (κ : GSem nD τ sig → ℕ) (d : Dev nD) (q : Fin 2) (n : ℕ) (hn : q.val + 1 = n) {β : Type}
    (k : PUnit → Prog (TpuEff nD τ sig (Elt F) (SparseCore.Sig (ΛP (F := F)) 2) .tc) β) {Q : β → sProp 𝕄} :
    iprop((K (F := F)).ctx EH (P (data m)) κ ∗ (K (F := F)).tcSt EH d q.val
        ∗ (bigSep Finset.univ fun c : Fin ((K (F := F)).nCore q) => (P (data m)).st q d c)
        ∗ (iprop((K (F := F)).tcSt EH d n ∗ bigSep Finset.univ fun c : Fin ((K (F := F)).nCore q) => (P (data m)).dn q d c)
          -∗ wp frame (wpE ((K (F := F)).defs (D (F := F))) 𝒱 (T d : Thread nD τ) none) Set.univ (k ⟨⟩) Q))
      ⊢ wp frame (wpE ((K (F := F)).defs (D (F := F))) 𝒱 (T d : Thread nD τ) none) Set.univ ((K (F := F)).run d q >>= k) Q := by
  subst hn
  rw [wp_bind]
  exact (K (F := F)).wp_run (D (F := F)) 𝒱 (EH := EH) (P := P (data m)) κ d q
    (Φ := fun a => wp frame (wpE ((K (F := F)).defs (D (F := F))) 𝒱 (T d : Thread nD τ) none) Set.univ (k a) Q)

/-- After the last SparseCore call the TensorCore owes nothing: that fact, taken out and put back. -/
theorem idle_end (d : Dev nD) : ((K (F := F)).tcSt EH d 2 : sProp 𝕄)
    ⊢ iprop(Idle (F := F) 16 d ∗ (Idle (F := F) 16 d -∗ (K (F := F)).tcSt EH d 2)) := by
  unfold SparseCore.Cfg.tcSt
  rw [(K (F := F)).Otc_end d (le_refl 2)]
  iintro ⟨HI, HR⟩
  isplitl [HI]; · iexact HI
  iintro HI
  isplitl [HI]; · iexact HI
  iexact HR

/-- A TensorCore call, then the rest. -/
theorem wp_tc2 (d : Dev nD) {β : Type} (k : PUnit → Prog (TpuEff nD τ sig (Elt F) (SparseCore.Sig (ΛP (F := F)) 2) .tc) β) {Q : β → sProp 𝕄} :
    iprop((levAts (K (F := F)).L (K (F := F)).lev ∗ boundary (d.tc : Thread nD τ) ∗ StableHlo.held (d.tc : Thread nD τ) ucRefs (V5 m d)
          ∗ Idle (F := F) 16 d ∗ Ghost 0 d)
        ∗ (iprop(boundary (d.tc : Thread nD τ) ∗ StableHlo.held (d.tc : Thread nD τ) ucRefs (V6 m d) ∗ Idle (F := F) 16 d)
          -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (call2 >>= k) Q := by
  rw [wp_bind]
  have h := wp_call2 (F := F) (fun c b => V5 m c b) 16 (fun c b => V6 m c b)
    (fun c => (Function.update_self ..).trans (arr2_eq (fun c b => V5 m c b) 16 c).symm) (fun c b hb => V6_other m c b hb) d
    (Q := fun a => wp frame (wpE ((K (F := F)).defs (D (F := F))) 𝒱 (d.tc : Thread nD τ) none) Set.univ (k a) Q)
  rw [unscoped_held d (V5 m d), unscoped_held d (V6 m d)] at h
  exact h

/-- The other TensorCore call, then the rest. -/
theorem wp_tc3 (d : Dev nD) {β : Type} (k : PUnit → Prog (TpuEff nD τ sig (Elt F) (SparseCore.Sig (ΛP (F := F)) 2) .tc) β) {Q : β → sProp 𝕄} :
    iprop((levAts (K (F := F)).L (K (F := F)).lev ∗ boundary (d.tc : Thread nD τ) ∗ StableHlo.held (d.tc : Thread nD τ) ucRefs (V7 m d)
          ∗ Idle (F := F) 16 d ∗ Ghost 1 d)
        ∗ (iprop(boundary (d.tc : Thread nD τ) ∗ StableHlo.held (d.tc : Thread nD τ) ucRefs (V8 m d) ∗ Idle (F := F) 16 d)
          -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (call3 >>= k) Q := by
  rw [wp_bind]
  have h := wp_call3 (F := F) (fun c b => V7 m c b) 16 (fun c b => V8 m c b)
    (fun c => (Function.update_self ..).trans (arr3_eq (fun c b => V7 m c b) 16 c).symm) (fun c b hb => V8_other m c b hb) d
    (Q := fun a => wp frame (wpE ((K (F := F)).defs (D (F := F))) 𝒱 (d.tc : Thread nD τ) none) Set.univ (k a) Q)
  rw [unscoped_held d (V7 m d), unscoped_held d (V8 m d)] at h
  exact h

/-! ## The program on the TensorCore -/

/-- What a device's TensorCore ends holding: every array at its last stage. -/
abbrev FIN (d : Dev nD) : sProp 𝕄 := StableHlo.held (d.tc : Thread nD τ) ucRefs (V8 m d)

/-- What the launch deals a device for the two pipelines. -/
abbrev G (d : Dev nD) : sProp 𝕄 := iprop(Ghost (F := F) 0 d ∗ Ghost (F := F) 1 d)

/-- The whole program on a device's TensorCore. -/
theorem hmain (κ : GSem nD τ sig → ℕ) (d : Dev nD) :
    iprop((K (F := F)).ctx EH (P (data m)) κ ∗ (K (F := F)).tcSt EH d 0 ∗ (K (F := F)).tcRes m ρ d ∗ G d)
      ⊢ wp frame (wpE ((K (F := F)).defs (D (F := F))) 𝒱 (T d : Thread nD τ) none) Set.univ (main d)
          fun _ => iprop((K (F := F)).tcSt EH d 2 ∗ FIN m d ∗ (K (F := F)).tcEnd d) := by
  unfold SparseCore.Cfg.tcRes SparseCore.Cfg.tcEnd
  have e : (unscopedBufs d (fun b => m ((T d : Thread nD τ).loc b)) : sProp 𝕄) = StableHlo.held (d.tc : Thread nD τ) ucRefs (V0 m d) :=
    unscoped_held d (V0 m d)
  rw [main_eq, e]
  iintro ⟨#Hctx, Hst, ⟨Hb, Hh, Hts, -⟩, HG0, HG1⟩
  ihave Hlv := (SparseCore.Cfg.ctx_levAts (K := K (F := F)) (EH := EH) (P := P (data m)) κ) $$ Hctx
  icases Hlv with #Hlv
  iapply (wp_host (F := F) d opsA (sub_uc opsA opsA_bufs) (List.forall_iff_forall_mem.mp opsA_fresh) (V0 m d) (V1 m d) rfl)
  isplitl [Hb]; · iexact Hb
  isplitl [Hh]; · iexact Hh
  iintro ⟨Hb, Hh⟩
  ihave Hh := (open0 m d) $$ Hh
  icases Hh with ⟨Hs, HR⟩
  iapply (wp_sc (F := F) m κ d 0 1 rfl)
  isplitr; · iexact Hctx
  isplitl [Hst]; · iexact Hst
  isplitl [Hs]; · iexact Hs
  iintro ⟨Hst, Hs⟩
  ihave Hh := (close0 m d) $$ [Hs HR]
  · isplitl [Hs] <;> iassumption
  iapply (wp_host (F := F) d opsB (sub_uc opsB opsB_bufs) (List.forall_iff_forall_mem.mp opsB_fresh) (V2 m d) (V3 m d) rfl)
  isplitl [Hb]; · iexact Hb
  isplitl [Hh]; · iexact Hh
  iintro ⟨Hb, Hh⟩
  ihave Hh := (open1 m d) $$ Hh
  icases Hh with ⟨Hs, HR⟩
  iapply (wp_sc (F := F) m κ d 1 2 rfl)
  isplitr; · iexact Hctx
  isplitl [Hst]; · iexact Hst
  isplitl [Hs]; · iexact Hs
  iintro ⟨Hst, Hs⟩
  ihave Hh := (close1 m d) $$ [Hs HR]
  · isplitl [Hs] <;> iassumption
  iapply (wp_host (F := F) d opsC (sub_uc opsC opsC_bufs) (List.forall_iff_forall_mem.mp opsC_fresh) (V4 m d) (V5 m d) rfl)
  isplitl [Hb]; · iexact Hb
  isplitl [Hh]; · iexact Hh
  iintro ⟨Hb, Hh⟩
  ihave Hst := (idle_end (F := F) d) $$ Hst
  icases Hst with ⟨HI, Hst⟩
  iapply (wp_tc2 (F := F) m d)
  isplitl [Hb Hh HI HG0]
  · isplitr; · iexact Hlv
    isplitl [Hb]; · iexact Hb
    isplitl [Hh]; · iexact Hh
    isplitl [HI]; · iexact HI
    iexact HG0
  iintro ⟨Hb, Hh, HI⟩
  iapply (wp_host (F := F) d opsD (sub_uc opsD opsD_bufs) (List.forall_iff_forall_mem.mp opsD_fresh) (V6 m d) (V7 m d) rfl)
  isplitl [Hb]; · iexact Hb
  isplitl [Hh]; · iexact Hh
  iintro ⟨Hb, Hh⟩
  iapply (wp_tc3 (F := F) m d)
  isplitl [Hb Hh HI HG1]
  · isplitr; · iexact Hlv
    isplitl [Hb]; · iexact Hb
    isplitl [Hh]; · iexact Hh
    isplitl [HI]; · iexact HI
    iexact HG1
  iintro ⟨Hb, Hh, HI⟩
  ispecialize Hst $$ HI
  rw [wp_pure]
  imodintro
  isplitl [Hst]; · iexact Hst
  isplitl [Hh]; · iexact Hh
  isplitl [Hb] <;> iassumption

/-! ## The launch -/

/-- The launch's element: the handshakes' rounds and the two pipelines' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Nothing, held any number of times, is nothing. -/
theorem bigSep_nothing {I : Type} (s : Finset I) : (bigSep s fun _ => iprop(emp)) = (iprop(emp) : sProp 𝕄) := bigSep_emp_const s

/-- The pipelines' ghost state, regrouped by device. -/
theorem ghosts : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ (bigSep Finset.univ fun d : Dev nD => G (F := F) d : sProp 𝕄) := by
  rw [← bigSep_sep']
  refine bigSep_mono fun d _ => ?_
  rw [BI.bigSep_fin_two, BI.bigSep_fin_two]
  unfold G Ghost
  generalize Pipeline.cellsGhost (Pipeline.pin (pcfgs (F := F)) adm) EP 0 d = a
  generalize Pipeline.cellsGhost (Pipeline.pin (pcfgs (F := F)) adm) EP 1 d = b
  generalize Pipeline.toksInit (Pipeline.pin (pcfgs (F := F)) adm) EP 0 d = a'
  generalize Pipeline.toksInit (Pipeline.pin (pcfgs (F := F)) adm) EP 1 d = b'
  show iprop((a ∗ b) ∗ (a' ∗ b')) ⊢ iprop((a ∗ a') ∗ (b ∗ b'))
  iintro ⟨⟨Ha, Hb⟩, Ha', Hb'⟩
  isplitl [Ha Ha']
  · isplitl [Ha] <;> iassumption
  · isplitl [Hb] <;> iassumption

/-- The pipelines' part of the ghost state, held in its place. -/
theorem own_EP (a : UP) : (BI.own ((embR : Emb (UP × Counters) 𝕄) (a, 1)) : sProp 𝕄) ⊢ BI.own (EP a) := by
  have h := own_pair_emb (embR : Emb (UP × Counters) 𝕄) a 1
  have e : ((Emb.inl : Emb UP (UP × Counters)).trans (embR : Emb (UP × Counters) 𝕄)) a = EP a := rfl
  rw [e] at h
  exact h.trans sep_elim_left

/-- The ghost state at the start splits into the handshakes' part and the pipelines' parts. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P (data m)).x q thr) := by
  unfold u₀
  iintro Hu
  ihave H := (ownU_pair (initOf (K (F := F)).hsCells (K (F := F)).hsToks) _) $$ Hu
  icases H with ⟨HH, HP⟩
  ihave H := (own_EP (F := F) _) $$ HP
  imod (Pipeline.fund_ghost (Pipeline.pin (pcfgs (F := F)) adm) EP cellOf_inj) $$ H with ⟨Hc, Ht⟩
  imodintro
  isplitl [HH]; · iexact HH
  isplitl [Hc Ht]
  · iapply (ghosts (F := F))
    isplitl [Hc] <;> iassumption
  · rw [show (bigSep Finset.univ fun thr : Thread nD τ => bigSep Finset.univ fun q : Fin 2 => (P (data m)).x q thr)
        = (bigSep Finset.univ fun _ : Thread nD τ => (iprop(emp) : sProp 𝕄)) from bigSep_congr fun _ _ => bigSep_nothing _, bigSep_nothing]
    iempintro

/-- What is read of a final memory. -/
def fq (d : Dev nD) (s' : Phys nD τ sig (Elt F)) : Prop := ∀ b ∈ ucRefs, s'.mem.mem (d, b) = V8 m d b

/-- What is held at the end says what the final memory contains. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact h

/-- Every array ends at its last stage, every semaphore at zero. -/
theorem run_main (hD : (data m).Ok) :
    θ_run (Cert.KernelIdeal.defs (F := F)) (Cert.KernelIdeal.threads (F := F)) ⟨m, fun _ => 0, ρ⟩
      fun r => (∀ d : Dev nD, ∀ b ∈ ucRefs, r.2.mem (d, b) = V8 m d b) ∧ r.2.sem = fun _ => 0 :=
  SparseCore.Cfg.θ_run_sc_quiescent (K := K (F := F)) (D := D (F := F)) (𝒱 := 𝒱) (EH := EH) (P := P (data m)) (A := ∅) facts v₀
    (fun q hq => match q with | 0 => nomatch hq | 1 => nomatch hq)
    (fun q _ => match q with | 0 => tileObl0 (data m) hD | 1 => tileObl1 (data m) hD)
    (fun q _ => match q with
      | 0 => SparseCore.Cfg.VecSplit.of_plain (vecSplit0 (data m))
      | 1 => SparseCore.Cfg.VecSplit.of_plain (vecSplit1 (data m)))
    m ρ main (fun d => G d) (fun d => FIN m d) (u₀ (F := F)) (sep_elim_left.trans (hu₀ m)) (hmain m ρ) (fq m) (hfin m) _ (fun _ h hz => ⟨h, hz⟩)

end Cert.Proof.Neumf
-- ==== Proof.Frames.lean ====
/-
  The argument arrays at the end, and the index range read off the precondition.
-/
module

public import proofs.«01_k».proof.Proof.Run
public import proofs.«01_k».proof.Proof.Gen.Kernel
public import proofs.«01_k».proof.Proof.Gen.Pre_in_range
public import Idealize.ShloMosaic.Lib.Pipeline.Value
public import Idealize.ShloMosaic.Lib.ReduceAll
public import Idealize.ShloMosaic.Lib.ValueIdx

@[expose] public section

noncomputable section

namespace Cert.Proof.Neumf

open Cert.KernelIdeal Cert.KernelIdeal.Gen
open Idealize.ShloMosaic.TcCoe

open Idealize.ShloMosaic

open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## Arrays no stage writes -/

/-- What the program writes. -/
abbrev wrAll : List (Ref sig .tc) := wrA ++ wrB ++ wrC ++ wrD ++ [main_v6_0, main_v6_1, main_v25, main_v37, main_v41]

/-- An array that no step of the program writes holds at the end what it held at the start. -/
theorem V8_keep (d : Dev nD) (r : Ref sig .tc) (h : r ∉ wrAll) : V8 m d r = m (d, (r : DevRef τ sig)) := by
  have hA : r ∉ wrA := fun hr => h (by simp only [List.mem_append]; tauto)
  have hB : r ∉ wrB := fun hr => h (by simp only [List.mem_append]; tauto)
  have hC : r ∉ wrC := fun hr => h (by simp only [List.mem_append]; tauto)
  have hD : r ∉ wrD := fun hr => h (by simp only [List.mem_append]; tauto)
  have hO : ∀ s ∈ [main_v6_0, main_v6_1, main_v25, main_v37, main_v41], r ≠ s :=
    fun s hs e => h (e ▸ List.mem_append_right _ hs)
  rw [V8_other m d r (hO _ (by decide)), V7, opsD_keep _ r hD, V6_other m d r (hO _ (by decide)), V5, opsC_keep _ r hC,
    V4_other m d r (hO _ (by decide)), V3, opsB_keep _ r hB, V2_other m d r (hO _ (by decide)) (hO _ (by decide)), V1, opsA_keep _ r hA]
  rfl

/-! ## The index columns -/

/-- A column of the index array, laid out as one row, read at a place. -/
theorem column {α : Type} (x : S16384x2.Idx → α) (n : Fin 2) (off : Fin S16384x2.rank → ℕ) (hoff : off = ![0, n.val]) (hs : S16384x2.Slices off S16384x1)
    (h1 : S16384x1.ShapeCasts S16384) (h2 : S16384.ShapeCasts S1x16384) (r : Fin 16384) :
    shapeCast S1x16384 (shapeCast S16384 (extractStridedSlice S16384x1 off x hs) h1) h2 (ValueIdx.ix2 (0 : Fin 1) r) = x (ValueIdx.ix2 r n) := by
  subst hoff
  rw [shapeCast_apply _ h2 (ValueIdx.ix2 (0 : Fin 1) r) (ValueIdx.ix1 r) (by
      rw [Shape.rowMajor_val_one, Shape.rowMajor_val_two]; show r.val = 0 * 16384 + r.val; omega),
    shapeCast_apply _ h1 (ValueIdx.ix1 r) (ValueIdx.ix2 r (0 : Fin 1)) (by
      rw [Shape.rowMajor_val_one, Shape.rowMajor_val_two]; show r.val * 1 + 0 = r.val; omega)]
  refine extractStridedSlice_apply _ _ _ _ _ fun a => ?_
  match a with
  | 0 => show r.val = 0 + r.val; omega
  | 1 => show n.val = n.val + 0; rfl

/-- After the first host steps the first index row is column 0 of the index argument. -/
theorem V1_v2 (d : Dev nD) (r : Fin 16384) :
    V1 m d main_v2 (ValueIdx.ix2 (0 : Fin 1) r) = m (d, (main_arg0 : DevRef τ sig)) (ValueIdx.ix2 r (0 : Fin 2)) := by
  have h : V1 m d main_v2 = shapeCast S1x16384 (shapeCast S16384 (extractStridedSlice S16384x1 ![0, 0] (m (d, (main_arg0 : DevRef τ sig))) slices_S16384x2_S16384x1_0_0)
      shapeCasts_S16384x1_S16384) shapeCasts_S16384_S1x16384 := by
    unfold V1; after_results_simp <;> rfl
  rw [h]
  exact column _ 0 _ rfl _ _ _ r

/-- After the first host steps the second index row is column 1 of the index argument. -/
theorem V1_v5 (d : Dev nD) (r : Fin 16384) :
    V1 m d main_v5 (ValueIdx.ix2 (0 : Fin 1) r) = m (d, (main_arg0 : DevRef τ sig)) (ValueIdx.ix2 r (1 : Fin 2)) := by
  have h : V1 m d main_v5 = shapeCast S1x16384 (shapeCast S16384 (extractStridedSlice S16384x1 ![0, 1] (m (d, (main_arg0 : DevRef τ sig))) slices_S16384x2_S16384x1_0_1)
      shapeCasts_S16384x1_S16384) shapeCasts_S16384_S1x16384 := by
    unfold V1; after_results_simp <;> rfl
  rw [h]
  exact column _ 1 _ rfl _ _ _ r

/-- The precondition at a word: every index is below the tables' height. -/
theorem word_of_pre (x : IVec S16384x2 32) (a1 a2 : FVec F S100000x32 .f32) (a3 a4 : FVec F S100000x128 .f32) (a5 : FVec F S128x256 .f32)
    (a6 : FVec F S128 .f32) (a7 : FVec F S64x128 .f32) (a8 : FVec F S64 .f32) (a9 : FVec F S32x64 .f32) (a10 : FVec F S32 .f32)
    (a11 : FVec F S1x64 .f32) (a12 : FVec F S1 .f32)
    (h : Cert.Pre_in_range.fn (F := F) x a1 a2 a3 a4 a5 a6 a7 a8 a9 a10 a11 a12 = fun _ => 1#1) (i : S16384x2.Idx) : (x i).toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100000#32) = 1#1 → v.toNat < 100000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (Shape.Idx.first Cert.Pre_in_range.Gen.h_S_)
  simp only [Cert.Pre_in_range.fn] at e
  haveI : Subsingleton Cert.Pre_in_range.S_.Idx := ⟨fun a b => funext fun k => k.elim0⟩
  exact key _ (Host.reduce_andi_all _ _ _ _ _ e i)

/-- What the SparseCore calls ask of the index columns, off the precondition. -/
theorem ok_of_pre (h : ∀ (d : Dev nD) (i : S16384x2.Idx), (m (d, (main_arg0 : DevRef τ sig)) i).toNat < 100000) : (data m).Ok := by
  intro d j
  have e : j = ValueIdx.ix2 (0 : Fin 1) (j 1 : Fin 16384) := by
    funext a
    match a with
    | 0 => exact Fin.ext (by have : (j 0).val < 1 := (j 0).isLt; show (j 0).val = 0; omega)
    | 1 => rfl
  rw [e]
  exact ⟨(congrArg BitVec.toNat (V1_v2 m d _)).trans_lt (h d _), (congrArg BitVec.toNat (V1_v5 m d _)).trans_lt (h d _)⟩

/-- The run read at the arguments: unchanged, every semaphore at zero. -/
theorem run_frame [∀ e, Nonempty (Elt F e)] (ρ : Dev nD → PrngReg)
    (h : ∀ (d : Dev nD) (i : S16384x2.Idx), (m (d, (main_arg0 : DevRef τ sig)) i).toNat < 100000) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12)) ∧ r.2.sem = fun _ => 0 := by
  refine (θ_run (Cert.KernelIdeal.defs (F := F)) _ _).mono (fun r hr => ⟨fun c => ?_, hr.2⟩) (run_main m ρ (ok_of_pre m h))
  have one : ∀ b : Ref sig .tc, b.isScoped = false → b ∉ wrAll → r.2.mem ((c.tc : Thread nD τ).loc b) = m ((c.tc : Thread nD τ).loc b) :=
    fun b hb hw => (hr.1 c b (mem_uc b hb)).trans (V8_keep m c b hw)
  exact ⟨one main_arg0 rfl (by decide), one main_arg1 rfl (by decide), one main_arg2 rfl (by decide), one main_arg3 rfl (by decide), one main_arg4 rfl (by decide), one main_arg5 rfl (by decide), one main_arg6 rfl (by decide), one main_arg7 rfl (by decide), one main_arg8 rfl (by decide), one main_arg9 rfl (by decide), one main_arg10 rfl (by decide), one main_arg11 rfl (by decide), one main_arg12 rfl (by decide)⟩

/-- The kernel over the extended reals: it runs, leaves its arguments and every semaphore as they were. -/
theorem frame_ideal : Cert.quiescent_KernelIdeal := fun m ρ h =>
  run_frame (F := Ideal) m ρ fun d i => word_of_pre _ _ _ _ _ _ _ _ _ _ _ _ _ (h d) i

end Cert.Proof.Neumf
-- ==== Proof.Same.lean ====
/-
  The printed kernel, and the kernel the ideal pass leaves, are one program at the bit patterns: its run is the run
  already proved.
-/
module

public import proofs.«01_k».proof.Proof.Frames

@[expose] public section

noncomputable section

namespace Cert.Proof.Neumf

open Idealize.ShloMosaic Idealize.SL.Sem

set_option maxHeartbeats 4000000 in
/-- The tile body of the first SparseCore call is the same on both sides. -/
theorem same0 (c : Fin Cert.Kernel.τ.nSC) (s : Fin Cert.Kernel.τ.nSub) (a) :
    Cert.Kernel.defs₀ (F := Bits) (.scVector c s) 0 a = Cert.KernelIdeal.defs₀ (F := Bits) (.scVector c s) 0 a := rfl

set_option maxHeartbeats 4000000 in
/-- The tile body of the second SparseCore call is the same on both sides. -/
theorem same1 (c : Fin Cert.Kernel.τ.nSC) (s : Fin Cert.Kernel.τ.nSub) (a) :
    Cert.Kernel.defs₀ (F := Bits) (.scVector c s) 1 a = Cert.KernelIdeal.defs₀ (F := Bits) (.scVector c s) 1 a := rfl

set_option maxHeartbeats 4000000 in
/-- The body of the first pipelined TensorCore call is the same on both sides. -/
theorem same2 (a) : Cert.Kernel.defs₀ (F := Bits) .tc 2 a = Cert.KernelIdeal.defs₀ (F := Bits) .tc 2 a := rfl

set_option maxHeartbeats 4000000 in
/-- The body of the second pipelined TensorCore call is the same on both sides. -/
theorem same3 (a) : Cert.Kernel.defs₀ (F := Bits) .tc 3 a = Cert.KernelIdeal.defs₀ (F := Bits) .tc 3 a := rfl

set_option maxHeartbeats 4000000 in
/-- Every kernel body is the same on both sides. -/
theorem bodies_same : Cert.Kernel.defs₀ (F := Bits) = Cert.KernelIdeal.defs₀ (F := Bits) := by
  funext p ℓ a
  match p, ℓ, a with
  | .scVector c s, 0, a => exact same0 c s a
  | .scVector c s, 1, a => exact same1 c s a
  | .tc, 2, a => exact same2 a
  | .tc, 3, a => exact same3 a
  | .tc, 0, a => rfl
  | .tc, 1, a => rfl
  | .scVector c s, 2, a => rfl
  | .scVector c s, 3, a => rfl
  | .scScalar c, ℓ, a => rfl

set_option maxHeartbeats 4000000 in
/-- The launches built on the bodies are the same on both sides. -/
theorem defs_same : Cert.Kernel.defs (F := Bits) = Cert.KernelIdeal.defs (F := Bits) :=
  congrArg (fun x => Cert.KernelIdeal.sc.defs (Pipeline.defs Cert.KernelIdeal.pcfgs x)) bodies_same

set_option maxHeartbeats 4000000 in
/-- Every thread runs the same text on both sides. -/
theorem threads_same : Cert.Kernel.threads (F := Bits) = Cert.KernelIdeal.threads (F := Bits) := rfl

set_option maxHeartbeats 4000000 in
/-- The kernel over bit patterns: it runs, leaves its arguments and every semaphore as they were. -/
theorem frame_kernel : Cert.quiescent_Kernel := fun m ρ h => by
  rw [defs_same, threads_same]
  exact run_frame (F := Bits) m ρ fun d i => word_of_pre _ _ _ _ _ _ _ _ _ _ _ _ _ (h d) i

end Cert.Proof.Neumf
-- ==== Proof.RefFrame.lean ====
/-
  The reference runs, leaves its arguments as they were and has no semaphore to leave.
-/
module

public import proofs.«01_k».proof.Defs
public import proofs.«01_k».proof.Proof.Gen.ReferenceIdeal.Run
public import proofs.«01_k».proof.Proof.Gen.Pre_in_range
public import Idealize.ShloMosaic.Lib.Quiescent

@[expose] public section

noncomputable section

namespace Cert.Proof.Neumf

open Idealize.ShloMosaic Idealize.SL.Sem

/-- The reference from any memory. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The reference from a memory whose indices are in range. -/
theorem frame_reference_in_range : Cert.quiescent_ReferenceIdeal_pre_in_range := fun m ρ _ =>
  (θ_run Cert.ReferenceIdeal.defs _ _).mono
    (fun r h => ⟨fun c => (h c).2, sem_eq_zero_of_no_sems (by decide) r.2⟩) (Cert.ReferenceIdeal.Value.run m ρ)

end Cert.Proof.Neumf
-- ==== Proof.Want.lean ====
/-
  What one prediction is, as sums over the extended reals, and the payloads of the two TensorCore bodies read at one
  row.
-/
module

public import proofs.«01_k».proof.Proof.TcValues
public import Idealize.ShloMosaic.Lib.Pointwise

@[expose] public section

noncomputable section

namespace Cert.Proof.Neumf

open Cert.KernelIdeal Cert.KernelIdeal.Gen
open Idealize.ShloMosaic
open scoped BigOperators

/-- The first layer of the perceptron at one unit: two rows of factors, each against its half of the weights. -/
def layer0 (a b : Fin 128 → EReal) (w v : Fin 128 → Fin 128 → EReal) (β : Fin 128 → EReal) (k : Fin 128) : EReal :=
  max (∑ c, a c * w c k + ∑ c, b c * v c k + β k) 0

/-- A later layer at one unit. -/
def layer {n l : ℕ} (a : Fin n → EReal) (w : Fin n → Fin l → EReal) (β : Fin l → EReal) (k : Fin l) : EReal :=
  max (∑ c, a c * w c k + β k) 0

/-- The perceptron's part of a prediction. -/
def mlpWant (a b : Fin 128 → EReal) (w v : Fin 128 → Fin 128 → EReal) (β0 : Fin 128 → EReal) (w1 : Fin 128 → Fin 64 → EReal)
    (β1 : Fin 64 → EReal) (w2 : Fin 64 → Fin 32 → EReal) (β2 : Fin 32 → EReal) (p : Fin 32 → EReal) : EReal :=
  ∑ c, layer (layer (layer0 a b w v β0) w1 β1) w2 β2 c * p c

/-- The second payload of the perceptron's body, read at a row and a unit. -/
theorem pay2_at (A B : FVec Ideal S4096x128 .f32) (w v : FVec Ideal S128x128 .f32) (β0 : FVec Ideal S1x128 .f32) (w1 : FVec Ideal S128x64 .f32)
    (β1 : FVec Ideal S1x64 .f32) (w2 : FVec Ideal S64x32 .f32) (y : Fin 4096) (k : Fin 32) :
    k2_pay2 (F := Ideal) A w B v β0 w1 β1 w2 (ix2 y k)
      = ∑ c, layer (layer0 (fun c => A (ix2 y c)) (fun c => B (ix2 y c)) (fun c k => w (ix2 c k)) (fun c k => v (ix2 c k))
          (fun k => β0 (ix2 (0 : Fin 1) k))) (fun c k => w1 (ix2 c k)) (fun k => β1 (ix2 (0 : Fin 1) k)) c * w2 (ix2 c k) := by
  pointwise [k2_pay2, layer, layer0]

/-- The first payload of the perceptron's body, read at a row. -/
theorem pay1_at (H : FVec Ideal S4096x32 .f32) (β2 : FVec Ideal S1x32 .f32) (p : FVec Ideal S32x1 .f32) (y : Fin 4096) :
    k2_pay1 (F := Ideal) H β2 p (ix1 y)
      = ∑ c, max (H (ix2 y c) + β2 (ix2 (0 : Fin 1) c)) 0 * p (ix2 c (0 : Fin 1)) := by
  pointwise [k2_pay1]

/-- The payload of the last body, read at a row. -/
theorem pay3_at (G : FVec Ideal S4096x32 .f32) (p : FVec Ideal S32x1 .f32) (M : FVec Ideal S4096 .f32) (b : FVec Ideal S1x1 .f32) (y : Fin 4096) :
    k3_pay1 (F := Ideal) G p M b (ix1 y)
      = ∑ c, G (ix2 y c) * p (ix2 c (0 : Fin 1)) + M (ix1 y) + b (ix2 (0 : Fin 1) (0 : Fin 1)) := by
  pointwise [k3_pay1]

end Cert.Proof.Neumf
-- ==== Proof.Packed.lean ====
/-
  The table the two first factors are packed into, read at a row and a lane: the product with a one-hot matrix picks one
  entry out.
-/
module

public import proofs.«01_k».proof.Proof.Want
public import Idealize.ShloMosaic.Lib.IdealHost

@[expose] public section

noncomputable section

namespace Cert.Proof.Neumf

open Cert.KernelIdeal Cert.KernelIdeal.Gen
open Idealize.ShloMosaic
open scoped BigOperators

variable {F : FTy → Type} [FloatOps F]

/-- The one-hot matrix: one where the lane is the row's number. -/
def oneHot : FVec F S64x128 .bf16 :=
  uitofp .bf16 (cmpi .eq (broadcastInDim S64x128 ![0, 1] bcast_S1x128_S64x128_0_1 (broadcastInDim S1x128 ![1] bcast_S128_S1x128_1 (iotaInDim S128 32 0)))
    (broadcastInDim S64x128 ![0, 1] bcast_S64x1_S64x128_0_1 (broadcastInDim S64x1 ![0] bcast_S64_S64x1_0 (iotaInDim S64 32 0))))

/-- The packed table, as the host computes it. -/
def packed (x y : FVec F S100000x32 .f32) : FVec F S100000x128 .f32 :=
  addf
    (Host.dotGeneral dot_S32x100000_S32x128_S100000x128_0_0_1_1_n_n none
      (truncf .bf16 (transpose S32x100000 [1, 0] x transposes_S100000x32_S32x100000_1_0) bitsLt_bf16_f32)
      (extractStridedSlice S32x128 ![0, 0] (oneHot (F := F)) slices_S64x128_S32x128_0_0))
    (Host.dotGeneral dot_S32x100000_S32x128_S100000x128_0_0_1_1_n_n none
      (truncf .bf16 (transpose S32x100000 [1, 0] y transposes_S100000x32_S32x100000_1_0) bitsLt_bf16_f32)
      (extractStridedSlice S32x128 ![32, 0] (oneHot (F := F)) slices_S64x128_S32x128_32_0))

/-- An entry of the one-hot matrix. -/
theorem oneHot_at (i : Fin 64) (l : Fin 128) : oneHot (F := Ideal) (ix2 i l) = if l.val = i.val then 1 else 0 := by
  show (((IntOp.cmpi .eq (BitVec.ofNat 32 l.val) (BitVec.ofNat 32 i.val)).toNat : ℝ) : EReal) = _
  have hl := l.isLt
  have hi := i.isLt
  by_cases h : l.val = i.val
  · rw [if_pos h, h]
    simp [IntOp.cmpi]
  · rw [if_neg h]
    have hne : BitVec.ofNat 32 l.val ≠ BitVec.ofNat 32 i.val := fun e => h (by
      have e' := congrArg BitVec.toNat e
      simp only [BitVec.toNat_ofNat] at e'
      omega)
    simp [IntOp.cmpi, hne]

/-- The packed table read at a row and a lane, as two sums. -/
theorem packed_at (x y : FVec Ideal S100000x32 .f32) (r : Fin 100000) (l : Fin 128) :
    packed (F := Ideal) x y (ix2 r l)
      = ∑ k : Fin 32, x (ix2 r k) * oneHot (F := Ideal) (ix2 (⟨k.val, by omega⟩ : Fin 64) l)
        + ∑ k : Fin 32, y (ix2 r k) * oneHot (F := Ideal) (ix2 (⟨32 + k.val, by omega⟩ : Fin 64) l) := by
  pointwise [packed]

/-- Its lanes below 32 are the first table's. -/
theorem packed_lo (x y : FVec Ideal S100000x32 .f32) (r : Fin 100000) (c : Fin 32) :
    packed (F := Ideal) x y (ix2 r (⟨c.val, by omega⟩ : Fin 128)) = x (ix2 r c) := by
  rw [packed_at]
  have h1 : ∑ k : Fin 32, x (ix2 r k) * oneHot (F := Ideal) (ix2 (⟨k.val, by omega⟩ : Fin 64) (⟨c.val, by omega⟩ : Fin 128)) = x (ix2 r c) := by
    rw [Finset.sum_eq_single c]
    · rw [oneHot_at, if_pos rfl]; exact mul_one _
    · intro k _ hk
      rw [oneHot_at, if_neg (fun h => hk (Fin.ext h.symm))]; exact mul_zero _
    · intro h; exact absurd (Finset.mem_univ _) h
  have h2 : ∑ k : Fin 32, y (ix2 r k) * oneHot (F := Ideal) (ix2 (⟨32 + k.val, by omega⟩ : Fin 64) (⟨c.val, by omega⟩ : Fin 128)) = 0 := by
    refine Finset.sum_eq_zero fun k _ => ?_
    rw [oneHot_at, if_neg (by show ¬ c.val = 32 + k.val; have := c.isLt; omega)]; exact mul_zero _
  rw [h1, h2]; exact add_zero _

/-- Its lanes from 32 to 63 are the second table's. -/
theorem packed_hi (x y : FVec Ideal S100000x32 .f32) (r : Fin 100000) (c : Fin 32) :
    packed (F := Ideal) x y (ix2 r (⟨32 + c.val, by omega⟩ : Fin 128)) = y (ix2 r c) := by
  rw [packed_at]
  have h1 : ∑ k : Fin 32, y (ix2 r k) * oneHot (F := Ideal) (ix2 (⟨32 + k.val, by omega⟩ : Fin 64) (⟨32 + c.val, by omega⟩ : Fin 128)) = y (ix2 r c) := by
    rw [Finset.sum_eq_single c]
    · rw [oneHot_at, if_pos rfl]; exact mul_one _
    · intro k _ hk
      rw [oneHot_at, if_neg (fun h => hk (Fin.ext (by have h' : 32 + c.val = 32 + k.val := h; omega)))]; exact mul_zero _
    · intro h; exact absurd (Finset.mem_univ _) h
  have h2 : ∑ k : Fin 32, x (ix2 r k) * oneHot (F := Ideal) (ix2 (⟨k.val, by omega⟩ : Fin 64) (⟨32 + c.val, by omega⟩ : Fin 128)) = 0 := by
    refine Finset.sum_eq_zero fun k _ => ?_
    rw [oneHot_at, if_neg (by show ¬ 32 + c.val = k.val; have := k.isLt; omega)]; exact mul_zero _
  rw [h1, h2]; exact zero_add _

/-! ## The two TensorCore calls' arrays, read at a row -/

/-- The last call's result. -/
theorem pred_at (G : FVec Ideal S16384x32 .f32) (M : FVec Ideal S16384 .f32) (p : FVec Ideal S32x1 .f32) (b : FVec Ideal S1x1 .f32) (r : Fin 16384) :
    predArr (F := Ideal) G M p b (ix1 r)
      = ∑ c, G (ix2 r c) * p (ix2 c (0 : Fin 1)) + M (ix1 r) + b (ix2 (0 : Fin 1) (0 : Fin 1)) := by
  have hr : (⟨4096 * (r.val / 4096) + r.val % 4096, by have := r.isLt; omega⟩ : Fin 16384) = r := Fin.ext (by show 4096 * (r.val / 4096) + r.val % 4096 = r.val; omega)
  refine (pay3_at (rows32 G (blkNo (ix1 r))) p (rows1 M (blkNo (ix1 r))) b ⟨r.val % 4096, Nat.mod_lt _ (by decide)⟩).trans ?_
  have hG : ∀ c : Fin 32, rows32 G (blkNo (ix1 r)) (ix2 ⟨r.val % 4096, Nat.mod_lt _ (by decide)⟩ c) = G (ix2 r c) := fun c =>
    congrArg (fun z => G (ix2 z c)) hr
  have hM : rows1 M (blkNo (ix1 r)) (ix1 ⟨r.val % 4096, Nat.mod_lt _ (by decide)⟩) = M (ix1 r) := congrArg (fun z => M (ix1 z)) hr
  simp only [hG, hM]

/-- The perceptron call's result. -/
theorem mlp_at (A B : FVec Ideal S16384x128 .f32) (w v : FVec Ideal S128x128 .f32) (β0 : FVec Ideal S1x128 .f32) (w1 : FVec Ideal S128x64 .f32)
    (β1 : FVec Ideal S1x64 .f32) (w2 : FVec Ideal S64x32 .f32) (β2 : FVec Ideal S1x32 .f32) (p : FVec Ideal S32x1 .f32) (r : Fin 16384) :
    mlpArr (F := Ideal) A B w v β0 w1 β1 w2 β2 p (ix1 r)
      = mlpWant (fun c => A (ix2 r c)) (fun c => B (ix2 r c)) (fun c k => w (ix2 c k)) (fun c k => v (ix2 c k)) (fun k => β0 (ix2 (0 : Fin 1) k))
          (fun c k => w1 (ix2 c k)) (fun k => β1 (ix2 (0 : Fin 1) k)) (fun c k => w2 (ix2 c k)) (fun k => β2 (ix2 (0 : Fin 1) k))
          (fun c => p (ix2 c (0 : Fin 1))) := by
  have hr : (⟨4096 * (r.val / 4096) + r.val % 4096, by have := r.isLt; omega⟩ : Fin 16384) = r := Fin.ext (by show 4096 * (r.val / 4096) + r.val % 4096 = r.val; omega)
  refine (pay1_at _ β2 p ⟨r.val % 4096, Nat.mod_lt _ (by decide)⟩).trans ?_
  have hA : ∀ X : FVec Ideal S16384x128 .f32, ∀ c : Fin 128, rows128 X (blkNo (ix1 r)) (ix2 ⟨r.val % 4096, Nat.mod_lt _ (by decide)⟩ c) = X (ix2 r c) := fun X c =>
    congrArg (fun z => X (ix2 z c)) hr
  simp only [pay2_at, hA]
  rfl

end Cert.Proof.Neumf
-- ==== Proof.KerVal.lean ====
/-
  What the kernel leaves in its result, read at a row, from what the arguments held.
-/
module

public import proofs.«01_k».proof.Proof.Packed
public import proofs.«01_k».proof.Proof.Frames

@[expose] public section

noncomputable section

namespace Cert.Proof.Neumf

open Cert.KernelIdeal Cert.KernelIdeal.Gen
open Idealize.ShloMosaic.TcCoe
open Idealize.ShloMosaic Idealize.ShloMosaic.StableHlo Idealize.SL.Sem
open scoped BigOperators

variable {F : FTy → Type} [FloatOps F]

/-- What the second SparseCore call leaves, of the packed table. -/
theorem prod_at (x y : FVec Ideal S100000x32 .f32) (I J : S1x16384.Idx → BitVec 32) (r : Fin 16384) (c : Fin 32) :
    Gmf.prodAll (F := Ideal) (gathered (packed (F := Ideal) x y) I) (gathered (packed (F := Ideal) x y) J) (ix2 r c)
      = x (ix2 (rowNo (I (ix2 (0 : Fin 1) r))) c) * y (ix2 (rowNo (J (ix2 (0 : Fin 1) r))) c) := by
  have h1 := packed_lo x y (rowNo (I (ix2 (0 : Fin 1) r))) c
  have h2 := packed_hi x y (rowNo (J (ix2 (0 : Fin 1) r))) c
  rw [← h1, ← h2]
  rfl

/-! ## The host's reshapes and slices of the weights, at an index -/

/-- A vector laid out as one row. -/
theorem row_at {α : Type} {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]; show k.val = 0 * n + k.val; omega)

/-- The first half of the first layer's weights. -/
theorem w_lo (x : S128x256.Idx → EReal) (c k : Fin 128) :
    transpose S128x128 [1, 0] (extractStridedSlice S128x128 ![0, 0] x slices_S128x256_S128x128_0_0) transposes_S128x128_S128x128_1_0 (ix2 c k)
      = x (ix2 k (⟨c.val, by omega⟩ : Fin 256)) := by pointwise
/-- The second half of the first layer's weights. -/
theorem w_hi (x : S128x256.Idx → EReal) (c k : Fin 128) :
    transpose S128x128 [1, 0] (extractStridedSlice S128x128 ![0, 128] x slices_S128x256_S128x128_0_128) transposes_S128x128_S128x128_1_0 (ix2 c k)
      = x (ix2 k (⟨128 + c.val, by omega⟩ : Fin 256)) := by pointwise
/-- The prediction weights for the product. -/
theorem p_lo (x : S1x64.Idx → EReal) (c : Fin 32) :
    transpose S32x1 [1, 0] (extractStridedSlice S1x32 ![0, 0] x slices_S1x64_S1x32_0_0) transposes_S1x32_S32x1_1_0 (ix2 c (0 : Fin 1))
      = x (ix2 (0 : Fin 1) (⟨c.val, by omega⟩ : Fin 64)) := by pointwise
/-- The prediction weights for the perceptron. -/
theorem p_hi (x : S1x64.Idx → EReal) (c : Fin 32) :
    transpose S32x1 [1, 0] (extractStridedSlice S1x32 ![0, 32] x slices_S1x64_S1x32_0_32) transposes_S1x32_S32x1_1_0 (ix2 c (0 : Fin 1))
      = x (ix2 (0 : Fin 1) (⟨32 + c.val, by omega⟩ : Fin 64)) := by pointwise
/-- The second layer's weights. -/
theorem w1_at (x : S64x128.Idx → EReal) (c : Fin 128) (k : Fin 64) :
    transpose S128x64 [1, 0] x transposes_S64x128_S128x64_1_0 (ix2 c k) = x (ix2 k c) := by pointwise
/-- The third layer's weights. -/
theorem w2_at (x : S32x64.Idx → EReal) (c : Fin 64) (k : Fin 32) :
    transpose S64x32 [1, 0] x transposes_S32x64_S64x32_1_0 (ix2 c k) = x (ix2 k c) := by pointwise

/-! ## The arrays the host writes, from what they are written of -/

/-- The packed table's array. -/
theorem after_B (V : Valuation τ sig (Elt F)) :
    StableHlo.after (opsB (F := F)) V main_v23 = packed (F := F) (V main_arg1) (V main_arg2) := by
  after_results_simp <;> rfl

/-- The weights' arrays. -/
theorem after_C (V : Valuation τ sig (Elt F)) :
    StableHlo.after (opsC (F := F)) V main_v27
        = transpose S128x128 [1, 0] (extractStridedSlice S128x128 ![0, 0] (V main_arg5) slices_S128x256_S128x128_0_0) transposes_S128x128_S128x128_1_0
    ∧ StableHlo.after (opsC (F := F)) V main_v29
        = transpose S128x128 [1, 0] (extractStridedSlice S128x128 ![0, 128] (V main_arg5) slices_S128x256_S128x128_0_128) transposes_S128x128_S128x128_1_0
    ∧ StableHlo.after (opsC (F := F)) V main_v30 = shapeCast S1x128 (V main_arg6) shapeCasts_S128_S1x128
    ∧ StableHlo.after (opsC (F := F)) V main_v31 = transpose S128x64 [1, 0] (V main_arg7) transposes_S64x128_S128x64_1_0
    ∧ StableHlo.after (opsC (F := F)) V main_v32 = shapeCast S1x64 (V main_arg8) shapeCasts_S64_S1x64
    ∧ StableHlo.after (opsC (F := F)) V main_v33 = transpose S64x32 [1, 0] (V main_arg9) transposes_S32x64_S64x32_1_0
    ∧ StableHlo.after (opsC (F := F)) V main_v34 = shapeCast S1x32 (V main_arg10) shapeCasts_S32_S1x32
    ∧ StableHlo.after (opsC (F := F)) V main_v36
        = transpose S32x1 [1, 0] (extractStridedSlice S1x32 ![0, 32] (V main_arg11) slices_S1x64_S1x32_0_32) transposes_S1x32_S32x1_1_0 := by
  refine ⟨?_, ?_, ?_, ?_, ?_, ?_, ?_, ?_⟩ <;> (after_results_simp <;> rfl)

/-- The last call's weights and bias. -/
theorem after_D (V : Valuation τ sig (Elt F)) :
    StableHlo.after (opsD (F := F)) V main_v39
        = transpose S32x1 [1, 0] (extractStridedSlice S1x32 ![0, 0] (V main_arg11) slices_S1x64_S1x32_0_0) transposes_S1x32_S32x1_1_0
    ∧ StableHlo.after (opsD (F := F)) V main_v40 = shapeCast S1x1 (V main_arg12) shapeCasts_S1_S1x1 := by
  refine ⟨?_, ?_⟩ <;> (after_results_simp <;> rfl)

/-! ## An argument at each stage -/

section Args
variable (m : (ℓ : Loc nD τ sig) → Buf (Elt F) ℓ)

/-- At the first SparseCore call. -/
theorem V1_arg (d : Dev nD) (r : Ref sig .tc) (hA : r ∉ wrA) : V1 m d r = m (d, (r : DevRef τ sig)) := opsA_keep _ r hA
/-- At its end. -/
theorem V2_arg (d : Dev nD) (r : Ref sig .tc) (hA : r ∉ wrA) (h0 : r ≠ main_v6_0) (h1 : r ≠ main_v6_1) : V2 m d r = m (d, (r : DevRef τ sig)) :=
  (V2_other m d r h0 h1).trans (V1_arg m d r hA)
/-- At the end of the second SparseCore call. -/
theorem V4_arg (d : Dev nD) (r : Ref sig .tc) (hA : r ∉ wrA) (h0 : r ≠ main_v6_0) (h1 : r ≠ main_v6_1) (hB : r ∉ wrB) (h2 : r ≠ main_v25) :
    V4 m d r = m (d, (r : DevRef τ sig)) :=
  (V4_other m d r h2).trans ((opsB_keep _ r hB).trans (V2_arg m d r hA h0 h1))
/-- At the end of the first TensorCore call. -/
theorem V6_arg (d : Dev nD) (r : Ref sig .tc) (hA : r ∉ wrA) (h0 : r ≠ main_v6_0) (h1 : r ≠ main_v6_1) (hB : r ∉ wrB) (h2 : r ≠ main_v25)
    (hC : r ∉ wrC) (h3 : r ≠ main_v37) : V6 m d r = m (d, (r : DevRef τ sig)) :=
  (V6_other m d r h3).trans ((opsC_keep _ r hC).trans (V4_arg m d r hA h0 h1 hB h2))

/-- The products, when the last call starts. -/
theorem V7_g (d : Dev nD) : V7 m d main_v25
    = Gmf.prodAll (F := F) (gathered (packed (F := F) (m (d, (main_arg1 : DevRef τ sig))) (m (d, (main_arg2 : DevRef τ sig)))) (V1 m d main_v2))
        (gathered (packed (F := F) (m (d, (main_arg1 : DevRef τ sig))) (m (d, (main_arg2 : DevRef τ sig)))) (V1 m d main_v5)) := by
  have h3 : V3 m d main_v23 = packed (F := F) (m (d, (main_arg1 : DevRef τ sig))) (m (d, (main_arg2 : DevRef τ sig))) := by
    refine (after_B (V2 m d)).trans ?_
    rw [V2_arg m d main_arg1 (by decide) (by decide) (by decide), V2_arg m d main_arg2 (by decide) (by decide) (by decide)]
  rw [← h3]
  exact (opsD_keep _ main_v25 (by decide)).trans ((V6_other m d main_v25 (by decide)).trans ((opsC_keep _ main_v25 (by decide)).trans (V4_g m d)))

/-- The first rows of factors, when the first TensorCore call starts. -/
theorem V5_a (d : Dev nD) : V5 m d main_v6_0 = gathered (m (d, (main_arg3 : DevRef τ sig))) (V1 m d main_v2) := by
  refine (opsC_keep _ main_v6_0 (by decide)).trans ((V4_other m d main_v6_0 (by decide)).trans ((opsB_keep _ main_v6_0 (by decide)).trans ((V2_a m d).trans ?_)))
  rw [V1_arg m d main_arg3 (by decide)]
/-- The second rows of factors. -/
theorem V5_b (d : Dev nD) : V5 m d main_v6_1 = gathered (m (d, (main_arg4 : DevRef τ sig))) (V1 m d main_v5) := by
  refine (opsC_keep _ main_v6_1 (by decide)).trans ((V4_other m d main_v6_1 (by decide)).trans ((opsB_keep _ main_v6_1 (by decide)).trans ((V2_b m d).trans ?_)))
  rw [V1_arg m d main_arg4 (by decide)]

/-- The perceptron's part, when the last call starts. -/
theorem V7_m (d : Dev nD) : V7 m d main_v37
    = mlpArr (V5 m d main_v6_0) (V5 m d main_v6_1) (V5 m d main_v27) (V5 m d main_v29) (V5 m d main_v30) (V5 m d main_v31) (V5 m d main_v32)
      (V5 m d main_v33) (V5 m d main_v34) (V5 m d main_v36) :=
  (opsD_keep _ main_v37 (by decide)).trans (Function.update_self ..)

/-- The result. -/
theorem V8_p (d : Dev nD) : V8 m d main_v41 = predArr (F := F) (V7 m d main_v25) (V7 m d main_v37) (V7 m d main_v39) (V7 m d main_v40) :=
  Function.update_self ..

end Args

/-- The perceptron's part of a prediction, of equal layers. -/
theorem mlpWant_congr {a a' b b' : Fin 128 → EReal} {w w' v v' : Fin 128 → Fin 128 → EReal} {β0 β0' : Fin 128 → EReal} {w1 w1' : Fin 128 → Fin 64 → EReal}
    {β1 β1' : Fin 64 → EReal} {w2 w2' : Fin 64 → Fin 32 → EReal} {β2 β2' : Fin 32 → EReal} {p p' : Fin 32 → EReal}
    (ha : ∀ c, a c = a' c) (hb : ∀ c, b c = b' c) (hw : ∀ c k, w c k = w' c k) (hv : ∀ c k, v c k = v' c k) (h0 : ∀ k, β0 k = β0' k)
    (hw1 : ∀ c k, w1 c k = w1' c k) (h1 : ∀ k, β1 k = β1' k) (hw2 : ∀ c k, w2 c k = w2' c k) (h2 : ∀ k, β2 k = β2' k) (hp : ∀ c, p c = p' c) :
    mlpWant a b w v β0 w1 β1 w2 β2 p = mlpWant a' b' w' v' β0' w1' β1' w2' β2' p' := by
  obtain rfl : a = a' := funext ha
  obtain rfl : b = b' := funext hb
  obtain rfl : w = w' := funext fun c => funext (hw c)
  obtain rfl : v = v' := funext fun c => funext (hv c)
  obtain rfl : β0 = β0' := funext h0
  obtain rfl : w1 = w1' := funext fun c => funext (hw1 c)
  obtain rfl : β1 = β1' := funext h1
  obtain rfl : w2 = w2' := funext fun c => funext (hw2 c)
  obtain rfl : β2 = β2' := funext h2
  obtain rfl : p = p' := funext hp
  rfl

/-- One prediction, of the arguments. -/
def wanted (x : S16384x2.Idx → BitVec 32) (t1 t2 : FVec Ideal S100000x32 .f32) (t3 t4 : FVec Ideal S100000x128 .f32) (w0 : FVec Ideal S128x256 .f32)
    (b0 : FVec Ideal S128 .f32) (w1 : FVec Ideal S64x128 .f32) (b1 : FVec Ideal S64 .f32) (w2 : FVec Ideal S32x64 .f32) (b2 : FVec Ideal S32 .f32)
    (wp : FVec Ideal S1x64 .f32) (bp : FVec Ideal S1 .f32) (r : Fin 16384) : EReal :=
  ∑ c : Fin 32, t1 (ix2 (rowNo (x (ix2 r (0 : Fin 2)))) c) * t2 (ix2 (rowNo (x (ix2 r (1 : Fin 2)))) c) * wp (ix2 (0 : Fin 1) (⟨c.val, by omega⟩ : Fin 64))
    + mlpWant (fun c => t3 (ix2 (rowNo (x (ix2 r (0 : Fin 2)))) c)) (fun c => t4 (ix2 (rowNo (x (ix2 r (1 : Fin 2)))) c))
        (fun c k => w0 (ix2 k (⟨c.val, by omega⟩ : Fin 256))) (fun c k => w0 (ix2 k (⟨128 + c.val, by omega⟩ : Fin 256)))
        (fun k => b0 (ix1 k)) (fun c k => w1 (ix2 k c)) (fun k => b1 (ix1 k)) (fun c k => w2 (ix2 k c)) (fun k => b2 (ix1 k))
        (fun c => wp (ix2 (0 : Fin 1) (⟨32 + c.val, by omega⟩ : Fin 64)))
    + bp (ix1 (0 : Fin 1))

/-- The kernel's last value at a row, once its arrays are named by plain arrays. -/
theorem last_at (x : S16384x2.Idx → BitVec 32) (t1 t2 : FVec Ideal S100000x32 .f32) (t3 t4 : FVec Ideal S100000x128 .f32) (w0 : FVec Ideal S128x256 .f32)
    (b0 : FVec Ideal S128 .f32) (w1 : FVec Ideal S64x128 .f32) (b1 : FVec Ideal S64 .f32) (w2 : FVec Ideal S32x64 .f32) (b2 : FVec Ideal S32 .f32)
    (wp : FVec Ideal S1x64 .f32) (bp : FVec Ideal S1 .f32) (I J : S1x16384.Idx → BitVec 32) (r : Fin 16384)
    (hI : I (ix2 (0 : Fin 1) r) = x (ix2 r (0 : Fin 2))) (hJ : J (ix2 (0 : Fin 1) r) = x (ix2 r (1 : Fin 2))) :
    predArr (F := Ideal) (Gmf.prodAll (F := Ideal) (gathered (packed (F := Ideal) t1 t2) I) (gathered (packed (F := Ideal) t1 t2) J))
      (mlpArr (F := Ideal) (gathered t3 I) (gathered t4 J)
        (transpose S128x128 [1, 0] (extractStridedSlice S128x128 ![0, 0] w0 slices_S128x256_S128x128_0_0) transposes_S128x128_S128x128_1_0)
        (transpose S128x128 [1, 0] (extractStridedSlice S128x128 ![0, 128] w0 slices_S128x256_S128x128_0_128) transposes_S128x128_S128x128_1_0)
        (shapeCast S1x128 b0 shapeCasts_S128_S1x128) (transpose S128x64 [1, 0] w1 transposes_S64x128_S128x64_1_0)
        (shapeCast S1x64 b1 shapeCasts_S64_S1x64) (transpose S64x32 [1, 0] w2 transposes_S32x64_S64x32_1_0)
        (shapeCast S1x32 b2 shapeCasts_S32_S1x32)
        (transpose S32x1 [1, 0] (extractStridedSlice S1x32 ![0, 32] wp slices_S1x64_S1x32_0_32) transposes_S1x32_S32x1_1_0))
      (transpose S32x1 [1, 0] (extractStridedSlice S1x32 ![0, 0] wp slices_S1x64_S1x32_0_0) transposes_S1x32_S32x1_1_0)
      (shapeCast S1x1 bp shapeCasts_S1_S1x1) (ix1 r)
      = wanted x t1 t2 t3 t4 w0 b0 w1 b1 w2 b2 wp bp r := by
  have g3 : ∀ c : Fin 128, gathered t3 I (ix2 r c) = t3 (ix2 (rowNo (x (ix2 r (0 : Fin 2)))) c) := fun c => by rw [← hI]; rfl
  have g4 : ∀ c : Fin 128, gathered t4 J (ix2 r c) = t4 (ix2 (rowNo (x (ix2 r (1 : Fin 2)))) c) := fun c => by rw [← hJ]; rfl
  have gg : ∀ c : Fin 32, Gmf.prodAll (F := Ideal) (gathered (packed (F := Ideal) t1 t2) I) (gathered (packed (F := Ideal) t1 t2) J) (ix2 r c)
      = t1 (ix2 (rowNo (x (ix2 r (0 : Fin 2)))) c) * t2 (ix2 (rowNo (x (ix2 r (1 : Fin 2)))) c) := fun c => by rw [prod_at, hI, hJ]
  rw [pred_at, mlp_at]
  unfold wanted
  refine congrArg₂ (fun a b : EReal => a + b) (congrArg₂ (fun a b : EReal => a + b)
    (Finset.sum_congr rfl fun c _ => congrArg₂ (fun a b : EReal => a * b) (gg c) (p_lo wp c))
    (mlpWant_congr g3 g4 (w_lo w0) (w_hi w0) (row_at b0 _) (w1_at w1) (row_at b1 _) (w2_at w2) (row_at b2 _) (p_hi wp))) (row_at bp _ 0)

/-- What the kernel leaves at a row of its result. -/
theorem kernel_at (m : (ℓ : Loc nD τ sig) → Buf (Elt Ideal) ℓ) (d : Dev nD) (r : Fin 16384) :
    V8 m d main_v41 (ix1 r)
      = wanted (m (d, (main_arg0 : DevRef τ sig))) (m (d, (main_arg1 : DevRef τ sig))) (m (d, (main_arg2 : DevRef τ sig))) (m (d, (main_arg3 : DevRef τ sig)))
          (m (d, (main_arg4 : DevRef τ sig))) (m (d, (main_arg5 : DevRef τ sig))) (m (d, (main_arg6 : DevRef τ sig))) (m (d, (main_arg7 : DevRef τ sig)))
          (m (d, (main_arg8 : DevRef τ sig))) (m (d, (main_arg9 : DevRef τ sig))) (m (d, (main_arg10 : DevRef τ sig))) (m (d, (main_arg11 : DevRef τ sig)))
          (m (d, (main_arg12 : DevRef τ sig))) r := by
  obtain ⟨c27, c29, c30, c31, c32, c33, c34, c36⟩ := after_C (V4 m d)
  obtain ⟨d39, d40⟩ := after_D (V6 m d)
  have a4 : ∀ r : Ref sig .tc, r ∉ wrA → r ≠ main_v6_0 → r ≠ main_v6_1 → r ∉ wrB → r ≠ main_v25 → V4 m d r = m (d, (r : DevRef τ sig)) := V4_arg m d
  rw [V6_arg m d main_arg11 (by decide) (by decide) (by decide) (by decide) (by decide) (by decide) (by decide)] at d39
  rw [V6_arg m d main_arg12 (by decide) (by decide) (by decide) (by decide) (by decide) (by decide) (by decide)] at d40
  rw [a4 main_arg5 (by decide) (by decide) (by decide) (by decide) (by decide)] at c27 c29
  rw [a4 main_arg6 (by decide) (by decide) (by decide) (by decide) (by decide)] at c30
  rw [a4 main_arg7 (by decide) (by decide) (by decide) (by decide) (by decide)] at c31
  rw [a4 main_arg8 (by decide) (by decide) (by decide) (by decide) (by decide)] at c32
  rw [a4 main_arg9 (by decide) (by decide) (by decide) (by decide) (by decide)] at c33
  rw [a4 main_arg10 (by decide) (by decide) (by decide) (by decide) (by decide)] at c34
  rw [a4 main_arg11 (by decide) (by decide) (by decide) (by decide) (by decide)] at c36
  have e37 := V7_m m d
  rw [V5_a, V5_b, show V5 m d main_v27 = _ from c27, show V5 m d main_v29 = _ from c29, show V5 m d main_v30 = _ from c30, show V5 m d main_v31 = _ from c31,
    show V5 m d main_v32 = _ from c32, show V5 m d main_v33 = _ from c33, show V5 m d main_v34 = _ from c34, show V5 m d main_v36 = _ from c36] at e37
  rw [V8_p, V7_g, e37, show V7 m d main_v39 = _ from d39, show V7 m d main_v40 = _ from d40]
  exact last_at _ _ _ _ _ _ _ _ _ _ _ _ _ _ _ r (V1_v2 m d r) (V1_v5 m d r)

/-- The run read at the result and at the arguments. -/
theorem run_result (m : (ℓ : Loc nD τ sig) → Buf (Elt F) ℓ) [∀ e, Nonempty (Elt F e)] (ρ : Dev nD → PrngReg)
    (h : ∀ (d : Dev nD) (i : S16384x2.Idx), (m (d, (main_arg0 : DevRef τ sig)) i).toNat < 100000) :
    θ_run (Cert.KernelIdeal.defs (F := F)) (Cert.KernelIdeal.threads (F := F)) ⟨m, fun _ => 0, ρ⟩ fun r => ∀ c : Dev nD,
      r.2.mem ((c.tc : Thread nD τ).loc main_v41) = V8 m c main_v41 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) := by
  refine (θ_run (Cert.KernelIdeal.defs (F := F)) _ _).mono (fun r hr c => ?_) (run_main m ρ (ok_of_pre m h))
  have one : ∀ b : Ref sig .tc, b.isScoped = false → b ∉ wrAll → r.2.mem ((c.tc : Thread nD τ).loc b) = m ((c.tc : Thread nD τ).loc b) :=
    fun b hb hw => (hr.1 c b (mem_uc b hb)).trans (V8_keep m c b hw)
  exact ⟨hr.1 c main_v41 (mem_uc main_v41 rfl), one main_arg0 rfl (by decide), one main_arg1 rfl (by decide), one main_arg2 rfl (by decide), one main_arg3 rfl (by decide), one main_arg4 rfl (by decide), one main_arg5 rfl (by decide), one main_arg6 rfl (by decide), one main_arg7 rfl (by decide), one main_arg8 rfl (by decide), one main_arg9 rfl (by decide), one main_arg10 rfl (by decide), one main_arg11 rfl (by decide), one main_arg12 rfl (by decide)⟩

end Cert.Proof.Neumf
-- ==== Proof.RefTake.lean ====
/-
  The reference's takes read at an index: where every index is a row of the table, the wrap and the fill do nothing.
-/
module

public import proofs.«01_k».proof.Proof.Gen.ReferenceIdeal.Run
public import Idealize.ShloMosaic.Lib.Pointwise
public import Idealize.ShloMosaic.Lib.ReduceAll
public import Idealize.ShloMosaic.Lib.Tactic.WordOmega

@[expose] public section

noncomputable section

namespace Cert.Proof.Neumf.Ref

open Cert.ReferenceIdeal Cert.ReferenceIdeal.Gen
open Idealize.ShloMosaic Idealize.SL.Sem

variable {F : FTy → Type} [FloatOps F]

/-- The indices with the negative ones wrapped. -/
def wrapped (I : S16384.Idx → BitVec 32) : S16384x1.Idx → BitVec 32 :=
  broadcastInDim S16384x1 ![0] bcast_S16384_S16384x1_0
    (select (cmpi .slt I (broadcastInDim S16384 ![] bcast_S_S16384 (constantI S_ 32 0#32)))
      (addi I (broadcastInDim S16384 ![] bcast_S_S16384 (constantI S_ 32 100000#32))) I)

/-- Which rows have an index in range. -/
def inside (I : S16384.Idx → BitVec 32) : S16384.Idx → BitVec 1 :=
  Host.reduce IntOp.andi (andi (cmpi .sge (wrapped I) (broadcastInDim S16384x1 ![] bcast_S_S16384x1 (constantI S_ 32 0#32)))
      (cmpi .sle (wrapped I) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The reference's take from a table of 32 lanes. -/
def take32 (X : FVec F S100000x32 .f32) (I : S16384.Idx → BitVec 32) : FVec F S16384x32 .f32 :=
  select (broadcastInDim S16384x32 ![0] bcast_S16384_S16384x32_0 (inside I))
    (Host.gather gather_S100000x32_S16384x1_S16384x32_1_0_n_n_0_1_132 X (wrapped I))
    (broadcastInDim S16384x32 ![] bcast_S_S16384x32 (constant S_ .f32 0x7FC00000#32))

/-- The reference's take from a table of 128 lanes. -/
def take128 (X : FVec F S100000x128 .f32) (I : S16384.Idx → BitVec 32) : FVec F S16384x128 .f32 :=
  select (broadcastInDim S16384x128 ![0] bcast_S16384_S16384x128_0 (inside I))
    (Host.gather gather_S100000x128_S16384x1_S16384x128_1_0_n_n_0_1_1128 X (wrapped I))
    (broadcastInDim S16384x128 ![] bcast_S_S16384x128 (constant S_ .f32 0x7FC00000#32))

/-- A word below the bound is not negative. -/
theorem word_plain (w : BitVec 32) (h : w.toNat < 100000) : w.toInt = w.toNat := by
  rw [BitVec.toInt_eq_toNat_cond]; split <;> omega

/-- Where every index is a row of the table, nothing is wrapped. -/
theorem wrapped_at (I : S16384.Idx → BitVec 32) (h : ∀ i, (I i).toNat < 100000) (r : Fin 16384) (z : Fin 1) :
    wrapped I (ValueIdx.ix2 r z) = I (ValueIdx.ix1 r) := by
  have e : IntOp.cmpi .slt (I (ValueIdx.ix1 r)) 0#32 = 0#1 := by
    have hw := word_plain _ (h (ValueIdx.ix1 r))
    have hs : (I (ValueIdx.ix1 r)).slt 0#32 = false := by
      rw [Bool.eq_false_iff, Ne, BitVec.slt_iff_toInt_lt]
      have : (0#32 : BitVec 32).toInt = 0 := rfl
      omega
    show BitVec.ofBool ((I (ValueIdx.ix1 r)).slt 0#32) = 0#1
    rw [hs]; rfl
  pointwise [wrapped]
  show Scalar.select (IntOp.cmpi .slt (I (ValueIdx.ix1 r)) 0#32) (IntOp.addi (I (ValueIdx.ix1 r)) 100000#32) (I (ValueIdx.ix1 r)) = _
  rw [e]; rfl

/-- Every row has an index in range. -/
theorem inside_at (I : S16384.Idx → BitVec 32) (h : ∀ i, (I i).toNat < 100000) (j : S16384.Idx) : inside I j = 1#1 := by
  refine Host.reduce_andi_one _ _ _ _ _ rfl fun i => ?_
  obtain ⟨r, z, rfl⟩ : ∃ (r : Fin 16384) (z : Fin 1), i = ValueIdx.ix2 r z := ⟨i 0, i 1, by funext a; match a with | ⟨0, _⟩ => rfl | ⟨1, _⟩ => rfl⟩
  have hw := word_plain _ (h (ValueIdx.ix1 r))
  have hb := h (ValueIdx.ix1 r)
  have e1 : IntOp.cmpi .sge (I (ValueIdx.ix1 r)) 0#32 = 1#1 := by
    have hs : (0#32 : BitVec 32).sle (I (ValueIdx.ix1 r)) = true := by
      rw [BitVec.sle_iff_toInt_le]
      have : (0#32 : BitVec 32).toInt = 0 := rfl
      omega
    show BitVec.ofBool ((0#32 : BitVec 32).sle (I (ValueIdx.ix1 r))) = 1#1
    rw [hs]; rfl
  have e2 : IntOp.cmpi .sle (I (ValueIdx.ix1 r)) 99999#32 = 1#1 := by
    have hs : (I (ValueIdx.ix1 r)).sle 99999#32 = true := by
      rw [BitVec.sle_iff_toInt_le]
      have : (99999#32 : BitVec 32).toInt = 99999 := rfl
      omega
    show BitVec.ofBool ((I (ValueIdx.ix1 r)).sle 99999#32) = 1#1
    rw [hs]; rfl
  have ew := wrapped_at I h r z
  show IntOp.andi (IntOp.cmpi .sge (wrapped I (ValueIdx.ix2 r z)) 0#32) (IntOp.cmpi .sle (wrapped I (ValueIdx.ix2 r z)) 99999#32) = 1#1
  rw [ew, e1, e2]; rfl

/-- The row a word in range names. -/
def named (w : BitVec 32) : Fin 100000 := ⟨w.toNat % 100000, Nat.mod_lt _ (by decide)⟩

/-- Dimension numbers of a gather of whole rows. -/
abbrev wholeRows (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A gather of whole rows, read at a row and a lane: that lane of the row its index names. -/
theorem gather_row {α : Type} {N C B : Nat} (wf : GatherDims.WF ⟨2, ![N, C]⟩ ⟨2, ![B, 1]⟩ ⟨2, ![B, C]⟩ [1] [0] [] [0] [] 1 ![1, C])
    (X : (⟨2, ![N, C]⟩ : Shape).Idx → α) (J : IVec ⟨2, ![B, 1]⟩ 32) (r : Fin B) (c : Fin C) (n : Fin N)
    (h : (J (ValueIdx.ix2 r (0 : Fin 1))).toInt.toNat = n.val) :
    Host.gather (wholeRows N C B wf) X J (ValueIdx.ix2 r c) = X (ValueIdx.ix2 n c) := by
  unfold Host.gather
  congr 1
  funext a
  refine Fin.ext ?_
  show (wholeRows N C B wf).start (ValueIdx.ix2 r c) J a + (wholeRows N C B wf).batchCoord (ValueIdx.ix2 r c) a
      + (wholeRows N C B wf).offCoord (ValueIdx.ix2 r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (wholeRows N C B wf).startIndexMap from List.mem_singleton.mpr rfl)]
    have hsi : (wholeRows N C B wf).siIdx (ValueIdx.ix2 r c) ⟨List.idxOf (0 : Fin 2) (wholeRows N C B wf).startIndexMap,
        List.idxOf_lt_length_iff.2 (List.mem_singleton.mpr rfl)⟩ = ValueIdx.ix2 r (0 : Fin 1) := by
      funext b; refine Fin.ext ?_
      match b with
      | ⟨0, _⟩ => rfl
      | ⟨1, _⟩ => rfl
    rw [hsi]
    show min (J (ValueIdx.ix2 r (0 : Fin 1))).toInt.toNat (N - 1) = n.val
    rw [h]; have := n.isLt; omega
  · rw [GatherDims.batchCoord_eq_zero _ _ _ (fun h => by simp at h)]
    unfold GatherDims.start
    rw [dif_neg (show (1 : Fin 2) ∉ (wholeRows N C B wf).startIndexMap from fun h => by simp at h)]
    simp only [Nat.zero_add]
    rfl

/-- A choice by a bit that is one, read at an index. -/
theorem select_one {s : Shape} {α : Type} (c : s.Idx → BitVec 1) (x y : s.Idx → α) (i : s.Idx) (h : c i = 1#1) : select c x y i = x i := by
  show Scalar.select (c i) (x i) (y i) = _
  rw [h]; rfl

/-- A take from a table of 32 lanes, read at a row and a lane. -/
theorem take32_at (X : FVec F S100000x32 .f32) (I : S16384.Idx → BitVec 32) (h : ∀ i, (I i).toNat < 100000) (r : Fin 16384) (c : Fin 32) :
    take32 X I (ValueIdx.ix2 r c) = X (ValueIdx.ix2 (named (I (ValueIdx.ix1 r))) c) := by
  have e1 : broadcastInDim S16384x32 ![0] bcast_S16384_S16384x32_0 (inside I) (ValueIdx.ix2 r c) = 1#1 := inside_at I h _
  have e2 := gather_row gather_S100000x32_S16384x1_S16384x32_1_0_n_n_0_1_132_wf X (wrapped I) r c (named (I (ValueIdx.ix1 r))) (by
    rw [wrapped_at I h, word_plain _ (h _)]
    show _ = _ % 100000
    rw [Nat.mod_eq_of_lt (h _)]; rfl)
  exact (select_one _ _ _ _ e1).trans e2

/-- A take from a table of 128 lanes, read at a row and a lane. -/
theorem take128_at (X : FVec F S100000x128 .f32) (I : S16384.Idx → BitVec 32) (h : ∀ i, (I i).toNat < 100000) (r : Fin 16384) (c : Fin 128) :
    take128 X I (ValueIdx.ix2 r c) = X (ValueIdx.ix2 (named (I (ValueIdx.ix1 r))) c) := by
  have e1 : broadcastInDim S16384x128 ![0] bcast_S16384_S16384x128_0 (inside I) (ValueIdx.ix2 r c) = 1#1 := inside_at I h _
  have e2 := gather_row gather_S100000x128_S16384x1_S16384x128_1_0_n_n_0_1_1128_wf X (wrapped I) r c (named (I (ValueIdx.ix1 r))) (by
    rw [wrapped_at I h, word_plain _ (h _)]
    show _ = _ % 100000
    rw [Nat.mod_eq_of_lt (h _)]; rfl)
  exact (select_one _ _ _ _ e1).trans e2

end Cert.Proof.Neumf.Ref
-- ==== Proof.RefVal.lean ====
/-
  The reference's result as one prediction per row: the sums of its products, read at a row.
-/
module

public import proofs.«01_k».proof.Proof.RefTake
public import proofs.«01_k».proof.Proof.Want

@[expose] public section

noncomputable section

namespace Cert.Proof.Neumf.Ref

open Cert.ReferenceIdeal Cert.ReferenceIdeal.Gen
open Idealize.ShloMosaic Idealize.SL.Sem
open scoped BigOperators

variable {F : FTy → Type} [FloatOps F]

/-- The reference after its takes. -/
def tail (g0 g1 : FVec F S16384x32 .f32) (h0 h1 : FVec F S16384x128 .f32) (w0 : FVec F S128x256 .f32) (b0 : FVec F S128 .f32) (w1 : FVec F S64x128 .f32)
    (b1 : FVec F S64 .f32) (w2 : FVec F S32x64 .f32) (b2 : FVec F S32 .f32) (wp : FVec F S1x64 .f32) (bp : FVec F S1 .f32) : FVec F S16384 .f32 :=
  shapeCast S16384 (addf (Host.dotGeneral dot_S16384x64_S64x1_S16384x1_1_0_0_1_n_n none
      (concatenate S16384x64 1 [⟨S16384x32, (mulf g0 g1)⟩, ⟨S16384x32,
      (maximumf (addf (Host.dotGeneral dot_S16384x64_S64x32_S16384x32_1_0_0_1_n_n none
      (maximumf (addf (Host.dotGeneral dot_S16384x128_S128x64_S16384x64_1_0_0_1_n_n none
      (maximumf (addf (Host.dotGeneral dot_S16384x256_S256x128_S16384x128_1_0_0_1_n_n none
      (concatenate S16384x256 1 [⟨S16384x128, h0⟩, ⟨S16384x128, h1⟩] concatenates_S16384x128_S16384x128_S16384x256_d1) (transpose S256x128 [1, 0] w0 transposes_S128x256_S256x128_1_0))
      (broadcastInDim S16384x128 ![0, 1] bcast_S1x128_S16384x128_0_1
      (broadcastInDim S1x128 ![1] bcast_S128_S1x128_1 b0)))
      (broadcastInDim S16384x128 ![] bcast_S_S16384x128 (constant S_ .f32 0x00000000#32))) (transpose S128x64 [1, 0] w1 transposes_S64x128_S128x64_1_0))
      (broadcastInDim S16384x64 ![0, 1] bcast_S1x64_S16384x64_0_1
      (broadcastInDim S1x64 ![1] bcast_S64_S1x64_1 b1)))
      (broadcastInDim S16384x64 ![] bcast_S_S16384x64 (constant S_ .f32 0x00000000#32))) (transpose S64x32 [1, 0] w2 transposes_S32x64_S64x32_1_0))
      (broadcastInDim S16384x32 ![0, 1] bcast_S1x32_S16384x32_0_1
      (broadcastInDim S1x32 ![1] bcast_S32_S1x32_1 b2)))
      (broadcastInDim S16384x32 ![] bcast_S_S16384x32 (constant S_ .f32 0x00000000#32)))⟩] concatenates_S16384x32_S16384x32_S16384x64_d1) (transpose S64x1 [1, 0] wp transposes_S1x64_S64x1_1_0))
      (broadcastInDim S16384x1 ![0, 1] bcast_S1x1_S16384x1_0_1
      (broadcastInDim S1x1 ![1] bcast_S1_S1x1_1 bp))) shapeCasts_S16384x1_S16384

/-- A column of the index pairs. -/
def col0 (x : S16384x2.Idx → BitVec 32) : S16384.Idx → BitVec 32 :=
  shapeCast S16384 (extractStridedSlice S16384x1 ![0, 0] x slices_S16384x2_S16384x1_0_0) shapeCasts_S16384x1_S16384
/-- The other column. -/
def col1 (x : S16384x2.Idx → BitVec 32) : S16384.Idx → BitVec 32 :=
  shapeCast S16384 (extractStridedSlice S16384x1 ![0, 1] x slices_S16384x2_S16384x1_0_1) shapeCasts_S16384x1_S16384

/-- The columns read at a row. -/
theorem col0_at (x : S16384x2.Idx → BitVec 32) (r : Fin 16384) : col0 x (ValueIdx.ix1 r) = x (ValueIdx.ix2 r (0 : Fin 2)) := by
  pointwise [col0]
  rfl
/-- The other column read at a row. -/
theorem col1_at (x : S16384x2.Idx → BitVec 32) (r : Fin 16384) : col1 x (ValueIdx.ix1 r) = x (ValueIdx.ix2 r (1 : Fin 2)) := by
  pointwise [col1]
  rfl

/-- The reference after its takes, read at a row. -/
theorem tail_at (g0 g1 : FVec Ideal S16384x32 .f32) (h0 h1 : FVec Ideal S16384x128 .f32) (w0 : FVec Ideal S128x256 .f32) (b0 : FVec Ideal S128 .f32)
    (w1 : FVec Ideal S64x128 .f32) (b1 : FVec Ideal S64 .f32) (w2 : FVec Ideal S32x64 .f32) (b2 : FVec Ideal S32 .f32) (wp : FVec Ideal S1x64 .f32)
    (bp : FVec Ideal S1 .f32) (r : Fin 16384) :
    tail g0 g1 h0 h1 w0 b0 w1 b1 w2 b2 wp bp (ix1 r)
      = ∑ c : Fin 32, g0 (ix2 r c) * g1 (ix2 r c) * wp (ix2 (0 : Fin 1) (⟨c.val, by omega⟩ : Fin 64))
        + mlpWant (fun c => h0 (ix2 r c)) (fun c => h1 (ix2 r c)) (fun c k => w0 (ix2 k (⟨c.val, by omega⟩ : Fin 256))) (fun c k => w0 (ix2 k (⟨128 + c.val, by omega⟩ : Fin 256)))
            (fun k => b0 (ix1 k)) (fun c k => w1 (ix2 k c)) (fun k => b1 (ix1 k)) (fun c k => w2 (ix2 k c)) (fun k => b2 (ix1 k))
            (fun c => wp (ix2 (0 : Fin 1) (⟨32 + c.val, by omega⟩ : Fin 64)))
        + bp (ix1 (0 : Fin 1)) := by
  pointwise [tail, mlpWant, layer, layer0]

set_option maxRecDepth 8192 in
/-- The reference's term is the takes and what follows them. -/
theorem res_eq (m : (ℓ : Loc nD τ sig) → Buf (Elt F) ℓ) (c : Dev nD) :
    Cert.ReferenceIdeal.Value.res_main_v37 m c
      = tail (F := F) (take32 (m ((c.tc : Thread nD τ).loc main_arg1)) (col0 (m ((c.tc : Thread nD τ).loc main_arg0))))
          (take32 (m ((c.tc : Thread nD τ).loc main_arg2)) (col1 (m ((c.tc : Thread nD τ).loc main_arg0))))
          (take128 (m ((c.tc : Thread nD τ).loc main_arg3)) (col0 (m ((c.tc : Thread nD τ).loc main_arg0))))
          (take128 (m ((c.tc : Thread nD τ).loc main_arg4)) (col1 (m ((c.tc : Thread nD τ).loc main_arg0))))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := rfl

end Cert.Proof.Neumf.Ref
-- ==== Proof.Algebraic.lean ====
/-
  The kernel and the reference leave the same predictions, over the extended reals.
-/
module

public import proofs.«01_k».proof.Proof.KerVal
public import proofs.«01_k».proof.Proof.RefVal
public import proofs.«01_k».proof.Defs

@[expose] public section

noncomputable section

namespace Cert.Proof.Neumf

open Idealize.ShloMosaic.TcCoe
open Idealize.ShloMosaic Idealize.SL.Sem

/-- The reference's takes and what follows them, read at a row, where every index is a row of the tables. -/
theorem reference_row (x : Cert.ReferenceIdeal.S16384x2.Idx → BitVec 32) (t1 t2 : FVec Ideal Cert.ReferenceIdeal.S100000x32 .f32)
    (t3 t4 : FVec Ideal Cert.ReferenceIdeal.S100000x128 .f32) (w0 : FVec Ideal Cert.ReferenceIdeal.S128x256 .f32)
    (b0 : FVec Ideal Cert.ReferenceIdeal.S128 .f32) (w1 : FVec Ideal Cert.ReferenceIdeal.S64x128 .f32) (b1 : FVec Ideal Cert.ReferenceIdeal.S64 .f32)
    (w2 : FVec Ideal Cert.ReferenceIdeal.S32x64 .f32) (b2 : FVec Ideal Cert.ReferenceIdeal.S32 .f32)
    (wp : FVec Ideal Cert.ReferenceIdeal.S1x64 .f32) (bp : FVec Ideal Cert.ReferenceIdeal.S1 .f32)
    (h : ∀ i, (x i).toNat < 100000) (r : Fin 16384) :
    Ref.tail (F := Ideal) (Ref.take32 t1 (Ref.col0 x)) (Ref.take32 t2 (Ref.col1 x)) (Ref.take128 t3 (Ref.col0 x)) (Ref.take128 t4 (Ref.col1 x))
      w0 b0 w1 b1 w2 b2 wp bp (ix1 r) = wanted x t1 t2 t3 t4 w0 b0 w1 b1 w2 b2 wp bp r := by
  have c0 : ∀ i, (Ref.col0 x i).toNat < 100000 := fun i => by
    obtain ⟨q, rfl⟩ : ∃ q : Fin 16384, i = ValueIdx.ix1 q := ⟨i 0, by funext a; match a with | ⟨0, _⟩ => rfl⟩
    rw [Ref.col0_at]; exact h _
  have c1 : ∀ i, (Ref.col1 x i).toNat < 100000 := fun i => by
    obtain ⟨q, rfl⟩ : ∃ q : Fin 16384, i = ValueIdx.ix1 q := ⟨i 0, by funext a; match a with | ⟨0, _⟩ => rfl⟩
    rw [Ref.col1_at]; exact h _
  have e1 : ∀ c : Fin 32, Ref.take32 t1 (Ref.col0 x) (ix2 r c) = t1 (ix2 (rowNo (x (ix2 r (0 : Fin 2)))) c) := fun c => by
    refine (Ref.take32_at t1 _ c0 r c).trans ?_; rw [Ref.col0_at]; rfl
  have e2 : ∀ c : Fin 32, Ref.take32 t2 (Ref.col1 x) (ix2 r c) = t2 (ix2 (rowNo (x (ix2 r (1 : Fin 2)))) c) := fun c => by
    refine (Ref.take32_at t2 _ c1 r c).trans ?_; rw [Ref.col1_at]; rfl
  have e3 : ∀ c : Fin 128, Ref.take128 t3 (Ref.col0 x) (ix2 r c) = t3 (ix2 (rowNo (x (ix2 r (0 : Fin 2)))) c) := fun c => by
    refine (Ref.take128_at t3 _ c0 r c).trans ?_; rw [Ref.col0_at]; rfl
  have e4 : ∀ c : Fin 128, Ref.take128 t4 (Ref.col1 x) (ix2 r c) = t4 (ix2 (rowNo (x (ix2 r (1 : Fin 2)))) c) := fun c => by
    refine (Ref.take128_at t4 _ c1 r c).trans ?_; rw [Ref.col1_at]; rfl
  refine (Ref.tail_at _ _ _ _ w0 b0 w1 b1 w2 b2 wp bp r).trans ?_
  unfold wanted
  refine congrArg (fun a : EReal => a + bp (ix1 (0 : Fin 1))) (congrArg₂ (fun a b : EReal => a + b)
    (Finset.sum_congr rfl fun c _ => congrArg (fun a : EReal => a * wp (ix2 (0 : Fin 1) (⟨c.val, by omega⟩ : Fin 64)))
      (congrArg₂ (fun a b : EReal => a * b) (e1 c) (e2 c)))
    (mlpWant_congr e3 e4 (fun _ _ => rfl) (fun _ _ => rfl) (fun _ => rfl) (fun _ _ => rfl) (fun _ => rfl) (fun _ _ => rfl) (fun _ => rfl) (fun _ => rfl)))

/-- The reference's result is the kernel's, from memories that agree at the arguments. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : ∀ i : Cert.KernelIdeal.S16384x2.Idx, (m ((c.tc : Thread Cert.KernelIdeal.nD Cert.KernelIdeal.τ).loc Cert.KernelIdeal.main_arg0) i).toNat < 100000)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v37 m' c = V8 m c Cert.KernelIdeal.main_v41 := by
  obtain ⟨h0, h1, h2, h3, h4, h5, h6, h7, h8, h9, h10, h11, h12⟩ := hm
  rw [Ref.res_eq, h0, h1, h2, h3, h4, h5, h6, h7, h8, h9, h10, h11, h12]
  funext j
  obtain ⟨r, rfl⟩ : ∃ r : Fin 16384, j = ix1 r := ⟨j 0, by funext a; match a with | ⟨0, _⟩ => rfl⟩
  exact (reference_row _ _ _ _ _ _ _ _ _ _ _ _ _ hx r).trans (kernel_at m c r).symm

/-- The two programs compute one function of their arguments over the extended reals. -/
theorem algebraic : Cert.algebraic_KernelIdeal_ReferenceIdeal := fun m g m' g' hpre hm => by
  have hx : ∀ (d : Dev Cert.KernelIdeal.nD) (i : Cert.KernelIdeal.S16384x2.Idx), (m (d, (Cert.KernelIdeal.main_arg0 : DevRef Cert.KernelIdeal.τ Cert.KernelIdeal.sig)) i).toNat < 100000 :=
    fun d i => word_of_pre _ _ _ _ _ _ _ _ _ _ _ _ _ (hpre d) i
  refine ⟨fun c => V8 m c Cert.KernelIdeal.main_v41, ?_, ?_⟩
  · exact (θ_run _ _ _).mono (fun r h c => h c) (run_result (F := Ideal) m g hx)
  · exact (θ_run _ _ _).mono (fun r h c => ⟨(h c).1.trans (result_same m m' c (hx c) (hm c)), (h c).2⟩) (Cert.ReferenceIdeal.Value.run m' g')

end Cert.Proof.Neumf
-- ==== Proof.lean ====
/-
The certificate of the neural matrix factorisation forward pass.

The kernel gathers the rows of four embedding tables with two SparseCore kernels and
puts them through the network's layers with two TensorCore kernels.  The modules under
`Proof/` show, in this order,

* what the two gathers leave in their output arrays (`MlpTrip`, `MlpBody`, `MlpTile`,
  `GmfLoop`, `GmfTrip`, `GmfBody`, `GmfTile`),
* what the two TensorCore kernels compute from them (`TcBody`, `TcRegions`, `TcValues`),
* the whole program's run, and with it both frames (`Run`, `Frames`, `Same`),
* the reference's run and its value (`RefFrame`, `RefTake`, `RefVal`),
* that both arrays hold the same numbers (`Packed`, `KerVal`, `Algebraic`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Same
public import proofs.«01_k».proof.Proof.RefFrame
public import proofs.«01_k».proof.Proof.Algebraic

@[expose] public section
noncomputable section
namespace Cert.Proof
open Idealize.ShloMosaic Idealize.SL.Sem

/-- Everything the certificate claims: the frames of the kernel, of its ideal form, of the
reference and of the precondition; that the ideal form is the kernel over the extended
reals; and that kernel and reference compute the same array there. -/
theorem claim : Cert.Claim :=
  ⟨Cert.Kernel.Gen.facts, Cert.KernelIdeal.Gen.facts, Cert.ReferenceIdeal.Gen.facts,
    Cert.Pre_in_range.Gen.facts, Neumf.frame_kernel, Neumf.frame_ideal,
    Neumf.frame_reference, Neumf.frame_reference_in_range, trivial, Neumf.algebraic⟩

end Cert.Proof
end
